-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 512]⟩ ⟨2, ![4096, 1024]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S4096x512 : Shape := ⟨2, ![4096, 512]⟩
abbrev S768x512 : Shape := ⟨2, ![768, 512]⟩
abbrev S16 : Shape := ⟨1, ![16]⟩
abbrev S24 : Shape := ⟨1, ![24]⟩
abbrev S20 : Shape := ⟨1, ![20]⟩
abbrev S_ : Shape := ⟨0, ![]⟩
abbrev S1 : Shape := ⟨1, ![1]⟩
abbrev S128x1024 : Shape := ⟨2, ![128, 1024]⟩
abbrev S32x512 : Shape := ⟨2, ![32, 512]⟩
abbrev S128x512 : Shape := ⟨2, ![128, 512]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S4096x512, .bf16⟩
  | .local _ .vmem, ⟨0, _⟩ => ⟨S4096x512, .bf16⟩
  | .local _ .vmem, ⟨1, _⟩ => ⟨S2048x1024, .f32⟩
  | .local _ .vmem, ⟨2, _⟩ => ⟨S768x512, .bf16⟩
  | _, _ => ⟨S2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 145 → Bool
  | ⟨i, _⟩ => dmaSemScopedAt i

abbrev sig : RefSig :=
  (ofTc nBuf bufTy 1 145 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_13 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_12 : BitVec 32 := 8#32
  let v25 : BitVec 32 := Scalar.muli v2 c8_i32_12
  let v26 : BitVec 32 := Scalar.addi c0_i32_13 v25
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_7 v5
  let c4_i32_14 : BitVec 32 := 4#32
  let v27 : BitVec 32 := Scalar.muli v20 c4_i32_14
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v29 : BitVec 32 := Scalar.muli v8 c1_i32_15
  let v30 : BitVec 32 := Scalar.addi v28 v29
  v30.toNat
def k0_dev2 (d0 : Dev nD) : Nat :=
  let c0_i32_18 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v21 : BitVec 32 := Scalar.subi c1_i32_8 v2
  let c8_i32_17 : BitVec 32 := 8#32
  let v31 : BitVec 32 := Scalar.muli v21 c8_i32_17
  let v32 : BitVec 32 := Scalar.addi c0_i32_18 v31
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v33 : BitVec 32 := Scalar.muli v5 c4_i32_19
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v35 : BitVec 32 := Scalar.muli v8 c1_i32_20
  let v36 : BitVec 32 := Scalar.addi v34 v35
  v36.toNat
def k0_dev3 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v37 : BitVec 32 := Scalar.muli v2 c8_i32_22
  let v38 : BitVec 32 := Scalar.addi c0_i32_23 v37
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v39 : BitVec 32 := Scalar.muli v5 c4_i32_24
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v22 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.muli c2_i32_10 v18
  let v24 : BitVec 32 := Scalar.subi v22 v23
  let c1_i32_25 : BitVec 32 := 1#32
  let v41 : BitVec 32 := Scalar.muli v24 c1_i32_25
  let v42 : BitVec 32 := Scalar.addi v40 v41
  v42.toNat
def k0_cond1 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_26 : BitVec 32 := 0#32
  let v43 : BitVec 1 := Scalar.cmpi .eq v2 c0_i32_26
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_27 : BitVec 32 := 0#32
  let v44 : BitVec 1 := Scalar.cmpi .eq v5 c0_i32_27
  let v45 : BitVec 1 := Scalar.andi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c0_i32_28 : BitVec 32 := 0#32
  let v46 : BitVec 1 := Scalar.cmpi .eq v18 c0_i32_28
  let v47 : BitVec 1 := Scalar.andi v45 v46
  let v48 : BitVec 32 := Scalar.extui v47
  let c0_i32_29 : BitVec 32 := 0#32
  let v49 : BitVec 1 := Scalar.cmpi .ne v48 c0_i32_29
  v49

def k0_dev4 (d0 : Dev nD) : Nat :=
  let c0_i32_214 : BitVec 32 := 0#32
  let c0_i32_211 : BitVec 32 := 0#32
  let c8_i32_213 : BitVec 32 := 8#32
  let v309 : BitVec 32 := Scalar.muli c0_i32_211 c8_i32_213
  let v310 : BitVec 32 := Scalar.addi c0_i32_214 v309
  let c1_i32_212 : BitVec 32 := 1#32
  let c4_i32_215 : BitVec 32 := 4#32
  let v311 : BitVec 32 := Scalar.muli c1_i32_212 c4_i32_215
  let v312 : BitVec 32 := Scalar.addi v310 v311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_216 : BitVec 32 := 1#32
  let v313 : BitVec 32 := Scalar.muli v8 c1_i32_216
  let v314 : BitVec 32 := Scalar.addi v312 v313
  v314.toNat
def k0_dev5 (d0 : Dev nD) : Nat :=
  let c0_i32_226 : BitVec 32 := 0#32
  let c0_i32_223 : BitVec 32 := 0#32
  let c8_i32_225 : BitVec 32 := 8#32
  let v321 : BitVec 32 := Scalar.muli c0_i32_223 c8_i32_225
  let v322 : BitVec 32 := Scalar.addi c0_i32_226 v321
  let c1_i32_224 : BitVec 32 := 1#32
  let c4_i32_227 : BitVec 32 := 4#32
  let v323 : BitVec 32 := Scalar.muli c1_i32_224 c4_i32_227
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_228 : BitVec 32 := 1#32
  let v325 : BitVec 32 := Scalar.muli v8 c1_i32_228
  let v326 : BitVec 32 := Scalar.addi v324 v325
  v326.toNat
def k0_dev6 (d0 : Dev nD) : Nat :=
  let c0_i32_237 : BitVec 32 := 0#32
  let c0_i32_234 : BitVec 32 := 0#32
  let c8_i32_236 : BitVec 32 := 8#32
  let v333 : BitVec 32 := Scalar.muli c0_i32_234 c8_i32_236
  let v334 : BitVec 32 := Scalar.addi c0_i32_237 v333
  let c1_i32_235 : BitVec 32 := 1#32
  let c4_i32_238 : BitVec 32 := 4#32
  let v335 : BitVec 32 := Scalar.muli c1_i32_235 c4_i32_238
  let v336 : BitVec 32 := Scalar.addi v334 v335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_239 : BitVec 32 := 1#32
  let v337 : BitVec 32 := Scalar.muli v8 c1_i32_239
  let v338 : BitVec 32 := Scalar.addi v336 v337
  v338.toNat
def k0_dev7 (d0 : Dev nD) : Nat :=
  let c0_i32_248 : BitVec 32 := 0#32
  let c0_i32_245 : BitVec 32 := 0#32
  let c8_i32_247 : BitVec 32 := 8#32
  let v345 : BitVec 32 := Scalar.muli c0_i32_245 c8_i32_247
  let v346 : BitVec 32 := Scalar.addi c0_i32_248 v345
  let c1_i32_246 : BitVec 32 := 1#32
  let c4_i32_249 : BitVec 32 := 4#32
  let v347 : BitVec 32 := Scalar.muli c1_i32_246 c4_i32_249
  let v348 : BitVec 32 := Scalar.addi v346 v347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_250 : BitVec 32 := 1#32
  let v349 : BitVec 32 := Scalar.muli v8 c1_i32_250
  let v350 : BitVec 32 := Scalar.addi v348 v349
  v350.toNat
def k0_dev8 (d0 : Dev nD) : Nat :=
  let c0_i32_259 : BitVec 32 := 0#32
  let c0_i32_256 : BitVec 32 := 0#32
  let c8_i32_258 : BitVec 32 := 8#32
  let v357 : BitVec 32 := Scalar.muli c0_i32_256 c8_i32_258
  let v358 : BitVec 32 := Scalar.addi c0_i32_259 v357
  let c1_i32_257 : BitVec 32 := 1#32
  let c4_i32_260 : BitVec 32 := 4#32
  let v359 : BitVec 32 := Scalar.muli c1_i32_257 c4_i32_260
  let v360 : BitVec 32 := Scalar.addi v358 v359
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_261 : BitVec 32 := 1#32
  let v361 : BitVec 32 := Scalar.muli v8 c1_i32_261
  let v362 : BitVec 32 := Scalar.addi v360 v361
  v362.toNat
def k0_dev9 (d0 : Dev nD) : Nat :=
  let c0_i32_271 : BitVec 32 := 0#32
  let c0_i32_268 : BitVec 32 := 0#32
  let c8_i32_270 : BitVec 32 := 8#32
  let v369 : BitVec 32 := Scalar.muli c0_i32_268 c8_i32_270
  let v370 : BitVec 32 := Scalar.addi c0_i32_271 v369
  let c1_i32_269 : BitVec 32 := 1#32
  let c4_i32_272 : BitVec 32 := 4#32
  let v371 : BitVec 32 := Scalar.muli c1_i32_269 c4_i32_272
  let v372 : BitVec 32 := Scalar.addi v370 v371
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_273 : BitVec 32 := 1#32
  let v373 : BitVec 32 := Scalar.muli v8 c1_i32_273
  let v374 : BitVec 32 := Scalar.addi v372 v373
  v374.toNat
def k0_dev10 (d0 : Dev nD) : Nat :=
  let c0_i32_282 : BitVec 32 := 0#32
  let c0_i32_279 : BitVec 32 := 0#32
  let c8_i32_281 : BitVec 32 := 8#32
  let v381 : BitVec 32 := Scalar.muli c0_i32_279 c8_i32_281
  let v382 : BitVec 32 := Scalar.addi c0_i32_282 v381
  let c1_i32_280 : BitVec 32 := 1#32
  let c4_i32_283 : BitVec 32 := 4#32
  let v383 : BitVec 32 := Scalar.muli c1_i32_280 c4_i32_283
  let v384 : BitVec 32 := Scalar.addi v382 v383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_284 : BitVec 32 := 1#32
  let v385 : BitVec 32 := Scalar.muli v8 c1_i32_284
  let v386 : BitVec 32 := Scalar.addi v384 v385
  v386.toNat
def k0_dev11 (d0 : Dev nD) : Nat :=
  let c0_i32_293 : BitVec 32 := 0#32
  let c0_i32_290 : BitVec 32 := 0#32
  let c8_i32_292 : BitVec 32 := 8#32
  let v393 : BitVec 32 := Scalar.muli c0_i32_290 c8_i32_292
  let v394 : BitVec 32 := Scalar.addi c0_i32_293 v393
  let c1_i32_291 : BitVec 32 := 1#32
  let c4_i32_294 : BitVec 32 := 4#32
  let v395 : BitVec 32 := Scalar.muli c1_i32_291 c4_i32_294
  let v396 : BitVec 32 := Scalar.addi v394 v395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_295 : BitVec 32 := 1#32
  let v397 : BitVec 32 := Scalar.muli v8 c1_i32_295
  let v398 : BitVec 32 := Scalar.addi v396 v397
  v398.toNat
def k0_dev12 (d0 : Dev nD) : Nat :=
  let c0_i32_304 : BitVec 32 := 0#32
  let c0_i32_301 : BitVec 32 := 0#32
  let c8_i32_303 : BitVec 32 := 8#32
  let v405 : BitVec 32 := Scalar.muli c0_i32_301 c8_i32_303
  let v406 : BitVec 32 := Scalar.addi c0_i32_304 v405
  let c1_i32_302 : BitVec 32 := 1#32
  let c4_i32_305 : BitVec 32 := 4#32
  let v407 : BitVec 32 := Scalar.muli c1_i32_302 c4_i32_305
  let v408 : BitVec 32 := Scalar.addi v406 v407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v409 : BitVec 32 := Scalar.muli v8 c1_i32_306
  let v410 : BitVec 32 := Scalar.addi v408 v409
  v410.toNat
def k0_dev13 (d0 : Dev nD) : Nat :=
  let c0_i32_316 : BitVec 32 := 0#32
  let c0_i32_313 : BitVec 32 := 0#32
  let c8_i32_315 : BitVec 32 := 8#32
  let v417 : BitVec 32 := Scalar.muli c0_i32_313 c8_i32_315
  let v418 : BitVec 32 := Scalar.addi c0_i32_316 v417
  let c1_i32_314 : BitVec 32 := 1#32
  let c4_i32_317 : BitVec 32 := 4#32
  let v419 : BitVec 32 := Scalar.muli c1_i32_314 c4_i32_317
  let v420 : BitVec 32 := Scalar.addi v418 v419
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_318 : BitVec 32 := 1#32
  let v421 : BitVec 32 := Scalar.muli v8 c1_i32_318
  let v422 : BitVec 32 := Scalar.addi v420 v421
  v422.toNat
def k0_dev14 (d0 : Dev nD) : Nat :=
  let c0_i32_327 : BitVec 32 := 0#32
  let c0_i32_324 : BitVec 32 := 0#32
  let c8_i32_326 : BitVec 32 := 8#32
  let v429 : BitVec 32 := Scalar.muli c0_i32_324 c8_i32_326
  let v430 : BitVec 32 := Scalar.addi c0_i32_327 v429
  let c1_i32_325 : BitVec 32 := 1#32
  let c4_i32_328 : BitVec 32 := 4#32
  let v431 : BitVec 32 := Scalar.muli c1_i32_325 c4_i32_328
  let v432 : BitVec 32 := Scalar.addi v430 v431
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_329 : BitVec 32 := 1#32
  let v433 : BitVec 32 := Scalar.muli v8 c1_i32_329
  let v434 : BitVec 32 := Scalar.addi v432 v433
  v434.toNat
def k0_dev15 (d0 : Dev nD) : Nat :=
  let c0_i32_338 : BitVec 32 := 0#32
  let c0_i32_335 : BitVec 32 := 0#32
  let c8_i32_337 : BitVec 32 := 8#32
  let v441 : BitVec 32 := Scalar.muli c0_i32_335 c8_i32_337
  let v442 : BitVec 32 := Scalar.addi c0_i32_338 v441
  let c1_i32_336 : BitVec 32 := 1#32
  let c4_i32_339 : BitVec 32 := 4#32
  let v443 : BitVec 32 := Scalar.muli c1_i32_336 c4_i32_339
  let v444 : BitVec 32 := Scalar.addi v442 v443
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v445 : BitVec 32 := Scalar.muli v8 c1_i32_340
  let v446 : BitVec 32 := Scalar.addi v444 v445
  v446.toNat
def k0_dev16 (d0 : Dev nD) : Nat :=
  let c0_i32_349 : BitVec 32 := 0#32
  let c0_i32_346 : BitVec 32 := 0#32
  let c8_i32_348 : BitVec 32 := 8#32
  let v453 : BitVec 32 := Scalar.muli c0_i32_346 c8_i32_348
  let v454 : BitVec 32 := Scalar.addi c0_i32_349 v453
  let c1_i32_347 : BitVec 32 := 1#32
  let c4_i32_350 : BitVec 32 := 4#32
  let v455 : BitVec 32 := Scalar.muli c1_i32_347 c4_i32_350
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_351 : BitVec 32 := 1#32
  let v457 : BitVec 32 := Scalar.muli v8 c1_i32_351
  let v458 : BitVec 32 := Scalar.addi v456 v457
  v458.toNat
def k0_dev17 (d0 : Dev nD) : Nat :=
  let c0_i32_361 : BitVec 32 := 0#32
  let c0_i32_358 : BitVec 32 := 0#32
  let c8_i32_360 : BitVec 32 := 8#32
  let v465 : BitVec 32 := Scalar.muli c0_i32_358 c8_i32_360
  let v466 : BitVec 32 := Scalar.addi c0_i32_361 v465
  let c1_i32_359 : BitVec 32 := 1#32
  let c4_i32_362 : BitVec 32 := 4#32
  let v467 : BitVec 32 := Scalar.muli c1_i32_359 c4_i32_362
  let v468 : BitVec 32 := Scalar.addi v466 v467
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_363 : BitVec 32 := 1#32
  let v469 : BitVec 32 := Scalar.muli v8 c1_i32_363
  let v470 : BitVec 32 := Scalar.addi v468 v469
  v470.toNat
def k0_dev18 (d0 : Dev nD) : Nat :=
  let c0_i32_372 : BitVec 32 := 0#32
  let c0_i32_369 : BitVec 32 := 0#32
  let c8_i32_371 : BitVec 32 := 8#32
  let v477 : BitVec 32 := Scalar.muli c0_i32_369 c8_i32_371
  let v478 : BitVec 32 := Scalar.addi c0_i32_372 v477
  let c1_i32_370 : BitVec 32 := 1#32
  let c4_i32_373 : BitVec 32 := 4#32
  let v479 : BitVec 32 := Scalar.muli c1_i32_370 c4_i32_373
  let v480 : BitVec 32 := Scalar.addi v478 v479
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_374 : BitVec 32 := 1#32
  let v481 : BitVec 32 := Scalar.muli v8 c1_i32_374
  let v482 : BitVec 32 := Scalar.addi v480 v481
  v482.toNat
def k0_dev19 (d0 : Dev nD) : Nat :=
  let c0_i32_383 : BitVec 32 := 0#32
  let c0_i32_380 : BitVec 32 := 0#32
  let c8_i32_382 : BitVec 32 := 8#32
  let v489 : BitVec 32 := Scalar.muli c0_i32_380 c8_i32_382
  let v490 : BitVec 32 := Scalar.addi c0_i32_383 v489
  let c1_i32_381 : BitVec 32 := 1#32
  let c4_i32_384 : BitVec 32 := 4#32
  let v491 : BitVec 32 := Scalar.muli c1_i32_381 c4_i32_384
  let v492 : BitVec 32 := Scalar.addi v490 v491
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_385 : BitVec 32 := 1#32
  let v493 : BitVec 32 := Scalar.muli v8 c1_i32_385
  let v494 : BitVec 32 := Scalar.addi v492 v493
  v494.toNat
def k0_dev20 (d0 : Dev nD) : Nat :=
  let c0_i32_393 : BitVec 32 := 0#32
  let c0_i32_390 : BitVec 32 := 0#32
  let c8_i32_392 : BitVec 32 := 8#32
  let v501 : BitVec 32 := Scalar.muli c0_i32_390 c8_i32_392
  let v502 : BitVec 32 := Scalar.addi c0_i32_393 v501
  let c1_i32_391 : BitVec 32 := 1#32
  let c4_i32_394 : BitVec 32 := 4#32
  let v503 : BitVec 32 := Scalar.muli c1_i32_391 c4_i32_394
  let v504 : BitVec 32 := Scalar.addi v502 v503
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_395 : BitVec 32 := 1#32
  let v505 : BitVec 32 := Scalar.muli v8 c1_i32_395
  let v506 : BitVec 32 := Scalar.addi v504 v505
  v506.toNat
def k0_dev21 (d0 : Dev nD) : Nat :=
  let c0_i32_404 : BitVec 32 := 0#32
  let c0_i32_401 : BitVec 32 := 0#32
  let c8_i32_403 : BitVec 32 := 8#32
  let v513 : BitVec 32 := Scalar.muli c0_i32_401 c8_i32_403
  let v514 : BitVec 32 := Scalar.addi c0_i32_404 v513
  let c1_i32_402 : BitVec 32 := 1#32
  let c4_i32_405 : BitVec 32 := 4#32
  let v515 : BitVec 32 := Scalar.muli c1_i32_402 c4_i32_405
  let v516 : BitVec 32 := Scalar.addi v514 v515
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_406 : BitVec 32 := 1#32
  let v517 : BitVec 32 := Scalar.muli v8 c1_i32_406
  let v518 : BitVec 32 := Scalar.addi v516 v517
  v518.toNat
def k0_dev22 (d0 : Dev nD) : Nat :=
  let c0_i32_413 : BitVec 32 := 0#32
  let c0_i32_410 : BitVec 32 := 0#32
  let c8_i32_412 : BitVec 32 := 8#32
  let v525 : BitVec 32 := Scalar.muli c0_i32_410 c8_i32_412
  let v526 : BitVec 32 := Scalar.addi c0_i32_413 v525
  let c1_i32_411 : BitVec 32 := 1#32
  let c4_i32_414 : BitVec 32 := 4#32
  let v527 : BitVec 32 := Scalar.muli c1_i32_411 c4_i32_414
  let v528 : BitVec 32 := Scalar.addi v526 v527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_415 : BitVec 32 := 1#32
  let v529 : BitVec 32 := Scalar.muli v8 c1_i32_415
  let v530 : BitVec 32 := Scalar.addi v528 v529
  v530.toNat
def k0_dev23 (d0 : Dev nD) : Nat :=
  let c0_i32_422 : BitVec 32 := 0#32
  let c0_i32_419 : BitVec 32 := 0#32
  let c8_i32_421 : BitVec 32 := 8#32
  let v537 : BitVec 32 := Scalar.muli c0_i32_419 c8_i32_421
  let v538 : BitVec 32 := Scalar.addi c0_i32_422 v537
  let c1_i32_420 : BitVec 32 := 1#32
  let c4_i32_423 : BitVec 32 := 4#32
  let v539 : BitVec 32 := Scalar.muli c1_i32_420 c4_i32_423
  let v540 : BitVec 32 := Scalar.addi v538 v539
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_424 : BitVec 32 := 1#32
  let v541 : BitVec 32 := Scalar.muli v8 c1_i32_424
  let v542 : BitVec 32 := Scalar.addi v540 v541
  v542.toNat
def k0_dev24 (d0 : Dev nD) : Nat :=
  let c0_i32_431 : BitVec 32 := 0#32
  let c0_i32_428 : BitVec 32 := 0#32
  let c8_i32_430 : BitVec 32 := 8#32
  let v549 : BitVec 32 := Scalar.muli c0_i32_428 c8_i32_430
  let v550 : BitVec 32 := Scalar.addi c0_i32_431 v549
  let c1_i32_429 : BitVec 32 := 1#32
  let c4_i32_432 : BitVec 32 := 4#32
  let v551 : BitVec 32 := Scalar.muli c1_i32_429 c4_i32_432
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_433 : BitVec 32 := 1#32
  let v553 : BitVec 32 := Scalar.muli v8 c1_i32_433
  let v554 : BitVec 32 := Scalar.addi v552 v553
  v554.toNat
def k0_dev25 (d0 : Dev nD) : Nat :=
  let c0_i32_442 : BitVec 32 := 0#32
  let c0_i32_439 : BitVec 32 := 0#32
  let c8_i32_441 : BitVec 32 := 8#32
  let v561 : BitVec 32 := Scalar.muli c0_i32_439 c8_i32_441
  let v562 : BitVec 32 := Scalar.addi c0_i32_442 v561
  let c1_i32_440 : BitVec 32 := 1#32
  let c4_i32_443 : BitVec 32 := 4#32
  let v563 : BitVec 32 := Scalar.muli c1_i32_440 c4_i32_443
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_444 : BitVec 32 := 1#32
  let v565 : BitVec 32 := Scalar.muli v8 c1_i32_444
  let v566 : BitVec 32 := Scalar.addi v564 v565
  v566.toNat
def k0_dev26 (d0 : Dev nD) : Nat :=
  let c0_i32_451 : BitVec 32 := 0#32
  let c0_i32_448 : BitVec 32 := 0#32
  let c8_i32_450 : BitVec 32 := 8#32
  let v573 : BitVec 32 := Scalar.muli c0_i32_448 c8_i32_450
  let v574 : BitVec 32 := Scalar.addi c0_i32_451 v573
  let c1_i32_449 : BitVec 32 := 1#32
  let c4_i32_452 : BitVec 32 := 4#32
  let v575 : BitVec 32 := Scalar.muli c1_i32_449 c4_i32_452
  let v576 : BitVec 32 := Scalar.addi v574 v575
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_453 : BitVec 32 := 1#32
  let v577 : BitVec 32 := Scalar.muli v8 c1_i32_453
  let v578 : BitVec 32 := Scalar.addi v576 v577
  v578.toNat
def k0_dev27 (d0 : Dev nD) : Nat :=
  let c0_i32_460 : BitVec 32 := 0#32
  let c0_i32_457 : BitVec 32 := 0#32
  let c8_i32_459 : BitVec 32 := 8#32
  let v585 : BitVec 32 := Scalar.muli c0_i32_457 c8_i32_459
  let v586 : BitVec 32 := Scalar.addi c0_i32_460 v585
  let c1_i32_458 : BitVec 32 := 1#32
  let c4_i32_461 : BitVec 32 := 4#32
  let v587 : BitVec 32 := Scalar.muli c1_i32_458 c4_i32_461
  let v588 : BitVec 32 := Scalar.addi v586 v587
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_462 : BitVec 32 := 1#32
  let v589 : BitVec 32 := Scalar.muli v8 c1_i32_462
  let v590 : BitVec 32 := Scalar.addi v588 v589
  v590.toNat
def k0_dev28 (d0 : Dev nD) : Nat :=
  let c0_i32_482 : BitVec 32 := 0#32
  let c1_i32_479 : BitVec 32 := 1#32
  let c8_i32_481 : BitVec 32 := 8#32
  let v607 : BitVec 32 := Scalar.muli c1_i32_479 c8_i32_481
  let v608 : BitVec 32 := Scalar.addi c0_i32_482 v607
  let c0_i32_480 : BitVec 32 := 0#32
  let c4_i32_483 : BitVec 32 := 4#32
  let v609 : BitVec 32 := Scalar.muli c0_i32_480 c4_i32_483
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_484 : BitVec 32 := 1#32
  let v611 : BitVec 32 := Scalar.muli v8 c1_i32_484
  let v612 : BitVec 32 := Scalar.addi v610 v611
  v612.toNat
def k0_dev29 (d0 : Dev nD) : Nat :=
  let c0_i32_493 : BitVec 32 := 0#32
  let c0_i32_490 : BitVec 32 := 0#32
  let c8_i32_492 : BitVec 32 := 8#32
  let v619 : BitVec 32 := Scalar.muli c0_i32_490 c8_i32_492
  let v620 : BitVec 32 := Scalar.addi c0_i32_493 v619
  let c0_i32_491 : BitVec 32 := 0#32
  let c4_i32_494 : BitVec 32 := 4#32
  let v621 : BitVec 32 := Scalar.muli c0_i32_491 c4_i32_494
  let v622 : BitVec 32 := Scalar.addi v620 v621
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_495 : BitVec 32 := 1#32
  let v623 : BitVec 32 := Scalar.muli v100 c1_i32_495
  let v624 : BitVec 32 := Scalar.addi v622 v623
  v624.toNat
def k0_dev30 (d0 : Dev nD) : Nat :=
  let c0_i32_521 : BitVec 32 := 0#32
  let c1_i32_518 : BitVec 32 := 1#32
  let c8_i32_520 : BitVec 32 := 8#32
  let v644 : BitVec 32 := Scalar.muli c1_i32_518 c8_i32_520
  let v645 : BitVec 32 := Scalar.addi c0_i32_521 v644
  let c0_i32_519 : BitVec 32 := 0#32
  let c4_i32_522 : BitVec 32 := 4#32
  let v646 : BitVec 32 := Scalar.muli c0_i32_519 c4_i32_522
  let v647 : BitVec 32 := Scalar.addi v645 v646
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_523 : BitVec 32 := 1#32
  let v648 : BitVec 32 := Scalar.muli v8 c1_i32_523
  let v649 : BitVec 32 := Scalar.addi v647 v648
  v649.toNat
def k0_dev31 (d0 : Dev nD) : Nat :=
  let c0_i32_532 : BitVec 32 := 0#32
  let c0_i32_529 : BitVec 32 := 0#32
  let c8_i32_531 : BitVec 32 := 8#32
  let v656 : BitVec 32 := Scalar.muli c0_i32_529 c8_i32_531
  let v657 : BitVec 32 := Scalar.addi c0_i32_532 v656
  let c0_i32_530 : BitVec 32 := 0#32
  let c4_i32_533 : BitVec 32 := 4#32
  let v658 : BitVec 32 := Scalar.muli c0_i32_530 c4_i32_533
  let v659 : BitVec 32 := Scalar.addi v657 v658
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_534 : BitVec 32 := 1#32
  let v660 : BitVec 32 := Scalar.muli v100 c1_i32_534
  let v661 : BitVec 32 := Scalar.addi v659 v660
  v661.toNat
def k0_dev32 (d0 : Dev nD) : Nat :=
  let c0_i32_560 : BitVec 32 := 0#32
  let c1_i32_557 : BitVec 32 := 1#32
  let c8_i32_559 : BitVec 32 := 8#32
  let v681 : BitVec 32 := Scalar.muli c1_i32_557 c8_i32_559
  let v682 : BitVec 32 := Scalar.addi c0_i32_560 v681
  let c0_i32_558 : BitVec 32 := 0#32
  let c4_i32_561 : BitVec 32 := 4#32
  let v683 : BitVec 32 := Scalar.muli c0_i32_558 c4_i32_561
  let v684 : BitVec 32 := Scalar.addi v682 v683
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_562 : BitVec 32 := 1#32
  let v685 : BitVec 32 := Scalar.muli v8 c1_i32_562
  let v686 : BitVec 32 := Scalar.addi v684 v685
  v686.toNat
def k0_dev33 (d0 : Dev nD) : Nat :=
  let c0_i32_571 : BitVec 32 := 0#32
  let c0_i32_568 : BitVec 32 := 0#32
  let c8_i32_570 : BitVec 32 := 8#32
  let v693 : BitVec 32 := Scalar.muli c0_i32_568 c8_i32_570
  let v694 : BitVec 32 := Scalar.addi c0_i32_571 v693
  let c0_i32_569 : BitVec 32 := 0#32
  let c4_i32_572 : BitVec 32 := 4#32
  let v695 : BitVec 32 := Scalar.muli c0_i32_569 c4_i32_572
  let v696 : BitVec 32 := Scalar.addi v694 v695
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_573 : BitVec 32 := 1#32
  let v697 : BitVec 32 := Scalar.muli v100 c1_i32_573
  let v698 : BitVec 32 := Scalar.addi v696 v697
  v698.toNat
def k0_dev34 (d0 : Dev nD) : Nat :=
  let c0_i32_599 : BitVec 32 := 0#32
  let c1_i32_596 : BitVec 32 := 1#32
  let c8_i32_598 : BitVec 32 := 8#32
  let v718 : BitVec 32 := Scalar.muli c1_i32_596 c8_i32_598
  let v719 : BitVec 32 := Scalar.addi c0_i32_599 v718
  let c0_i32_597 : BitVec 32 := 0#32
  let c4_i32_600 : BitVec 32 := 4#32
  let v720 : BitVec 32 := Scalar.muli c0_i32_597 c4_i32_600
  let v721 : BitVec 32 := Scalar.addi v719 v720
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_601 : BitVec 32 := 1#32
  let v722 : BitVec 32 := Scalar.muli v8 c1_i32_601
  let v723 : BitVec 32 := Scalar.addi v721 v722
  v723.toNat
def k0_dev35 (d0 : Dev nD) : Nat :=
  let c0_i32_610 : BitVec 32 := 0#32
  let c0_i32_607 : BitVec 32 := 0#32
  let c8_i32_609 : BitVec 32 := 8#32
  let v730 : BitVec 32 := Scalar.muli c0_i32_607 c8_i32_609
  let v731 : BitVec 32 := Scalar.addi c0_i32_610 v730
  let c0_i32_608 : BitVec 32 := 0#32
  let c4_i32_611 : BitVec 32 := 4#32
  let v732 : BitVec 32 := Scalar.muli c0_i32_608 c4_i32_611
  let v733 : BitVec 32 := Scalar.addi v731 v732
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_612 : BitVec 32 := 1#32
  let v734 : BitVec 32 := Scalar.muli v100 c1_i32_612
  let v735 : BitVec 32 := Scalar.addi v733 v734
  v735.toNat
def k0_dev36 (d0 : Dev nD) : Nat :=
  let c0_i32_638 : BitVec 32 := 0#32
  let c1_i32_635 : BitVec 32 := 1#32
  let c8_i32_637 : BitVec 32 := 8#32
  let v755 : BitVec 32 := Scalar.muli c1_i32_635 c8_i32_637
  let v756 : BitVec 32 := Scalar.addi c0_i32_638 v755
  let c0_i32_636 : BitVec 32 := 0#32
  let c4_i32_639 : BitVec 32 := 4#32
  let v757 : BitVec 32 := Scalar.muli c0_i32_636 c4_i32_639
  let v758 : BitVec 32 := Scalar.addi v756 v757
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_640 : BitVec 32 := 1#32
  let v759 : BitVec 32 := Scalar.muli v8 c1_i32_640
  let v760 : BitVec 32 := Scalar.addi v758 v759
  v760.toNat
def k0_dev37 (d0 : Dev nD) : Nat :=
  let c0_i32_649 : BitVec 32 := 0#32
  let c0_i32_646 : BitVec 32 := 0#32
  let c8_i32_648 : BitVec 32 := 8#32
  let v767 : BitVec 32 := Scalar.muli c0_i32_646 c8_i32_648
  let v768 : BitVec 32 := Scalar.addi c0_i32_649 v767
  let c0_i32_647 : BitVec 32 := 0#32
  let c4_i32_650 : BitVec 32 := 4#32
  let v769 : BitVec 32 := Scalar.muli c0_i32_647 c4_i32_650
  let v770 : BitVec 32 := Scalar.addi v768 v769
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_651 : BitVec 32 := 1#32
  let v771 : BitVec 32 := Scalar.muli v100 c1_i32_651
  let v772 : BitVec 32 := Scalar.addi v770 v771
  v772.toNat
def k0_dev38 (d0 : Dev nD) : Nat :=
  let c0_i32_677 : BitVec 32 := 0#32
  let c1_i32_674 : BitVec 32 := 1#32
  let c8_i32_676 : BitVec 32 := 8#32
  let v792 : BitVec 32 := Scalar.muli c1_i32_674 c8_i32_676
  let v793 : BitVec 32 := Scalar.addi c0_i32_677 v792
  let c0_i32_675 : BitVec 32 := 0#32
  let c4_i32_678 : BitVec 32 := 4#32
  let v794 : BitVec 32 := Scalar.muli c0_i32_675 c4_i32_678
  let v795 : BitVec 32 := Scalar.addi v793 v794
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_679 : BitVec 32 := 1#32
  let v796 : BitVec 32 := Scalar.muli v8 c1_i32_679
  let v797 : BitVec 32 := Scalar.addi v795 v796
  v797.toNat
def k0_dev39 (d0 : Dev nD) : Nat :=
  let c0_i32_688 : BitVec 32 := 0#32
  let c0_i32_685 : BitVec 32 := 0#32
  let c8_i32_687 : BitVec 32 := 8#32
  let v804 : BitVec 32 := Scalar.muli c0_i32_685 c8_i32_687
  let v805 : BitVec 32 := Scalar.addi c0_i32_688 v804
  let c0_i32_686 : BitVec 32 := 0#32
  let c4_i32_689 : BitVec 32 := 4#32
  let v806 : BitVec 32 := Scalar.muli c0_i32_686 c4_i32_689
  let v807 : BitVec 32 := Scalar.addi v805 v806
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_690 : BitVec 32 := 1#32
  let v808 : BitVec 32 := Scalar.muli v100 c1_i32_690
  let v809 : BitVec 32 := Scalar.addi v807 v808
  v809.toNat
def k0_dev40 (d0 : Dev nD) : Nat :=
  let c0_i32_716 : BitVec 32 := 0#32
  let c1_i32_713 : BitVec 32 := 1#32
  let c8_i32_715 : BitVec 32 := 8#32
  let v829 : BitVec 32 := Scalar.muli c1_i32_713 c8_i32_715
  let v830 : BitVec 32 := Scalar.addi c0_i32_716 v829
  let c0_i32_714 : BitVec 32 := 0#32
  let c4_i32_717 : BitVec 32 := 4#32
  let v831 : BitVec 32 := Scalar.muli c0_i32_714 c4_i32_717
  let v832 : BitVec 32 := Scalar.addi v830 v831
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_718 : BitVec 32 := 1#32
  let v833 : BitVec 32 := Scalar.muli v8 c1_i32_718
  let v834 : BitVec 32 := Scalar.addi v832 v833
  v834.toNat
def k0_dev41 (d0 : Dev nD) : Nat :=
  let c0_i32_727 : BitVec 32 := 0#32
  let c0_i32_724 : BitVec 32 := 0#32
  let c8_i32_726 : BitVec 32 := 8#32
  let v841 : BitVec 32 := Scalar.muli c0_i32_724 c8_i32_726
  let v842 : BitVec 32 := Scalar.addi c0_i32_727 v841
  let c0_i32_725 : BitVec 32 := 0#32
  let c4_i32_728 : BitVec 32 := 4#32
  let v843 : BitVec 32 := Scalar.muli c0_i32_725 c4_i32_728
  let v844 : BitVec 32 := Scalar.addi v842 v843
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_729 : BitVec 32 := 1#32
  let v845 : BitVec 32 := Scalar.muli v100 c1_i32_729
  let v846 : BitVec 32 := Scalar.addi v844 v845
  v846.toNat
def k0_dev42 (d0 : Dev nD) : Nat :=
  let c0_i32_760 : BitVec 32 := 0#32
  let c1_i32_757 : BitVec 32 := 1#32
  let c8_i32_759 : BitVec 32 := 8#32
  let v870 : BitVec 32 := Scalar.muli c1_i32_757 c8_i32_759
  let v871 : BitVec 32 := Scalar.addi c0_i32_760 v870
  let c0_i32_758 : BitVec 32 := 0#32
  let c4_i32_761 : BitVec 32 := 4#32
  let v872 : BitVec 32 := Scalar.muli c0_i32_758 c4_i32_761
  let v873 : BitVec 32 := Scalar.addi v871 v872
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_762 : BitVec 32 := 1#32
  let v874 : BitVec 32 := Scalar.muli v8 c1_i32_762
  let v875 : BitVec 32 := Scalar.addi v873 v874
  v875.toNat
def k0_dev43 (d0 : Dev nD) : Nat :=
  let c0_i32_771 : BitVec 32 := 0#32
  let c0_i32_768 : BitVec 32 := 0#32
  let c8_i32_770 : BitVec 32 := 8#32
  let v882 : BitVec 32 := Scalar.muli c0_i32_768 c8_i32_770
  let v883 : BitVec 32 := Scalar.addi c0_i32_771 v882
  let c0_i32_769 : BitVec 32 := 0#32
  let c4_i32_772 : BitVec 32 := 4#32
  let v884 : BitVec 32 := Scalar.muli c0_i32_769 c4_i32_772
  let v885 : BitVec 32 := Scalar.addi v883 v884
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_773 : BitVec 32 := 1#32
  let v886 : BitVec 32 := Scalar.muli v100 c1_i32_773
  let v887 : BitVec 32 := Scalar.addi v885 v886
  v887.toNat
def k0_dev44 (d0 : Dev nD) : Nat :=
  let c0_i32_804 : BitVec 32 := 0#32
  let c1_i32_801 : BitVec 32 := 1#32
  let c8_i32_803 : BitVec 32 := 8#32
  let v911 : BitVec 32 := Scalar.muli c1_i32_801 c8_i32_803
  let v912 : BitVec 32 := Scalar.addi c0_i32_804 v911
  let c0_i32_802 : BitVec 32 := 0#32
  let c4_i32_805 : BitVec 32 := 4#32
  let v913 : BitVec 32 := Scalar.muli c0_i32_802 c4_i32_805
  let v914 : BitVec 32 := Scalar.addi v912 v913
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_806 : BitVec 32 := 1#32
  let v915 : BitVec 32 := Scalar.muli v8 c1_i32_806
  let v916 : BitVec 32 := Scalar.addi v914 v915
  v916.toNat
def k0_dev45 (d0 : Dev nD) : Nat :=
  let c0_i32_815 : BitVec 32 := 0#32
  let c0_i32_812 : BitVec 32 := 0#32
  let c8_i32_814 : BitVec 32 := 8#32
  let v923 : BitVec 32 := Scalar.muli c0_i32_812 c8_i32_814
  let v924 : BitVec 32 := Scalar.addi c0_i32_815 v923
  let c0_i32_813 : BitVec 32 := 0#32
  let c4_i32_816 : BitVec 32 := 4#32
  let v925 : BitVec 32 := Scalar.muli c0_i32_813 c4_i32_816
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_817 : BitVec 32 := 1#32
  let v927 : BitVec 32 := Scalar.muli v100 c1_i32_817
  let v928 : BitVec 32 := Scalar.addi v926 v927
  v928.toNat
def k0_dev46 (d0 : Dev nD) : Nat :=
  let c0_i32_847 : BitVec 32 := 0#32
  let c1_i32_844 : BitVec 32 := 1#32
  let c8_i32_846 : BitVec 32 := 8#32
  let v952 : BitVec 32 := Scalar.muli c1_i32_844 c8_i32_846
  let v953 : BitVec 32 := Scalar.addi c0_i32_847 v952
  let c0_i32_845 : BitVec 32 := 0#32
  let c4_i32_848 : BitVec 32 := 4#32
  let v954 : BitVec 32 := Scalar.muli c0_i32_845 c4_i32_848
  let v955 : BitVec 32 := Scalar.addi v953 v954
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_849 : BitVec 32 := 1#32
  let v956 : BitVec 32 := Scalar.muli v8 c1_i32_849
  let v957 : BitVec 32 := Scalar.addi v955 v956
  v957.toNat
def k0_dev47 (d0 : Dev nD) : Nat :=
  let c0_i32_858 : BitVec 32 := 0#32
  let c0_i32_855 : BitVec 32 := 0#32
  let c8_i32_857 : BitVec 32 := 8#32
  let v964 : BitVec 32 := Scalar.muli c0_i32_855 c8_i32_857
  let v965 : BitVec 32 := Scalar.addi c0_i32_858 v964
  let c0_i32_856 : BitVec 32 := 0#32
  let c4_i32_859 : BitVec 32 := 4#32
  let v966 : BitVec 32 := Scalar.muli c0_i32_856 c4_i32_859
  let v967 : BitVec 32 := Scalar.addi v965 v966
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_860 : BitVec 32 := 1#32
  let v968 : BitVec 32 := Scalar.muli v100 c1_i32_860
  let v969 : BitVec 32 := Scalar.addi v967 v968
  v969.toNat
def k0_dev48 (d0 : Dev nD) : Nat :=
  let c0_i32_890 : BitVec 32 := 0#32
  let c1_i32_887 : BitVec 32 := 1#32
  let c8_i32_889 : BitVec 32 := 8#32
  let v993 : BitVec 32 := Scalar.muli c1_i32_887 c8_i32_889
  let v994 : BitVec 32 := Scalar.addi c0_i32_890 v993
  let c0_i32_888 : BitVec 32 := 0#32
  let c4_i32_891 : BitVec 32 := 4#32
  let v995 : BitVec 32 := Scalar.muli c0_i32_888 c4_i32_891
  let v996 : BitVec 32 := Scalar.addi v994 v995
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_892 : BitVec 32 := 1#32
  let v997 : BitVec 32 := Scalar.muli v8 c1_i32_892
  let v998 : BitVec 32 := Scalar.addi v996 v997
  v998.toNat
def k0_dev49 (d0 : Dev nD) : Nat :=
  let c0_i32_901 : BitVec 32 := 0#32
  let c0_i32_898 : BitVec 32 := 0#32
  let c8_i32_900 : BitVec 32 := 8#32
  let v1005 : BitVec 32 := Scalar.muli c0_i32_898 c8_i32_900
  let v1006 : BitVec 32 := Scalar.addi c0_i32_901 v1005
  let c0_i32_899 : BitVec 32 := 0#32
  let c4_i32_902 : BitVec 32 := 4#32
  let v1007 : BitVec 32 := Scalar.muli c0_i32_899 c4_i32_902
  let v1008 : BitVec 32 := Scalar.addi v1006 v1007
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_903 : BitVec 32 := 1#32
  let v1009 : BitVec 32 := Scalar.muli v100 c1_i32_903
  let v1010 : BitVec 32 := Scalar.addi v1008 v1009
  v1010.toNat
def k0_dev50 (d0 : Dev nD) : Nat :=
  let c0_i32_933 : BitVec 32 := 0#32
  let c1_i32_930 : BitVec 32 := 1#32
  let c8_i32_932 : BitVec 32 := 8#32
  let v1034 : BitVec 32 := Scalar.muli c1_i32_930 c8_i32_932
  let v1035 : BitVec 32 := Scalar.addi c0_i32_933 v1034
  let c0_i32_931 : BitVec 32 := 0#32
  let c4_i32_934 : BitVec 32 := 4#32
  let v1036 : BitVec 32 := Scalar.muli c0_i32_931 c4_i32_934
  let v1037 : BitVec 32 := Scalar.addi v1035 v1036
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_935 : BitVec 32 := 1#32
  let v1038 : BitVec 32 := Scalar.muli v8 c1_i32_935
  let v1039 : BitVec 32 := Scalar.addi v1037 v1038
  v1039.toNat
def k0_dev51 (d0 : Dev nD) : Nat :=
  let c0_i32_944 : BitVec 32 := 0#32
  let c0_i32_941 : BitVec 32 := 0#32
  let c8_i32_943 : BitVec 32 := 8#32
  let v1046 : BitVec 32 := Scalar.muli c0_i32_941 c8_i32_943
  let v1047 : BitVec 32 := Scalar.addi c0_i32_944 v1046
  let c0_i32_942 : BitVec 32 := 0#32
  let c4_i32_945 : BitVec 32 := 4#32
  let v1048 : BitVec 32 := Scalar.muli c0_i32_942 c4_i32_945
  let v1049 : BitVec 32 := Scalar.addi v1047 v1048
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_946 : BitVec 32 := 1#32
  let v1050 : BitVec 32 := Scalar.muli v100 c1_i32_946
  let v1051 : BitVec 32 := Scalar.addi v1049 v1050
  v1051.toNat
def k0_dev52 (d0 : Dev nD) : Nat :=
  let c0_i32_976 : BitVec 32 := 0#32
  let c1_i32_973 : BitVec 32 := 1#32
  let c8_i32_975 : BitVec 32 := 8#32
  let v1075 : BitVec 32 := Scalar.muli c1_i32_973 c8_i32_975
  let v1076 : BitVec 32 := Scalar.addi c0_i32_976 v1075
  let c0_i32_974 : BitVec 32 := 0#32
  let c4_i32_977 : BitVec 32 := 4#32
  let v1077 : BitVec 32 := Scalar.muli c0_i32_974 c4_i32_977
  let v1078 : BitVec 32 := Scalar.addi v1076 v1077
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1079 : BitVec 32 := Scalar.muli v8 c1_i32_978
  let v1080 : BitVec 32 := Scalar.addi v1078 v1079
  v1080.toNat
def k0_dev53 (d0 : Dev nD) : Nat :=
  let c0_i32_987 : BitVec 32 := 0#32
  let c0_i32_984 : BitVec 32 := 0#32
  let c8_i32_986 : BitVec 32 := 8#32
  let v1087 : BitVec 32 := Scalar.muli c0_i32_984 c8_i32_986
  let v1088 : BitVec 32 := Scalar.addi c0_i32_987 v1087
  let c0_i32_985 : BitVec 32 := 0#32
  let c4_i32_988 : BitVec 32 := 4#32
  let v1089 : BitVec 32 := Scalar.muli c0_i32_985 c4_i32_988
  let v1090 : BitVec 32 := Scalar.addi v1088 v1089
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_989 : BitVec 32 := 1#32
  let v1091 : BitVec 32 := Scalar.muli v100 c1_i32_989
  let v1092 : BitVec 32 := Scalar.addi v1090 v1091
  v1092.toNat
def k0_dev54 (d0 : Dev nD) : Nat :=
  let c0_i32_1019 : BitVec 32 := 0#32
  let c1_i32_1016 : BitVec 32 := 1#32
  let c8_i32_1018 : BitVec 32 := 8#32
  let v1116 : BitVec 32 := Scalar.muli c1_i32_1016 c8_i32_1018
  let v1117 : BitVec 32 := Scalar.addi c0_i32_1019 v1116
  let c0_i32_1017 : BitVec 32 := 0#32
  let c4_i32_1020 : BitVec 32 := 4#32
  let v1118 : BitVec 32 := Scalar.muli c0_i32_1017 c4_i32_1020
  let v1119 : BitVec 32 := Scalar.addi v1117 v1118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1021 : BitVec 32 := 1#32
  let v1120 : BitVec 32 := Scalar.muli v8 c1_i32_1021
  let v1121 : BitVec 32 := Scalar.addi v1119 v1120
  v1121.toNat
def k0_dev55 (d0 : Dev nD) : Nat :=
  let c0_i32_1030 : BitVec 32 := 0#32
  let c0_i32_1027 : BitVec 32 := 0#32
  let c8_i32_1029 : BitVec 32 := 8#32
  let v1128 : BitVec 32 := Scalar.muli c0_i32_1027 c8_i32_1029
  let v1129 : BitVec 32 := Scalar.addi c0_i32_1030 v1128
  let c0_i32_1028 : BitVec 32 := 0#32
  let c4_i32_1031 : BitVec 32 := 4#32
  let v1130 : BitVec 32 := Scalar.muli c0_i32_1028 c4_i32_1031
  let v1131 : BitVec 32 := Scalar.addi v1129 v1130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1032 : BitVec 32 := 1#32
  let v1132 : BitVec 32 := Scalar.muli v100 c1_i32_1032
  let v1133 : BitVec 32 := Scalar.addi v1131 v1132
  v1133.toNat
def k0_dev56 (d0 : Dev nD) : Nat :=
  let c0_i32_1062 : BitVec 32 := 0#32
  let c1_i32_1059 : BitVec 32 := 1#32
  let c8_i32_1061 : BitVec 32 := 8#32
  let v1157 : BitVec 32 := Scalar.muli c1_i32_1059 c8_i32_1061
  let v1158 : BitVec 32 := Scalar.addi c0_i32_1062 v1157
  let c0_i32_1060 : BitVec 32 := 0#32
  let c4_i32_1063 : BitVec 32 := 4#32
  let v1159 : BitVec 32 := Scalar.muli c0_i32_1060 c4_i32_1063
  let v1160 : BitVec 32 := Scalar.addi v1158 v1159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1064 : BitVec 32 := 1#32
  let v1161 : BitVec 32 := Scalar.muli v8 c1_i32_1064
  let v1162 : BitVec 32 := Scalar.addi v1160 v1161
  v1162.toNat
def k0_dev57 (d0 : Dev nD) : Nat :=
  let c0_i32_1073 : BitVec 32 := 0#32
  let c0_i32_1070 : BitVec 32 := 0#32
  let c8_i32_1072 : BitVec 32 := 8#32
  let v1169 : BitVec 32 := Scalar.muli c0_i32_1070 c8_i32_1072
  let v1170 : BitVec 32 := Scalar.addi c0_i32_1073 v1169
  let c0_i32_1071 : BitVec 32 := 0#32
  let c4_i32_1074 : BitVec 32 := 4#32
  let v1171 : BitVec 32 := Scalar.muli c0_i32_1071 c4_i32_1074
  let v1172 : BitVec 32 := Scalar.addi v1170 v1171
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1075 : BitVec 32 := 1#32
  let v1173 : BitVec 32 := Scalar.muli v100 c1_i32_1075
  let v1174 : BitVec 32 := Scalar.addi v1172 v1173
  v1174.toNat
def k0_dev58 (d0 : Dev nD) : Nat :=
  let c0_i32_1105 : BitVec 32 := 0#32
  let c1_i32_1102 : BitVec 32 := 1#32
  let c8_i32_1104 : BitVec 32 := 8#32
  let v1198 : BitVec 32 := Scalar.muli c1_i32_1102 c8_i32_1104
  let v1199 : BitVec 32 := Scalar.addi c0_i32_1105 v1198
  let c0_i32_1103 : BitVec 32 := 0#32
  let c4_i32_1106 : BitVec 32 := 4#32
  let v1200 : BitVec 32 := Scalar.muli c0_i32_1103 c4_i32_1106
  let v1201 : BitVec 32 := Scalar.addi v1199 v1200
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1107 : BitVec 32 := 1#32
  let v1202 : BitVec 32 := Scalar.muli v8 c1_i32_1107
  let v1203 : BitVec 32 := Scalar.addi v1201 v1202
  v1203.toNat
def k0_dev59 (d0 : Dev nD) : Nat :=
  let c0_i32_1116 : BitVec 32 := 0#32
  let c0_i32_1113 : BitVec 32 := 0#32
  let c8_i32_1115 : BitVec 32 := 8#32
  let v1210 : BitVec 32 := Scalar.muli c0_i32_1113 c8_i32_1115
  let v1211 : BitVec 32 := Scalar.addi c0_i32_1116 v1210
  let c0_i32_1114 : BitVec 32 := 0#32
  let c4_i32_1117 : BitVec 32 := 4#32
  let v1212 : BitVec 32 := Scalar.muli c0_i32_1114 c4_i32_1117
  let v1213 : BitVec 32 := Scalar.addi v1211 v1212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1118 : BitVec 32 := 1#32
  let v1214 : BitVec 32 := Scalar.muli v100 c1_i32_1118
  let v1215 : BitVec 32 := Scalar.addi v1213 v1214
  v1215.toNat
def k0_dev60 (d0 : Dev nD) : Nat :=
  let c0_i32_1148 : BitVec 32 := 0#32
  let c1_i32_1145 : BitVec 32 := 1#32
  let c8_i32_1147 : BitVec 32 := 8#32
  let v1239 : BitVec 32 := Scalar.muli c1_i32_1145 c8_i32_1147
  let v1240 : BitVec 32 := Scalar.addi c0_i32_1148 v1239
  let c0_i32_1146 : BitVec 32 := 0#32
  let c4_i32_1149 : BitVec 32 := 4#32
  let v1241 : BitVec 32 := Scalar.muli c0_i32_1146 c4_i32_1149
  let v1242 : BitVec 32 := Scalar.addi v1240 v1241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1150 : BitVec 32 := 1#32
  let v1243 : BitVec 32 := Scalar.muli v8 c1_i32_1150
  let v1244 : BitVec 32 := Scalar.addi v1242 v1243
  v1244.toNat
def k0_dev61 (d0 : Dev nD) : Nat :=
  let c0_i32_1171 : BitVec 32 := 0#32
  let c1_i32_1168 : BitVec 32 := 1#32
  let c8_i32_1170 : BitVec 32 := 8#32
  let v1261 : BitVec 32 := Scalar.muli c1_i32_1168 c8_i32_1170
  let v1262 : BitVec 32 := Scalar.addi c0_i32_1171 v1261
  let c0_i32_1169 : BitVec 32 := 0#32
  let c4_i32_1172 : BitVec 32 := 4#32
  let v1263 : BitVec 32 := Scalar.muli c0_i32_1169 c4_i32_1172
  let v1264 : BitVec 32 := Scalar.addi v1262 v1263
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1173 : BitVec 32 := 1#32
  let v1265 : BitVec 32 := Scalar.muli v8 c1_i32_1173
  let v1266 : BitVec 32 := Scalar.addi v1264 v1265
  v1266.toNat
def k0_dev62 (d0 : Dev nD) : Nat :=
  let c0_i32_1194 : BitVec 32 := 0#32
  let c1_i32_1191 : BitVec 32 := 1#32
  let c8_i32_1193 : BitVec 32 := 8#32
  let v1283 : BitVec 32 := Scalar.muli c1_i32_1191 c8_i32_1193
  let v1284 : BitVec 32 := Scalar.addi c0_i32_1194 v1283
  let c0_i32_1192 : BitVec 32 := 0#32
  let c4_i32_1195 : BitVec 32 := 4#32
  let v1285 : BitVec 32 := Scalar.muli c0_i32_1192 c4_i32_1195
  let v1286 : BitVec 32 := Scalar.addi v1284 v1285
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1196 : BitVec 32 := 1#32
  let v1287 : BitVec 32 := Scalar.muli v8 c1_i32_1196
  let v1288 : BitVec 32 := Scalar.addi v1286 v1287
  v1288.toNat
def k0_dev63 (d0 : Dev nD) : Nat :=
  let c0_i32_1217 : BitVec 32 := 0#32
  let c1_i32_1214 : BitVec 32 := 1#32
  let c8_i32_1216 : BitVec 32 := 8#32
  let v1305 : BitVec 32 := Scalar.muli c1_i32_1214 c8_i32_1216
  let v1306 : BitVec 32 := Scalar.addi c0_i32_1217 v1305
  let c0_i32_1215 : BitVec 32 := 0#32
  let c4_i32_1218 : BitVec 32 := 4#32
  let v1307 : BitVec 32 := Scalar.muli c0_i32_1215 c4_i32_1218
  let v1308 : BitVec 32 := Scalar.addi v1306 v1307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1219 : BitVec 32 := 1#32
  let v1309 : BitVec 32 := Scalar.muli v8 c1_i32_1219
  let v1310 : BitVec 32 := Scalar.addi v1308 v1309
  v1310.toNat
def k0_dev64 (d0 : Dev nD) : Nat :=
  let c0_i32_1240 : BitVec 32 := 0#32
  let c0_i32_1237 : BitVec 32 := 0#32
  let c8_i32_1239 : BitVec 32 := 8#32
  let v1327 : BitVec 32 := Scalar.muli c0_i32_1237 c8_i32_1239
  let v1328 : BitVec 32 := Scalar.addi c0_i32_1240 v1327
  let c0_i32_1238 : BitVec 32 := 0#32
  let c4_i32_1241 : BitVec 32 := 4#32
  let v1329 : BitVec 32 := Scalar.muli c0_i32_1238 c4_i32_1241
  let v1330 : BitVec 32 := Scalar.addi v1328 v1329
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1242 : BitVec 32 := 1#32
  let v1331 : BitVec 32 := Scalar.muli v100 c1_i32_1242
  let v1332 : BitVec 32 := Scalar.addi v1330 v1331
  v1332.toNat
def k0_dev65 (d0 : Dev nD) : Nat :=
  let c0_i32_1263 : BitVec 32 := 0#32
  let c0_i32_1260 : BitVec 32 := 0#32
  let c8_i32_1262 : BitVec 32 := 8#32
  let v1349 : BitVec 32 := Scalar.muli c0_i32_1260 c8_i32_1262
  let v1350 : BitVec 32 := Scalar.addi c0_i32_1263 v1349
  let c0_i32_1261 : BitVec 32 := 0#32
  let c4_i32_1264 : BitVec 32 := 4#32
  let v1351 : BitVec 32 := Scalar.muli c0_i32_1261 c4_i32_1264
  let v1352 : BitVec 32 := Scalar.addi v1350 v1351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1265 : BitVec 32 := 1#32
  let v1353 : BitVec 32 := Scalar.muli v100 c1_i32_1265
  let v1354 : BitVec 32 := Scalar.addi v1352 v1353
  v1354.toNat
def k0_dev66 (d0 : Dev nD) : Nat :=
  let c0_i32_1286 : BitVec 32 := 0#32
  let c0_i32_1283 : BitVec 32 := 0#32
  let c8_i32_1285 : BitVec 32 := 8#32
  let v1371 : BitVec 32 := Scalar.muli c0_i32_1283 c8_i32_1285
  let v1372 : BitVec 32 := Scalar.addi c0_i32_1286 v1371
  let c0_i32_1284 : BitVec 32 := 0#32
  let c4_i32_1287 : BitVec 32 := 4#32
  let v1373 : BitVec 32 := Scalar.muli c0_i32_1284 c4_i32_1287
  let v1374 : BitVec 32 := Scalar.addi v1372 v1373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1288 : BitVec 32 := 1#32
  let v1375 : BitVec 32 := Scalar.muli v100 c1_i32_1288
  let v1376 : BitVec 32 := Scalar.addi v1374 v1375
  v1376.toNat
def k0_dev67 (d0 : Dev nD) : Nat :=
  let c0_i32_1309 : BitVec 32 := 0#32
  let c0_i32_1306 : BitVec 32 := 0#32
  let c8_i32_1308 : BitVec 32 := 8#32
  let v1393 : BitVec 32 := Scalar.muli c0_i32_1306 c8_i32_1308
  let v1394 : BitVec 32 := Scalar.addi c0_i32_1309 v1393
  let c0_i32_1307 : BitVec 32 := 0#32
  let c4_i32_1310 : BitVec 32 := 4#32
  let v1395 : BitVec 32 := Scalar.muli c0_i32_1307 c4_i32_1310
  let v1396 : BitVec 32 := Scalar.addi v1394 v1395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1311 : BitVec 32 := 1#32
  let v1397 : BitVec 32 := Scalar.muli v100 c1_i32_1311
  let v1398 : BitVec 32 := Scalar.addi v1396 v1397
  v1398.toNat
def k0_cond2 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_30 : BitVec 32 := 0#32
  let v50 : BitVec 1 := Scalar.cmpi .eq v2 c0_i32_30
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_31 : BitVec 32 := 0#32
  let v51 : BitVec 1 := Scalar.cmpi .eq v5 c0_i32_31
  let v52 : BitVec 1 := Scalar.andi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1_i32_32 : BitVec 32 := 1#32
  let v53 : BitVec 1 := Scalar.cmpi .eq v18 c1_i32_32
  let v54 : BitVec 1 := Scalar.andi v52 v53
  let v55 : BitVec 32 := Scalar.extui v54
  let c0_i32_33 : BitVec 32 := 0#32
  let v56 : BitVec 1 := Scalar.cmpi .ne v55 c0_i32_33
  v56

def k0_dev68 (d0 : Dev nD) : Nat :=
  let c0_i32_206 : BitVec 32 := 0#32
  let c0_i32_203 : BitVec 32 := 0#32
  let c8_i32_205 : BitVec 32 := 8#32
  let v309 : BitVec 32 := Scalar.muli c0_i32_203 c8_i32_205
  let v310 : BitVec 32 := Scalar.addi c0_i32_206 v309
  let c1_i32_204 : BitVec 32 := 1#32
  let c4_i32_207 : BitVec 32 := 4#32
  let v311 : BitVec 32 := Scalar.muli c1_i32_204 c4_i32_207
  let v312 : BitVec 32 := Scalar.addi v310 v311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_208 : BitVec 32 := 1#32
  let v313 : BitVec 32 := Scalar.muli v8 c1_i32_208
  let v314 : BitVec 32 := Scalar.addi v312 v313
  v314.toNat
def k0_dev69 (d0 : Dev nD) : Nat :=
  let c0_i32_218 : BitVec 32 := 0#32
  let c0_i32_215 : BitVec 32 := 0#32
  let c8_i32_217 : BitVec 32 := 8#32
  let v321 : BitVec 32 := Scalar.muli c0_i32_215 c8_i32_217
  let v322 : BitVec 32 := Scalar.addi c0_i32_218 v321
  let c1_i32_216 : BitVec 32 := 1#32
  let c4_i32_219 : BitVec 32 := 4#32
  let v323 : BitVec 32 := Scalar.muli c1_i32_216 c4_i32_219
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_220 : BitVec 32 := 1#32
  let v325 : BitVec 32 := Scalar.muli v8 c1_i32_220
  let v326 : BitVec 32 := Scalar.addi v324 v325
  v326.toNat
def k0_dev70 (d0 : Dev nD) : Nat :=
  let c0_i32_228 : BitVec 32 := 0#32
  let c0_i32_225 : BitVec 32 := 0#32
  let c8_i32_227 : BitVec 32 := 8#32
  let v333 : BitVec 32 := Scalar.muli c0_i32_225 c8_i32_227
  let v334 : BitVec 32 := Scalar.addi c0_i32_228 v333
  let c1_i32_226 : BitVec 32 := 1#32
  let c4_i32_229 : BitVec 32 := 4#32
  let v335 : BitVec 32 := Scalar.muli c1_i32_226 c4_i32_229
  let v336 : BitVec 32 := Scalar.addi v334 v335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_230 : BitVec 32 := 1#32
  let v337 : BitVec 32 := Scalar.muli v8 c1_i32_230
  let v338 : BitVec 32 := Scalar.addi v336 v337
  v338.toNat
def k0_dev71 (d0 : Dev nD) : Nat :=
  let c0_i32_238 : BitVec 32 := 0#32
  let c0_i32_235 : BitVec 32 := 0#32
  let c8_i32_237 : BitVec 32 := 8#32
  let v345 : BitVec 32 := Scalar.muli c0_i32_235 c8_i32_237
  let v346 : BitVec 32 := Scalar.addi c0_i32_238 v345
  let c1_i32_236 : BitVec 32 := 1#32
  let c4_i32_239 : BitVec 32 := 4#32
  let v347 : BitVec 32 := Scalar.muli c1_i32_236 c4_i32_239
  let v348 : BitVec 32 := Scalar.addi v346 v347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_240 : BitVec 32 := 1#32
  let v349 : BitVec 32 := Scalar.muli v8 c1_i32_240
  let v350 : BitVec 32 := Scalar.addi v348 v349
  v350.toNat
def k0_dev72 (d0 : Dev nD) : Nat :=
  let c0_i32_248 : BitVec 32 := 0#32
  let c0_i32_245 : BitVec 32 := 0#32
  let c8_i32_247 : BitVec 32 := 8#32
  let v357 : BitVec 32 := Scalar.muli c0_i32_245 c8_i32_247
  let v358 : BitVec 32 := Scalar.addi c0_i32_248 v357
  let c1_i32_246 : BitVec 32 := 1#32
  let c4_i32_249 : BitVec 32 := 4#32
  let v359 : BitVec 32 := Scalar.muli c1_i32_246 c4_i32_249
  let v360 : BitVec 32 := Scalar.addi v358 v359
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_250 : BitVec 32 := 1#32
  let v361 : BitVec 32 := Scalar.muli v8 c1_i32_250
  let v362 : BitVec 32 := Scalar.addi v360 v361
  v362.toNat
def k0_dev73 (d0 : Dev nD) : Nat :=
  let c0_i32_260 : BitVec 32 := 0#32
  let c0_i32_257 : BitVec 32 := 0#32
  let c8_i32_259 : BitVec 32 := 8#32
  let v369 : BitVec 32 := Scalar.muli c0_i32_257 c8_i32_259
  let v370 : BitVec 32 := Scalar.addi c0_i32_260 v369
  let c1_i32_258 : BitVec 32 := 1#32
  let c4_i32_261 : BitVec 32 := 4#32
  let v371 : BitVec 32 := Scalar.muli c1_i32_258 c4_i32_261
  let v372 : BitVec 32 := Scalar.addi v370 v371
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v373 : BitVec 32 := Scalar.muli v8 c1_i32_262
  let v374 : BitVec 32 := Scalar.addi v372 v373
  v374.toNat
def k0_dev74 (d0 : Dev nD) : Nat :=
  let c0_i32_270 : BitVec 32 := 0#32
  let c0_i32_267 : BitVec 32 := 0#32
  let c8_i32_269 : BitVec 32 := 8#32
  let v381 : BitVec 32 := Scalar.muli c0_i32_267 c8_i32_269
  let v382 : BitVec 32 := Scalar.addi c0_i32_270 v381
  let c1_i32_268 : BitVec 32 := 1#32
  let c4_i32_271 : BitVec 32 := 4#32
  let v383 : BitVec 32 := Scalar.muli c1_i32_268 c4_i32_271
  let v384 : BitVec 32 := Scalar.addi v382 v383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_272 : BitVec 32 := 1#32
  let v385 : BitVec 32 := Scalar.muli v8 c1_i32_272
  let v386 : BitVec 32 := Scalar.addi v384 v385
  v386.toNat
def k0_dev75 (d0 : Dev nD) : Nat :=
  let c0_i32_280 : BitVec 32 := 0#32
  let c0_i32_277 : BitVec 32 := 0#32
  let c8_i32_279 : BitVec 32 := 8#32
  let v393 : BitVec 32 := Scalar.muli c0_i32_277 c8_i32_279
  let v394 : BitVec 32 := Scalar.addi c0_i32_280 v393
  let c1_i32_278 : BitVec 32 := 1#32
  let c4_i32_281 : BitVec 32 := 4#32
  let v395 : BitVec 32 := Scalar.muli c1_i32_278 c4_i32_281
  let v396 : BitVec 32 := Scalar.addi v394 v395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_282 : BitVec 32 := 1#32
  let v397 : BitVec 32 := Scalar.muli v8 c1_i32_282
  let v398 : BitVec 32 := Scalar.addi v396 v397
  v398.toNat
def k0_dev76 (d0 : Dev nD) : Nat :=
  let c0_i32_290 : BitVec 32 := 0#32
  let c0_i32_287 : BitVec 32 := 0#32
  let c8_i32_289 : BitVec 32 := 8#32
  let v405 : BitVec 32 := Scalar.muli c0_i32_287 c8_i32_289
  let v406 : BitVec 32 := Scalar.addi c0_i32_290 v405
  let c1_i32_288 : BitVec 32 := 1#32
  let c4_i32_291 : BitVec 32 := 4#32
  let v407 : BitVec 32 := Scalar.muli c1_i32_288 c4_i32_291
  let v408 : BitVec 32 := Scalar.addi v406 v407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_292 : BitVec 32 := 1#32
  let v409 : BitVec 32 := Scalar.muli v8 c1_i32_292
  let v410 : BitVec 32 := Scalar.addi v408 v409
  v410.toNat
def k0_dev77 (d0 : Dev nD) : Nat :=
  let c0_i32_302 : BitVec 32 := 0#32
  let c0_i32_299 : BitVec 32 := 0#32
  let c8_i32_301 : BitVec 32 := 8#32
  let v417 : BitVec 32 := Scalar.muli c0_i32_299 c8_i32_301
  let v418 : BitVec 32 := Scalar.addi c0_i32_302 v417
  let c1_i32_300 : BitVec 32 := 1#32
  let c4_i32_303 : BitVec 32 := 4#32
  let v419 : BitVec 32 := Scalar.muli c1_i32_300 c4_i32_303
  let v420 : BitVec 32 := Scalar.addi v418 v419
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v421 : BitVec 32 := Scalar.muli v8 c1_i32_304
  let v422 : BitVec 32 := Scalar.addi v420 v421
  v422.toNat
def k0_dev78 (d0 : Dev nD) : Nat :=
  let c0_i32_312 : BitVec 32 := 0#32
  let c0_i32_309 : BitVec 32 := 0#32
  let c8_i32_311 : BitVec 32 := 8#32
  let v429 : BitVec 32 := Scalar.muli c0_i32_309 c8_i32_311
  let v430 : BitVec 32 := Scalar.addi c0_i32_312 v429
  let c1_i32_310 : BitVec 32 := 1#32
  let c4_i32_313 : BitVec 32 := 4#32
  let v431 : BitVec 32 := Scalar.muli c1_i32_310 c4_i32_313
  let v432 : BitVec 32 := Scalar.addi v430 v431
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_314 : BitVec 32 := 1#32
  let v433 : BitVec 32 := Scalar.muli v8 c1_i32_314
  let v434 : BitVec 32 := Scalar.addi v432 v433
  v434.toNat
def k0_dev79 (d0 : Dev nD) : Nat :=
  let c0_i32_322 : BitVec 32 := 0#32
  let c0_i32_319 : BitVec 32 := 0#32
  let c8_i32_321 : BitVec 32 := 8#32
  let v441 : BitVec 32 := Scalar.muli c0_i32_319 c8_i32_321
  let v442 : BitVec 32 := Scalar.addi c0_i32_322 v441
  let c1_i32_320 : BitVec 32 := 1#32
  let c4_i32_323 : BitVec 32 := 4#32
  let v443 : BitVec 32 := Scalar.muli c1_i32_320 c4_i32_323
  let v444 : BitVec 32 := Scalar.addi v442 v443
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_324 : BitVec 32 := 1#32
  let v445 : BitVec 32 := Scalar.muli v8 c1_i32_324
  let v446 : BitVec 32 := Scalar.addi v444 v445
  v446.toNat
def k0_dev80 (d0 : Dev nD) : Nat :=
  let c0_i32_332 : BitVec 32 := 0#32
  let c0_i32_329 : BitVec 32 := 0#32
  let c8_i32_331 : BitVec 32 := 8#32
  let v453 : BitVec 32 := Scalar.muli c0_i32_329 c8_i32_331
  let v454 : BitVec 32 := Scalar.addi c0_i32_332 v453
  let c1_i32_330 : BitVec 32 := 1#32
  let c4_i32_333 : BitVec 32 := 4#32
  let v455 : BitVec 32 := Scalar.muli c1_i32_330 c4_i32_333
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v457 : BitVec 32 := Scalar.muli v8 c1_i32_334
  let v458 : BitVec 32 := Scalar.addi v456 v457
  v458.toNat
def k0_dev81 (d0 : Dev nD) : Nat :=
  let c0_i32_344 : BitVec 32 := 0#32
  let c0_i32_341 : BitVec 32 := 0#32
  let c8_i32_343 : BitVec 32 := 8#32
  let v465 : BitVec 32 := Scalar.muli c0_i32_341 c8_i32_343
  let v466 : BitVec 32 := Scalar.addi c0_i32_344 v465
  let c1_i32_342 : BitVec 32 := 1#32
  let c4_i32_345 : BitVec 32 := 4#32
  let v467 : BitVec 32 := Scalar.muli c1_i32_342 c4_i32_345
  let v468 : BitVec 32 := Scalar.addi v466 v467
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_346 : BitVec 32 := 1#32
  let v469 : BitVec 32 := Scalar.muli v8 c1_i32_346
  let v470 : BitVec 32 := Scalar.addi v468 v469
  v470.toNat
def k0_dev82 (d0 : Dev nD) : Nat :=
  let c0_i32_354 : BitVec 32 := 0#32
  let c0_i32_351 : BitVec 32 := 0#32
  let c8_i32_353 : BitVec 32 := 8#32
  let v477 : BitVec 32 := Scalar.muli c0_i32_351 c8_i32_353
  let v478 : BitVec 32 := Scalar.addi c0_i32_354 v477
  let c1_i32_352 : BitVec 32 := 1#32
  let c4_i32_355 : BitVec 32 := 4#32
  let v479 : BitVec 32 := Scalar.muli c1_i32_352 c4_i32_355
  let v480 : BitVec 32 := Scalar.addi v478 v479
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_356 : BitVec 32 := 1#32
  let v481 : BitVec 32 := Scalar.muli v8 c1_i32_356
  let v482 : BitVec 32 := Scalar.addi v480 v481
  v482.toNat
def k0_dev83 (d0 : Dev nD) : Nat :=
  let c0_i32_364 : BitVec 32 := 0#32
  let c0_i32_361 : BitVec 32 := 0#32
  let c8_i32_363 : BitVec 32 := 8#32
  let v489 : BitVec 32 := Scalar.muli c0_i32_361 c8_i32_363
  let v490 : BitVec 32 := Scalar.addi c0_i32_364 v489
  let c1_i32_362 : BitVec 32 := 1#32
  let c4_i32_365 : BitVec 32 := 4#32
  let v491 : BitVec 32 := Scalar.muli c1_i32_362 c4_i32_365
  let v492 : BitVec 32 := Scalar.addi v490 v491
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_366 : BitVec 32 := 1#32
  let v493 : BitVec 32 := Scalar.muli v8 c1_i32_366
  let v494 : BitVec 32 := Scalar.addi v492 v493
  v494.toNat
def k0_dev84 (d0 : Dev nD) : Nat :=
  let c0_i32_373 : BitVec 32 := 0#32
  let c0_i32_370 : BitVec 32 := 0#32
  let c8_i32_372 : BitVec 32 := 8#32
  let v501 : BitVec 32 := Scalar.muli c0_i32_370 c8_i32_372
  let v502 : BitVec 32 := Scalar.addi c0_i32_373 v501
  let c1_i32_371 : BitVec 32 := 1#32
  let c4_i32_374 : BitVec 32 := 4#32
  let v503 : BitVec 32 := Scalar.muli c1_i32_371 c4_i32_374
  let v504 : BitVec 32 := Scalar.addi v502 v503
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_375 : BitVec 32 := 1#32
  let v505 : BitVec 32 := Scalar.muli v8 c1_i32_375
  let v506 : BitVec 32 := Scalar.addi v504 v505
  v506.toNat
def k0_dev85 (d0 : Dev nD) : Nat :=
  let c0_i32_384 : BitVec 32 := 0#32
  let c0_i32_381 : BitVec 32 := 0#32
  let c8_i32_383 : BitVec 32 := 8#32
  let v513 : BitVec 32 := Scalar.muli c0_i32_381 c8_i32_383
  let v514 : BitVec 32 := Scalar.addi c0_i32_384 v513
  let c1_i32_382 : BitVec 32 := 1#32
  let c4_i32_385 : BitVec 32 := 4#32
  let v515 : BitVec 32 := Scalar.muli c1_i32_382 c4_i32_385
  let v516 : BitVec 32 := Scalar.addi v514 v515
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_386 : BitVec 32 := 1#32
  let v517 : BitVec 32 := Scalar.muli v8 c1_i32_386
  let v518 : BitVec 32 := Scalar.addi v516 v517
  v518.toNat
def k0_dev86 (d0 : Dev nD) : Nat :=
  let c0_i32_394 : BitVec 32 := 0#32
  let c0_i32_391 : BitVec 32 := 0#32
  let c8_i32_393 : BitVec 32 := 8#32
  let v525 : BitVec 32 := Scalar.muli c0_i32_391 c8_i32_393
  let v526 : BitVec 32 := Scalar.addi c0_i32_394 v525
  let c1_i32_392 : BitVec 32 := 1#32
  let c4_i32_395 : BitVec 32 := 4#32
  let v527 : BitVec 32 := Scalar.muli c1_i32_392 c4_i32_395
  let v528 : BitVec 32 := Scalar.addi v526 v527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_396 : BitVec 32 := 1#32
  let v529 : BitVec 32 := Scalar.muli v8 c1_i32_396
  let v530 : BitVec 32 := Scalar.addi v528 v529
  v530.toNat
def k0_dev87 (d0 : Dev nD) : Nat :=
  let c0_i32_404 : BitVec 32 := 0#32
  let c0_i32_401 : BitVec 32 := 0#32
  let c8_i32_403 : BitVec 32 := 8#32
  let v537 : BitVec 32 := Scalar.muli c0_i32_401 c8_i32_403
  let v538 : BitVec 32 := Scalar.addi c0_i32_404 v537
  let c1_i32_402 : BitVec 32 := 1#32
  let c4_i32_405 : BitVec 32 := 4#32
  let v539 : BitVec 32 := Scalar.muli c1_i32_402 c4_i32_405
  let v540 : BitVec 32 := Scalar.addi v538 v539
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_406 : BitVec 32 := 1#32
  let v541 : BitVec 32 := Scalar.muli v8 c1_i32_406
  let v542 : BitVec 32 := Scalar.addi v540 v541
  v542.toNat
def k0_dev88 (d0 : Dev nD) : Nat :=
  let c0_i32_414 : BitVec 32 := 0#32
  let c0_i32_411 : BitVec 32 := 0#32
  let c8_i32_413 : BitVec 32 := 8#32
  let v549 : BitVec 32 := Scalar.muli c0_i32_411 c8_i32_413
  let v550 : BitVec 32 := Scalar.addi c0_i32_414 v549
  let c1_i32_412 : BitVec 32 := 1#32
  let c4_i32_415 : BitVec 32 := 4#32
  let v551 : BitVec 32 := Scalar.muli c1_i32_412 c4_i32_415
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_416 : BitVec 32 := 1#32
  let v553 : BitVec 32 := Scalar.muli v8 c1_i32_416
  let v554 : BitVec 32 := Scalar.addi v552 v553
  v554.toNat
def k0_dev89 (d0 : Dev nD) : Nat :=
  let c0_i32_425 : BitVec 32 := 0#32
  let c0_i32_422 : BitVec 32 := 0#32
  let c8_i32_424 : BitVec 32 := 8#32
  let v561 : BitVec 32 := Scalar.muli c0_i32_422 c8_i32_424
  let v562 : BitVec 32 := Scalar.addi c0_i32_425 v561
  let c1_i32_423 : BitVec 32 := 1#32
  let c4_i32_426 : BitVec 32 := 4#32
  let v563 : BitVec 32 := Scalar.muli c1_i32_423 c4_i32_426
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_427 : BitVec 32 := 1#32
  let v565 : BitVec 32 := Scalar.muli v8 c1_i32_427
  let v566 : BitVec 32 := Scalar.addi v564 v565
  v566.toNat
def k0_dev90 (d0 : Dev nD) : Nat :=
  let c0_i32_435 : BitVec 32 := 0#32
  let c0_i32_432 : BitVec 32 := 0#32
  let c8_i32_434 : BitVec 32 := 8#32
  let v573 : BitVec 32 := Scalar.muli c0_i32_432 c8_i32_434
  let v574 : BitVec 32 := Scalar.addi c0_i32_435 v573
  let c1_i32_433 : BitVec 32 := 1#32
  let c4_i32_436 : BitVec 32 := 4#32
  let v575 : BitVec 32 := Scalar.muli c1_i32_433 c4_i32_436
  let v576 : BitVec 32 := Scalar.addi v574 v575
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_437 : BitVec 32 := 1#32
  let v577 : BitVec 32 := Scalar.muli v8 c1_i32_437
  let v578 : BitVec 32 := Scalar.addi v576 v577
  v578.toNat
def k0_dev91 (d0 : Dev nD) : Nat :=
  let c0_i32_445 : BitVec 32 := 0#32
  let c0_i32_442 : BitVec 32 := 0#32
  let c8_i32_444 : BitVec 32 := 8#32
  let v585 : BitVec 32 := Scalar.muli c0_i32_442 c8_i32_444
  let v586 : BitVec 32 := Scalar.addi c0_i32_445 v585
  let c1_i32_443 : BitVec 32 := 1#32
  let c4_i32_446 : BitVec 32 := 4#32
  let v587 : BitVec 32 := Scalar.muli c1_i32_443 c4_i32_446
  let v588 : BitVec 32 := Scalar.addi v586 v587
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_447 : BitVec 32 := 1#32
  let v589 : BitVec 32 := Scalar.muli v8 c1_i32_447
  let v590 : BitVec 32 := Scalar.addi v588 v589
  v590.toNat
def k0_dev92 (d0 : Dev nD) : Nat :=
  let c0_i32_468 : BitVec 32 := 0#32
  let c1_i32_465 : BitVec 32 := 1#32
  let c8_i32_467 : BitVec 32 := 8#32
  let v607 : BitVec 32 := Scalar.muli c1_i32_465 c8_i32_467
  let v608 : BitVec 32 := Scalar.addi c0_i32_468 v607
  let c0_i32_466 : BitVec 32 := 0#32
  let c4_i32_469 : BitVec 32 := 4#32
  let v609 : BitVec 32 := Scalar.muli c0_i32_466 c4_i32_469
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_470 : BitVec 32 := 1#32
  let v611 : BitVec 32 := Scalar.muli v8 c1_i32_470
  let v612 : BitVec 32 := Scalar.addi v610 v611
  v612.toNat
def k0_dev93 (d0 : Dev nD) : Nat :=
  let c0_i32_479 : BitVec 32 := 0#32
  let c0_i32_476 : BitVec 32 := 0#32
  let c8_i32_478 : BitVec 32 := 8#32
  let v619 : BitVec 32 := Scalar.muli c0_i32_476 c8_i32_478
  let v620 : BitVec 32 := Scalar.addi c0_i32_479 v619
  let c0_i32_477 : BitVec 32 := 0#32
  let c4_i32_480 : BitVec 32 := 4#32
  let v621 : BitVec 32 := Scalar.muli c0_i32_477 c4_i32_480
  let v622 : BitVec 32 := Scalar.addi v620 v621
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_481 : BitVec 32 := 1#32
  let v623 : BitVec 32 := Scalar.muli v100 c1_i32_481
  let v624 : BitVec 32 := Scalar.addi v622 v623
  v624.toNat
def k0_dev94 (d0 : Dev nD) : Nat :=
  let c0_i32_507 : BitVec 32 := 0#32
  let c1_i32_504 : BitVec 32 := 1#32
  let c8_i32_506 : BitVec 32 := 8#32
  let v644 : BitVec 32 := Scalar.muli c1_i32_504 c8_i32_506
  let v645 : BitVec 32 := Scalar.addi c0_i32_507 v644
  let c0_i32_505 : BitVec 32 := 0#32
  let c4_i32_508 : BitVec 32 := 4#32
  let v646 : BitVec 32 := Scalar.muli c0_i32_505 c4_i32_508
  let v647 : BitVec 32 := Scalar.addi v645 v646
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_509 : BitVec 32 := 1#32
  let v648 : BitVec 32 := Scalar.muli v8 c1_i32_509
  let v649 : BitVec 32 := Scalar.addi v647 v648
  v649.toNat
def k0_dev95 (d0 : Dev nD) : Nat :=
  let c0_i32_518 : BitVec 32 := 0#32
  let c0_i32_515 : BitVec 32 := 0#32
  let c8_i32_517 : BitVec 32 := 8#32
  let v656 : BitVec 32 := Scalar.muli c0_i32_515 c8_i32_517
  let v657 : BitVec 32 := Scalar.addi c0_i32_518 v656
  let c0_i32_516 : BitVec 32 := 0#32
  let c4_i32_519 : BitVec 32 := 4#32
  let v658 : BitVec 32 := Scalar.muli c0_i32_516 c4_i32_519
  let v659 : BitVec 32 := Scalar.addi v657 v658
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_520 : BitVec 32 := 1#32
  let v660 : BitVec 32 := Scalar.muli v100 c1_i32_520
  let v661 : BitVec 32 := Scalar.addi v659 v660
  v661.toNat
def k0_dev96 (d0 : Dev nD) : Nat :=
  let c0_i32_546 : BitVec 32 := 0#32
  let c1_i32_543 : BitVec 32 := 1#32
  let c8_i32_545 : BitVec 32 := 8#32
  let v681 : BitVec 32 := Scalar.muli c1_i32_543 c8_i32_545
  let v682 : BitVec 32 := Scalar.addi c0_i32_546 v681
  let c0_i32_544 : BitVec 32 := 0#32
  let c4_i32_547 : BitVec 32 := 4#32
  let v683 : BitVec 32 := Scalar.muli c0_i32_544 c4_i32_547
  let v684 : BitVec 32 := Scalar.addi v682 v683
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_548 : BitVec 32 := 1#32
  let v685 : BitVec 32 := Scalar.muli v8 c1_i32_548
  let v686 : BitVec 32 := Scalar.addi v684 v685
  v686.toNat
def k0_dev97 (d0 : Dev nD) : Nat :=
  let c0_i32_557 : BitVec 32 := 0#32
  let c0_i32_554 : BitVec 32 := 0#32
  let c8_i32_556 : BitVec 32 := 8#32
  let v693 : BitVec 32 := Scalar.muli c0_i32_554 c8_i32_556
  let v694 : BitVec 32 := Scalar.addi c0_i32_557 v693
  let c0_i32_555 : BitVec 32 := 0#32
  let c4_i32_558 : BitVec 32 := 4#32
  let v695 : BitVec 32 := Scalar.muli c0_i32_555 c4_i32_558
  let v696 : BitVec 32 := Scalar.addi v694 v695
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_559 : BitVec 32 := 1#32
  let v697 : BitVec 32 := Scalar.muli v100 c1_i32_559
  let v698 : BitVec 32 := Scalar.addi v696 v697
  v698.toNat
def k0_dev98 (d0 : Dev nD) : Nat :=
  let c0_i32_585 : BitVec 32 := 0#32
  let c1_i32_582 : BitVec 32 := 1#32
  let c8_i32_584 : BitVec 32 := 8#32
  let v718 : BitVec 32 := Scalar.muli c1_i32_582 c8_i32_584
  let v719 : BitVec 32 := Scalar.addi c0_i32_585 v718
  let c0_i32_583 : BitVec 32 := 0#32
  let c4_i32_586 : BitVec 32 := 4#32
  let v720 : BitVec 32 := Scalar.muli c0_i32_583 c4_i32_586
  let v721 : BitVec 32 := Scalar.addi v719 v720
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_587 : BitVec 32 := 1#32
  let v722 : BitVec 32 := Scalar.muli v8 c1_i32_587
  let v723 : BitVec 32 := Scalar.addi v721 v722
  v723.toNat
def k0_dev99 (d0 : Dev nD) : Nat :=
  let c0_i32_596 : BitVec 32 := 0#32
  let c0_i32_593 : BitVec 32 := 0#32
  let c8_i32_595 : BitVec 32 := 8#32
  let v730 : BitVec 32 := Scalar.muli c0_i32_593 c8_i32_595
  let v731 : BitVec 32 := Scalar.addi c0_i32_596 v730
  let c0_i32_594 : BitVec 32 := 0#32
  let c4_i32_597 : BitVec 32 := 4#32
  let v732 : BitVec 32 := Scalar.muli c0_i32_594 c4_i32_597
  let v733 : BitVec 32 := Scalar.addi v731 v732
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_598 : BitVec 32 := 1#32
  let v734 : BitVec 32 := Scalar.muli v100 c1_i32_598
  let v735 : BitVec 32 := Scalar.addi v733 v734
  v735.toNat
def k0_dev100 (d0 : Dev nD) : Nat :=
  let c0_i32_624 : BitVec 32 := 0#32
  let c1_i32_621 : BitVec 32 := 1#32
  let c8_i32_623 : BitVec 32 := 8#32
  let v755 : BitVec 32 := Scalar.muli c1_i32_621 c8_i32_623
  let v756 : BitVec 32 := Scalar.addi c0_i32_624 v755
  let c0_i32_622 : BitVec 32 := 0#32
  let c4_i32_625 : BitVec 32 := 4#32
  let v757 : BitVec 32 := Scalar.muli c0_i32_622 c4_i32_625
  let v758 : BitVec 32 := Scalar.addi v756 v757
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_626 : BitVec 32 := 1#32
  let v759 : BitVec 32 := Scalar.muli v8 c1_i32_626
  let v760 : BitVec 32 := Scalar.addi v758 v759
  v760.toNat
def k0_dev101 (d0 : Dev nD) : Nat :=
  let c0_i32_635 : BitVec 32 := 0#32
  let c0_i32_632 : BitVec 32 := 0#32
  let c8_i32_634 : BitVec 32 := 8#32
  let v767 : BitVec 32 := Scalar.muli c0_i32_632 c8_i32_634
  let v768 : BitVec 32 := Scalar.addi c0_i32_635 v767
  let c0_i32_633 : BitVec 32 := 0#32
  let c4_i32_636 : BitVec 32 := 4#32
  let v769 : BitVec 32 := Scalar.muli c0_i32_633 c4_i32_636
  let v770 : BitVec 32 := Scalar.addi v768 v769
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_637 : BitVec 32 := 1#32
  let v771 : BitVec 32 := Scalar.muli v100 c1_i32_637
  let v772 : BitVec 32 := Scalar.addi v770 v771
  v772.toNat
def k0_dev102 (d0 : Dev nD) : Nat :=
  let c0_i32_663 : BitVec 32 := 0#32
  let c1_i32_660 : BitVec 32 := 1#32
  let c8_i32_662 : BitVec 32 := 8#32
  let v792 : BitVec 32 := Scalar.muli c1_i32_660 c8_i32_662
  let v793 : BitVec 32 := Scalar.addi c0_i32_663 v792
  let c0_i32_661 : BitVec 32 := 0#32
  let c4_i32_664 : BitVec 32 := 4#32
  let v794 : BitVec 32 := Scalar.muli c0_i32_661 c4_i32_664
  let v795 : BitVec 32 := Scalar.addi v793 v794
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_665 : BitVec 32 := 1#32
  let v796 : BitVec 32 := Scalar.muli v8 c1_i32_665
  let v797 : BitVec 32 := Scalar.addi v795 v796
  v797.toNat
def k0_dev103 (d0 : Dev nD) : Nat :=
  let c0_i32_674 : BitVec 32 := 0#32
  let c0_i32_671 : BitVec 32 := 0#32
  let c8_i32_673 : BitVec 32 := 8#32
  let v804 : BitVec 32 := Scalar.muli c0_i32_671 c8_i32_673
  let v805 : BitVec 32 := Scalar.addi c0_i32_674 v804
  let c0_i32_672 : BitVec 32 := 0#32
  let c4_i32_675 : BitVec 32 := 4#32
  let v806 : BitVec 32 := Scalar.muli c0_i32_672 c4_i32_675
  let v807 : BitVec 32 := Scalar.addi v805 v806
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_676 : BitVec 32 := 1#32
  let v808 : BitVec 32 := Scalar.muli v100 c1_i32_676
  let v809 : BitVec 32 := Scalar.addi v807 v808
  v809.toNat
def k0_dev104 (d0 : Dev nD) : Nat :=
  let c0_i32_702 : BitVec 32 := 0#32
  let c1_i32_699 : BitVec 32 := 1#32
  let c8_i32_701 : BitVec 32 := 8#32
  let v829 : BitVec 32 := Scalar.muli c1_i32_699 c8_i32_701
  let v830 : BitVec 32 := Scalar.addi c0_i32_702 v829
  let c0_i32_700 : BitVec 32 := 0#32
  let c4_i32_703 : BitVec 32 := 4#32
  let v831 : BitVec 32 := Scalar.muli c0_i32_700 c4_i32_703
  let v832 : BitVec 32 := Scalar.addi v830 v831
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_704 : BitVec 32 := 1#32
  let v833 : BitVec 32 := Scalar.muli v8 c1_i32_704
  let v834 : BitVec 32 := Scalar.addi v832 v833
  v834.toNat
def k0_dev105 (d0 : Dev nD) : Nat :=
  let c0_i32_713 : BitVec 32 := 0#32
  let c0_i32_710 : BitVec 32 := 0#32
  let c8_i32_712 : BitVec 32 := 8#32
  let v841 : BitVec 32 := Scalar.muli c0_i32_710 c8_i32_712
  let v842 : BitVec 32 := Scalar.addi c0_i32_713 v841
  let c0_i32_711 : BitVec 32 := 0#32
  let c4_i32_714 : BitVec 32 := 4#32
  let v843 : BitVec 32 := Scalar.muli c0_i32_711 c4_i32_714
  let v844 : BitVec 32 := Scalar.addi v842 v843
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_715 : BitVec 32 := 1#32
  let v845 : BitVec 32 := Scalar.muli v100 c1_i32_715
  let v846 : BitVec 32 := Scalar.addi v844 v845
  v846.toNat
def k0_dev106 (d0 : Dev nD) : Nat :=
  let c0_i32_746 : BitVec 32 := 0#32
  let c1_i32_743 : BitVec 32 := 1#32
  let c8_i32_745 : BitVec 32 := 8#32
  let v870 : BitVec 32 := Scalar.muli c1_i32_743 c8_i32_745
  let v871 : BitVec 32 := Scalar.addi c0_i32_746 v870
  let c0_i32_744 : BitVec 32 := 0#32
  let c4_i32_747 : BitVec 32 := 4#32
  let v872 : BitVec 32 := Scalar.muli c0_i32_744 c4_i32_747
  let v873 : BitVec 32 := Scalar.addi v871 v872
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_748 : BitVec 32 := 1#32
  let v874 : BitVec 32 := Scalar.muli v8 c1_i32_748
  let v875 : BitVec 32 := Scalar.addi v873 v874
  v875.toNat
def k0_dev107 (d0 : Dev nD) : Nat :=
  let c0_i32_757 : BitVec 32 := 0#32
  let c0_i32_754 : BitVec 32 := 0#32
  let c8_i32_756 : BitVec 32 := 8#32
  let v882 : BitVec 32 := Scalar.muli c0_i32_754 c8_i32_756
  let v883 : BitVec 32 := Scalar.addi c0_i32_757 v882
  let c0_i32_755 : BitVec 32 := 0#32
  let c4_i32_758 : BitVec 32 := 4#32
  let v884 : BitVec 32 := Scalar.muli c0_i32_755 c4_i32_758
  let v885 : BitVec 32 := Scalar.addi v883 v884
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_759 : BitVec 32 := 1#32
  let v886 : BitVec 32 := Scalar.muli v100 c1_i32_759
  let v887 : BitVec 32 := Scalar.addi v885 v886
  v887.toNat
def k0_dev108 (d0 : Dev nD) : Nat :=
  let c0_i32_790 : BitVec 32 := 0#32
  let c1_i32_787 : BitVec 32 := 1#32
  let c8_i32_789 : BitVec 32 := 8#32
  let v911 : BitVec 32 := Scalar.muli c1_i32_787 c8_i32_789
  let v912 : BitVec 32 := Scalar.addi c0_i32_790 v911
  let c0_i32_788 : BitVec 32 := 0#32
  let c4_i32_791 : BitVec 32 := 4#32
  let v913 : BitVec 32 := Scalar.muli c0_i32_788 c4_i32_791
  let v914 : BitVec 32 := Scalar.addi v912 v913
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_792 : BitVec 32 := 1#32
  let v915 : BitVec 32 := Scalar.muli v8 c1_i32_792
  let v916 : BitVec 32 := Scalar.addi v914 v915
  v916.toNat
def k0_dev109 (d0 : Dev nD) : Nat :=
  let c0_i32_801 : BitVec 32 := 0#32
  let c0_i32_798 : BitVec 32 := 0#32
  let c8_i32_800 : BitVec 32 := 8#32
  let v923 : BitVec 32 := Scalar.muli c0_i32_798 c8_i32_800
  let v924 : BitVec 32 := Scalar.addi c0_i32_801 v923
  let c0_i32_799 : BitVec 32 := 0#32
  let c4_i32_802 : BitVec 32 := 4#32
  let v925 : BitVec 32 := Scalar.muli c0_i32_799 c4_i32_802
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_803 : BitVec 32 := 1#32
  let v927 : BitVec 32 := Scalar.muli v100 c1_i32_803
  let v928 : BitVec 32 := Scalar.addi v926 v927
  v928.toNat
def k0_dev110 (d0 : Dev nD) : Nat :=
  let c0_i32_834 : BitVec 32 := 0#32
  let c1_i32_831 : BitVec 32 := 1#32
  let c8_i32_833 : BitVec 32 := 8#32
  let v952 : BitVec 32 := Scalar.muli c1_i32_831 c8_i32_833
  let v953 : BitVec 32 := Scalar.addi c0_i32_834 v952
  let c0_i32_832 : BitVec 32 := 0#32
  let c4_i32_835 : BitVec 32 := 4#32
  let v954 : BitVec 32 := Scalar.muli c0_i32_832 c4_i32_835
  let v955 : BitVec 32 := Scalar.addi v953 v954
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_836 : BitVec 32 := 1#32
  let v956 : BitVec 32 := Scalar.muli v8 c1_i32_836
  let v957 : BitVec 32 := Scalar.addi v955 v956
  v957.toNat
def k0_dev111 (d0 : Dev nD) : Nat :=
  let c0_i32_845 : BitVec 32 := 0#32
  let c0_i32_842 : BitVec 32 := 0#32
  let c8_i32_844 : BitVec 32 := 8#32
  let v964 : BitVec 32 := Scalar.muli c0_i32_842 c8_i32_844
  let v965 : BitVec 32 := Scalar.addi c0_i32_845 v964
  let c0_i32_843 : BitVec 32 := 0#32
  let c4_i32_846 : BitVec 32 := 4#32
  let v966 : BitVec 32 := Scalar.muli c0_i32_843 c4_i32_846
  let v967 : BitVec 32 := Scalar.addi v965 v966
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_847 : BitVec 32 := 1#32
  let v968 : BitVec 32 := Scalar.muli v100 c1_i32_847
  let v969 : BitVec 32 := Scalar.addi v967 v968
  v969.toNat
def k0_dev112 (d0 : Dev nD) : Nat :=
  let c0_i32_878 : BitVec 32 := 0#32
  let c1_i32_875 : BitVec 32 := 1#32
  let c8_i32_877 : BitVec 32 := 8#32
  let v993 : BitVec 32 := Scalar.muli c1_i32_875 c8_i32_877
  let v994 : BitVec 32 := Scalar.addi c0_i32_878 v993
  let c0_i32_876 : BitVec 32 := 0#32
  let c4_i32_879 : BitVec 32 := 4#32
  let v995 : BitVec 32 := Scalar.muli c0_i32_876 c4_i32_879
  let v996 : BitVec 32 := Scalar.addi v994 v995
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_880 : BitVec 32 := 1#32
  let v997 : BitVec 32 := Scalar.muli v8 c1_i32_880
  let v998 : BitVec 32 := Scalar.addi v996 v997
  v998.toNat
def k0_dev113 (d0 : Dev nD) : Nat :=
  let c0_i32_889 : BitVec 32 := 0#32
  let c0_i32_886 : BitVec 32 := 0#32
  let c8_i32_888 : BitVec 32 := 8#32
  let v1005 : BitVec 32 := Scalar.muli c0_i32_886 c8_i32_888
  let v1006 : BitVec 32 := Scalar.addi c0_i32_889 v1005
  let c0_i32_887 : BitVec 32 := 0#32
  let c4_i32_890 : BitVec 32 := 4#32
  let v1007 : BitVec 32 := Scalar.muli c0_i32_887 c4_i32_890
  let v1008 : BitVec 32 := Scalar.addi v1006 v1007
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_891 : BitVec 32 := 1#32
  let v1009 : BitVec 32 := Scalar.muli v100 c1_i32_891
  let v1010 : BitVec 32 := Scalar.addi v1008 v1009
  v1010.toNat
def k0_dev114 (d0 : Dev nD) : Nat :=
  let c0_i32_921 : BitVec 32 := 0#32
  let c1_i32_918 : BitVec 32 := 1#32
  let c8_i32_920 : BitVec 32 := 8#32
  let v1034 : BitVec 32 := Scalar.muli c1_i32_918 c8_i32_920
  let v1035 : BitVec 32 := Scalar.addi c0_i32_921 v1034
  let c0_i32_919 : BitVec 32 := 0#32
  let c4_i32_922 : BitVec 32 := 4#32
  let v1036 : BitVec 32 := Scalar.muli c0_i32_919 c4_i32_922
  let v1037 : BitVec 32 := Scalar.addi v1035 v1036
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_923 : BitVec 32 := 1#32
  let v1038 : BitVec 32 := Scalar.muli v8 c1_i32_923
  let v1039 : BitVec 32 := Scalar.addi v1037 v1038
  v1039.toNat
def k0_dev115 (d0 : Dev nD) : Nat :=
  let c0_i32_932 : BitVec 32 := 0#32
  let c0_i32_929 : BitVec 32 := 0#32
  let c8_i32_931 : BitVec 32 := 8#32
  let v1046 : BitVec 32 := Scalar.muli c0_i32_929 c8_i32_931
  let v1047 : BitVec 32 := Scalar.addi c0_i32_932 v1046
  let c0_i32_930 : BitVec 32 := 0#32
  let c4_i32_933 : BitVec 32 := 4#32
  let v1048 : BitVec 32 := Scalar.muli c0_i32_930 c4_i32_933
  let v1049 : BitVec 32 := Scalar.addi v1047 v1048
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_934 : BitVec 32 := 1#32
  let v1050 : BitVec 32 := Scalar.muli v100 c1_i32_934
  let v1051 : BitVec 32 := Scalar.addi v1049 v1050
  v1051.toNat
def k0_dev116 (d0 : Dev nD) : Nat :=
  let c0_i32_964 : BitVec 32 := 0#32
  let c1_i32_961 : BitVec 32 := 1#32
  let c8_i32_963 : BitVec 32 := 8#32
  let v1075 : BitVec 32 := Scalar.muli c1_i32_961 c8_i32_963
  let v1076 : BitVec 32 := Scalar.addi c0_i32_964 v1075
  let c0_i32_962 : BitVec 32 := 0#32
  let c4_i32_965 : BitVec 32 := 4#32
  let v1077 : BitVec 32 := Scalar.muli c0_i32_962 c4_i32_965
  let v1078 : BitVec 32 := Scalar.addi v1076 v1077
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_966 : BitVec 32 := 1#32
  let v1079 : BitVec 32 := Scalar.muli v8 c1_i32_966
  let v1080 : BitVec 32 := Scalar.addi v1078 v1079
  v1080.toNat
def k0_dev117 (d0 : Dev nD) : Nat :=
  let c0_i32_975 : BitVec 32 := 0#32
  let c0_i32_972 : BitVec 32 := 0#32
  let c8_i32_974 : BitVec 32 := 8#32
  let v1087 : BitVec 32 := Scalar.muli c0_i32_972 c8_i32_974
  let v1088 : BitVec 32 := Scalar.addi c0_i32_975 v1087
  let c0_i32_973 : BitVec 32 := 0#32
  let c4_i32_976 : BitVec 32 := 4#32
  let v1089 : BitVec 32 := Scalar.muli c0_i32_973 c4_i32_976
  let v1090 : BitVec 32 := Scalar.addi v1088 v1089
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_977 : BitVec 32 := 1#32
  let v1091 : BitVec 32 := Scalar.muli v100 c1_i32_977
  let v1092 : BitVec 32 := Scalar.addi v1090 v1091
  v1092.toNat
def k0_dev118 (d0 : Dev nD) : Nat :=
  let c0_i32_1007 : BitVec 32 := 0#32
  let c1_i32_1004 : BitVec 32 := 1#32
  let c8_i32_1006 : BitVec 32 := 8#32
  let v1116 : BitVec 32 := Scalar.muli c1_i32_1004 c8_i32_1006
  let v1117 : BitVec 32 := Scalar.addi c0_i32_1007 v1116
  let c0_i32_1005 : BitVec 32 := 0#32
  let c4_i32_1008 : BitVec 32 := 4#32
  let v1118 : BitVec 32 := Scalar.muli c0_i32_1005 c4_i32_1008
  let v1119 : BitVec 32 := Scalar.addi v1117 v1118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1009 : BitVec 32 := 1#32
  let v1120 : BitVec 32 := Scalar.muli v8 c1_i32_1009
  let v1121 : BitVec 32 := Scalar.addi v1119 v1120
  v1121.toNat
def k0_dev119 (d0 : Dev nD) : Nat :=
  let c0_i32_1018 : BitVec 32 := 0#32
  let c0_i32_1015 : BitVec 32 := 0#32
  let c8_i32_1017 : BitVec 32 := 8#32
  let v1128 : BitVec 32 := Scalar.muli c0_i32_1015 c8_i32_1017
  let v1129 : BitVec 32 := Scalar.addi c0_i32_1018 v1128
  let c0_i32_1016 : BitVec 32 := 0#32
  let c4_i32_1019 : BitVec 32 := 4#32
  let v1130 : BitVec 32 := Scalar.muli c0_i32_1016 c4_i32_1019
  let v1131 : BitVec 32 := Scalar.addi v1129 v1130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1020 : BitVec 32 := 1#32
  let v1132 : BitVec 32 := Scalar.muli v100 c1_i32_1020
  let v1133 : BitVec 32 := Scalar.addi v1131 v1132
  v1133.toNat
def k0_dev120 (d0 : Dev nD) : Nat :=
  let c0_i32_1050 : BitVec 32 := 0#32
  let c1_i32_1047 : BitVec 32 := 1#32
  let c8_i32_1049 : BitVec 32 := 8#32
  let v1157 : BitVec 32 := Scalar.muli c1_i32_1047 c8_i32_1049
  let v1158 : BitVec 32 := Scalar.addi c0_i32_1050 v1157
  let c0_i32_1048 : BitVec 32 := 0#32
  let c4_i32_1051 : BitVec 32 := 4#32
  let v1159 : BitVec 32 := Scalar.muli c0_i32_1048 c4_i32_1051
  let v1160 : BitVec 32 := Scalar.addi v1158 v1159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1052 : BitVec 32 := 1#32
  let v1161 : BitVec 32 := Scalar.muli v8 c1_i32_1052
  let v1162 : BitVec 32 := Scalar.addi v1160 v1161
  v1162.toNat
def k0_dev121 (d0 : Dev nD) : Nat :=
  let c0_i32_1061 : BitVec 32 := 0#32
  let c0_i32_1058 : BitVec 32 := 0#32
  let c8_i32_1060 : BitVec 32 := 8#32
  let v1169 : BitVec 32 := Scalar.muli c0_i32_1058 c8_i32_1060
  let v1170 : BitVec 32 := Scalar.addi c0_i32_1061 v1169
  let c0_i32_1059 : BitVec 32 := 0#32
  let c4_i32_1062 : BitVec 32 := 4#32
  let v1171 : BitVec 32 := Scalar.muli c0_i32_1059 c4_i32_1062
  let v1172 : BitVec 32 := Scalar.addi v1170 v1171
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1063 : BitVec 32 := 1#32
  let v1173 : BitVec 32 := Scalar.muli v100 c1_i32_1063
  let v1174 : BitVec 32 := Scalar.addi v1172 v1173
  v1174.toNat
def k0_dev122 (d0 : Dev nD) : Nat :=
  let c0_i32_1093 : BitVec 32 := 0#32
  let c1_i32_1090 : BitVec 32 := 1#32
  let c8_i32_1092 : BitVec 32 := 8#32
  let v1198 : BitVec 32 := Scalar.muli c1_i32_1090 c8_i32_1092
  let v1199 : BitVec 32 := Scalar.addi c0_i32_1093 v1198
  let c0_i32_1091 : BitVec 32 := 0#32
  let c4_i32_1094 : BitVec 32 := 4#32
  let v1200 : BitVec 32 := Scalar.muli c0_i32_1091 c4_i32_1094
  let v1201 : BitVec 32 := Scalar.addi v1199 v1200
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1095 : BitVec 32 := 1#32
  let v1202 : BitVec 32 := Scalar.muli v8 c1_i32_1095
  let v1203 : BitVec 32 := Scalar.addi v1201 v1202
  v1203.toNat
def k0_dev123 (d0 : Dev nD) : Nat :=
  let c0_i32_1104 : BitVec 32 := 0#32
  let c0_i32_1101 : BitVec 32 := 0#32
  let c8_i32_1103 : BitVec 32 := 8#32
  let v1210 : BitVec 32 := Scalar.muli c0_i32_1101 c8_i32_1103
  let v1211 : BitVec 32 := Scalar.addi c0_i32_1104 v1210
  let c0_i32_1102 : BitVec 32 := 0#32
  let c4_i32_1105 : BitVec 32 := 4#32
  let v1212 : BitVec 32 := Scalar.muli c0_i32_1102 c4_i32_1105
  let v1213 : BitVec 32 := Scalar.addi v1211 v1212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1106 : BitVec 32 := 1#32
  let v1214 : BitVec 32 := Scalar.muli v100 c1_i32_1106
  let v1215 : BitVec 32 := Scalar.addi v1213 v1214
  v1215.toNat
def k0_dev124 (d0 : Dev nD) : Nat :=
  let c0_i32_1136 : BitVec 32 := 0#32
  let c1_i32_1133 : BitVec 32 := 1#32
  let c8_i32_1135 : BitVec 32 := 8#32
  let v1239 : BitVec 32 := Scalar.muli c1_i32_1133 c8_i32_1135
  let v1240 : BitVec 32 := Scalar.addi c0_i32_1136 v1239
  let c0_i32_1134 : BitVec 32 := 0#32
  let c4_i32_1137 : BitVec 32 := 4#32
  let v1241 : BitVec 32 := Scalar.muli c0_i32_1134 c4_i32_1137
  let v1242 : BitVec 32 := Scalar.addi v1240 v1241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1138 : BitVec 32 := 1#32
  let v1243 : BitVec 32 := Scalar.muli v8 c1_i32_1138
  let v1244 : BitVec 32 := Scalar.addi v1242 v1243
  v1244.toNat
def k0_dev125 (d0 : Dev nD) : Nat :=
  let c0_i32_1159 : BitVec 32 := 0#32
  let c1_i32_1156 : BitVec 32 := 1#32
  let c8_i32_1158 : BitVec 32 := 8#32
  let v1261 : BitVec 32 := Scalar.muli c1_i32_1156 c8_i32_1158
  let v1262 : BitVec 32 := Scalar.addi c0_i32_1159 v1261
  let c0_i32_1157 : BitVec 32 := 0#32
  let c4_i32_1160 : BitVec 32 := 4#32
  let v1263 : BitVec 32 := Scalar.muli c0_i32_1157 c4_i32_1160
  let v1264 : BitVec 32 := Scalar.addi v1262 v1263
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1161 : BitVec 32 := 1#32
  let v1265 : BitVec 32 := Scalar.muli v8 c1_i32_1161
  let v1266 : BitVec 32 := Scalar.addi v1264 v1265
  v1266.toNat
def k0_dev126 (d0 : Dev nD) : Nat :=
  let c0_i32_1182 : BitVec 32 := 0#32
  let c1_i32_1179 : BitVec 32 := 1#32
  let c8_i32_1181 : BitVec 32 := 8#32
  let v1283 : BitVec 32 := Scalar.muli c1_i32_1179 c8_i32_1181
  let v1284 : BitVec 32 := Scalar.addi c0_i32_1182 v1283
  let c0_i32_1180 : BitVec 32 := 0#32
  let c4_i32_1183 : BitVec 32 := 4#32
  let v1285 : BitVec 32 := Scalar.muli c0_i32_1180 c4_i32_1183
  let v1286 : BitVec 32 := Scalar.addi v1284 v1285
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1184 : BitVec 32 := 1#32
  let v1287 : BitVec 32 := Scalar.muli v8 c1_i32_1184
  let v1288 : BitVec 32 := Scalar.addi v1286 v1287
  v1288.toNat
def k0_dev127 (d0 : Dev nD) : Nat :=
  let c0_i32_1205 : BitVec 32 := 0#32
  let c1_i32_1202 : BitVec 32 := 1#32
  let c8_i32_1204 : BitVec 32 := 8#32
  let v1305 : BitVec 32 := Scalar.muli c1_i32_1202 c8_i32_1204
  let v1306 : BitVec 32 := Scalar.addi c0_i32_1205 v1305
  let c0_i32_1203 : BitVec 32 := 0#32
  let c4_i32_1206 : BitVec 32 := 4#32
  let v1307 : BitVec 32 := Scalar.muli c0_i32_1203 c4_i32_1206
  let v1308 : BitVec 32 := Scalar.addi v1306 v1307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1207 : BitVec 32 := 1#32
  let v1309 : BitVec 32 := Scalar.muli v8 c1_i32_1207
  let v1310 : BitVec 32 := Scalar.addi v1308 v1309
  v1310.toNat
def k0_dev128 (d0 : Dev nD) : Nat :=
  let c0_i32_1228 : BitVec 32 := 0#32
  let c0_i32_1225 : BitVec 32 := 0#32
  let c8_i32_1227 : BitVec 32 := 8#32
  let v1327 : BitVec 32 := Scalar.muli c0_i32_1225 c8_i32_1227
  let v1328 : BitVec 32 := Scalar.addi c0_i32_1228 v1327
  let c0_i32_1226 : BitVec 32 := 0#32
  let c4_i32_1229 : BitVec 32 := 4#32
  let v1329 : BitVec 32 := Scalar.muli c0_i32_1226 c4_i32_1229
  let v1330 : BitVec 32 := Scalar.addi v1328 v1329
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1230 : BitVec 32 := 1#32
  let v1331 : BitVec 32 := Scalar.muli v100 c1_i32_1230
  let v1332 : BitVec 32 := Scalar.addi v1330 v1331
  v1332.toNat
def k0_dev129 (d0 : Dev nD) : Nat :=
  let c0_i32_1251 : BitVec 32 := 0#32
  let c0_i32_1248 : BitVec 32 := 0#32
  let c8_i32_1250 : BitVec 32 := 8#32
  let v1349 : BitVec 32 := Scalar.muli c0_i32_1248 c8_i32_1250
  let v1350 : BitVec 32 := Scalar.addi c0_i32_1251 v1349
  let c0_i32_1249 : BitVec 32 := 0#32
  let c4_i32_1252 : BitVec 32 := 4#32
  let v1351 : BitVec 32 := Scalar.muli c0_i32_1249 c4_i32_1252
  let v1352 : BitVec 32 := Scalar.addi v1350 v1351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1253 : BitVec 32 := 1#32
  let v1353 : BitVec 32 := Scalar.muli v100 c1_i32_1253
  let v1354 : BitVec 32 := Scalar.addi v1352 v1353
  v1354.toNat
def k0_dev130 (d0 : Dev nD) : Nat :=
  let c0_i32_1274 : BitVec 32 := 0#32
  let c0_i32_1271 : BitVec 32 := 0#32
  let c8_i32_1273 : BitVec 32 := 8#32
  let v1371 : BitVec 32 := Scalar.muli c0_i32_1271 c8_i32_1273
  let v1372 : BitVec 32 := Scalar.addi c0_i32_1274 v1371
  let c0_i32_1272 : BitVec 32 := 0#32
  let c4_i32_1275 : BitVec 32 := 4#32
  let v1373 : BitVec 32 := Scalar.muli c0_i32_1272 c4_i32_1275
  let v1374 : BitVec 32 := Scalar.addi v1372 v1373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1276 : BitVec 32 := 1#32
  let v1375 : BitVec 32 := Scalar.muli v100 c1_i32_1276
  let v1376 : BitVec 32 := Scalar.addi v1374 v1375
  v1376.toNat
def k0_dev131 (d0 : Dev nD) : Nat :=
  let c0_i32_1297 : BitVec 32 := 0#32
  let c0_i32_1294 : BitVec 32 := 0#32
  let c8_i32_1296 : BitVec 32 := 8#32
  let v1393 : BitVec 32 := Scalar.muli c0_i32_1294 c8_i32_1296
  let v1394 : BitVec 32 := Scalar.addi c0_i32_1297 v1393
  let c0_i32_1295 : BitVec 32 := 0#32
  let c4_i32_1298 : BitVec 32 := 4#32
  let v1395 : BitVec 32 := Scalar.muli c0_i32_1295 c4_i32_1298
  let v1396 : BitVec 32 := Scalar.addi v1394 v1395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1299 : BitVec 32 := 1#32
  let v1397 : BitVec 32 := Scalar.muli v100 c1_i32_1299
  let v1398 : BitVec 32 := Scalar.addi v1396 v1397
  v1398.toNat
def k0_cond3 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_34 : BitVec 32 := 0#32
  let v57 : BitVec 1 := Scalar.cmpi .eq v2 c0_i32_34
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_35 : BitVec 32 := 1#32
  let v58 : BitVec 1 := Scalar.cmpi .eq v5 c1_i32_35
  let v59 : BitVec 1 := Scalar.andi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c0_i32_36 : BitVec 32 := 0#32
  let v60 : BitVec 1 := Scalar.cmpi .eq v18 c0_i32_36
  let v61 : BitVec 1 := Scalar.andi v59 v60
  let v62 : BitVec 32 := Scalar.extui v61
  let c0_i32_37 : BitVec 32 := 0#32
  let v63 : BitVec 1 := Scalar.cmpi .ne v62 c0_i32_37
  v63

def k0_dev132 (d0 : Dev nD) : Nat :=
  let c0_i32_214 : BitVec 32 := 0#32
  let c0_i32_211 : BitVec 32 := 0#32
  let c8_i32_213 : BitVec 32 := 8#32
  let v309 : BitVec 32 := Scalar.muli c0_i32_211 c8_i32_213
  let v310 : BitVec 32 := Scalar.addi c0_i32_214 v309
  let c0_i32_212 : BitVec 32 := 0#32
  let c4_i32_215 : BitVec 32 := 4#32
  let v311 : BitVec 32 := Scalar.muli c0_i32_212 c4_i32_215
  let v312 : BitVec 32 := Scalar.addi v310 v311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_216 : BitVec 32 := 1#32
  let v313 : BitVec 32 := Scalar.muli v8 c1_i32_216
  let v314 : BitVec 32 := Scalar.addi v312 v313
  v314.toNat
def k0_dev133 (d0 : Dev nD) : Nat :=
  let c0_i32_225 : BitVec 32 := 0#32
  let c0_i32_222 : BitVec 32 := 0#32
  let c8_i32_224 : BitVec 32 := 8#32
  let v321 : BitVec 32 := Scalar.muli c0_i32_222 c8_i32_224
  let v322 : BitVec 32 := Scalar.addi c0_i32_225 v321
  let c0_i32_223 : BitVec 32 := 0#32
  let c4_i32_226 : BitVec 32 := 4#32
  let v323 : BitVec 32 := Scalar.muli c0_i32_223 c4_i32_226
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_227 : BitVec 32 := 1#32
  let v325 : BitVec 32 := Scalar.muli v8 c1_i32_227
  let v326 : BitVec 32 := Scalar.addi v324 v325
  v326.toNat
def k0_dev134 (d0 : Dev nD) : Nat :=
  let c0_i32_235 : BitVec 32 := 0#32
  let c0_i32_232 : BitVec 32 := 0#32
  let c8_i32_234 : BitVec 32 := 8#32
  let v333 : BitVec 32 := Scalar.muli c0_i32_232 c8_i32_234
  let v334 : BitVec 32 := Scalar.addi c0_i32_235 v333
  let c0_i32_233 : BitVec 32 := 0#32
  let c4_i32_236 : BitVec 32 := 4#32
  let v335 : BitVec 32 := Scalar.muli c0_i32_233 c4_i32_236
  let v336 : BitVec 32 := Scalar.addi v334 v335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_237 : BitVec 32 := 1#32
  let v337 : BitVec 32 := Scalar.muli v8 c1_i32_237
  let v338 : BitVec 32 := Scalar.addi v336 v337
  v338.toNat
def k0_dev135 (d0 : Dev nD) : Nat :=
  let c0_i32_245 : BitVec 32 := 0#32
  let c0_i32_242 : BitVec 32 := 0#32
  let c8_i32_244 : BitVec 32 := 8#32
  let v345 : BitVec 32 := Scalar.muli c0_i32_242 c8_i32_244
  let v346 : BitVec 32 := Scalar.addi c0_i32_245 v345
  let c0_i32_243 : BitVec 32 := 0#32
  let c4_i32_246 : BitVec 32 := 4#32
  let v347 : BitVec 32 := Scalar.muli c0_i32_243 c4_i32_246
  let v348 : BitVec 32 := Scalar.addi v346 v347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_247 : BitVec 32 := 1#32
  let v349 : BitVec 32 := Scalar.muli v8 c1_i32_247
  let v350 : BitVec 32 := Scalar.addi v348 v349
  v350.toNat
def k0_dev136 (d0 : Dev nD) : Nat :=
  let c0_i32_255 : BitVec 32 := 0#32
  let c0_i32_252 : BitVec 32 := 0#32
  let c8_i32_254 : BitVec 32 := 8#32
  let v357 : BitVec 32 := Scalar.muli c0_i32_252 c8_i32_254
  let v358 : BitVec 32 := Scalar.addi c0_i32_255 v357
  let c0_i32_253 : BitVec 32 := 0#32
  let c4_i32_256 : BitVec 32 := 4#32
  let v359 : BitVec 32 := Scalar.muli c0_i32_253 c4_i32_256
  let v360 : BitVec 32 := Scalar.addi v358 v359
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_257 : BitVec 32 := 1#32
  let v361 : BitVec 32 := Scalar.muli v8 c1_i32_257
  let v362 : BitVec 32 := Scalar.addi v360 v361
  v362.toNat
def k0_dev137 (d0 : Dev nD) : Nat :=
  let c0_i32_266 : BitVec 32 := 0#32
  let c0_i32_263 : BitVec 32 := 0#32
  let c8_i32_265 : BitVec 32 := 8#32
  let v369 : BitVec 32 := Scalar.muli c0_i32_263 c8_i32_265
  let v370 : BitVec 32 := Scalar.addi c0_i32_266 v369
  let c0_i32_264 : BitVec 32 := 0#32
  let c4_i32_267 : BitVec 32 := 4#32
  let v371 : BitVec 32 := Scalar.muli c0_i32_264 c4_i32_267
  let v372 : BitVec 32 := Scalar.addi v370 v371
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_268 : BitVec 32 := 1#32
  let v373 : BitVec 32 := Scalar.muli v8 c1_i32_268
  let v374 : BitVec 32 := Scalar.addi v372 v373
  v374.toNat
def k0_dev138 (d0 : Dev nD) : Nat :=
  let c0_i32_276 : BitVec 32 := 0#32
  let c0_i32_273 : BitVec 32 := 0#32
  let c8_i32_275 : BitVec 32 := 8#32
  let v381 : BitVec 32 := Scalar.muli c0_i32_273 c8_i32_275
  let v382 : BitVec 32 := Scalar.addi c0_i32_276 v381
  let c0_i32_274 : BitVec 32 := 0#32
  let c4_i32_277 : BitVec 32 := 4#32
  let v383 : BitVec 32 := Scalar.muli c0_i32_274 c4_i32_277
  let v384 : BitVec 32 := Scalar.addi v382 v383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_278 : BitVec 32 := 1#32
  let v385 : BitVec 32 := Scalar.muli v8 c1_i32_278
  let v386 : BitVec 32 := Scalar.addi v384 v385
  v386.toNat
def k0_dev139 (d0 : Dev nD) : Nat :=
  let c0_i32_286 : BitVec 32 := 0#32
  let c0_i32_283 : BitVec 32 := 0#32
  let c8_i32_285 : BitVec 32 := 8#32
  let v393 : BitVec 32 := Scalar.muli c0_i32_283 c8_i32_285
  let v394 : BitVec 32 := Scalar.addi c0_i32_286 v393
  let c0_i32_284 : BitVec 32 := 0#32
  let c4_i32_287 : BitVec 32 := 4#32
  let v395 : BitVec 32 := Scalar.muli c0_i32_284 c4_i32_287
  let v396 : BitVec 32 := Scalar.addi v394 v395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v397 : BitVec 32 := Scalar.muli v8 c1_i32_288
  let v398 : BitVec 32 := Scalar.addi v396 v397
  v398.toNat
def k0_dev140 (d0 : Dev nD) : Nat :=
  let c0_i32_296 : BitVec 32 := 0#32
  let c0_i32_293 : BitVec 32 := 0#32
  let c8_i32_295 : BitVec 32 := 8#32
  let v405 : BitVec 32 := Scalar.muli c0_i32_293 c8_i32_295
  let v406 : BitVec 32 := Scalar.addi c0_i32_296 v405
  let c0_i32_294 : BitVec 32 := 0#32
  let c4_i32_297 : BitVec 32 := 4#32
  let v407 : BitVec 32 := Scalar.muli c0_i32_294 c4_i32_297
  let v408 : BitVec 32 := Scalar.addi v406 v407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_298 : BitVec 32 := 1#32
  let v409 : BitVec 32 := Scalar.muli v8 c1_i32_298
  let v410 : BitVec 32 := Scalar.addi v408 v409
  v410.toNat
def k0_dev141 (d0 : Dev nD) : Nat :=
  let c0_i32_307 : BitVec 32 := 0#32
  let c0_i32_304 : BitVec 32 := 0#32
  let c8_i32_306 : BitVec 32 := 8#32
  let v417 : BitVec 32 := Scalar.muli c0_i32_304 c8_i32_306
  let v418 : BitVec 32 := Scalar.addi c0_i32_307 v417
  let c0_i32_305 : BitVec 32 := 0#32
  let c4_i32_308 : BitVec 32 := 4#32
  let v419 : BitVec 32 := Scalar.muli c0_i32_305 c4_i32_308
  let v420 : BitVec 32 := Scalar.addi v418 v419
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_309 : BitVec 32 := 1#32
  let v421 : BitVec 32 := Scalar.muli v8 c1_i32_309
  let v422 : BitVec 32 := Scalar.addi v420 v421
  v422.toNat
def k0_dev142 (d0 : Dev nD) : Nat :=
  let c0_i32_317 : BitVec 32 := 0#32
  let c0_i32_314 : BitVec 32 := 0#32
  let c8_i32_316 : BitVec 32 := 8#32
  let v429 : BitVec 32 := Scalar.muli c0_i32_314 c8_i32_316
  let v430 : BitVec 32 := Scalar.addi c0_i32_317 v429
  let c0_i32_315 : BitVec 32 := 0#32
  let c4_i32_318 : BitVec 32 := 4#32
  let v431 : BitVec 32 := Scalar.muli c0_i32_315 c4_i32_318
  let v432 : BitVec 32 := Scalar.addi v430 v431
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_319 : BitVec 32 := 1#32
  let v433 : BitVec 32 := Scalar.muli v8 c1_i32_319
  let v434 : BitVec 32 := Scalar.addi v432 v433
  v434.toNat
def k0_dev143 (d0 : Dev nD) : Nat :=
  let c0_i32_327 : BitVec 32 := 0#32
  let c0_i32_324 : BitVec 32 := 0#32
  let c8_i32_326 : BitVec 32 := 8#32
  let v441 : BitVec 32 := Scalar.muli c0_i32_324 c8_i32_326
  let v442 : BitVec 32 := Scalar.addi c0_i32_327 v441
  let c0_i32_325 : BitVec 32 := 0#32
  let c4_i32_328 : BitVec 32 := 4#32
  let v443 : BitVec 32 := Scalar.muli c0_i32_325 c4_i32_328
  let v444 : BitVec 32 := Scalar.addi v442 v443
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_329 : BitVec 32 := 1#32
  let v445 : BitVec 32 := Scalar.muli v8 c1_i32_329
  let v446 : BitVec 32 := Scalar.addi v444 v445
  v446.toNat
def k0_dev144 (d0 : Dev nD) : Nat :=
  let c0_i32_337 : BitVec 32 := 0#32
  let c0_i32_334 : BitVec 32 := 0#32
  let c8_i32_336 : BitVec 32 := 8#32
  let v453 : BitVec 32 := Scalar.muli c0_i32_334 c8_i32_336
  let v454 : BitVec 32 := Scalar.addi c0_i32_337 v453
  let c0_i32_335 : BitVec 32 := 0#32
  let c4_i32_338 : BitVec 32 := 4#32
  let v455 : BitVec 32 := Scalar.muli c0_i32_335 c4_i32_338
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_339 : BitVec 32 := 1#32
  let v457 : BitVec 32 := Scalar.muli v8 c1_i32_339
  let v458 : BitVec 32 := Scalar.addi v456 v457
  v458.toNat
def k0_dev145 (d0 : Dev nD) : Nat :=
  let c0_i32_348 : BitVec 32 := 0#32
  let c0_i32_345 : BitVec 32 := 0#32
  let c8_i32_347 : BitVec 32 := 8#32
  let v465 : BitVec 32 := Scalar.muli c0_i32_345 c8_i32_347
  let v466 : BitVec 32 := Scalar.addi c0_i32_348 v465
  let c0_i32_346 : BitVec 32 := 0#32
  let c4_i32_349 : BitVec 32 := 4#32
  let v467 : BitVec 32 := Scalar.muli c0_i32_346 c4_i32_349
  let v468 : BitVec 32 := Scalar.addi v466 v467
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_350 : BitVec 32 := 1#32
  let v469 : BitVec 32 := Scalar.muli v8 c1_i32_350
  let v470 : BitVec 32 := Scalar.addi v468 v469
  v470.toNat
def k0_dev146 (d0 : Dev nD) : Nat :=
  let c0_i32_358 : BitVec 32 := 0#32
  let c0_i32_355 : BitVec 32 := 0#32
  let c8_i32_357 : BitVec 32 := 8#32
  let v477 : BitVec 32 := Scalar.muli c0_i32_355 c8_i32_357
  let v478 : BitVec 32 := Scalar.addi c0_i32_358 v477
  let c0_i32_356 : BitVec 32 := 0#32
  let c4_i32_359 : BitVec 32 := 4#32
  let v479 : BitVec 32 := Scalar.muli c0_i32_356 c4_i32_359
  let v480 : BitVec 32 := Scalar.addi v478 v479
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_360 : BitVec 32 := 1#32
  let v481 : BitVec 32 := Scalar.muli v8 c1_i32_360
  let v482 : BitVec 32 := Scalar.addi v480 v481
  v482.toNat
def k0_dev147 (d0 : Dev nD) : Nat :=
  let c0_i32_368 : BitVec 32 := 0#32
  let c0_i32_365 : BitVec 32 := 0#32
  let c8_i32_367 : BitVec 32 := 8#32
  let v489 : BitVec 32 := Scalar.muli c0_i32_365 c8_i32_367
  let v490 : BitVec 32 := Scalar.addi c0_i32_368 v489
  let c0_i32_366 : BitVec 32 := 0#32
  let c4_i32_369 : BitVec 32 := 4#32
  let v491 : BitVec 32 := Scalar.muli c0_i32_366 c4_i32_369
  let v492 : BitVec 32 := Scalar.addi v490 v491
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_370 : BitVec 32 := 1#32
  let v493 : BitVec 32 := Scalar.muli v8 c1_i32_370
  let v494 : BitVec 32 := Scalar.addi v492 v493
  v494.toNat
def k0_dev148 (d0 : Dev nD) : Nat :=
  let c0_i32_377 : BitVec 32 := 0#32
  let c0_i32_374 : BitVec 32 := 0#32
  let c8_i32_376 : BitVec 32 := 8#32
  let v501 : BitVec 32 := Scalar.muli c0_i32_374 c8_i32_376
  let v502 : BitVec 32 := Scalar.addi c0_i32_377 v501
  let c0_i32_375 : BitVec 32 := 0#32
  let c4_i32_378 : BitVec 32 := 4#32
  let v503 : BitVec 32 := Scalar.muli c0_i32_375 c4_i32_378
  let v504 : BitVec 32 := Scalar.addi v502 v503
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_379 : BitVec 32 := 1#32
  let v505 : BitVec 32 := Scalar.muli v8 c1_i32_379
  let v506 : BitVec 32 := Scalar.addi v504 v505
  v506.toNat
def k0_dev149 (d0 : Dev nD) : Nat :=
  let c0_i32_387 : BitVec 32 := 0#32
  let c0_i32_384 : BitVec 32 := 0#32
  let c8_i32_386 : BitVec 32 := 8#32
  let v513 : BitVec 32 := Scalar.muli c0_i32_384 c8_i32_386
  let v514 : BitVec 32 := Scalar.addi c0_i32_387 v513
  let c0_i32_385 : BitVec 32 := 0#32
  let c4_i32_388 : BitVec 32 := 4#32
  let v515 : BitVec 32 := Scalar.muli c0_i32_385 c4_i32_388
  let v516 : BitVec 32 := Scalar.addi v514 v515
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_389 : BitVec 32 := 1#32
  let v517 : BitVec 32 := Scalar.muli v8 c1_i32_389
  let v518 : BitVec 32 := Scalar.addi v516 v517
  v518.toNat
def k0_dev150 (d0 : Dev nD) : Nat :=
  let c0_i32_396 : BitVec 32 := 0#32
  let c0_i32_393 : BitVec 32 := 0#32
  let c8_i32_395 : BitVec 32 := 8#32
  let v525 : BitVec 32 := Scalar.muli c0_i32_393 c8_i32_395
  let v526 : BitVec 32 := Scalar.addi c0_i32_396 v525
  let c0_i32_394 : BitVec 32 := 0#32
  let c4_i32_397 : BitVec 32 := 4#32
  let v527 : BitVec 32 := Scalar.muli c0_i32_394 c4_i32_397
  let v528 : BitVec 32 := Scalar.addi v526 v527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_398 : BitVec 32 := 1#32
  let v529 : BitVec 32 := Scalar.muli v8 c1_i32_398
  let v530 : BitVec 32 := Scalar.addi v528 v529
  v530.toNat
def k0_dev151 (d0 : Dev nD) : Nat :=
  let c0_i32_405 : BitVec 32 := 0#32
  let c0_i32_402 : BitVec 32 := 0#32
  let c8_i32_404 : BitVec 32 := 8#32
  let v537 : BitVec 32 := Scalar.muli c0_i32_402 c8_i32_404
  let v538 : BitVec 32 := Scalar.addi c0_i32_405 v537
  let c0_i32_403 : BitVec 32 := 0#32
  let c4_i32_406 : BitVec 32 := 4#32
  let v539 : BitVec 32 := Scalar.muli c0_i32_403 c4_i32_406
  let v540 : BitVec 32 := Scalar.addi v538 v539
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_407 : BitVec 32 := 1#32
  let v541 : BitVec 32 := Scalar.muli v8 c1_i32_407
  let v542 : BitVec 32 := Scalar.addi v540 v541
  v542.toNat
def k0_dev152 (d0 : Dev nD) : Nat :=
  let c0_i32_414 : BitVec 32 := 0#32
  let c0_i32_411 : BitVec 32 := 0#32
  let c8_i32_413 : BitVec 32 := 8#32
  let v549 : BitVec 32 := Scalar.muli c0_i32_411 c8_i32_413
  let v550 : BitVec 32 := Scalar.addi c0_i32_414 v549
  let c0_i32_412 : BitVec 32 := 0#32
  let c4_i32_415 : BitVec 32 := 4#32
  let v551 : BitVec 32 := Scalar.muli c0_i32_412 c4_i32_415
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_416 : BitVec 32 := 1#32
  let v553 : BitVec 32 := Scalar.muli v8 c1_i32_416
  let v554 : BitVec 32 := Scalar.addi v552 v553
  v554.toNat
def k0_dev153 (d0 : Dev nD) : Nat :=
  let c0_i32_424 : BitVec 32 := 0#32
  let c0_i32_421 : BitVec 32 := 0#32
  let c8_i32_423 : BitVec 32 := 8#32
  let v561 : BitVec 32 := Scalar.muli c0_i32_421 c8_i32_423
  let v562 : BitVec 32 := Scalar.addi c0_i32_424 v561
  let c0_i32_422 : BitVec 32 := 0#32
  let c4_i32_425 : BitVec 32 := 4#32
  let v563 : BitVec 32 := Scalar.muli c0_i32_422 c4_i32_425
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_426 : BitVec 32 := 1#32
  let v565 : BitVec 32 := Scalar.muli v8 c1_i32_426
  let v566 : BitVec 32 := Scalar.addi v564 v565
  v566.toNat
def k0_dev154 (d0 : Dev nD) : Nat :=
  let c0_i32_433 : BitVec 32 := 0#32
  let c0_i32_430 : BitVec 32 := 0#32
  let c8_i32_432 : BitVec 32 := 8#32
  let v573 : BitVec 32 := Scalar.muli c0_i32_430 c8_i32_432
  let v574 : BitVec 32 := Scalar.addi c0_i32_433 v573
  let c0_i32_431 : BitVec 32 := 0#32
  let c4_i32_434 : BitVec 32 := 4#32
  let v575 : BitVec 32 := Scalar.muli c0_i32_431 c4_i32_434
  let v576 : BitVec 32 := Scalar.addi v574 v575
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_435 : BitVec 32 := 1#32
  let v577 : BitVec 32 := Scalar.muli v8 c1_i32_435
  let v578 : BitVec 32 := Scalar.addi v576 v577
  v578.toNat
def k0_dev155 (d0 : Dev nD) : Nat :=
  let c0_i32_442 : BitVec 32 := 0#32
  let c0_i32_439 : BitVec 32 := 0#32
  let c8_i32_441 : BitVec 32 := 8#32
  let v585 : BitVec 32 := Scalar.muli c0_i32_439 c8_i32_441
  let v586 : BitVec 32 := Scalar.addi c0_i32_442 v585
  let c0_i32_440 : BitVec 32 := 0#32
  let c4_i32_443 : BitVec 32 := 4#32
  let v587 : BitVec 32 := Scalar.muli c0_i32_440 c4_i32_443
  let v588 : BitVec 32 := Scalar.addi v586 v587
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_444 : BitVec 32 := 1#32
  let v589 : BitVec 32 := Scalar.muli v8 c1_i32_444
  let v590 : BitVec 32 := Scalar.addi v588 v589
  v590.toNat
def k0_dev156 (d0 : Dev nD) : Nat :=
  let c0_i32_464 : BitVec 32 := 0#32
  let c1_i32_461 : BitVec 32 := 1#32
  let c8_i32_463 : BitVec 32 := 8#32
  let v607 : BitVec 32 := Scalar.muli c1_i32_461 c8_i32_463
  let v608 : BitVec 32 := Scalar.addi c0_i32_464 v607
  let c1_i32_462 : BitVec 32 := 1#32
  let c4_i32_465 : BitVec 32 := 4#32
  let v609 : BitVec 32 := Scalar.muli c1_i32_462 c4_i32_465
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_466 : BitVec 32 := 1#32
  let v611 : BitVec 32 := Scalar.muli v8 c1_i32_466
  let v612 : BitVec 32 := Scalar.addi v610 v611
  v612.toNat
def k0_dev157 (d0 : Dev nD) : Nat :=
  let c0_i32_476 : BitVec 32 := 0#32
  let c0_i32_473 : BitVec 32 := 0#32
  let c8_i32_475 : BitVec 32 := 8#32
  let v619 : BitVec 32 := Scalar.muli c0_i32_473 c8_i32_475
  let v620 : BitVec 32 := Scalar.addi c0_i32_476 v619
  let c1_i32_474 : BitVec 32 := 1#32
  let c4_i32_477 : BitVec 32 := 4#32
  let v621 : BitVec 32 := Scalar.muli c1_i32_474 c4_i32_477
  let v622 : BitVec 32 := Scalar.addi v620 v621
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_478 : BitVec 32 := 1#32
  let v623 : BitVec 32 := Scalar.muli v100 c1_i32_478
  let v624 : BitVec 32 := Scalar.addi v622 v623
  v624.toNat
def k0_dev158 (d0 : Dev nD) : Nat :=
  let c0_i32_503 : BitVec 32 := 0#32
  let c1_i32_500 : BitVec 32 := 1#32
  let c8_i32_502 : BitVec 32 := 8#32
  let v644 : BitVec 32 := Scalar.muli c1_i32_500 c8_i32_502
  let v645 : BitVec 32 := Scalar.addi c0_i32_503 v644
  let c1_i32_501 : BitVec 32 := 1#32
  let c4_i32_504 : BitVec 32 := 4#32
  let v646 : BitVec 32 := Scalar.muli c1_i32_501 c4_i32_504
  let v647 : BitVec 32 := Scalar.addi v645 v646
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_505 : BitVec 32 := 1#32
  let v648 : BitVec 32 := Scalar.muli v8 c1_i32_505
  let v649 : BitVec 32 := Scalar.addi v647 v648
  v649.toNat
def k0_dev159 (d0 : Dev nD) : Nat :=
  let c0_i32_515 : BitVec 32 := 0#32
  let c0_i32_512 : BitVec 32 := 0#32
  let c8_i32_514 : BitVec 32 := 8#32
  let v656 : BitVec 32 := Scalar.muli c0_i32_512 c8_i32_514
  let v657 : BitVec 32 := Scalar.addi c0_i32_515 v656
  let c1_i32_513 : BitVec 32 := 1#32
  let c4_i32_516 : BitVec 32 := 4#32
  let v658 : BitVec 32 := Scalar.muli c1_i32_513 c4_i32_516
  let v659 : BitVec 32 := Scalar.addi v657 v658
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_517 : BitVec 32 := 1#32
  let v660 : BitVec 32 := Scalar.muli v100 c1_i32_517
  let v661 : BitVec 32 := Scalar.addi v659 v660
  v661.toNat
def k0_dev160 (d0 : Dev nD) : Nat :=
  let c0_i32_542 : BitVec 32 := 0#32
  let c1_i32_539 : BitVec 32 := 1#32
  let c8_i32_541 : BitVec 32 := 8#32
  let v681 : BitVec 32 := Scalar.muli c1_i32_539 c8_i32_541
  let v682 : BitVec 32 := Scalar.addi c0_i32_542 v681
  let c1_i32_540 : BitVec 32 := 1#32
  let c4_i32_543 : BitVec 32 := 4#32
  let v683 : BitVec 32 := Scalar.muli c1_i32_540 c4_i32_543
  let v684 : BitVec 32 := Scalar.addi v682 v683
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_544 : BitVec 32 := 1#32
  let v685 : BitVec 32 := Scalar.muli v8 c1_i32_544
  let v686 : BitVec 32 := Scalar.addi v684 v685
  v686.toNat
def k0_dev161 (d0 : Dev nD) : Nat :=
  let c0_i32_554 : BitVec 32 := 0#32
  let c0_i32_551 : BitVec 32 := 0#32
  let c8_i32_553 : BitVec 32 := 8#32
  let v693 : BitVec 32 := Scalar.muli c0_i32_551 c8_i32_553
  let v694 : BitVec 32 := Scalar.addi c0_i32_554 v693
  let c1_i32_552 : BitVec 32 := 1#32
  let c4_i32_555 : BitVec 32 := 4#32
  let v695 : BitVec 32 := Scalar.muli c1_i32_552 c4_i32_555
  let v696 : BitVec 32 := Scalar.addi v694 v695
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_556 : BitVec 32 := 1#32
  let v697 : BitVec 32 := Scalar.muli v100 c1_i32_556
  let v698 : BitVec 32 := Scalar.addi v696 v697
  v698.toNat
def k0_dev162 (d0 : Dev nD) : Nat :=
  let c0_i32_581 : BitVec 32 := 0#32
  let c1_i32_578 : BitVec 32 := 1#32
  let c8_i32_580 : BitVec 32 := 8#32
  let v718 : BitVec 32 := Scalar.muli c1_i32_578 c8_i32_580
  let v719 : BitVec 32 := Scalar.addi c0_i32_581 v718
  let c1_i32_579 : BitVec 32 := 1#32
  let c4_i32_582 : BitVec 32 := 4#32
  let v720 : BitVec 32 := Scalar.muli c1_i32_579 c4_i32_582
  let v721 : BitVec 32 := Scalar.addi v719 v720
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_583 : BitVec 32 := 1#32
  let v722 : BitVec 32 := Scalar.muli v8 c1_i32_583
  let v723 : BitVec 32 := Scalar.addi v721 v722
  v723.toNat
def k0_dev163 (d0 : Dev nD) : Nat :=
  let c0_i32_593 : BitVec 32 := 0#32
  let c0_i32_590 : BitVec 32 := 0#32
  let c8_i32_592 : BitVec 32 := 8#32
  let v730 : BitVec 32 := Scalar.muli c0_i32_590 c8_i32_592
  let v731 : BitVec 32 := Scalar.addi c0_i32_593 v730
  let c1_i32_591 : BitVec 32 := 1#32
  let c4_i32_594 : BitVec 32 := 4#32
  let v732 : BitVec 32 := Scalar.muli c1_i32_591 c4_i32_594
  let v733 : BitVec 32 := Scalar.addi v731 v732
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_595 : BitVec 32 := 1#32
  let v734 : BitVec 32 := Scalar.muli v100 c1_i32_595
  let v735 : BitVec 32 := Scalar.addi v733 v734
  v735.toNat
def k0_dev164 (d0 : Dev nD) : Nat :=
  let c0_i32_620 : BitVec 32 := 0#32
  let c1_i32_617 : BitVec 32 := 1#32
  let c8_i32_619 : BitVec 32 := 8#32
  let v755 : BitVec 32 := Scalar.muli c1_i32_617 c8_i32_619
  let v756 : BitVec 32 := Scalar.addi c0_i32_620 v755
  let c1_i32_618 : BitVec 32 := 1#32
  let c4_i32_621 : BitVec 32 := 4#32
  let v757 : BitVec 32 := Scalar.muli c1_i32_618 c4_i32_621
  let v758 : BitVec 32 := Scalar.addi v756 v757
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_622 : BitVec 32 := 1#32
  let v759 : BitVec 32 := Scalar.muli v8 c1_i32_622
  let v760 : BitVec 32 := Scalar.addi v758 v759
  v760.toNat
def k0_dev165 (d0 : Dev nD) : Nat :=
  let c0_i32_632 : BitVec 32 := 0#32
  let c0_i32_629 : BitVec 32 := 0#32
  let c8_i32_631 : BitVec 32 := 8#32
  let v767 : BitVec 32 := Scalar.muli c0_i32_629 c8_i32_631
  let v768 : BitVec 32 := Scalar.addi c0_i32_632 v767
  let c1_i32_630 : BitVec 32 := 1#32
  let c4_i32_633 : BitVec 32 := 4#32
  let v769 : BitVec 32 := Scalar.muli c1_i32_630 c4_i32_633
  let v770 : BitVec 32 := Scalar.addi v768 v769
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_634 : BitVec 32 := 1#32
  let v771 : BitVec 32 := Scalar.muli v100 c1_i32_634
  let v772 : BitVec 32 := Scalar.addi v770 v771
  v772.toNat
def k0_dev166 (d0 : Dev nD) : Nat :=
  let c0_i32_659 : BitVec 32 := 0#32
  let c1_i32_656 : BitVec 32 := 1#32
  let c8_i32_658 : BitVec 32 := 8#32
  let v792 : BitVec 32 := Scalar.muli c1_i32_656 c8_i32_658
  let v793 : BitVec 32 := Scalar.addi c0_i32_659 v792
  let c1_i32_657 : BitVec 32 := 1#32
  let c4_i32_660 : BitVec 32 := 4#32
  let v794 : BitVec 32 := Scalar.muli c1_i32_657 c4_i32_660
  let v795 : BitVec 32 := Scalar.addi v793 v794
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_661 : BitVec 32 := 1#32
  let v796 : BitVec 32 := Scalar.muli v8 c1_i32_661
  let v797 : BitVec 32 := Scalar.addi v795 v796
  v797.toNat
def k0_dev167 (d0 : Dev nD) : Nat :=
  let c0_i32_671 : BitVec 32 := 0#32
  let c0_i32_668 : BitVec 32 := 0#32
  let c8_i32_670 : BitVec 32 := 8#32
  let v804 : BitVec 32 := Scalar.muli c0_i32_668 c8_i32_670
  let v805 : BitVec 32 := Scalar.addi c0_i32_671 v804
  let c1_i32_669 : BitVec 32 := 1#32
  let c4_i32_672 : BitVec 32 := 4#32
  let v806 : BitVec 32 := Scalar.muli c1_i32_669 c4_i32_672
  let v807 : BitVec 32 := Scalar.addi v805 v806
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_673 : BitVec 32 := 1#32
  let v808 : BitVec 32 := Scalar.muli v100 c1_i32_673
  let v809 : BitVec 32 := Scalar.addi v807 v808
  v809.toNat
def k0_dev168 (d0 : Dev nD) : Nat :=
  let c0_i32_698 : BitVec 32 := 0#32
  let c1_i32_695 : BitVec 32 := 1#32
  let c8_i32_697 : BitVec 32 := 8#32
  let v829 : BitVec 32 := Scalar.muli c1_i32_695 c8_i32_697
  let v830 : BitVec 32 := Scalar.addi c0_i32_698 v829
  let c1_i32_696 : BitVec 32 := 1#32
  let c4_i32_699 : BitVec 32 := 4#32
  let v831 : BitVec 32 := Scalar.muli c1_i32_696 c4_i32_699
  let v832 : BitVec 32 := Scalar.addi v830 v831
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_700 : BitVec 32 := 1#32
  let v833 : BitVec 32 := Scalar.muli v8 c1_i32_700
  let v834 : BitVec 32 := Scalar.addi v832 v833
  v834.toNat
def k0_dev169 (d0 : Dev nD) : Nat :=
  let c0_i32_710 : BitVec 32 := 0#32
  let c0_i32_707 : BitVec 32 := 0#32
  let c8_i32_709 : BitVec 32 := 8#32
  let v841 : BitVec 32 := Scalar.muli c0_i32_707 c8_i32_709
  let v842 : BitVec 32 := Scalar.addi c0_i32_710 v841
  let c1_i32_708 : BitVec 32 := 1#32
  let c4_i32_711 : BitVec 32 := 4#32
  let v843 : BitVec 32 := Scalar.muli c1_i32_708 c4_i32_711
  let v844 : BitVec 32 := Scalar.addi v842 v843
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_712 : BitVec 32 := 1#32
  let v845 : BitVec 32 := Scalar.muli v100 c1_i32_712
  let v846 : BitVec 32 := Scalar.addi v844 v845
  v846.toNat
def k0_dev170 (d0 : Dev nD) : Nat :=
  let c0_i32_742 : BitVec 32 := 0#32
  let c1_i32_739 : BitVec 32 := 1#32
  let c8_i32_741 : BitVec 32 := 8#32
  let v870 : BitVec 32 := Scalar.muli c1_i32_739 c8_i32_741
  let v871 : BitVec 32 := Scalar.addi c0_i32_742 v870
  let c1_i32_740 : BitVec 32 := 1#32
  let c4_i32_743 : BitVec 32 := 4#32
  let v872 : BitVec 32 := Scalar.muli c1_i32_740 c4_i32_743
  let v873 : BitVec 32 := Scalar.addi v871 v872
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_744 : BitVec 32 := 1#32
  let v874 : BitVec 32 := Scalar.muli v8 c1_i32_744
  let v875 : BitVec 32 := Scalar.addi v873 v874
  v875.toNat
def k0_dev171 (d0 : Dev nD) : Nat :=
  let c0_i32_754 : BitVec 32 := 0#32
  let c0_i32_751 : BitVec 32 := 0#32
  let c8_i32_753 : BitVec 32 := 8#32
  let v882 : BitVec 32 := Scalar.muli c0_i32_751 c8_i32_753
  let v883 : BitVec 32 := Scalar.addi c0_i32_754 v882
  let c1_i32_752 : BitVec 32 := 1#32
  let c4_i32_755 : BitVec 32 := 4#32
  let v884 : BitVec 32 := Scalar.muli c1_i32_752 c4_i32_755
  let v885 : BitVec 32 := Scalar.addi v883 v884
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_756 : BitVec 32 := 1#32
  let v886 : BitVec 32 := Scalar.muli v100 c1_i32_756
  let v887 : BitVec 32 := Scalar.addi v885 v886
  v887.toNat
def k0_dev172 (d0 : Dev nD) : Nat :=
  let c0_i32_786 : BitVec 32 := 0#32
  let c1_i32_783 : BitVec 32 := 1#32
  let c8_i32_785 : BitVec 32 := 8#32
  let v911 : BitVec 32 := Scalar.muli c1_i32_783 c8_i32_785
  let v912 : BitVec 32 := Scalar.addi c0_i32_786 v911
  let c1_i32_784 : BitVec 32 := 1#32
  let c4_i32_787 : BitVec 32 := 4#32
  let v913 : BitVec 32 := Scalar.muli c1_i32_784 c4_i32_787
  let v914 : BitVec 32 := Scalar.addi v912 v913
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_788 : BitVec 32 := 1#32
  let v915 : BitVec 32 := Scalar.muli v8 c1_i32_788
  let v916 : BitVec 32 := Scalar.addi v914 v915
  v916.toNat
def k0_dev173 (d0 : Dev nD) : Nat :=
  let c0_i32_798 : BitVec 32 := 0#32
  let c0_i32_795 : BitVec 32 := 0#32
  let c8_i32_797 : BitVec 32 := 8#32
  let v923 : BitVec 32 := Scalar.muli c0_i32_795 c8_i32_797
  let v924 : BitVec 32 := Scalar.addi c0_i32_798 v923
  let c1_i32_796 : BitVec 32 := 1#32
  let c4_i32_799 : BitVec 32 := 4#32
  let v925 : BitVec 32 := Scalar.muli c1_i32_796 c4_i32_799
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_800 : BitVec 32 := 1#32
  let v927 : BitVec 32 := Scalar.muli v100 c1_i32_800
  let v928 : BitVec 32 := Scalar.addi v926 v927
  v928.toNat
def k0_dev174 (d0 : Dev nD) : Nat :=
  let c0_i32_829 : BitVec 32 := 0#32
  let c1_i32_826 : BitVec 32 := 1#32
  let c8_i32_828 : BitVec 32 := 8#32
  let v952 : BitVec 32 := Scalar.muli c1_i32_826 c8_i32_828
  let v953 : BitVec 32 := Scalar.addi c0_i32_829 v952
  let c1_i32_827 : BitVec 32 := 1#32
  let c4_i32_830 : BitVec 32 := 4#32
  let v954 : BitVec 32 := Scalar.muli c1_i32_827 c4_i32_830
  let v955 : BitVec 32 := Scalar.addi v953 v954
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_831 : BitVec 32 := 1#32
  let v956 : BitVec 32 := Scalar.muli v8 c1_i32_831
  let v957 : BitVec 32 := Scalar.addi v955 v956
  v957.toNat
def k0_dev175 (d0 : Dev nD) : Nat :=
  let c0_i32_841 : BitVec 32 := 0#32
  let c0_i32_838 : BitVec 32 := 0#32
  let c8_i32_840 : BitVec 32 := 8#32
  let v964 : BitVec 32 := Scalar.muli c0_i32_838 c8_i32_840
  let v965 : BitVec 32 := Scalar.addi c0_i32_841 v964
  let c1_i32_839 : BitVec 32 := 1#32
  let c4_i32_842 : BitVec 32 := 4#32
  let v966 : BitVec 32 := Scalar.muli c1_i32_839 c4_i32_842
  let v967 : BitVec 32 := Scalar.addi v965 v966
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_843 : BitVec 32 := 1#32
  let v968 : BitVec 32 := Scalar.muli v100 c1_i32_843
  let v969 : BitVec 32 := Scalar.addi v967 v968
  v969.toNat
def k0_dev176 (d0 : Dev nD) : Nat :=
  let c0_i32_872 : BitVec 32 := 0#32
  let c1_i32_869 : BitVec 32 := 1#32
  let c8_i32_871 : BitVec 32 := 8#32
  let v993 : BitVec 32 := Scalar.muli c1_i32_869 c8_i32_871
  let v994 : BitVec 32 := Scalar.addi c0_i32_872 v993
  let c1_i32_870 : BitVec 32 := 1#32
  let c4_i32_873 : BitVec 32 := 4#32
  let v995 : BitVec 32 := Scalar.muli c1_i32_870 c4_i32_873
  let v996 : BitVec 32 := Scalar.addi v994 v995
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_874 : BitVec 32 := 1#32
  let v997 : BitVec 32 := Scalar.muli v8 c1_i32_874
  let v998 : BitVec 32 := Scalar.addi v996 v997
  v998.toNat
def k0_dev177 (d0 : Dev nD) : Nat :=
  let c0_i32_884 : BitVec 32 := 0#32
  let c0_i32_881 : BitVec 32 := 0#32
  let c8_i32_883 : BitVec 32 := 8#32
  let v1005 : BitVec 32 := Scalar.muli c0_i32_881 c8_i32_883
  let v1006 : BitVec 32 := Scalar.addi c0_i32_884 v1005
  let c1_i32_882 : BitVec 32 := 1#32
  let c4_i32_885 : BitVec 32 := 4#32
  let v1007 : BitVec 32 := Scalar.muli c1_i32_882 c4_i32_885
  let v1008 : BitVec 32 := Scalar.addi v1006 v1007
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_886 : BitVec 32 := 1#32
  let v1009 : BitVec 32 := Scalar.muli v100 c1_i32_886
  let v1010 : BitVec 32 := Scalar.addi v1008 v1009
  v1010.toNat
def k0_dev178 (d0 : Dev nD) : Nat :=
  let c0_i32_915 : BitVec 32 := 0#32
  let c1_i32_912 : BitVec 32 := 1#32
  let c8_i32_914 : BitVec 32 := 8#32
  let v1034 : BitVec 32 := Scalar.muli c1_i32_912 c8_i32_914
  let v1035 : BitVec 32 := Scalar.addi c0_i32_915 v1034
  let c1_i32_913 : BitVec 32 := 1#32
  let c4_i32_916 : BitVec 32 := 4#32
  let v1036 : BitVec 32 := Scalar.muli c1_i32_913 c4_i32_916
  let v1037 : BitVec 32 := Scalar.addi v1035 v1036
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_917 : BitVec 32 := 1#32
  let v1038 : BitVec 32 := Scalar.muli v8 c1_i32_917
  let v1039 : BitVec 32 := Scalar.addi v1037 v1038
  v1039.toNat
def k0_dev179 (d0 : Dev nD) : Nat :=
  let c0_i32_927 : BitVec 32 := 0#32
  let c0_i32_924 : BitVec 32 := 0#32
  let c8_i32_926 : BitVec 32 := 8#32
  let v1046 : BitVec 32 := Scalar.muli c0_i32_924 c8_i32_926
  let v1047 : BitVec 32 := Scalar.addi c0_i32_927 v1046
  let c1_i32_925 : BitVec 32 := 1#32
  let c4_i32_928 : BitVec 32 := 4#32
  let v1048 : BitVec 32 := Scalar.muli c1_i32_925 c4_i32_928
  let v1049 : BitVec 32 := Scalar.addi v1047 v1048
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_929 : BitVec 32 := 1#32
  let v1050 : BitVec 32 := Scalar.muli v100 c1_i32_929
  let v1051 : BitVec 32 := Scalar.addi v1049 v1050
  v1051.toNat
def k0_dev180 (d0 : Dev nD) : Nat :=
  let c0_i32_958 : BitVec 32 := 0#32
  let c1_i32_955 : BitVec 32 := 1#32
  let c8_i32_957 : BitVec 32 := 8#32
  let v1075 : BitVec 32 := Scalar.muli c1_i32_955 c8_i32_957
  let v1076 : BitVec 32 := Scalar.addi c0_i32_958 v1075
  let c1_i32_956 : BitVec 32 := 1#32
  let c4_i32_959 : BitVec 32 := 4#32
  let v1077 : BitVec 32 := Scalar.muli c1_i32_956 c4_i32_959
  let v1078 : BitVec 32 := Scalar.addi v1076 v1077
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_960 : BitVec 32 := 1#32
  let v1079 : BitVec 32 := Scalar.muli v8 c1_i32_960
  let v1080 : BitVec 32 := Scalar.addi v1078 v1079
  v1080.toNat
def k0_dev181 (d0 : Dev nD) : Nat :=
  let c0_i32_970 : BitVec 32 := 0#32
  let c0_i32_967 : BitVec 32 := 0#32
  let c8_i32_969 : BitVec 32 := 8#32
  let v1087 : BitVec 32 := Scalar.muli c0_i32_967 c8_i32_969
  let v1088 : BitVec 32 := Scalar.addi c0_i32_970 v1087
  let c1_i32_968 : BitVec 32 := 1#32
  let c4_i32_971 : BitVec 32 := 4#32
  let v1089 : BitVec 32 := Scalar.muli c1_i32_968 c4_i32_971
  let v1090 : BitVec 32 := Scalar.addi v1088 v1089
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_972 : BitVec 32 := 1#32
  let v1091 : BitVec 32 := Scalar.muli v100 c1_i32_972
  let v1092 : BitVec 32 := Scalar.addi v1090 v1091
  v1092.toNat
def k0_dev182 (d0 : Dev nD) : Nat :=
  let c0_i32_1001 : BitVec 32 := 0#32
  let c1_i32_998 : BitVec 32 := 1#32
  let c8_i32_1000 : BitVec 32 := 8#32
  let v1116 : BitVec 32 := Scalar.muli c1_i32_998 c8_i32_1000
  let v1117 : BitVec 32 := Scalar.addi c0_i32_1001 v1116
  let c1_i32_999 : BitVec 32 := 1#32
  let c4_i32_1002 : BitVec 32 := 4#32
  let v1118 : BitVec 32 := Scalar.muli c1_i32_999 c4_i32_1002
  let v1119 : BitVec 32 := Scalar.addi v1117 v1118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1003 : BitVec 32 := 1#32
  let v1120 : BitVec 32 := Scalar.muli v8 c1_i32_1003
  let v1121 : BitVec 32 := Scalar.addi v1119 v1120
  v1121.toNat
def k0_dev183 (d0 : Dev nD) : Nat :=
  let c0_i32_1013 : BitVec 32 := 0#32
  let c0_i32_1010 : BitVec 32 := 0#32
  let c8_i32_1012 : BitVec 32 := 8#32
  let v1128 : BitVec 32 := Scalar.muli c0_i32_1010 c8_i32_1012
  let v1129 : BitVec 32 := Scalar.addi c0_i32_1013 v1128
  let c1_i32_1011 : BitVec 32 := 1#32
  let c4_i32_1014 : BitVec 32 := 4#32
  let v1130 : BitVec 32 := Scalar.muli c1_i32_1011 c4_i32_1014
  let v1131 : BitVec 32 := Scalar.addi v1129 v1130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1015 : BitVec 32 := 1#32
  let v1132 : BitVec 32 := Scalar.muli v100 c1_i32_1015
  let v1133 : BitVec 32 := Scalar.addi v1131 v1132
  v1133.toNat
def k0_dev184 (d0 : Dev nD) : Nat :=
  let c0_i32_1044 : BitVec 32 := 0#32
  let c1_i32_1041 : BitVec 32 := 1#32
  let c8_i32_1043 : BitVec 32 := 8#32
  let v1157 : BitVec 32 := Scalar.muli c1_i32_1041 c8_i32_1043
  let v1158 : BitVec 32 := Scalar.addi c0_i32_1044 v1157
  let c1_i32_1042 : BitVec 32 := 1#32
  let c4_i32_1045 : BitVec 32 := 4#32
  let v1159 : BitVec 32 := Scalar.muli c1_i32_1042 c4_i32_1045
  let v1160 : BitVec 32 := Scalar.addi v1158 v1159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1046 : BitVec 32 := 1#32
  let v1161 : BitVec 32 := Scalar.muli v8 c1_i32_1046
  let v1162 : BitVec 32 := Scalar.addi v1160 v1161
  v1162.toNat
def k0_dev185 (d0 : Dev nD) : Nat :=
  let c0_i32_1056 : BitVec 32 := 0#32
  let c0_i32_1053 : BitVec 32 := 0#32
  let c8_i32_1055 : BitVec 32 := 8#32
  let v1169 : BitVec 32 := Scalar.muli c0_i32_1053 c8_i32_1055
  let v1170 : BitVec 32 := Scalar.addi c0_i32_1056 v1169
  let c1_i32_1054 : BitVec 32 := 1#32
  let c4_i32_1057 : BitVec 32 := 4#32
  let v1171 : BitVec 32 := Scalar.muli c1_i32_1054 c4_i32_1057
  let v1172 : BitVec 32 := Scalar.addi v1170 v1171
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1058 : BitVec 32 := 1#32
  let v1173 : BitVec 32 := Scalar.muli v100 c1_i32_1058
  let v1174 : BitVec 32 := Scalar.addi v1172 v1173
  v1174.toNat
def k0_dev186 (d0 : Dev nD) : Nat :=
  let c0_i32_1087 : BitVec 32 := 0#32
  let c1_i32_1084 : BitVec 32 := 1#32
  let c8_i32_1086 : BitVec 32 := 8#32
  let v1198 : BitVec 32 := Scalar.muli c1_i32_1084 c8_i32_1086
  let v1199 : BitVec 32 := Scalar.addi c0_i32_1087 v1198
  let c1_i32_1085 : BitVec 32 := 1#32
  let c4_i32_1088 : BitVec 32 := 4#32
  let v1200 : BitVec 32 := Scalar.muli c1_i32_1085 c4_i32_1088
  let v1201 : BitVec 32 := Scalar.addi v1199 v1200
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1089 : BitVec 32 := 1#32
  let v1202 : BitVec 32 := Scalar.muli v8 c1_i32_1089
  let v1203 : BitVec 32 := Scalar.addi v1201 v1202
  v1203.toNat
def k0_dev187 (d0 : Dev nD) : Nat :=
  let c0_i32_1099 : BitVec 32 := 0#32
  let c0_i32_1096 : BitVec 32 := 0#32
  let c8_i32_1098 : BitVec 32 := 8#32
  let v1210 : BitVec 32 := Scalar.muli c0_i32_1096 c8_i32_1098
  let v1211 : BitVec 32 := Scalar.addi c0_i32_1099 v1210
  let c1_i32_1097 : BitVec 32 := 1#32
  let c4_i32_1100 : BitVec 32 := 4#32
  let v1212 : BitVec 32 := Scalar.muli c1_i32_1097 c4_i32_1100
  let v1213 : BitVec 32 := Scalar.addi v1211 v1212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1101 : BitVec 32 := 1#32
  let v1214 : BitVec 32 := Scalar.muli v100 c1_i32_1101
  let v1215 : BitVec 32 := Scalar.addi v1213 v1214
  v1215.toNat
def k0_dev188 (d0 : Dev nD) : Nat :=
  let c0_i32_1130 : BitVec 32 := 0#32
  let c1_i32_1127 : BitVec 32 := 1#32
  let c8_i32_1129 : BitVec 32 := 8#32
  let v1239 : BitVec 32 := Scalar.muli c1_i32_1127 c8_i32_1129
  let v1240 : BitVec 32 := Scalar.addi c0_i32_1130 v1239
  let c1_i32_1128 : BitVec 32 := 1#32
  let c4_i32_1131 : BitVec 32 := 4#32
  let v1241 : BitVec 32 := Scalar.muli c1_i32_1128 c4_i32_1131
  let v1242 : BitVec 32 := Scalar.addi v1240 v1241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1132 : BitVec 32 := 1#32
  let v1243 : BitVec 32 := Scalar.muli v8 c1_i32_1132
  let v1244 : BitVec 32 := Scalar.addi v1242 v1243
  v1244.toNat
def k0_dev189 (d0 : Dev nD) : Nat :=
  let c0_i32_1154 : BitVec 32 := 0#32
  let c1_i32_1151 : BitVec 32 := 1#32
  let c8_i32_1153 : BitVec 32 := 8#32
  let v1261 : BitVec 32 := Scalar.muli c1_i32_1151 c8_i32_1153
  let v1262 : BitVec 32 := Scalar.addi c0_i32_1154 v1261
  let c1_i32_1152 : BitVec 32 := 1#32
  let c4_i32_1155 : BitVec 32 := 4#32
  let v1263 : BitVec 32 := Scalar.muli c1_i32_1152 c4_i32_1155
  let v1264 : BitVec 32 := Scalar.addi v1262 v1263
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1156 : BitVec 32 := 1#32
  let v1265 : BitVec 32 := Scalar.muli v8 c1_i32_1156
  let v1266 : BitVec 32 := Scalar.addi v1264 v1265
  v1266.toNat
def k0_dev190 (d0 : Dev nD) : Nat :=
  let c0_i32_1177 : BitVec 32 := 0#32
  let c1_i32_1174 : BitVec 32 := 1#32
  let c8_i32_1176 : BitVec 32 := 8#32
  let v1283 : BitVec 32 := Scalar.muli c1_i32_1174 c8_i32_1176
  let v1284 : BitVec 32 := Scalar.addi c0_i32_1177 v1283
  let c1_i32_1175 : BitVec 32 := 1#32
  let c4_i32_1178 : BitVec 32 := 4#32
  let v1285 : BitVec 32 := Scalar.muli c1_i32_1175 c4_i32_1178
  let v1286 : BitVec 32 := Scalar.addi v1284 v1285
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1179 : BitVec 32 := 1#32
  let v1287 : BitVec 32 := Scalar.muli v8 c1_i32_1179
  let v1288 : BitVec 32 := Scalar.addi v1286 v1287
  v1288.toNat
def k0_dev191 (d0 : Dev nD) : Nat :=
  let c0_i32_1200 : BitVec 32 := 0#32
  let c1_i32_1197 : BitVec 32 := 1#32
  let c8_i32_1199 : BitVec 32 := 8#32
  let v1305 : BitVec 32 := Scalar.muli c1_i32_1197 c8_i32_1199
  let v1306 : BitVec 32 := Scalar.addi c0_i32_1200 v1305
  let c1_i32_1198 : BitVec 32 := 1#32
  let c4_i32_1201 : BitVec 32 := 4#32
  let v1307 : BitVec 32 := Scalar.muli c1_i32_1198 c4_i32_1201
  let v1308 : BitVec 32 := Scalar.addi v1306 v1307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1202 : BitVec 32 := 1#32
  let v1309 : BitVec 32 := Scalar.muli v8 c1_i32_1202
  let v1310 : BitVec 32 := Scalar.addi v1308 v1309
  v1310.toNat
def k0_dev192 (d0 : Dev nD) : Nat :=
  let c0_i32_1223 : BitVec 32 := 0#32
  let c0_i32_1220 : BitVec 32 := 0#32
  let c8_i32_1222 : BitVec 32 := 8#32
  let v1327 : BitVec 32 := Scalar.muli c0_i32_1220 c8_i32_1222
  let v1328 : BitVec 32 := Scalar.addi c0_i32_1223 v1327
  let c1_i32_1221 : BitVec 32 := 1#32
  let c4_i32_1224 : BitVec 32 := 4#32
  let v1329 : BitVec 32 := Scalar.muli c1_i32_1221 c4_i32_1224
  let v1330 : BitVec 32 := Scalar.addi v1328 v1329
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1225 : BitVec 32 := 1#32
  let v1331 : BitVec 32 := Scalar.muli v100 c1_i32_1225
  let v1332 : BitVec 32 := Scalar.addi v1330 v1331
  v1332.toNat
def k0_dev193 (d0 : Dev nD) : Nat :=
  let c0_i32_1247 : BitVec 32 := 0#32
  let c0_i32_1244 : BitVec 32 := 0#32
  let c8_i32_1246 : BitVec 32 := 8#32
  let v1349 : BitVec 32 := Scalar.muli c0_i32_1244 c8_i32_1246
  let v1350 : BitVec 32 := Scalar.addi c0_i32_1247 v1349
  let c1_i32_1245 : BitVec 32 := 1#32
  let c4_i32_1248 : BitVec 32 := 4#32
  let v1351 : BitVec 32 := Scalar.muli c1_i32_1245 c4_i32_1248
  let v1352 : BitVec 32 := Scalar.addi v1350 v1351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1249 : BitVec 32 := 1#32
  let v1353 : BitVec 32 := Scalar.muli v100 c1_i32_1249
  let v1354 : BitVec 32 := Scalar.addi v1352 v1353
  v1354.toNat
def k0_dev194 (d0 : Dev nD) : Nat :=
  let c0_i32_1270 : BitVec 32 := 0#32
  let c0_i32_1267 : BitVec 32 := 0#32
  let c8_i32_1269 : BitVec 32 := 8#32
  let v1371 : BitVec 32 := Scalar.muli c0_i32_1267 c8_i32_1269
  let v1372 : BitVec 32 := Scalar.addi c0_i32_1270 v1371
  let c1_i32_1268 : BitVec 32 := 1#32
  let c4_i32_1271 : BitVec 32 := 4#32
  let v1373 : BitVec 32 := Scalar.muli c1_i32_1268 c4_i32_1271
  let v1374 : BitVec 32 := Scalar.addi v1372 v1373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1272 : BitVec 32 := 1#32
  let v1375 : BitVec 32 := Scalar.muli v100 c1_i32_1272
  let v1376 : BitVec 32 := Scalar.addi v1374 v1375
  v1376.toNat
def k0_dev195 (d0 : Dev nD) : Nat :=
  let c0_i32_1293 : BitVec 32 := 0#32
  let c0_i32_1290 : BitVec 32 := 0#32
  let c8_i32_1292 : BitVec 32 := 8#32
  let v1393 : BitVec 32 := Scalar.muli c0_i32_1290 c8_i32_1292
  let v1394 : BitVec 32 := Scalar.addi c0_i32_1293 v1393
  let c1_i32_1291 : BitVec 32 := 1#32
  let c4_i32_1294 : BitVec 32 := 4#32
  let v1395 : BitVec 32 := Scalar.muli c1_i32_1291 c4_i32_1294
  let v1396 : BitVec 32 := Scalar.addi v1394 v1395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1295 : BitVec 32 := 1#32
  let v1397 : BitVec 32 := Scalar.muli v100 c1_i32_1295
  let v1398 : BitVec 32 := Scalar.addi v1396 v1397
  v1398.toNat
def k0_cond4 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_38 : BitVec 32 := 0#32
  let v64 : BitVec 1 := Scalar.cmpi .eq v2 c0_i32_38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_39 : BitVec 32 := 1#32
  let v65 : BitVec 1 := Scalar.cmpi .eq v5 c1_i32_39
  let v66 : BitVec 1 := Scalar.andi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1_i32_40 : BitVec 32 := 1#32
  let v67 : BitVec 1 := Scalar.cmpi .eq v18 c1_i32_40
  let v68 : BitVec 1 := Scalar.andi v66 v67
  let v69 : BitVec 32 := Scalar.extui v68
  let c0_i32_41 : BitVec 32 := 0#32
  let v70 : BitVec 1 := Scalar.cmpi .ne v69 c0_i32_41
  v70

def k0_dev196 (d0 : Dev nD) : Nat :=
  let c0_i32_206 : BitVec 32 := 0#32
  let c0_i32_203 : BitVec 32 := 0#32
  let c8_i32_205 : BitVec 32 := 8#32
  let v309 : BitVec 32 := Scalar.muli c0_i32_203 c8_i32_205
  let v310 : BitVec 32 := Scalar.addi c0_i32_206 v309
  let c0_i32_204 : BitVec 32 := 0#32
  let c4_i32_207 : BitVec 32 := 4#32
  let v311 : BitVec 32 := Scalar.muli c0_i32_204 c4_i32_207
  let v312 : BitVec 32 := Scalar.addi v310 v311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_208 : BitVec 32 := 1#32
  let v313 : BitVec 32 := Scalar.muli v8 c1_i32_208
  let v314 : BitVec 32 := Scalar.addi v312 v313
  v314.toNat
def k0_dev197 (d0 : Dev nD) : Nat :=
  let c0_i32_217 : BitVec 32 := 0#32
  let c0_i32_214 : BitVec 32 := 0#32
  let c8_i32_216 : BitVec 32 := 8#32
  let v321 : BitVec 32 := Scalar.muli c0_i32_214 c8_i32_216
  let v322 : BitVec 32 := Scalar.addi c0_i32_217 v321
  let c0_i32_215 : BitVec 32 := 0#32
  let c4_i32_218 : BitVec 32 := 4#32
  let v323 : BitVec 32 := Scalar.muli c0_i32_215 c4_i32_218
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_219 : BitVec 32 := 1#32
  let v325 : BitVec 32 := Scalar.muli v8 c1_i32_219
  let v326 : BitVec 32 := Scalar.addi v324 v325
  v326.toNat
def k0_dev198 (d0 : Dev nD) : Nat :=
  let c0_i32_227 : BitVec 32 := 0#32
  let c0_i32_224 : BitVec 32 := 0#32
  let c8_i32_226 : BitVec 32 := 8#32
  let v333 : BitVec 32 := Scalar.muli c0_i32_224 c8_i32_226
  let v334 : BitVec 32 := Scalar.addi c0_i32_227 v333
  let c0_i32_225 : BitVec 32 := 0#32
  let c4_i32_228 : BitVec 32 := 4#32
  let v335 : BitVec 32 := Scalar.muli c0_i32_225 c4_i32_228
  let v336 : BitVec 32 := Scalar.addi v334 v335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v337 : BitVec 32 := Scalar.muli v8 c1_i32_229
  let v338 : BitVec 32 := Scalar.addi v336 v337
  v338.toNat
def k0_dev199 (d0 : Dev nD) : Nat :=
  let c0_i32_237 : BitVec 32 := 0#32
  let c0_i32_234 : BitVec 32 := 0#32
  let c8_i32_236 : BitVec 32 := 8#32
  let v345 : BitVec 32 := Scalar.muli c0_i32_234 c8_i32_236
  let v346 : BitVec 32 := Scalar.addi c0_i32_237 v345
  let c0_i32_235 : BitVec 32 := 0#32
  let c4_i32_238 : BitVec 32 := 4#32
  let v347 : BitVec 32 := Scalar.muli c0_i32_235 c4_i32_238
  let v348 : BitVec 32 := Scalar.addi v346 v347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_239 : BitVec 32 := 1#32
  let v349 : BitVec 32 := Scalar.muli v8 c1_i32_239
  let v350 : BitVec 32 := Scalar.addi v348 v349
  v350.toNat
def k0_dev200 (d0 : Dev nD) : Nat :=
  let c0_i32_247 : BitVec 32 := 0#32
  let c0_i32_244 : BitVec 32 := 0#32
  let c8_i32_246 : BitVec 32 := 8#32
  let v357 : BitVec 32 := Scalar.muli c0_i32_244 c8_i32_246
  let v358 : BitVec 32 := Scalar.addi c0_i32_247 v357
  let c0_i32_245 : BitVec 32 := 0#32
  let c4_i32_248 : BitVec 32 := 4#32
  let v359 : BitVec 32 := Scalar.muli c0_i32_245 c4_i32_248
  let v360 : BitVec 32 := Scalar.addi v358 v359
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v361 : BitVec 32 := Scalar.muli v8 c1_i32_249
  let v362 : BitVec 32 := Scalar.addi v360 v361
  v362.toNat
def k0_dev201 (d0 : Dev nD) : Nat :=
  let c0_i32_258 : BitVec 32 := 0#32
  let c0_i32_255 : BitVec 32 := 0#32
  let c8_i32_257 : BitVec 32 := 8#32
  let v369 : BitVec 32 := Scalar.muli c0_i32_255 c8_i32_257
  let v370 : BitVec 32 := Scalar.addi c0_i32_258 v369
  let c0_i32_256 : BitVec 32 := 0#32
  let c4_i32_259 : BitVec 32 := 4#32
  let v371 : BitVec 32 := Scalar.muli c0_i32_256 c4_i32_259
  let v372 : BitVec 32 := Scalar.addi v370 v371
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_260 : BitVec 32 := 1#32
  let v373 : BitVec 32 := Scalar.muli v8 c1_i32_260
  let v374 : BitVec 32 := Scalar.addi v372 v373
  v374.toNat
def k0_dev202 (d0 : Dev nD) : Nat :=
  let c0_i32_268 : BitVec 32 := 0#32
  let c0_i32_265 : BitVec 32 := 0#32
  let c8_i32_267 : BitVec 32 := 8#32
  let v381 : BitVec 32 := Scalar.muli c0_i32_265 c8_i32_267
  let v382 : BitVec 32 := Scalar.addi c0_i32_268 v381
  let c0_i32_266 : BitVec 32 := 0#32
  let c4_i32_269 : BitVec 32 := 4#32
  let v383 : BitVec 32 := Scalar.muli c0_i32_266 c4_i32_269
  let v384 : BitVec 32 := Scalar.addi v382 v383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_270 : BitVec 32 := 1#32
  let v385 : BitVec 32 := Scalar.muli v8 c1_i32_270
  let v386 : BitVec 32 := Scalar.addi v384 v385
  v386.toNat
def k0_dev203 (d0 : Dev nD) : Nat :=
  let c0_i32_278 : BitVec 32 := 0#32
  let c0_i32_275 : BitVec 32 := 0#32
  let c8_i32_277 : BitVec 32 := 8#32
  let v393 : BitVec 32 := Scalar.muli c0_i32_275 c8_i32_277
  let v394 : BitVec 32 := Scalar.addi c0_i32_278 v393
  let c0_i32_276 : BitVec 32 := 0#32
  let c4_i32_279 : BitVec 32 := 4#32
  let v395 : BitVec 32 := Scalar.muli c0_i32_276 c4_i32_279
  let v396 : BitVec 32 := Scalar.addi v394 v395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_280 : BitVec 32 := 1#32
  let v397 : BitVec 32 := Scalar.muli v8 c1_i32_280
  let v398 : BitVec 32 := Scalar.addi v396 v397
  v398.toNat
def k0_dev204 (d0 : Dev nD) : Nat :=
  let c0_i32_288 : BitVec 32 := 0#32
  let c0_i32_285 : BitVec 32 := 0#32
  let c8_i32_287 : BitVec 32 := 8#32
  let v405 : BitVec 32 := Scalar.muli c0_i32_285 c8_i32_287
  let v406 : BitVec 32 := Scalar.addi c0_i32_288 v405
  let c0_i32_286 : BitVec 32 := 0#32
  let c4_i32_289 : BitVec 32 := 4#32
  let v407 : BitVec 32 := Scalar.muli c0_i32_286 c4_i32_289
  let v408 : BitVec 32 := Scalar.addi v406 v407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_290 : BitVec 32 := 1#32
  let v409 : BitVec 32 := Scalar.muli v8 c1_i32_290
  let v410 : BitVec 32 := Scalar.addi v408 v409
  v410.toNat
def k0_dev205 (d0 : Dev nD) : Nat :=
  let c0_i32_299 : BitVec 32 := 0#32
  let c0_i32_296 : BitVec 32 := 0#32
  let c8_i32_298 : BitVec 32 := 8#32
  let v417 : BitVec 32 := Scalar.muli c0_i32_296 c8_i32_298
  let v418 : BitVec 32 := Scalar.addi c0_i32_299 v417
  let c0_i32_297 : BitVec 32 := 0#32
  let c4_i32_300 : BitVec 32 := 4#32
  let v419 : BitVec 32 := Scalar.muli c0_i32_297 c4_i32_300
  let v420 : BitVec 32 := Scalar.addi v418 v419
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_301 : BitVec 32 := 1#32
  let v421 : BitVec 32 := Scalar.muli v8 c1_i32_301
  let v422 : BitVec 32 := Scalar.addi v420 v421
  v422.toNat
def k0_dev206 (d0 : Dev nD) : Nat :=
  let c0_i32_309 : BitVec 32 := 0#32
  let c0_i32_306 : BitVec 32 := 0#32
  let c8_i32_308 : BitVec 32 := 8#32
  let v429 : BitVec 32 := Scalar.muli c0_i32_306 c8_i32_308
  let v430 : BitVec 32 := Scalar.addi c0_i32_309 v429
  let c0_i32_307 : BitVec 32 := 0#32
  let c4_i32_310 : BitVec 32 := 4#32
  let v431 : BitVec 32 := Scalar.muli c0_i32_307 c4_i32_310
  let v432 : BitVec 32 := Scalar.addi v430 v431
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_311 : BitVec 32 := 1#32
  let v433 : BitVec 32 := Scalar.muli v8 c1_i32_311
  let v434 : BitVec 32 := Scalar.addi v432 v433
  v434.toNat
def k0_dev207 (d0 : Dev nD) : Nat :=
  let c0_i32_319 : BitVec 32 := 0#32
  let c0_i32_316 : BitVec 32 := 0#32
  let c8_i32_318 : BitVec 32 := 8#32
  let v441 : BitVec 32 := Scalar.muli c0_i32_316 c8_i32_318
  let v442 : BitVec 32 := Scalar.addi c0_i32_319 v441
  let c0_i32_317 : BitVec 32 := 0#32
  let c4_i32_320 : BitVec 32 := 4#32
  let v443 : BitVec 32 := Scalar.muli c0_i32_317 c4_i32_320
  let v444 : BitVec 32 := Scalar.addi v442 v443
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_321 : BitVec 32 := 1#32
  let v445 : BitVec 32 := Scalar.muli v8 c1_i32_321
  let v446 : BitVec 32 := Scalar.addi v444 v445
  v446.toNat
def k0_dev208 (d0 : Dev nD) : Nat :=
  let c0_i32_329 : BitVec 32 := 0#32
  let c0_i32_326 : BitVec 32 := 0#32
  let c8_i32_328 : BitVec 32 := 8#32
  let v453 : BitVec 32 := Scalar.muli c0_i32_326 c8_i32_328
  let v454 : BitVec 32 := Scalar.addi c0_i32_329 v453
  let c0_i32_327 : BitVec 32 := 0#32
  let c4_i32_330 : BitVec 32 := 4#32
  let v455 : BitVec 32 := Scalar.muli c0_i32_327 c4_i32_330
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v457 : BitVec 32 := Scalar.muli v8 c1_i32_331
  let v458 : BitVec 32 := Scalar.addi v456 v457
  v458.toNat
def k0_dev209 (d0 : Dev nD) : Nat :=
  let c0_i32_340 : BitVec 32 := 0#32
  let c0_i32_337 : BitVec 32 := 0#32
  let c8_i32_339 : BitVec 32 := 8#32
  let v465 : BitVec 32 := Scalar.muli c0_i32_337 c8_i32_339
  let v466 : BitVec 32 := Scalar.addi c0_i32_340 v465
  let c0_i32_338 : BitVec 32 := 0#32
  let c4_i32_341 : BitVec 32 := 4#32
  let v467 : BitVec 32 := Scalar.muli c0_i32_338 c4_i32_341
  let v468 : BitVec 32 := Scalar.addi v466 v467
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_342 : BitVec 32 := 1#32
  let v469 : BitVec 32 := Scalar.muli v8 c1_i32_342
  let v470 : BitVec 32 := Scalar.addi v468 v469
  v470.toNat
def k0_dev210 (d0 : Dev nD) : Nat :=
  let c0_i32_350 : BitVec 32 := 0#32
  let c0_i32_347 : BitVec 32 := 0#32
  let c8_i32_349 : BitVec 32 := 8#32
  let v477 : BitVec 32 := Scalar.muli c0_i32_347 c8_i32_349
  let v478 : BitVec 32 := Scalar.addi c0_i32_350 v477
  let c0_i32_348 : BitVec 32 := 0#32
  let c4_i32_351 : BitVec 32 := 4#32
  let v479 : BitVec 32 := Scalar.muli c0_i32_348 c4_i32_351
  let v480 : BitVec 32 := Scalar.addi v478 v479
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_352 : BitVec 32 := 1#32
  let v481 : BitVec 32 := Scalar.muli v8 c1_i32_352
  let v482 : BitVec 32 := Scalar.addi v480 v481
  v482.toNat
def k0_dev211 (d0 : Dev nD) : Nat :=
  let c0_i32_360 : BitVec 32 := 0#32
  let c0_i32_357 : BitVec 32 := 0#32
  let c8_i32_359 : BitVec 32 := 8#32
  let v489 : BitVec 32 := Scalar.muli c0_i32_357 c8_i32_359
  let v490 : BitVec 32 := Scalar.addi c0_i32_360 v489
  let c0_i32_358 : BitVec 32 := 0#32
  let c4_i32_361 : BitVec 32 := 4#32
  let v491 : BitVec 32 := Scalar.muli c0_i32_358 c4_i32_361
  let v492 : BitVec 32 := Scalar.addi v490 v491
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_362 : BitVec 32 := 1#32
  let v493 : BitVec 32 := Scalar.muli v8 c1_i32_362
  let v494 : BitVec 32 := Scalar.addi v492 v493
  v494.toNat
def k0_dev212 (d0 : Dev nD) : Nat :=
  let c0_i32_369 : BitVec 32 := 0#32
  let c0_i32_366 : BitVec 32 := 0#32
  let c8_i32_368 : BitVec 32 := 8#32
  let v501 : BitVec 32 := Scalar.muli c0_i32_366 c8_i32_368
  let v502 : BitVec 32 := Scalar.addi c0_i32_369 v501
  let c0_i32_367 : BitVec 32 := 0#32
  let c4_i32_370 : BitVec 32 := 4#32
  let v503 : BitVec 32 := Scalar.muli c0_i32_367 c4_i32_370
  let v504 : BitVec 32 := Scalar.addi v502 v503
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_371 : BitVec 32 := 1#32
  let v505 : BitVec 32 := Scalar.muli v8 c1_i32_371
  let v506 : BitVec 32 := Scalar.addi v504 v505
  v506.toNat
def k0_dev213 (d0 : Dev nD) : Nat :=
  let c0_i32_379 : BitVec 32 := 0#32
  let c0_i32_376 : BitVec 32 := 0#32
  let c8_i32_378 : BitVec 32 := 8#32
  let v513 : BitVec 32 := Scalar.muli c0_i32_376 c8_i32_378
  let v514 : BitVec 32 := Scalar.addi c0_i32_379 v513
  let c0_i32_377 : BitVec 32 := 0#32
  let c4_i32_380 : BitVec 32 := 4#32
  let v515 : BitVec 32 := Scalar.muli c0_i32_377 c4_i32_380
  let v516 : BitVec 32 := Scalar.addi v514 v515
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_381 : BitVec 32 := 1#32
  let v517 : BitVec 32 := Scalar.muli v8 c1_i32_381
  let v518 : BitVec 32 := Scalar.addi v516 v517
  v518.toNat
def k0_dev214 (d0 : Dev nD) : Nat :=
  let c0_i32_388 : BitVec 32 := 0#32
  let c0_i32_385 : BitVec 32 := 0#32
  let c8_i32_387 : BitVec 32 := 8#32
  let v525 : BitVec 32 := Scalar.muli c0_i32_385 c8_i32_387
  let v526 : BitVec 32 := Scalar.addi c0_i32_388 v525
  let c0_i32_386 : BitVec 32 := 0#32
  let c4_i32_389 : BitVec 32 := 4#32
  let v527 : BitVec 32 := Scalar.muli c0_i32_386 c4_i32_389
  let v528 : BitVec 32 := Scalar.addi v526 v527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v529 : BitVec 32 := Scalar.muli v8 c1_i32_390
  let v530 : BitVec 32 := Scalar.addi v528 v529
  v530.toNat
def k0_dev215 (d0 : Dev nD) : Nat :=
  let c0_i32_397 : BitVec 32 := 0#32
  let c0_i32_394 : BitVec 32 := 0#32
  let c8_i32_396 : BitVec 32 := 8#32
  let v537 : BitVec 32 := Scalar.muli c0_i32_394 c8_i32_396
  let v538 : BitVec 32 := Scalar.addi c0_i32_397 v537
  let c0_i32_395 : BitVec 32 := 0#32
  let c4_i32_398 : BitVec 32 := 4#32
  let v539 : BitVec 32 := Scalar.muli c0_i32_395 c4_i32_398
  let v540 : BitVec 32 := Scalar.addi v538 v539
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_399 : BitVec 32 := 1#32
  let v541 : BitVec 32 := Scalar.muli v8 c1_i32_399
  let v542 : BitVec 32 := Scalar.addi v540 v541
  v542.toNat
def k0_dev216 (d0 : Dev nD) : Nat :=
  let c0_i32_406 : BitVec 32 := 0#32
  let c0_i32_403 : BitVec 32 := 0#32
  let c8_i32_405 : BitVec 32 := 8#32
  let v549 : BitVec 32 := Scalar.muli c0_i32_403 c8_i32_405
  let v550 : BitVec 32 := Scalar.addi c0_i32_406 v549
  let c0_i32_404 : BitVec 32 := 0#32
  let c4_i32_407 : BitVec 32 := 4#32
  let v551 : BitVec 32 := Scalar.muli c0_i32_404 c4_i32_407
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v553 : BitVec 32 := Scalar.muli v8 c1_i32_408
  let v554 : BitVec 32 := Scalar.addi v552 v553
  v554.toNat
def k0_dev217 (d0 : Dev nD) : Nat :=
  let c0_i32_416 : BitVec 32 := 0#32
  let c0_i32_413 : BitVec 32 := 0#32
  let c8_i32_415 : BitVec 32 := 8#32
  let v561 : BitVec 32 := Scalar.muli c0_i32_413 c8_i32_415
  let v562 : BitVec 32 := Scalar.addi c0_i32_416 v561
  let c0_i32_414 : BitVec 32 := 0#32
  let c4_i32_417 : BitVec 32 := 4#32
  let v563 : BitVec 32 := Scalar.muli c0_i32_414 c4_i32_417
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_418 : BitVec 32 := 1#32
  let v565 : BitVec 32 := Scalar.muli v8 c1_i32_418
  let v566 : BitVec 32 := Scalar.addi v564 v565
  v566.toNat
def k0_dev218 (d0 : Dev nD) : Nat :=
  let c0_i32_425 : BitVec 32 := 0#32
  let c0_i32_422 : BitVec 32 := 0#32
  let c8_i32_424 : BitVec 32 := 8#32
  let v573 : BitVec 32 := Scalar.muli c0_i32_422 c8_i32_424
  let v574 : BitVec 32 := Scalar.addi c0_i32_425 v573
  let c0_i32_423 : BitVec 32 := 0#32
  let c4_i32_426 : BitVec 32 := 4#32
  let v575 : BitVec 32 := Scalar.muli c0_i32_423 c4_i32_426
  let v576 : BitVec 32 := Scalar.addi v574 v575
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_427 : BitVec 32 := 1#32
  let v577 : BitVec 32 := Scalar.muli v8 c1_i32_427
  let v578 : BitVec 32 := Scalar.addi v576 v577
  v578.toNat
def k0_dev219 (d0 : Dev nD) : Nat :=
  let c0_i32_434 : BitVec 32 := 0#32
  let c0_i32_431 : BitVec 32 := 0#32
  let c8_i32_433 : BitVec 32 := 8#32
  let v585 : BitVec 32 := Scalar.muli c0_i32_431 c8_i32_433
  let v586 : BitVec 32 := Scalar.addi c0_i32_434 v585
  let c0_i32_432 : BitVec 32 := 0#32
  let c4_i32_435 : BitVec 32 := 4#32
  let v587 : BitVec 32 := Scalar.muli c0_i32_432 c4_i32_435
  let v588 : BitVec 32 := Scalar.addi v586 v587
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_436 : BitVec 32 := 1#32
  let v589 : BitVec 32 := Scalar.muli v8 c1_i32_436
  let v590 : BitVec 32 := Scalar.addi v588 v589
  v590.toNat
def k0_dev220 (d0 : Dev nD) : Nat :=
  let c0_i32_456 : BitVec 32 := 0#32
  let c1_i32_453 : BitVec 32 := 1#32
  let c8_i32_455 : BitVec 32 := 8#32
  let v607 : BitVec 32 := Scalar.muli c1_i32_453 c8_i32_455
  let v608 : BitVec 32 := Scalar.addi c0_i32_456 v607
  let c1_i32_454 : BitVec 32 := 1#32
  let c4_i32_457 : BitVec 32 := 4#32
  let v609 : BitVec 32 := Scalar.muli c1_i32_454 c4_i32_457
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_458 : BitVec 32 := 1#32
  let v611 : BitVec 32 := Scalar.muli v8 c1_i32_458
  let v612 : BitVec 32 := Scalar.addi v610 v611
  v612.toNat
def k0_dev221 (d0 : Dev nD) : Nat :=
  let c0_i32_468 : BitVec 32 := 0#32
  let c0_i32_465 : BitVec 32 := 0#32
  let c8_i32_467 : BitVec 32 := 8#32
  let v619 : BitVec 32 := Scalar.muli c0_i32_465 c8_i32_467
  let v620 : BitVec 32 := Scalar.addi c0_i32_468 v619
  let c1_i32_466 : BitVec 32 := 1#32
  let c4_i32_469 : BitVec 32 := 4#32
  let v621 : BitVec 32 := Scalar.muli c1_i32_466 c4_i32_469
  let v622 : BitVec 32 := Scalar.addi v620 v621
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_470 : BitVec 32 := 1#32
  let v623 : BitVec 32 := Scalar.muli v100 c1_i32_470
  let v624 : BitVec 32 := Scalar.addi v622 v623
  v624.toNat
def k0_dev222 (d0 : Dev nD) : Nat :=
  let c0_i32_495 : BitVec 32 := 0#32
  let c1_i32_492 : BitVec 32 := 1#32
  let c8_i32_494 : BitVec 32 := 8#32
  let v644 : BitVec 32 := Scalar.muli c1_i32_492 c8_i32_494
  let v645 : BitVec 32 := Scalar.addi c0_i32_495 v644
  let c1_i32_493 : BitVec 32 := 1#32
  let c4_i32_496 : BitVec 32 := 4#32
  let v646 : BitVec 32 := Scalar.muli c1_i32_493 c4_i32_496
  let v647 : BitVec 32 := Scalar.addi v645 v646
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_497 : BitVec 32 := 1#32
  let v648 : BitVec 32 := Scalar.muli v8 c1_i32_497
  let v649 : BitVec 32 := Scalar.addi v647 v648
  v649.toNat
def k0_dev223 (d0 : Dev nD) : Nat :=
  let c0_i32_507 : BitVec 32 := 0#32
  let c0_i32_504 : BitVec 32 := 0#32
  let c8_i32_506 : BitVec 32 := 8#32
  let v656 : BitVec 32 := Scalar.muli c0_i32_504 c8_i32_506
  let v657 : BitVec 32 := Scalar.addi c0_i32_507 v656
  let c1_i32_505 : BitVec 32 := 1#32
  let c4_i32_508 : BitVec 32 := 4#32
  let v658 : BitVec 32 := Scalar.muli c1_i32_505 c4_i32_508
  let v659 : BitVec 32 := Scalar.addi v657 v658
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_509 : BitVec 32 := 1#32
  let v660 : BitVec 32 := Scalar.muli v100 c1_i32_509
  let v661 : BitVec 32 := Scalar.addi v659 v660
  v661.toNat
def k0_dev224 (d0 : Dev nD) : Nat :=
  let c0_i32_534 : BitVec 32 := 0#32
  let c1_i32_531 : BitVec 32 := 1#32
  let c8_i32_533 : BitVec 32 := 8#32
  let v681 : BitVec 32 := Scalar.muli c1_i32_531 c8_i32_533
  let v682 : BitVec 32 := Scalar.addi c0_i32_534 v681
  let c1_i32_532 : BitVec 32 := 1#32
  let c4_i32_535 : BitVec 32 := 4#32
  let v683 : BitVec 32 := Scalar.muli c1_i32_532 c4_i32_535
  let v684 : BitVec 32 := Scalar.addi v682 v683
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_536 : BitVec 32 := 1#32
  let v685 : BitVec 32 := Scalar.muli v8 c1_i32_536
  let v686 : BitVec 32 := Scalar.addi v684 v685
  v686.toNat
def k0_dev225 (d0 : Dev nD) : Nat :=
  let c0_i32_546 : BitVec 32 := 0#32
  let c0_i32_543 : BitVec 32 := 0#32
  let c8_i32_545 : BitVec 32 := 8#32
  let v693 : BitVec 32 := Scalar.muli c0_i32_543 c8_i32_545
  let v694 : BitVec 32 := Scalar.addi c0_i32_546 v693
  let c1_i32_544 : BitVec 32 := 1#32
  let c4_i32_547 : BitVec 32 := 4#32
  let v695 : BitVec 32 := Scalar.muli c1_i32_544 c4_i32_547
  let v696 : BitVec 32 := Scalar.addi v694 v695
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_548 : BitVec 32 := 1#32
  let v697 : BitVec 32 := Scalar.muli v100 c1_i32_548
  let v698 : BitVec 32 := Scalar.addi v696 v697
  v698.toNat
def k0_dev226 (d0 : Dev nD) : Nat :=
  let c0_i32_573 : BitVec 32 := 0#32
  let c1_i32_570 : BitVec 32 := 1#32
  let c8_i32_572 : BitVec 32 := 8#32
  let v718 : BitVec 32 := Scalar.muli c1_i32_570 c8_i32_572
  let v719 : BitVec 32 := Scalar.addi c0_i32_573 v718
  let c1_i32_571 : BitVec 32 := 1#32
  let c4_i32_574 : BitVec 32 := 4#32
  let v720 : BitVec 32 := Scalar.muli c1_i32_571 c4_i32_574
  let v721 : BitVec 32 := Scalar.addi v719 v720
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v722 : BitVec 32 := Scalar.muli v8 c1_i32_575
  let v723 : BitVec 32 := Scalar.addi v721 v722
  v723.toNat
def k0_dev227 (d0 : Dev nD) : Nat :=
  let c0_i32_585 : BitVec 32 := 0#32
  let c0_i32_582 : BitVec 32 := 0#32
  let c8_i32_584 : BitVec 32 := 8#32
  let v730 : BitVec 32 := Scalar.muli c0_i32_582 c8_i32_584
  let v731 : BitVec 32 := Scalar.addi c0_i32_585 v730
  let c1_i32_583 : BitVec 32 := 1#32
  let c4_i32_586 : BitVec 32 := 4#32
  let v732 : BitVec 32 := Scalar.muli c1_i32_583 c4_i32_586
  let v733 : BitVec 32 := Scalar.addi v731 v732
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_587 : BitVec 32 := 1#32
  let v734 : BitVec 32 := Scalar.muli v100 c1_i32_587
  let v735 : BitVec 32 := Scalar.addi v733 v734
  v735.toNat
def k0_dev228 (d0 : Dev nD) : Nat :=
  let c0_i32_612 : BitVec 32 := 0#32
  let c1_i32_609 : BitVec 32 := 1#32
  let c8_i32_611 : BitVec 32 := 8#32
  let v755 : BitVec 32 := Scalar.muli c1_i32_609 c8_i32_611
  let v756 : BitVec 32 := Scalar.addi c0_i32_612 v755
  let c1_i32_610 : BitVec 32 := 1#32
  let c4_i32_613 : BitVec 32 := 4#32
  let v757 : BitVec 32 := Scalar.muli c1_i32_610 c4_i32_613
  let v758 : BitVec 32 := Scalar.addi v756 v757
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_614 : BitVec 32 := 1#32
  let v759 : BitVec 32 := Scalar.muli v8 c1_i32_614
  let v760 : BitVec 32 := Scalar.addi v758 v759
  v760.toNat
def k0_dev229 (d0 : Dev nD) : Nat :=
  let c0_i32_624 : BitVec 32 := 0#32
  let c0_i32_621 : BitVec 32 := 0#32
  let c8_i32_623 : BitVec 32 := 8#32
  let v767 : BitVec 32 := Scalar.muli c0_i32_621 c8_i32_623
  let v768 : BitVec 32 := Scalar.addi c0_i32_624 v767
  let c1_i32_622 : BitVec 32 := 1#32
  let c4_i32_625 : BitVec 32 := 4#32
  let v769 : BitVec 32 := Scalar.muli c1_i32_622 c4_i32_625
  let v770 : BitVec 32 := Scalar.addi v768 v769
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_626 : BitVec 32 := 1#32
  let v771 : BitVec 32 := Scalar.muli v100 c1_i32_626
  let v772 : BitVec 32 := Scalar.addi v770 v771
  v772.toNat
def k0_dev230 (d0 : Dev nD) : Nat :=
  let c0_i32_651 : BitVec 32 := 0#32
  let c1_i32_648 : BitVec 32 := 1#32
  let c8_i32_650 : BitVec 32 := 8#32
  let v792 : BitVec 32 := Scalar.muli c1_i32_648 c8_i32_650
  let v793 : BitVec 32 := Scalar.addi c0_i32_651 v792
  let c1_i32_649 : BitVec 32 := 1#32
  let c4_i32_652 : BitVec 32 := 4#32
  let v794 : BitVec 32 := Scalar.muli c1_i32_649 c4_i32_652
  let v795 : BitVec 32 := Scalar.addi v793 v794
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_653 : BitVec 32 := 1#32
  let v796 : BitVec 32 := Scalar.muli v8 c1_i32_653
  let v797 : BitVec 32 := Scalar.addi v795 v796
  v797.toNat
def k0_dev231 (d0 : Dev nD) : Nat :=
  let c0_i32_663 : BitVec 32 := 0#32
  let c0_i32_660 : BitVec 32 := 0#32
  let c8_i32_662 : BitVec 32 := 8#32
  let v804 : BitVec 32 := Scalar.muli c0_i32_660 c8_i32_662
  let v805 : BitVec 32 := Scalar.addi c0_i32_663 v804
  let c1_i32_661 : BitVec 32 := 1#32
  let c4_i32_664 : BitVec 32 := 4#32
  let v806 : BitVec 32 := Scalar.muli c1_i32_661 c4_i32_664
  let v807 : BitVec 32 := Scalar.addi v805 v806
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_665 : BitVec 32 := 1#32
  let v808 : BitVec 32 := Scalar.muli v100 c1_i32_665
  let v809 : BitVec 32 := Scalar.addi v807 v808
  v809.toNat
def k0_dev232 (d0 : Dev nD) : Nat :=
  let c0_i32_690 : BitVec 32 := 0#32
  let c1_i32_687 : BitVec 32 := 1#32
  let c8_i32_689 : BitVec 32 := 8#32
  let v829 : BitVec 32 := Scalar.muli c1_i32_687 c8_i32_689
  let v830 : BitVec 32 := Scalar.addi c0_i32_690 v829
  let c1_i32_688 : BitVec 32 := 1#32
  let c4_i32_691 : BitVec 32 := 4#32
  let v831 : BitVec 32 := Scalar.muli c1_i32_688 c4_i32_691
  let v832 : BitVec 32 := Scalar.addi v830 v831
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_692 : BitVec 32 := 1#32
  let v833 : BitVec 32 := Scalar.muli v8 c1_i32_692
  let v834 : BitVec 32 := Scalar.addi v832 v833
  v834.toNat
def k0_dev233 (d0 : Dev nD) : Nat :=
  let c0_i32_702 : BitVec 32 := 0#32
  let c0_i32_699 : BitVec 32 := 0#32
  let c8_i32_701 : BitVec 32 := 8#32
  let v841 : BitVec 32 := Scalar.muli c0_i32_699 c8_i32_701
  let v842 : BitVec 32 := Scalar.addi c0_i32_702 v841
  let c1_i32_700 : BitVec 32 := 1#32
  let c4_i32_703 : BitVec 32 := 4#32
  let v843 : BitVec 32 := Scalar.muli c1_i32_700 c4_i32_703
  let v844 : BitVec 32 := Scalar.addi v842 v843
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_704 : BitVec 32 := 1#32
  let v845 : BitVec 32 := Scalar.muli v100 c1_i32_704
  let v846 : BitVec 32 := Scalar.addi v844 v845
  v846.toNat
def k0_dev234 (d0 : Dev nD) : Nat :=
  let c0_i32_734 : BitVec 32 := 0#32
  let c1_i32_731 : BitVec 32 := 1#32
  let c8_i32_733 : BitVec 32 := 8#32
  let v870 : BitVec 32 := Scalar.muli c1_i32_731 c8_i32_733
  let v871 : BitVec 32 := Scalar.addi c0_i32_734 v870
  let c1_i32_732 : BitVec 32 := 1#32
  let c4_i32_735 : BitVec 32 := 4#32
  let v872 : BitVec 32 := Scalar.muli c1_i32_732 c4_i32_735
  let v873 : BitVec 32 := Scalar.addi v871 v872
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_736 : BitVec 32 := 1#32
  let v874 : BitVec 32 := Scalar.muli v8 c1_i32_736
  let v875 : BitVec 32 := Scalar.addi v873 v874
  v875.toNat
def k0_dev235 (d0 : Dev nD) : Nat :=
  let c0_i32_746 : BitVec 32 := 0#32
  let c0_i32_743 : BitVec 32 := 0#32
  let c8_i32_745 : BitVec 32 := 8#32
  let v882 : BitVec 32 := Scalar.muli c0_i32_743 c8_i32_745
  let v883 : BitVec 32 := Scalar.addi c0_i32_746 v882
  let c1_i32_744 : BitVec 32 := 1#32
  let c4_i32_747 : BitVec 32 := 4#32
  let v884 : BitVec 32 := Scalar.muli c1_i32_744 c4_i32_747
  let v885 : BitVec 32 := Scalar.addi v883 v884
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_748 : BitVec 32 := 1#32
  let v886 : BitVec 32 := Scalar.muli v100 c1_i32_748
  let v887 : BitVec 32 := Scalar.addi v885 v886
  v887.toNat
def k0_dev236 (d0 : Dev nD) : Nat :=
  let c0_i32_778 : BitVec 32 := 0#32
  let c1_i32_775 : BitVec 32 := 1#32
  let c8_i32_777 : BitVec 32 := 8#32
  let v911 : BitVec 32 := Scalar.muli c1_i32_775 c8_i32_777
  let v912 : BitVec 32 := Scalar.addi c0_i32_778 v911
  let c1_i32_776 : BitVec 32 := 1#32
  let c4_i32_779 : BitVec 32 := 4#32
  let v913 : BitVec 32 := Scalar.muli c1_i32_776 c4_i32_779
  let v914 : BitVec 32 := Scalar.addi v912 v913
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_780 : BitVec 32 := 1#32
  let v915 : BitVec 32 := Scalar.muli v8 c1_i32_780
  let v916 : BitVec 32 := Scalar.addi v914 v915
  v916.toNat
def k0_dev237 (d0 : Dev nD) : Nat :=
  let c0_i32_790 : BitVec 32 := 0#32
  let c0_i32_787 : BitVec 32 := 0#32
  let c8_i32_789 : BitVec 32 := 8#32
  let v923 : BitVec 32 := Scalar.muli c0_i32_787 c8_i32_789
  let v924 : BitVec 32 := Scalar.addi c0_i32_790 v923
  let c1_i32_788 : BitVec 32 := 1#32
  let c4_i32_791 : BitVec 32 := 4#32
  let v925 : BitVec 32 := Scalar.muli c1_i32_788 c4_i32_791
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_792 : BitVec 32 := 1#32
  let v927 : BitVec 32 := Scalar.muli v100 c1_i32_792
  let v928 : BitVec 32 := Scalar.addi v926 v927
  v928.toNat
def k0_dev238 (d0 : Dev nD) : Nat :=
  let c0_i32_822 : BitVec 32 := 0#32
  let c1_i32_819 : BitVec 32 := 1#32
  let c8_i32_821 : BitVec 32 := 8#32
  let v952 : BitVec 32 := Scalar.muli c1_i32_819 c8_i32_821
  let v953 : BitVec 32 := Scalar.addi c0_i32_822 v952
  let c1_i32_820 : BitVec 32 := 1#32
  let c4_i32_823 : BitVec 32 := 4#32
  let v954 : BitVec 32 := Scalar.muli c1_i32_820 c4_i32_823
  let v955 : BitVec 32 := Scalar.addi v953 v954
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_824 : BitVec 32 := 1#32
  let v956 : BitVec 32 := Scalar.muli v8 c1_i32_824
  let v957 : BitVec 32 := Scalar.addi v955 v956
  v957.toNat
def k0_dev239 (d0 : Dev nD) : Nat :=
  let c0_i32_833 : BitVec 32 := 0#32
  let c0_i32_830 : BitVec 32 := 0#32
  let c8_i32_832 : BitVec 32 := 8#32
  let v964 : BitVec 32 := Scalar.muli c0_i32_830 c8_i32_832
  let v965 : BitVec 32 := Scalar.addi c0_i32_833 v964
  let c1_i32_831 : BitVec 32 := 1#32
  let c4_i32_834 : BitVec 32 := 4#32
  let v966 : BitVec 32 := Scalar.muli c1_i32_831 c4_i32_834
  let v967 : BitVec 32 := Scalar.addi v965 v966
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_835 : BitVec 32 := 1#32
  let v968 : BitVec 32 := Scalar.muli v100 c1_i32_835
  let v969 : BitVec 32 := Scalar.addi v967 v968
  v969.toNat
def k0_dev240 (d0 : Dev nD) : Nat :=
  let c0_i32_865 : BitVec 32 := 0#32
  let c1_i32_862 : BitVec 32 := 1#32
  let c8_i32_864 : BitVec 32 := 8#32
  let v993 : BitVec 32 := Scalar.muli c1_i32_862 c8_i32_864
  let v994 : BitVec 32 := Scalar.addi c0_i32_865 v993
  let c1_i32_863 : BitVec 32 := 1#32
  let c4_i32_866 : BitVec 32 := 4#32
  let v995 : BitVec 32 := Scalar.muli c1_i32_863 c4_i32_866
  let v996 : BitVec 32 := Scalar.addi v994 v995
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_867 : BitVec 32 := 1#32
  let v997 : BitVec 32 := Scalar.muli v8 c1_i32_867
  let v998 : BitVec 32 := Scalar.addi v996 v997
  v998.toNat
def k0_dev241 (d0 : Dev nD) : Nat :=
  let c0_i32_876 : BitVec 32 := 0#32
  let c0_i32_873 : BitVec 32 := 0#32
  let c8_i32_875 : BitVec 32 := 8#32
  let v1005 : BitVec 32 := Scalar.muli c0_i32_873 c8_i32_875
  let v1006 : BitVec 32 := Scalar.addi c0_i32_876 v1005
  let c1_i32_874 : BitVec 32 := 1#32
  let c4_i32_877 : BitVec 32 := 4#32
  let v1007 : BitVec 32 := Scalar.muli c1_i32_874 c4_i32_877
  let v1008 : BitVec 32 := Scalar.addi v1006 v1007
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_878 : BitVec 32 := 1#32
  let v1009 : BitVec 32 := Scalar.muli v100 c1_i32_878
  let v1010 : BitVec 32 := Scalar.addi v1008 v1009
  v1010.toNat
def k0_dev242 (d0 : Dev nD) : Nat :=
  let c0_i32_907 : BitVec 32 := 0#32
  let c1_i32_904 : BitVec 32 := 1#32
  let c8_i32_906 : BitVec 32 := 8#32
  let v1034 : BitVec 32 := Scalar.muli c1_i32_904 c8_i32_906
  let v1035 : BitVec 32 := Scalar.addi c0_i32_907 v1034
  let c1_i32_905 : BitVec 32 := 1#32
  let c4_i32_908 : BitVec 32 := 4#32
  let v1036 : BitVec 32 := Scalar.muli c1_i32_905 c4_i32_908
  let v1037 : BitVec 32 := Scalar.addi v1035 v1036
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_909 : BitVec 32 := 1#32
  let v1038 : BitVec 32 := Scalar.muli v8 c1_i32_909
  let v1039 : BitVec 32 := Scalar.addi v1037 v1038
  v1039.toNat
def k0_dev243 (d0 : Dev nD) : Nat :=
  let c0_i32_918 : BitVec 32 := 0#32
  let c0_i32_915 : BitVec 32 := 0#32
  let c8_i32_917 : BitVec 32 := 8#32
  let v1046 : BitVec 32 := Scalar.muli c0_i32_915 c8_i32_917
  let v1047 : BitVec 32 := Scalar.addi c0_i32_918 v1046
  let c1_i32_916 : BitVec 32 := 1#32
  let c4_i32_919 : BitVec 32 := 4#32
  let v1048 : BitVec 32 := Scalar.muli c1_i32_916 c4_i32_919
  let v1049 : BitVec 32 := Scalar.addi v1047 v1048
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_920 : BitVec 32 := 1#32
  let v1050 : BitVec 32 := Scalar.muli v100 c1_i32_920
  let v1051 : BitVec 32 := Scalar.addi v1049 v1050
  v1051.toNat
def k0_dev244 (d0 : Dev nD) : Nat :=
  let c0_i32_949 : BitVec 32 := 0#32
  let c1_i32_946 : BitVec 32 := 1#32
  let c8_i32_948 : BitVec 32 := 8#32
  let v1075 : BitVec 32 := Scalar.muli c1_i32_946 c8_i32_948
  let v1076 : BitVec 32 := Scalar.addi c0_i32_949 v1075
  let c1_i32_947 : BitVec 32 := 1#32
  let c4_i32_950 : BitVec 32 := 4#32
  let v1077 : BitVec 32 := Scalar.muli c1_i32_947 c4_i32_950
  let v1078 : BitVec 32 := Scalar.addi v1076 v1077
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_951 : BitVec 32 := 1#32
  let v1079 : BitVec 32 := Scalar.muli v8 c1_i32_951
  let v1080 : BitVec 32 := Scalar.addi v1078 v1079
  v1080.toNat
def k0_dev245 (d0 : Dev nD) : Nat :=
  let c0_i32_961 : BitVec 32 := 0#32
  let c0_i32_958 : BitVec 32 := 0#32
  let c8_i32_960 : BitVec 32 := 8#32
  let v1087 : BitVec 32 := Scalar.muli c0_i32_958 c8_i32_960
  let v1088 : BitVec 32 := Scalar.addi c0_i32_961 v1087
  let c1_i32_959 : BitVec 32 := 1#32
  let c4_i32_962 : BitVec 32 := 4#32
  let v1089 : BitVec 32 := Scalar.muli c1_i32_959 c4_i32_962
  let v1090 : BitVec 32 := Scalar.addi v1088 v1089
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_963 : BitVec 32 := 1#32
  let v1091 : BitVec 32 := Scalar.muli v100 c1_i32_963
  let v1092 : BitVec 32 := Scalar.addi v1090 v1091
  v1092.toNat
def k0_dev246 (d0 : Dev nD) : Nat :=
  let c0_i32_992 : BitVec 32 := 0#32
  let c1_i32_989 : BitVec 32 := 1#32
  let c8_i32_991 : BitVec 32 := 8#32
  let v1116 : BitVec 32 := Scalar.muli c1_i32_989 c8_i32_991
  let v1117 : BitVec 32 := Scalar.addi c0_i32_992 v1116
  let c1_i32_990 : BitVec 32 := 1#32
  let c4_i32_993 : BitVec 32 := 4#32
  let v1118 : BitVec 32 := Scalar.muli c1_i32_990 c4_i32_993
  let v1119 : BitVec 32 := Scalar.addi v1117 v1118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_994 : BitVec 32 := 1#32
  let v1120 : BitVec 32 := Scalar.muli v8 c1_i32_994
  let v1121 : BitVec 32 := Scalar.addi v1119 v1120
  v1121.toNat
def k0_dev247 (d0 : Dev nD) : Nat :=
  let c0_i32_1003 : BitVec 32 := 0#32
  let c0_i32_1000 : BitVec 32 := 0#32
  let c8_i32_1002 : BitVec 32 := 8#32
  let v1128 : BitVec 32 := Scalar.muli c0_i32_1000 c8_i32_1002
  let v1129 : BitVec 32 := Scalar.addi c0_i32_1003 v1128
  let c1_i32_1001 : BitVec 32 := 1#32
  let c4_i32_1004 : BitVec 32 := 4#32
  let v1130 : BitVec 32 := Scalar.muli c1_i32_1001 c4_i32_1004
  let v1131 : BitVec 32 := Scalar.addi v1129 v1130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1005 : BitVec 32 := 1#32
  let v1132 : BitVec 32 := Scalar.muli v100 c1_i32_1005
  let v1133 : BitVec 32 := Scalar.addi v1131 v1132
  v1133.toNat
def k0_dev248 (d0 : Dev nD) : Nat :=
  let c0_i32_1034 : BitVec 32 := 0#32
  let c1_i32_1031 : BitVec 32 := 1#32
  let c8_i32_1033 : BitVec 32 := 8#32
  let v1157 : BitVec 32 := Scalar.muli c1_i32_1031 c8_i32_1033
  let v1158 : BitVec 32 := Scalar.addi c0_i32_1034 v1157
  let c1_i32_1032 : BitVec 32 := 1#32
  let c4_i32_1035 : BitVec 32 := 4#32
  let v1159 : BitVec 32 := Scalar.muli c1_i32_1032 c4_i32_1035
  let v1160 : BitVec 32 := Scalar.addi v1158 v1159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1036 : BitVec 32 := 1#32
  let v1161 : BitVec 32 := Scalar.muli v8 c1_i32_1036
  let v1162 : BitVec 32 := Scalar.addi v1160 v1161
  v1162.toNat
def k0_dev249 (d0 : Dev nD) : Nat :=
  let c0_i32_1045 : BitVec 32 := 0#32
  let c0_i32_1042 : BitVec 32 := 0#32
  let c8_i32_1044 : BitVec 32 := 8#32
  let v1169 : BitVec 32 := Scalar.muli c0_i32_1042 c8_i32_1044
  let v1170 : BitVec 32 := Scalar.addi c0_i32_1045 v1169
  let c1_i32_1043 : BitVec 32 := 1#32
  let c4_i32_1046 : BitVec 32 := 4#32
  let v1171 : BitVec 32 := Scalar.muli c1_i32_1043 c4_i32_1046
  let v1172 : BitVec 32 := Scalar.addi v1170 v1171
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1047 : BitVec 32 := 1#32
  let v1173 : BitVec 32 := Scalar.muli v100 c1_i32_1047
  let v1174 : BitVec 32 := Scalar.addi v1172 v1173
  v1174.toNat
def k0_dev250 (d0 : Dev nD) : Nat :=
  let c0_i32_1076 : BitVec 32 := 0#32
  let c1_i32_1073 : BitVec 32 := 1#32
  let c8_i32_1075 : BitVec 32 := 8#32
  let v1198 : BitVec 32 := Scalar.muli c1_i32_1073 c8_i32_1075
  let v1199 : BitVec 32 := Scalar.addi c0_i32_1076 v1198
  let c1_i32_1074 : BitVec 32 := 1#32
  let c4_i32_1077 : BitVec 32 := 4#32
  let v1200 : BitVec 32 := Scalar.muli c1_i32_1074 c4_i32_1077
  let v1201 : BitVec 32 := Scalar.addi v1199 v1200
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1078 : BitVec 32 := 1#32
  let v1202 : BitVec 32 := Scalar.muli v8 c1_i32_1078
  let v1203 : BitVec 32 := Scalar.addi v1201 v1202
  v1203.toNat
def k0_dev251 (d0 : Dev nD) : Nat :=
  let c0_i32_1087 : BitVec 32 := 0#32
  let c0_i32_1084 : BitVec 32 := 0#32
  let c8_i32_1086 : BitVec 32 := 8#32
  let v1210 : BitVec 32 := Scalar.muli c0_i32_1084 c8_i32_1086
  let v1211 : BitVec 32 := Scalar.addi c0_i32_1087 v1210
  let c1_i32_1085 : BitVec 32 := 1#32
  let c4_i32_1088 : BitVec 32 := 4#32
  let v1212 : BitVec 32 := Scalar.muli c1_i32_1085 c4_i32_1088
  let v1213 : BitVec 32 := Scalar.addi v1211 v1212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1089 : BitVec 32 := 1#32
  let v1214 : BitVec 32 := Scalar.muli v100 c1_i32_1089
  let v1215 : BitVec 32 := Scalar.addi v1213 v1214
  v1215.toNat
def k0_dev252 (d0 : Dev nD) : Nat :=
  let c0_i32_1118 : BitVec 32 := 0#32
  let c1_i32_1115 : BitVec 32 := 1#32
  let c8_i32_1117 : BitVec 32 := 8#32
  let v1239 : BitVec 32 := Scalar.muli c1_i32_1115 c8_i32_1117
  let v1240 : BitVec 32 := Scalar.addi c0_i32_1118 v1239
  let c1_i32_1116 : BitVec 32 := 1#32
  let c4_i32_1119 : BitVec 32 := 4#32
  let v1241 : BitVec 32 := Scalar.muli c1_i32_1116 c4_i32_1119
  let v1242 : BitVec 32 := Scalar.addi v1240 v1241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1120 : BitVec 32 := 1#32
  let v1243 : BitVec 32 := Scalar.muli v8 c1_i32_1120
  let v1244 : BitVec 32 := Scalar.addi v1242 v1243
  v1244.toNat
def k0_dev253 (d0 : Dev nD) : Nat :=
  let c0_i32_1142 : BitVec 32 := 0#32
  let c1_i32_1139 : BitVec 32 := 1#32
  let c8_i32_1141 : BitVec 32 := 8#32
  let v1261 : BitVec 32 := Scalar.muli c1_i32_1139 c8_i32_1141
  let v1262 : BitVec 32 := Scalar.addi c0_i32_1142 v1261
  let c1_i32_1140 : BitVec 32 := 1#32
  let c4_i32_1143 : BitVec 32 := 4#32
  let v1263 : BitVec 32 := Scalar.muli c1_i32_1140 c4_i32_1143
  let v1264 : BitVec 32 := Scalar.addi v1262 v1263
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1144 : BitVec 32 := 1#32
  let v1265 : BitVec 32 := Scalar.muli v8 c1_i32_1144
  let v1266 : BitVec 32 := Scalar.addi v1264 v1265
  v1266.toNat
def k0_dev254 (d0 : Dev nD) : Nat :=
  let c0_i32_1166 : BitVec 32 := 0#32
  let c1_i32_1163 : BitVec 32 := 1#32
  let c8_i32_1165 : BitVec 32 := 8#32
  let v1283 : BitVec 32 := Scalar.muli c1_i32_1163 c8_i32_1165
  let v1284 : BitVec 32 := Scalar.addi c0_i32_1166 v1283
  let c1_i32_1164 : BitVec 32 := 1#32
  let c4_i32_1167 : BitVec 32 := 4#32
  let v1285 : BitVec 32 := Scalar.muli c1_i32_1164 c4_i32_1167
  let v1286 : BitVec 32 := Scalar.addi v1284 v1285
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1168 : BitVec 32 := 1#32
  let v1287 : BitVec 32 := Scalar.muli v8 c1_i32_1168
  let v1288 : BitVec 32 := Scalar.addi v1286 v1287
  v1288.toNat
def k0_dev255 (d0 : Dev nD) : Nat :=
  let c0_i32_1190 : BitVec 32 := 0#32
  let c1_i32_1187 : BitVec 32 := 1#32
  let c8_i32_1189 : BitVec 32 := 8#32
  let v1305 : BitVec 32 := Scalar.muli c1_i32_1187 c8_i32_1189
  let v1306 : BitVec 32 := Scalar.addi c0_i32_1190 v1305
  let c1_i32_1188 : BitVec 32 := 1#32
  let c4_i32_1191 : BitVec 32 := 4#32
  let v1307 : BitVec 32 := Scalar.muli c1_i32_1188 c4_i32_1191
  let v1308 : BitVec 32 := Scalar.addi v1306 v1307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1192 : BitVec 32 := 1#32
  let v1309 : BitVec 32 := Scalar.muli v8 c1_i32_1192
  let v1310 : BitVec 32 := Scalar.addi v1308 v1309
  v1310.toNat
def k0_dev256 (d0 : Dev nD) : Nat :=
  let c0_i32_1214 : BitVec 32 := 0#32
  let c0_i32_1211 : BitVec 32 := 0#32
  let c8_i32_1213 : BitVec 32 := 8#32
  let v1327 : BitVec 32 := Scalar.muli c0_i32_1211 c8_i32_1213
  let v1328 : BitVec 32 := Scalar.addi c0_i32_1214 v1327
  let c1_i32_1212 : BitVec 32 := 1#32
  let c4_i32_1215 : BitVec 32 := 4#32
  let v1329 : BitVec 32 := Scalar.muli c1_i32_1212 c4_i32_1215
  let v1330 : BitVec 32 := Scalar.addi v1328 v1329
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1216 : BitVec 32 := 1#32
  let v1331 : BitVec 32 := Scalar.muli v100 c1_i32_1216
  let v1332 : BitVec 32 := Scalar.addi v1330 v1331
  v1332.toNat
def k0_dev257 (d0 : Dev nD) : Nat :=
  let c0_i32_1238 : BitVec 32 := 0#32
  let c0_i32_1235 : BitVec 32 := 0#32
  let c8_i32_1237 : BitVec 32 := 8#32
  let v1349 : BitVec 32 := Scalar.muli c0_i32_1235 c8_i32_1237
  let v1350 : BitVec 32 := Scalar.addi c0_i32_1238 v1349
  let c1_i32_1236 : BitVec 32 := 1#32
  let c4_i32_1239 : BitVec 32 := 4#32
  let v1351 : BitVec 32 := Scalar.muli c1_i32_1236 c4_i32_1239
  let v1352 : BitVec 32 := Scalar.addi v1350 v1351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1240 : BitVec 32 := 1#32
  let v1353 : BitVec 32 := Scalar.muli v100 c1_i32_1240
  let v1354 : BitVec 32 := Scalar.addi v1352 v1353
  v1354.toNat
def k0_dev258 (d0 : Dev nD) : Nat :=
  let c0_i32_1261 : BitVec 32 := 0#32
  let c0_i32_1258 : BitVec 32 := 0#32
  let c8_i32_1260 : BitVec 32 := 8#32
  let v1371 : BitVec 32 := Scalar.muli c0_i32_1258 c8_i32_1260
  let v1372 : BitVec 32 := Scalar.addi c0_i32_1261 v1371
  let c1_i32_1259 : BitVec 32 := 1#32
  let c4_i32_1262 : BitVec 32 := 4#32
  let v1373 : BitVec 32 := Scalar.muli c1_i32_1259 c4_i32_1262
  let v1374 : BitVec 32 := Scalar.addi v1372 v1373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1263 : BitVec 32 := 1#32
  let v1375 : BitVec 32 := Scalar.muli v100 c1_i32_1263
  let v1376 : BitVec 32 := Scalar.addi v1374 v1375
  v1376.toNat
def k0_dev259 (d0 : Dev nD) : Nat :=
  let c0_i32_1284 : BitVec 32 := 0#32
  let c0_i32_1281 : BitVec 32 := 0#32
  let c8_i32_1283 : BitVec 32 := 8#32
  let v1393 : BitVec 32 := Scalar.muli c0_i32_1281 c8_i32_1283
  let v1394 : BitVec 32 := Scalar.addi c0_i32_1284 v1393
  let c1_i32_1282 : BitVec 32 := 1#32
  let c4_i32_1285 : BitVec 32 := 4#32
  let v1395 : BitVec 32 := Scalar.muli c1_i32_1282 c4_i32_1285
  let v1396 : BitVec 32 := Scalar.addi v1394 v1395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1286 : BitVec 32 := 1#32
  let v1397 : BitVec 32 := Scalar.muli v100 c1_i32_1286
  let v1398 : BitVec 32 := Scalar.addi v1396 v1397
  v1398.toNat
def k0_cond5 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_42 : BitVec 32 := 1#32
  let v71 : BitVec 1 := Scalar.cmpi .eq v2 c1_i32_42
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_43 : BitVec 32 := 0#32
  let v72 : BitVec 1 := Scalar.cmpi .eq v5 c0_i32_43
  let v73 : BitVec 1 := Scalar.andi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c0_i32_44 : BitVec 32 := 0#32
  let v74 : BitVec 1 := Scalar.cmpi .eq v18 c0_i32_44
  let v75 : BitVec 1 := Scalar.andi v73 v74
  let v76 : BitVec 32 := Scalar.extui v75
  let c0_i32_45 : BitVec 32 := 0#32
  let v77 : BitVec 1 := Scalar.cmpi .ne v76 c0_i32_45
  v77

def k0_dev260 (d0 : Dev nD) : Nat :=
  let c0_i32_206 : BitVec 32 := 0#32
  let c1_i32_203 : BitVec 32 := 1#32
  let c8_i32_205 : BitVec 32 := 8#32
  let v309 : BitVec 32 := Scalar.muli c1_i32_203 c8_i32_205
  let v310 : BitVec 32 := Scalar.addi c0_i32_206 v309
  let c1_i32_204 : BitVec 32 := 1#32
  let c4_i32_207 : BitVec 32 := 4#32
  let v311 : BitVec 32 := Scalar.muli c1_i32_204 c4_i32_207
  let v312 : BitVec 32 := Scalar.addi v310 v311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_208 : BitVec 32 := 1#32
  let v313 : BitVec 32 := Scalar.muli v8 c1_i32_208
  let v314 : BitVec 32 := Scalar.addi v312 v313
  v314.toNat
def k0_dev261 (d0 : Dev nD) : Nat :=
  let c0_i32_218 : BitVec 32 := 0#32
  let c1_i32_215 : BitVec 32 := 1#32
  let c8_i32_217 : BitVec 32 := 8#32
  let v321 : BitVec 32 := Scalar.muli c1_i32_215 c8_i32_217
  let v322 : BitVec 32 := Scalar.addi c0_i32_218 v321
  let c1_i32_216 : BitVec 32 := 1#32
  let c4_i32_219 : BitVec 32 := 4#32
  let v323 : BitVec 32 := Scalar.muli c1_i32_216 c4_i32_219
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_220 : BitVec 32 := 1#32
  let v325 : BitVec 32 := Scalar.muli v8 c1_i32_220
  let v326 : BitVec 32 := Scalar.addi v324 v325
  v326.toNat
def k0_dev262 (d0 : Dev nD) : Nat :=
  let c0_i32_228 : BitVec 32 := 0#32
  let c1_i32_225 : BitVec 32 := 1#32
  let c8_i32_227 : BitVec 32 := 8#32
  let v333 : BitVec 32 := Scalar.muli c1_i32_225 c8_i32_227
  let v334 : BitVec 32 := Scalar.addi c0_i32_228 v333
  let c1_i32_226 : BitVec 32 := 1#32
  let c4_i32_229 : BitVec 32 := 4#32
  let v335 : BitVec 32 := Scalar.muli c1_i32_226 c4_i32_229
  let v336 : BitVec 32 := Scalar.addi v334 v335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_230 : BitVec 32 := 1#32
  let v337 : BitVec 32 := Scalar.muli v8 c1_i32_230
  let v338 : BitVec 32 := Scalar.addi v336 v337
  v338.toNat
def k0_dev263 (d0 : Dev nD) : Nat :=
  let c0_i32_238 : BitVec 32 := 0#32
  let c1_i32_235 : BitVec 32 := 1#32
  let c8_i32_237 : BitVec 32 := 8#32
  let v345 : BitVec 32 := Scalar.muli c1_i32_235 c8_i32_237
  let v346 : BitVec 32 := Scalar.addi c0_i32_238 v345
  let c1_i32_236 : BitVec 32 := 1#32
  let c4_i32_239 : BitVec 32 := 4#32
  let v347 : BitVec 32 := Scalar.muli c1_i32_236 c4_i32_239
  let v348 : BitVec 32 := Scalar.addi v346 v347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_240 : BitVec 32 := 1#32
  let v349 : BitVec 32 := Scalar.muli v8 c1_i32_240
  let v350 : BitVec 32 := Scalar.addi v348 v349
  v350.toNat
def k0_dev264 (d0 : Dev nD) : Nat :=
  let c0_i32_248 : BitVec 32 := 0#32
  let c1_i32_245 : BitVec 32 := 1#32
  let c8_i32_247 : BitVec 32 := 8#32
  let v357 : BitVec 32 := Scalar.muli c1_i32_245 c8_i32_247
  let v358 : BitVec 32 := Scalar.addi c0_i32_248 v357
  let c1_i32_246 : BitVec 32 := 1#32
  let c4_i32_249 : BitVec 32 := 4#32
  let v359 : BitVec 32 := Scalar.muli c1_i32_246 c4_i32_249
  let v360 : BitVec 32 := Scalar.addi v358 v359
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_250 : BitVec 32 := 1#32
  let v361 : BitVec 32 := Scalar.muli v8 c1_i32_250
  let v362 : BitVec 32 := Scalar.addi v360 v361
  v362.toNat
def k0_dev265 (d0 : Dev nD) : Nat :=
  let c0_i32_260 : BitVec 32 := 0#32
  let c1_i32_257 : BitVec 32 := 1#32
  let c8_i32_259 : BitVec 32 := 8#32
  let v369 : BitVec 32 := Scalar.muli c1_i32_257 c8_i32_259
  let v370 : BitVec 32 := Scalar.addi c0_i32_260 v369
  let c1_i32_258 : BitVec 32 := 1#32
  let c4_i32_261 : BitVec 32 := 4#32
  let v371 : BitVec 32 := Scalar.muli c1_i32_258 c4_i32_261
  let v372 : BitVec 32 := Scalar.addi v370 v371
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v373 : BitVec 32 := Scalar.muli v8 c1_i32_262
  let v374 : BitVec 32 := Scalar.addi v372 v373
  v374.toNat
def k0_dev266 (d0 : Dev nD) : Nat :=
  let c0_i32_270 : BitVec 32 := 0#32
  let c1_i32_267 : BitVec 32 := 1#32
  let c8_i32_269 : BitVec 32 := 8#32
  let v381 : BitVec 32 := Scalar.muli c1_i32_267 c8_i32_269
  let v382 : BitVec 32 := Scalar.addi c0_i32_270 v381
  let c1_i32_268 : BitVec 32 := 1#32
  let c4_i32_271 : BitVec 32 := 4#32
  let v383 : BitVec 32 := Scalar.muli c1_i32_268 c4_i32_271
  let v384 : BitVec 32 := Scalar.addi v382 v383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_272 : BitVec 32 := 1#32
  let v385 : BitVec 32 := Scalar.muli v8 c1_i32_272
  let v386 : BitVec 32 := Scalar.addi v384 v385
  v386.toNat
def k0_dev267 (d0 : Dev nD) : Nat :=
  let c0_i32_280 : BitVec 32 := 0#32
  let c1_i32_277 : BitVec 32 := 1#32
  let c8_i32_279 : BitVec 32 := 8#32
  let v393 : BitVec 32 := Scalar.muli c1_i32_277 c8_i32_279
  let v394 : BitVec 32 := Scalar.addi c0_i32_280 v393
  let c1_i32_278 : BitVec 32 := 1#32
  let c4_i32_281 : BitVec 32 := 4#32
  let v395 : BitVec 32 := Scalar.muli c1_i32_278 c4_i32_281
  let v396 : BitVec 32 := Scalar.addi v394 v395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_282 : BitVec 32 := 1#32
  let v397 : BitVec 32 := Scalar.muli v8 c1_i32_282
  let v398 : BitVec 32 := Scalar.addi v396 v397
  v398.toNat
def k0_dev268 (d0 : Dev nD) : Nat :=
  let c0_i32_290 : BitVec 32 := 0#32
  let c1_i32_287 : BitVec 32 := 1#32
  let c8_i32_289 : BitVec 32 := 8#32
  let v405 : BitVec 32 := Scalar.muli c1_i32_287 c8_i32_289
  let v406 : BitVec 32 := Scalar.addi c0_i32_290 v405
  let c1_i32_288 : BitVec 32 := 1#32
  let c4_i32_291 : BitVec 32 := 4#32
  let v407 : BitVec 32 := Scalar.muli c1_i32_288 c4_i32_291
  let v408 : BitVec 32 := Scalar.addi v406 v407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_292 : BitVec 32 := 1#32
  let v409 : BitVec 32 := Scalar.muli v8 c1_i32_292
  let v410 : BitVec 32 := Scalar.addi v408 v409
  v410.toNat
def k0_dev269 (d0 : Dev nD) : Nat :=
  let c0_i32_302 : BitVec 32 := 0#32
  let c1_i32_299 : BitVec 32 := 1#32
  let c8_i32_301 : BitVec 32 := 8#32
  let v417 : BitVec 32 := Scalar.muli c1_i32_299 c8_i32_301
  let v418 : BitVec 32 := Scalar.addi c0_i32_302 v417
  let c1_i32_300 : BitVec 32 := 1#32
  let c4_i32_303 : BitVec 32 := 4#32
  let v419 : BitVec 32 := Scalar.muli c1_i32_300 c4_i32_303
  let v420 : BitVec 32 := Scalar.addi v418 v419
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v421 : BitVec 32 := Scalar.muli v8 c1_i32_304
  let v422 : BitVec 32 := Scalar.addi v420 v421
  v422.toNat
def k0_dev270 (d0 : Dev nD) : Nat :=
  let c0_i32_312 : BitVec 32 := 0#32
  let c1_i32_309 : BitVec 32 := 1#32
  let c8_i32_311 : BitVec 32 := 8#32
  let v429 : BitVec 32 := Scalar.muli c1_i32_309 c8_i32_311
  let v430 : BitVec 32 := Scalar.addi c0_i32_312 v429
  let c1_i32_310 : BitVec 32 := 1#32
  let c4_i32_313 : BitVec 32 := 4#32
  let v431 : BitVec 32 := Scalar.muli c1_i32_310 c4_i32_313
  let v432 : BitVec 32 := Scalar.addi v430 v431
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_314 : BitVec 32 := 1#32
  let v433 : BitVec 32 := Scalar.muli v8 c1_i32_314
  let v434 : BitVec 32 := Scalar.addi v432 v433
  v434.toNat
def k0_dev271 (d0 : Dev nD) : Nat :=
  let c0_i32_322 : BitVec 32 := 0#32
  let c1_i32_319 : BitVec 32 := 1#32
  let c8_i32_321 : BitVec 32 := 8#32
  let v441 : BitVec 32 := Scalar.muli c1_i32_319 c8_i32_321
  let v442 : BitVec 32 := Scalar.addi c0_i32_322 v441
  let c1_i32_320 : BitVec 32 := 1#32
  let c4_i32_323 : BitVec 32 := 4#32
  let v443 : BitVec 32 := Scalar.muli c1_i32_320 c4_i32_323
  let v444 : BitVec 32 := Scalar.addi v442 v443
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_324 : BitVec 32 := 1#32
  let v445 : BitVec 32 := Scalar.muli v8 c1_i32_324
  let v446 : BitVec 32 := Scalar.addi v444 v445
  v446.toNat
def k0_dev272 (d0 : Dev nD) : Nat :=
  let c0_i32_332 : BitVec 32 := 0#32
  let c1_i32_329 : BitVec 32 := 1#32
  let c8_i32_331 : BitVec 32 := 8#32
  let v453 : BitVec 32 := Scalar.muli c1_i32_329 c8_i32_331
  let v454 : BitVec 32 := Scalar.addi c0_i32_332 v453
  let c1_i32_330 : BitVec 32 := 1#32
  let c4_i32_333 : BitVec 32 := 4#32
  let v455 : BitVec 32 := Scalar.muli c1_i32_330 c4_i32_333
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v457 : BitVec 32 := Scalar.muli v8 c1_i32_334
  let v458 : BitVec 32 := Scalar.addi v456 v457
  v458.toNat
def k0_dev273 (d0 : Dev nD) : Nat :=
  let c0_i32_344 : BitVec 32 := 0#32
  let c1_i32_341 : BitVec 32 := 1#32
  let c8_i32_343 : BitVec 32 := 8#32
  let v465 : BitVec 32 := Scalar.muli c1_i32_341 c8_i32_343
  let v466 : BitVec 32 := Scalar.addi c0_i32_344 v465
  let c1_i32_342 : BitVec 32 := 1#32
  let c4_i32_345 : BitVec 32 := 4#32
  let v467 : BitVec 32 := Scalar.muli c1_i32_342 c4_i32_345
  let v468 : BitVec 32 := Scalar.addi v466 v467
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_346 : BitVec 32 := 1#32
  let v469 : BitVec 32 := Scalar.muli v8 c1_i32_346
  let v470 : BitVec 32 := Scalar.addi v468 v469
  v470.toNat
def k0_dev274 (d0 : Dev nD) : Nat :=
  let c0_i32_354 : BitVec 32 := 0#32
  let c1_i32_351 : BitVec 32 := 1#32
  let c8_i32_353 : BitVec 32 := 8#32
  let v477 : BitVec 32 := Scalar.muli c1_i32_351 c8_i32_353
  let v478 : BitVec 32 := Scalar.addi c0_i32_354 v477
  let c1_i32_352 : BitVec 32 := 1#32
  let c4_i32_355 : BitVec 32 := 4#32
  let v479 : BitVec 32 := Scalar.muli c1_i32_352 c4_i32_355
  let v480 : BitVec 32 := Scalar.addi v478 v479
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_356 : BitVec 32 := 1#32
  let v481 : BitVec 32 := Scalar.muli v8 c1_i32_356
  let v482 : BitVec 32 := Scalar.addi v480 v481
  v482.toNat
def k0_dev275 (d0 : Dev nD) : Nat :=
  let c0_i32_364 : BitVec 32 := 0#32
  let c1_i32_361 : BitVec 32 := 1#32
  let c8_i32_363 : BitVec 32 := 8#32
  let v489 : BitVec 32 := Scalar.muli c1_i32_361 c8_i32_363
  let v490 : BitVec 32 := Scalar.addi c0_i32_364 v489
  let c1_i32_362 : BitVec 32 := 1#32
  let c4_i32_365 : BitVec 32 := 4#32
  let v491 : BitVec 32 := Scalar.muli c1_i32_362 c4_i32_365
  let v492 : BitVec 32 := Scalar.addi v490 v491
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_366 : BitVec 32 := 1#32
  let v493 : BitVec 32 := Scalar.muli v8 c1_i32_366
  let v494 : BitVec 32 := Scalar.addi v492 v493
  v494.toNat
def k0_dev276 (d0 : Dev nD) : Nat :=
  let c0_i32_373 : BitVec 32 := 0#32
  let c1_i32_370 : BitVec 32 := 1#32
  let c8_i32_372 : BitVec 32 := 8#32
  let v501 : BitVec 32 := Scalar.muli c1_i32_370 c8_i32_372
  let v502 : BitVec 32 := Scalar.addi c0_i32_373 v501
  let c1_i32_371 : BitVec 32 := 1#32
  let c4_i32_374 : BitVec 32 := 4#32
  let v503 : BitVec 32 := Scalar.muli c1_i32_371 c4_i32_374
  let v504 : BitVec 32 := Scalar.addi v502 v503
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_375 : BitVec 32 := 1#32
  let v505 : BitVec 32 := Scalar.muli v8 c1_i32_375
  let v506 : BitVec 32 := Scalar.addi v504 v505
  v506.toNat
def k0_dev277 (d0 : Dev nD) : Nat :=
  let c0_i32_384 : BitVec 32 := 0#32
  let c1_i32_381 : BitVec 32 := 1#32
  let c8_i32_383 : BitVec 32 := 8#32
  let v513 : BitVec 32 := Scalar.muli c1_i32_381 c8_i32_383
  let v514 : BitVec 32 := Scalar.addi c0_i32_384 v513
  let c1_i32_382 : BitVec 32 := 1#32
  let c4_i32_385 : BitVec 32 := 4#32
  let v515 : BitVec 32 := Scalar.muli c1_i32_382 c4_i32_385
  let v516 : BitVec 32 := Scalar.addi v514 v515
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_386 : BitVec 32 := 1#32
  let v517 : BitVec 32 := Scalar.muli v8 c1_i32_386
  let v518 : BitVec 32 := Scalar.addi v516 v517
  v518.toNat
def k0_dev278 (d0 : Dev nD) : Nat :=
  let c0_i32_394 : BitVec 32 := 0#32
  let c1_i32_391 : BitVec 32 := 1#32
  let c8_i32_393 : BitVec 32 := 8#32
  let v525 : BitVec 32 := Scalar.muli c1_i32_391 c8_i32_393
  let v526 : BitVec 32 := Scalar.addi c0_i32_394 v525
  let c1_i32_392 : BitVec 32 := 1#32
  let c4_i32_395 : BitVec 32 := 4#32
  let v527 : BitVec 32 := Scalar.muli c1_i32_392 c4_i32_395
  let v528 : BitVec 32 := Scalar.addi v526 v527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_396 : BitVec 32 := 1#32
  let v529 : BitVec 32 := Scalar.muli v8 c1_i32_396
  let v530 : BitVec 32 := Scalar.addi v528 v529
  v530.toNat
def k0_dev279 (d0 : Dev nD) : Nat :=
  let c0_i32_404 : BitVec 32 := 0#32
  let c1_i32_401 : BitVec 32 := 1#32
  let c8_i32_403 : BitVec 32 := 8#32
  let v537 : BitVec 32 := Scalar.muli c1_i32_401 c8_i32_403
  let v538 : BitVec 32 := Scalar.addi c0_i32_404 v537
  let c1_i32_402 : BitVec 32 := 1#32
  let c4_i32_405 : BitVec 32 := 4#32
  let v539 : BitVec 32 := Scalar.muli c1_i32_402 c4_i32_405
  let v540 : BitVec 32 := Scalar.addi v538 v539
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_406 : BitVec 32 := 1#32
  let v541 : BitVec 32 := Scalar.muli v8 c1_i32_406
  let v542 : BitVec 32 := Scalar.addi v540 v541
  v542.toNat
def k0_dev280 (d0 : Dev nD) : Nat :=
  let c0_i32_414 : BitVec 32 := 0#32
  let c1_i32_411 : BitVec 32 := 1#32
  let c8_i32_413 : BitVec 32 := 8#32
  let v549 : BitVec 32 := Scalar.muli c1_i32_411 c8_i32_413
  let v550 : BitVec 32 := Scalar.addi c0_i32_414 v549
  let c1_i32_412 : BitVec 32 := 1#32
  let c4_i32_415 : BitVec 32 := 4#32
  let v551 : BitVec 32 := Scalar.muli c1_i32_412 c4_i32_415
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_416 : BitVec 32 := 1#32
  let v553 : BitVec 32 := Scalar.muli v8 c1_i32_416
  let v554 : BitVec 32 := Scalar.addi v552 v553
  v554.toNat
def k0_dev281 (d0 : Dev nD) : Nat :=
  let c0_i32_425 : BitVec 32 := 0#32
  let c1_i32_422 : BitVec 32 := 1#32
  let c8_i32_424 : BitVec 32 := 8#32
  let v561 : BitVec 32 := Scalar.muli c1_i32_422 c8_i32_424
  let v562 : BitVec 32 := Scalar.addi c0_i32_425 v561
  let c1_i32_423 : BitVec 32 := 1#32
  let c4_i32_426 : BitVec 32 := 4#32
  let v563 : BitVec 32 := Scalar.muli c1_i32_423 c4_i32_426
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_427 : BitVec 32 := 1#32
  let v565 : BitVec 32 := Scalar.muli v8 c1_i32_427
  let v566 : BitVec 32 := Scalar.addi v564 v565
  v566.toNat
def k0_dev282 (d0 : Dev nD) : Nat :=
  let c0_i32_435 : BitVec 32 := 0#32
  let c1_i32_432 : BitVec 32 := 1#32
  let c8_i32_434 : BitVec 32 := 8#32
  let v573 : BitVec 32 := Scalar.muli c1_i32_432 c8_i32_434
  let v574 : BitVec 32 := Scalar.addi c0_i32_435 v573
  let c1_i32_433 : BitVec 32 := 1#32
  let c4_i32_436 : BitVec 32 := 4#32
  let v575 : BitVec 32 := Scalar.muli c1_i32_433 c4_i32_436
  let v576 : BitVec 32 := Scalar.addi v574 v575
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_437 : BitVec 32 := 1#32
  let v577 : BitVec 32 := Scalar.muli v8 c1_i32_437
  let v578 : BitVec 32 := Scalar.addi v576 v577
  v578.toNat
def k0_dev283 (d0 : Dev nD) : Nat :=
  let c0_i32_445 : BitVec 32 := 0#32
  let c1_i32_442 : BitVec 32 := 1#32
  let c8_i32_444 : BitVec 32 := 8#32
  let v585 : BitVec 32 := Scalar.muli c1_i32_442 c8_i32_444
  let v586 : BitVec 32 := Scalar.addi c0_i32_445 v585
  let c1_i32_443 : BitVec 32 := 1#32
  let c4_i32_446 : BitVec 32 := 4#32
  let v587 : BitVec 32 := Scalar.muli c1_i32_443 c4_i32_446
  let v588 : BitVec 32 := Scalar.addi v586 v587
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_447 : BitVec 32 := 1#32
  let v589 : BitVec 32 := Scalar.muli v8 c1_i32_447
  let v590 : BitVec 32 := Scalar.addi v588 v589
  v590.toNat
def k0_dev284 (d0 : Dev nD) : Nat :=
  let c0_i32_468 : BitVec 32 := 0#32
  let c0_i32_465 : BitVec 32 := 0#32
  let c8_i32_467 : BitVec 32 := 8#32
  let v607 : BitVec 32 := Scalar.muli c0_i32_465 c8_i32_467
  let v608 : BitVec 32 := Scalar.addi c0_i32_468 v607
  let c0_i32_466 : BitVec 32 := 0#32
  let c4_i32_469 : BitVec 32 := 4#32
  let v609 : BitVec 32 := Scalar.muli c0_i32_466 c4_i32_469
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_470 : BitVec 32 := 1#32
  let v611 : BitVec 32 := Scalar.muli v8 c1_i32_470
  let v612 : BitVec 32 := Scalar.addi v610 v611
  v612.toNat
def k0_dev285 (d0 : Dev nD) : Nat :=
  let c0_i32_479 : BitVec 32 := 0#32
  let c1_i32_476 : BitVec 32 := 1#32
  let c8_i32_478 : BitVec 32 := 8#32
  let v619 : BitVec 32 := Scalar.muli c1_i32_476 c8_i32_478
  let v620 : BitVec 32 := Scalar.addi c0_i32_479 v619
  let c0_i32_477 : BitVec 32 := 0#32
  let c4_i32_480 : BitVec 32 := 4#32
  let v621 : BitVec 32 := Scalar.muli c0_i32_477 c4_i32_480
  let v622 : BitVec 32 := Scalar.addi v620 v621
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_481 : BitVec 32 := 1#32
  let v623 : BitVec 32 := Scalar.muli v100 c1_i32_481
  let v624 : BitVec 32 := Scalar.addi v622 v623
  v624.toNat
def k0_dev286 (d0 : Dev nD) : Nat :=
  let c0_i32_507 : BitVec 32 := 0#32
  let c0_i32_504 : BitVec 32 := 0#32
  let c8_i32_506 : BitVec 32 := 8#32
  let v644 : BitVec 32 := Scalar.muli c0_i32_504 c8_i32_506
  let v645 : BitVec 32 := Scalar.addi c0_i32_507 v644
  let c0_i32_505 : BitVec 32 := 0#32
  let c4_i32_508 : BitVec 32 := 4#32
  let v646 : BitVec 32 := Scalar.muli c0_i32_505 c4_i32_508
  let v647 : BitVec 32 := Scalar.addi v645 v646
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_509 : BitVec 32 := 1#32
  let v648 : BitVec 32 := Scalar.muli v8 c1_i32_509
  let v649 : BitVec 32 := Scalar.addi v647 v648
  v649.toNat
def k0_dev287 (d0 : Dev nD) : Nat :=
  let c0_i32_518 : BitVec 32 := 0#32
  let c1_i32_515 : BitVec 32 := 1#32
  let c8_i32_517 : BitVec 32 := 8#32
  let v656 : BitVec 32 := Scalar.muli c1_i32_515 c8_i32_517
  let v657 : BitVec 32 := Scalar.addi c0_i32_518 v656
  let c0_i32_516 : BitVec 32 := 0#32
  let c4_i32_519 : BitVec 32 := 4#32
  let v658 : BitVec 32 := Scalar.muli c0_i32_516 c4_i32_519
  let v659 : BitVec 32 := Scalar.addi v657 v658
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_520 : BitVec 32 := 1#32
  let v660 : BitVec 32 := Scalar.muli v100 c1_i32_520
  let v661 : BitVec 32 := Scalar.addi v659 v660
  v661.toNat
def k0_dev288 (d0 : Dev nD) : Nat :=
  let c0_i32_546 : BitVec 32 := 0#32
  let c0_i32_543 : BitVec 32 := 0#32
  let c8_i32_545 : BitVec 32 := 8#32
  let v681 : BitVec 32 := Scalar.muli c0_i32_543 c8_i32_545
  let v682 : BitVec 32 := Scalar.addi c0_i32_546 v681
  let c0_i32_544 : BitVec 32 := 0#32
  let c4_i32_547 : BitVec 32 := 4#32
  let v683 : BitVec 32 := Scalar.muli c0_i32_544 c4_i32_547
  let v684 : BitVec 32 := Scalar.addi v682 v683
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_548 : BitVec 32 := 1#32
  let v685 : BitVec 32 := Scalar.muli v8 c1_i32_548
  let v686 : BitVec 32 := Scalar.addi v684 v685
  v686.toNat
def k0_dev289 (d0 : Dev nD) : Nat :=
  let c0_i32_557 : BitVec 32 := 0#32
  let c1_i32_554 : BitVec 32 := 1#32
  let c8_i32_556 : BitVec 32 := 8#32
  let v693 : BitVec 32 := Scalar.muli c1_i32_554 c8_i32_556
  let v694 : BitVec 32 := Scalar.addi c0_i32_557 v693
  let c0_i32_555 : BitVec 32 := 0#32
  let c4_i32_558 : BitVec 32 := 4#32
  let v695 : BitVec 32 := Scalar.muli c0_i32_555 c4_i32_558
  let v696 : BitVec 32 := Scalar.addi v694 v695
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_559 : BitVec 32 := 1#32
  let v697 : BitVec 32 := Scalar.muli v100 c1_i32_559
  let v698 : BitVec 32 := Scalar.addi v696 v697
  v698.toNat
def k0_dev290 (d0 : Dev nD) : Nat :=
  let c0_i32_585 : BitVec 32 := 0#32
  let c0_i32_582 : BitVec 32 := 0#32
  let c8_i32_584 : BitVec 32 := 8#32
  let v718 : BitVec 32 := Scalar.muli c0_i32_582 c8_i32_584
  let v719 : BitVec 32 := Scalar.addi c0_i32_585 v718
  let c0_i32_583 : BitVec 32 := 0#32
  let c4_i32_586 : BitVec 32 := 4#32
  let v720 : BitVec 32 := Scalar.muli c0_i32_583 c4_i32_586
  let v721 : BitVec 32 := Scalar.addi v719 v720
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_587 : BitVec 32 := 1#32
  let v722 : BitVec 32 := Scalar.muli v8 c1_i32_587
  let v723 : BitVec 32 := Scalar.addi v721 v722
  v723.toNat
def k0_dev291 (d0 : Dev nD) : Nat :=
  let c0_i32_596 : BitVec 32 := 0#32
  let c1_i32_593 : BitVec 32 := 1#32
  let c8_i32_595 : BitVec 32 := 8#32
  let v730 : BitVec 32 := Scalar.muli c1_i32_593 c8_i32_595
  let v731 : BitVec 32 := Scalar.addi c0_i32_596 v730
  let c0_i32_594 : BitVec 32 := 0#32
  let c4_i32_597 : BitVec 32 := 4#32
  let v732 : BitVec 32 := Scalar.muli c0_i32_594 c4_i32_597
  let v733 : BitVec 32 := Scalar.addi v731 v732
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_598 : BitVec 32 := 1#32
  let v734 : BitVec 32 := Scalar.muli v100 c1_i32_598
  let v735 : BitVec 32 := Scalar.addi v733 v734
  v735.toNat
def k0_dev292 (d0 : Dev nD) : Nat :=
  let c0_i32_624 : BitVec 32 := 0#32
  let c0_i32_621 : BitVec 32 := 0#32
  let c8_i32_623 : BitVec 32 := 8#32
  let v755 : BitVec 32 := Scalar.muli c0_i32_621 c8_i32_623
  let v756 : BitVec 32 := Scalar.addi c0_i32_624 v755
  let c0_i32_622 : BitVec 32 := 0#32
  let c4_i32_625 : BitVec 32 := 4#32
  let v757 : BitVec 32 := Scalar.muli c0_i32_622 c4_i32_625
  let v758 : BitVec 32 := Scalar.addi v756 v757
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_626 : BitVec 32 := 1#32
  let v759 : BitVec 32 := Scalar.muli v8 c1_i32_626
  let v760 : BitVec 32 := Scalar.addi v758 v759
  v760.toNat
def k0_dev293 (d0 : Dev nD) : Nat :=
  let c0_i32_635 : BitVec 32 := 0#32
  let c1_i32_632 : BitVec 32 := 1#32
  let c8_i32_634 : BitVec 32 := 8#32
  let v767 : BitVec 32 := Scalar.muli c1_i32_632 c8_i32_634
  let v768 : BitVec 32 := Scalar.addi c0_i32_635 v767
  let c0_i32_633 : BitVec 32 := 0#32
  let c4_i32_636 : BitVec 32 := 4#32
  let v769 : BitVec 32 := Scalar.muli c0_i32_633 c4_i32_636
  let v770 : BitVec 32 := Scalar.addi v768 v769
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_637 : BitVec 32 := 1#32
  let v771 : BitVec 32 := Scalar.muli v100 c1_i32_637
  let v772 : BitVec 32 := Scalar.addi v770 v771
  v772.toNat
def k0_dev294 (d0 : Dev nD) : Nat :=
  let c0_i32_663 : BitVec 32 := 0#32
  let c0_i32_660 : BitVec 32 := 0#32
  let c8_i32_662 : BitVec 32 := 8#32
  let v792 : BitVec 32 := Scalar.muli c0_i32_660 c8_i32_662
  let v793 : BitVec 32 := Scalar.addi c0_i32_663 v792
  let c0_i32_661 : BitVec 32 := 0#32
  let c4_i32_664 : BitVec 32 := 4#32
  let v794 : BitVec 32 := Scalar.muli c0_i32_661 c4_i32_664
  let v795 : BitVec 32 := Scalar.addi v793 v794
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_665 : BitVec 32 := 1#32
  let v796 : BitVec 32 := Scalar.muli v8 c1_i32_665
  let v797 : BitVec 32 := Scalar.addi v795 v796
  v797.toNat
def k0_dev295 (d0 : Dev nD) : Nat :=
  let c0_i32_674 : BitVec 32 := 0#32
  let c1_i32_671 : BitVec 32 := 1#32
  let c8_i32_673 : BitVec 32 := 8#32
  let v804 : BitVec 32 := Scalar.muli c1_i32_671 c8_i32_673
  let v805 : BitVec 32 := Scalar.addi c0_i32_674 v804
  let c0_i32_672 : BitVec 32 := 0#32
  let c4_i32_675 : BitVec 32 := 4#32
  let v806 : BitVec 32 := Scalar.muli c0_i32_672 c4_i32_675
  let v807 : BitVec 32 := Scalar.addi v805 v806
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_676 : BitVec 32 := 1#32
  let v808 : BitVec 32 := Scalar.muli v100 c1_i32_676
  let v809 : BitVec 32 := Scalar.addi v807 v808
  v809.toNat
def k0_dev296 (d0 : Dev nD) : Nat :=
  let c0_i32_702 : BitVec 32 := 0#32
  let c0_i32_699 : BitVec 32 := 0#32
  let c8_i32_701 : BitVec 32 := 8#32
  let v829 : BitVec 32 := Scalar.muli c0_i32_699 c8_i32_701
  let v830 : BitVec 32 := Scalar.addi c0_i32_702 v829
  let c0_i32_700 : BitVec 32 := 0#32
  let c4_i32_703 : BitVec 32 := 4#32
  let v831 : BitVec 32 := Scalar.muli c0_i32_700 c4_i32_703
  let v832 : BitVec 32 := Scalar.addi v830 v831
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_704 : BitVec 32 := 1#32
  let v833 : BitVec 32 := Scalar.muli v8 c1_i32_704
  let v834 : BitVec 32 := Scalar.addi v832 v833
  v834.toNat
def k0_dev297 (d0 : Dev nD) : Nat :=
  let c0_i32_713 : BitVec 32 := 0#32
  let c1_i32_710 : BitVec 32 := 1#32
  let c8_i32_712 : BitVec 32 := 8#32
  let v841 : BitVec 32 := Scalar.muli c1_i32_710 c8_i32_712
  let v842 : BitVec 32 := Scalar.addi c0_i32_713 v841
  let c0_i32_711 : BitVec 32 := 0#32
  let c4_i32_714 : BitVec 32 := 4#32
  let v843 : BitVec 32 := Scalar.muli c0_i32_711 c4_i32_714
  let v844 : BitVec 32 := Scalar.addi v842 v843
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_715 : BitVec 32 := 1#32
  let v845 : BitVec 32 := Scalar.muli v100 c1_i32_715
  let v846 : BitVec 32 := Scalar.addi v844 v845
  v846.toNat
def k0_dev298 (d0 : Dev nD) : Nat :=
  let c0_i32_746 : BitVec 32 := 0#32
  let c0_i32_743 : BitVec 32 := 0#32
  let c8_i32_745 : BitVec 32 := 8#32
  let v870 : BitVec 32 := Scalar.muli c0_i32_743 c8_i32_745
  let v871 : BitVec 32 := Scalar.addi c0_i32_746 v870
  let c0_i32_744 : BitVec 32 := 0#32
  let c4_i32_747 : BitVec 32 := 4#32
  let v872 : BitVec 32 := Scalar.muli c0_i32_744 c4_i32_747
  let v873 : BitVec 32 := Scalar.addi v871 v872
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_748 : BitVec 32 := 1#32
  let v874 : BitVec 32 := Scalar.muli v8 c1_i32_748
  let v875 : BitVec 32 := Scalar.addi v873 v874
  v875.toNat
def k0_dev299 (d0 : Dev nD) : Nat :=
  let c0_i32_757 : BitVec 32 := 0#32
  let c1_i32_754 : BitVec 32 := 1#32
  let c8_i32_756 : BitVec 32 := 8#32
  let v882 : BitVec 32 := Scalar.muli c1_i32_754 c8_i32_756
  let v883 : BitVec 32 := Scalar.addi c0_i32_757 v882
  let c0_i32_755 : BitVec 32 := 0#32
  let c4_i32_758 : BitVec 32 := 4#32
  let v884 : BitVec 32 := Scalar.muli c0_i32_755 c4_i32_758
  let v885 : BitVec 32 := Scalar.addi v883 v884
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_759 : BitVec 32 := 1#32
  let v886 : BitVec 32 := Scalar.muli v100 c1_i32_759
  let v887 : BitVec 32 := Scalar.addi v885 v886
  v887.toNat
def k0_dev300 (d0 : Dev nD) : Nat :=
  let c0_i32_790 : BitVec 32 := 0#32
  let c0_i32_787 : BitVec 32 := 0#32
  let c8_i32_789 : BitVec 32 := 8#32
  let v911 : BitVec 32 := Scalar.muli c0_i32_787 c8_i32_789
  let v912 : BitVec 32 := Scalar.addi c0_i32_790 v911
  let c0_i32_788 : BitVec 32 := 0#32
  let c4_i32_791 : BitVec 32 := 4#32
  let v913 : BitVec 32 := Scalar.muli c0_i32_788 c4_i32_791
  let v914 : BitVec 32 := Scalar.addi v912 v913
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_792 : BitVec 32 := 1#32
  let v915 : BitVec 32 := Scalar.muli v8 c1_i32_792
  let v916 : BitVec 32 := Scalar.addi v914 v915
  v916.toNat
def k0_dev301 (d0 : Dev nD) : Nat :=
  let c0_i32_801 : BitVec 32 := 0#32
  let c1_i32_798 : BitVec 32 := 1#32
  let c8_i32_800 : BitVec 32 := 8#32
  let v923 : BitVec 32 := Scalar.muli c1_i32_798 c8_i32_800
  let v924 : BitVec 32 := Scalar.addi c0_i32_801 v923
  let c0_i32_799 : BitVec 32 := 0#32
  let c4_i32_802 : BitVec 32 := 4#32
  let v925 : BitVec 32 := Scalar.muli c0_i32_799 c4_i32_802
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_803 : BitVec 32 := 1#32
  let v927 : BitVec 32 := Scalar.muli v100 c1_i32_803
  let v928 : BitVec 32 := Scalar.addi v926 v927
  v928.toNat
def k0_dev302 (d0 : Dev nD) : Nat :=
  let c0_i32_834 : BitVec 32 := 0#32
  let c0_i32_831 : BitVec 32 := 0#32
  let c8_i32_833 : BitVec 32 := 8#32
  let v952 : BitVec 32 := Scalar.muli c0_i32_831 c8_i32_833
  let v953 : BitVec 32 := Scalar.addi c0_i32_834 v952
  let c0_i32_832 : BitVec 32 := 0#32
  let c4_i32_835 : BitVec 32 := 4#32
  let v954 : BitVec 32 := Scalar.muli c0_i32_832 c4_i32_835
  let v955 : BitVec 32 := Scalar.addi v953 v954
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_836 : BitVec 32 := 1#32
  let v956 : BitVec 32 := Scalar.muli v8 c1_i32_836
  let v957 : BitVec 32 := Scalar.addi v955 v956
  v957.toNat
def k0_dev303 (d0 : Dev nD) : Nat :=
  let c0_i32_845 : BitVec 32 := 0#32
  let c1_i32_842 : BitVec 32 := 1#32
  let c8_i32_844 : BitVec 32 := 8#32
  let v964 : BitVec 32 := Scalar.muli c1_i32_842 c8_i32_844
  let v965 : BitVec 32 := Scalar.addi c0_i32_845 v964
  let c0_i32_843 : BitVec 32 := 0#32
  let c4_i32_846 : BitVec 32 := 4#32
  let v966 : BitVec 32 := Scalar.muli c0_i32_843 c4_i32_846
  let v967 : BitVec 32 := Scalar.addi v965 v966
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_847 : BitVec 32 := 1#32
  let v968 : BitVec 32 := Scalar.muli v100 c1_i32_847
  let v969 : BitVec 32 := Scalar.addi v967 v968
  v969.toNat
def k0_dev304 (d0 : Dev nD) : Nat :=
  let c0_i32_878 : BitVec 32 := 0#32
  let c0_i32_875 : BitVec 32 := 0#32
  let c8_i32_877 : BitVec 32 := 8#32
  let v993 : BitVec 32 := Scalar.muli c0_i32_875 c8_i32_877
  let v994 : BitVec 32 := Scalar.addi c0_i32_878 v993
  let c0_i32_876 : BitVec 32 := 0#32
  let c4_i32_879 : BitVec 32 := 4#32
  let v995 : BitVec 32 := Scalar.muli c0_i32_876 c4_i32_879
  let v996 : BitVec 32 := Scalar.addi v994 v995
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_880 : BitVec 32 := 1#32
  let v997 : BitVec 32 := Scalar.muli v8 c1_i32_880
  let v998 : BitVec 32 := Scalar.addi v996 v997
  v998.toNat
def k0_dev305 (d0 : Dev nD) : Nat :=
  let c0_i32_889 : BitVec 32 := 0#32
  let c1_i32_886 : BitVec 32 := 1#32
  let c8_i32_888 : BitVec 32 := 8#32
  let v1005 : BitVec 32 := Scalar.muli c1_i32_886 c8_i32_888
  let v1006 : BitVec 32 := Scalar.addi c0_i32_889 v1005
  let c0_i32_887 : BitVec 32 := 0#32
  let c4_i32_890 : BitVec 32 := 4#32
  let v1007 : BitVec 32 := Scalar.muli c0_i32_887 c4_i32_890
  let v1008 : BitVec 32 := Scalar.addi v1006 v1007
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_891 : BitVec 32 := 1#32
  let v1009 : BitVec 32 := Scalar.muli v100 c1_i32_891
  let v1010 : BitVec 32 := Scalar.addi v1008 v1009
  v1010.toNat
def k0_dev306 (d0 : Dev nD) : Nat :=
  let c0_i32_921 : BitVec 32 := 0#32
  let c0_i32_918 : BitVec 32 := 0#32
  let c8_i32_920 : BitVec 32 := 8#32
  let v1034 : BitVec 32 := Scalar.muli c0_i32_918 c8_i32_920
  let v1035 : BitVec 32 := Scalar.addi c0_i32_921 v1034
  let c0_i32_919 : BitVec 32 := 0#32
  let c4_i32_922 : BitVec 32 := 4#32
  let v1036 : BitVec 32 := Scalar.muli c0_i32_919 c4_i32_922
  let v1037 : BitVec 32 := Scalar.addi v1035 v1036
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_923 : BitVec 32 := 1#32
  let v1038 : BitVec 32 := Scalar.muli v8 c1_i32_923
  let v1039 : BitVec 32 := Scalar.addi v1037 v1038
  v1039.toNat
def k0_dev307 (d0 : Dev nD) : Nat :=
  let c0_i32_932 : BitVec 32 := 0#32
  let c1_i32_929 : BitVec 32 := 1#32
  let c8_i32_931 : BitVec 32 := 8#32
  let v1046 : BitVec 32 := Scalar.muli c1_i32_929 c8_i32_931
  let v1047 : BitVec 32 := Scalar.addi c0_i32_932 v1046
  let c0_i32_930 : BitVec 32 := 0#32
  let c4_i32_933 : BitVec 32 := 4#32
  let v1048 : BitVec 32 := Scalar.muli c0_i32_930 c4_i32_933
  let v1049 : BitVec 32 := Scalar.addi v1047 v1048
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_934 : BitVec 32 := 1#32
  let v1050 : BitVec 32 := Scalar.muli v100 c1_i32_934
  let v1051 : BitVec 32 := Scalar.addi v1049 v1050
  v1051.toNat
def k0_dev308 (d0 : Dev nD) : Nat :=
  let c0_i32_964 : BitVec 32 := 0#32
  let c0_i32_961 : BitVec 32 := 0#32
  let c8_i32_963 : BitVec 32 := 8#32
  let v1075 : BitVec 32 := Scalar.muli c0_i32_961 c8_i32_963
  let v1076 : BitVec 32 := Scalar.addi c0_i32_964 v1075
  let c0_i32_962 : BitVec 32 := 0#32
  let c4_i32_965 : BitVec 32 := 4#32
  let v1077 : BitVec 32 := Scalar.muli c0_i32_962 c4_i32_965
  let v1078 : BitVec 32 := Scalar.addi v1076 v1077
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_966 : BitVec 32 := 1#32
  let v1079 : BitVec 32 := Scalar.muli v8 c1_i32_966
  let v1080 : BitVec 32 := Scalar.addi v1078 v1079
  v1080.toNat
def k0_dev309 (d0 : Dev nD) : Nat :=
  let c0_i32_975 : BitVec 32 := 0#32
  let c1_i32_972 : BitVec 32 := 1#32
  let c8_i32_974 : BitVec 32 := 8#32
  let v1087 : BitVec 32 := Scalar.muli c1_i32_972 c8_i32_974
  let v1088 : BitVec 32 := Scalar.addi c0_i32_975 v1087
  let c0_i32_973 : BitVec 32 := 0#32
  let c4_i32_976 : BitVec 32 := 4#32
  let v1089 : BitVec 32 := Scalar.muli c0_i32_973 c4_i32_976
  let v1090 : BitVec 32 := Scalar.addi v1088 v1089
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_977 : BitVec 32 := 1#32
  let v1091 : BitVec 32 := Scalar.muli v100 c1_i32_977
  let v1092 : BitVec 32 := Scalar.addi v1090 v1091
  v1092.toNat
def k0_dev310 (d0 : Dev nD) : Nat :=
  let c0_i32_1007 : BitVec 32 := 0#32
  let c0_i32_1004 : BitVec 32 := 0#32
  let c8_i32_1006 : BitVec 32 := 8#32
  let v1116 : BitVec 32 := Scalar.muli c0_i32_1004 c8_i32_1006
  let v1117 : BitVec 32 := Scalar.addi c0_i32_1007 v1116
  let c0_i32_1005 : BitVec 32 := 0#32
  let c4_i32_1008 : BitVec 32 := 4#32
  let v1118 : BitVec 32 := Scalar.muli c0_i32_1005 c4_i32_1008
  let v1119 : BitVec 32 := Scalar.addi v1117 v1118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1009 : BitVec 32 := 1#32
  let v1120 : BitVec 32 := Scalar.muli v8 c1_i32_1009
  let v1121 : BitVec 32 := Scalar.addi v1119 v1120
  v1121.toNat
def k0_dev311 (d0 : Dev nD) : Nat :=
  let c0_i32_1018 : BitVec 32 := 0#32
  let c1_i32_1015 : BitVec 32 := 1#32
  let c8_i32_1017 : BitVec 32 := 8#32
  let v1128 : BitVec 32 := Scalar.muli c1_i32_1015 c8_i32_1017
  let v1129 : BitVec 32 := Scalar.addi c0_i32_1018 v1128
  let c0_i32_1016 : BitVec 32 := 0#32
  let c4_i32_1019 : BitVec 32 := 4#32
  let v1130 : BitVec 32 := Scalar.muli c0_i32_1016 c4_i32_1019
  let v1131 : BitVec 32 := Scalar.addi v1129 v1130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1020 : BitVec 32 := 1#32
  let v1132 : BitVec 32 := Scalar.muli v100 c1_i32_1020
  let v1133 : BitVec 32 := Scalar.addi v1131 v1132
  v1133.toNat
def k0_dev312 (d0 : Dev nD) : Nat :=
  let c0_i32_1050 : BitVec 32 := 0#32
  let c0_i32_1047 : BitVec 32 := 0#32
  let c8_i32_1049 : BitVec 32 := 8#32
  let v1157 : BitVec 32 := Scalar.muli c0_i32_1047 c8_i32_1049
  let v1158 : BitVec 32 := Scalar.addi c0_i32_1050 v1157
  let c0_i32_1048 : BitVec 32 := 0#32
  let c4_i32_1051 : BitVec 32 := 4#32
  let v1159 : BitVec 32 := Scalar.muli c0_i32_1048 c4_i32_1051
  let v1160 : BitVec 32 := Scalar.addi v1158 v1159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1052 : BitVec 32 := 1#32
  let v1161 : BitVec 32 := Scalar.muli v8 c1_i32_1052
  let v1162 : BitVec 32 := Scalar.addi v1160 v1161
  v1162.toNat
def k0_dev313 (d0 : Dev nD) : Nat :=
  let c0_i32_1061 : BitVec 32 := 0#32
  let c1_i32_1058 : BitVec 32 := 1#32
  let c8_i32_1060 : BitVec 32 := 8#32
  let v1169 : BitVec 32 := Scalar.muli c1_i32_1058 c8_i32_1060
  let v1170 : BitVec 32 := Scalar.addi c0_i32_1061 v1169
  let c0_i32_1059 : BitVec 32 := 0#32
  let c4_i32_1062 : BitVec 32 := 4#32
  let v1171 : BitVec 32 := Scalar.muli c0_i32_1059 c4_i32_1062
  let v1172 : BitVec 32 := Scalar.addi v1170 v1171
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1063 : BitVec 32 := 1#32
  let v1173 : BitVec 32 := Scalar.muli v100 c1_i32_1063
  let v1174 : BitVec 32 := Scalar.addi v1172 v1173
  v1174.toNat
def k0_dev314 (d0 : Dev nD) : Nat :=
  let c0_i32_1093 : BitVec 32 := 0#32
  let c0_i32_1090 : BitVec 32 := 0#32
  let c8_i32_1092 : BitVec 32 := 8#32
  let v1198 : BitVec 32 := Scalar.muli c0_i32_1090 c8_i32_1092
  let v1199 : BitVec 32 := Scalar.addi c0_i32_1093 v1198
  let c0_i32_1091 : BitVec 32 := 0#32
  let c4_i32_1094 : BitVec 32 := 4#32
  let v1200 : BitVec 32 := Scalar.muli c0_i32_1091 c4_i32_1094
  let v1201 : BitVec 32 := Scalar.addi v1199 v1200
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1095 : BitVec 32 := 1#32
  let v1202 : BitVec 32 := Scalar.muli v8 c1_i32_1095
  let v1203 : BitVec 32 := Scalar.addi v1201 v1202
  v1203.toNat
def k0_dev315 (d0 : Dev nD) : Nat :=
  let c0_i32_1104 : BitVec 32 := 0#32
  let c1_i32_1101 : BitVec 32 := 1#32
  let c8_i32_1103 : BitVec 32 := 8#32
  let v1210 : BitVec 32 := Scalar.muli c1_i32_1101 c8_i32_1103
  let v1211 : BitVec 32 := Scalar.addi c0_i32_1104 v1210
  let c0_i32_1102 : BitVec 32 := 0#32
  let c4_i32_1105 : BitVec 32 := 4#32
  let v1212 : BitVec 32 := Scalar.muli c0_i32_1102 c4_i32_1105
  let v1213 : BitVec 32 := Scalar.addi v1211 v1212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1106 : BitVec 32 := 1#32
  let v1214 : BitVec 32 := Scalar.muli v100 c1_i32_1106
  let v1215 : BitVec 32 := Scalar.addi v1213 v1214
  v1215.toNat
def k0_dev316 (d0 : Dev nD) : Nat :=
  let c0_i32_1136 : BitVec 32 := 0#32
  let c0_i32_1133 : BitVec 32 := 0#32
  let c8_i32_1135 : BitVec 32 := 8#32
  let v1239 : BitVec 32 := Scalar.muli c0_i32_1133 c8_i32_1135
  let v1240 : BitVec 32 := Scalar.addi c0_i32_1136 v1239
  let c0_i32_1134 : BitVec 32 := 0#32
  let c4_i32_1137 : BitVec 32 := 4#32
  let v1241 : BitVec 32 := Scalar.muli c0_i32_1134 c4_i32_1137
  let v1242 : BitVec 32 := Scalar.addi v1240 v1241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1138 : BitVec 32 := 1#32
  let v1243 : BitVec 32 := Scalar.muli v8 c1_i32_1138
  let v1244 : BitVec 32 := Scalar.addi v1242 v1243
  v1244.toNat
def k0_dev317 (d0 : Dev nD) : Nat :=
  let c0_i32_1159 : BitVec 32 := 0#32
  let c0_i32_1156 : BitVec 32 := 0#32
  let c8_i32_1158 : BitVec 32 := 8#32
  let v1261 : BitVec 32 := Scalar.muli c0_i32_1156 c8_i32_1158
  let v1262 : BitVec 32 := Scalar.addi c0_i32_1159 v1261
  let c0_i32_1157 : BitVec 32 := 0#32
  let c4_i32_1160 : BitVec 32 := 4#32
  let v1263 : BitVec 32 := Scalar.muli c0_i32_1157 c4_i32_1160
  let v1264 : BitVec 32 := Scalar.addi v1262 v1263
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1161 : BitVec 32 := 1#32
  let v1265 : BitVec 32 := Scalar.muli v8 c1_i32_1161
  let v1266 : BitVec 32 := Scalar.addi v1264 v1265
  v1266.toNat
def k0_dev318 (d0 : Dev nD) : Nat :=
  let c0_i32_1182 : BitVec 32 := 0#32
  let c0_i32_1179 : BitVec 32 := 0#32
  let c8_i32_1181 : BitVec 32 := 8#32
  let v1283 : BitVec 32 := Scalar.muli c0_i32_1179 c8_i32_1181
  let v1284 : BitVec 32 := Scalar.addi c0_i32_1182 v1283
  let c0_i32_1180 : BitVec 32 := 0#32
  let c4_i32_1183 : BitVec 32 := 4#32
  let v1285 : BitVec 32 := Scalar.muli c0_i32_1180 c4_i32_1183
  let v1286 : BitVec 32 := Scalar.addi v1284 v1285
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1184 : BitVec 32 := 1#32
  let v1287 : BitVec 32 := Scalar.muli v8 c1_i32_1184
  let v1288 : BitVec 32 := Scalar.addi v1286 v1287
  v1288.toNat
def k0_dev319 (d0 : Dev nD) : Nat :=
  let c0_i32_1205 : BitVec 32 := 0#32
  let c0_i32_1202 : BitVec 32 := 0#32
  let c8_i32_1204 : BitVec 32 := 8#32
  let v1305 : BitVec 32 := Scalar.muli c0_i32_1202 c8_i32_1204
  let v1306 : BitVec 32 := Scalar.addi c0_i32_1205 v1305
  let c0_i32_1203 : BitVec 32 := 0#32
  let c4_i32_1206 : BitVec 32 := 4#32
  let v1307 : BitVec 32 := Scalar.muli c0_i32_1203 c4_i32_1206
  let v1308 : BitVec 32 := Scalar.addi v1306 v1307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1207 : BitVec 32 := 1#32
  let v1309 : BitVec 32 := Scalar.muli v8 c1_i32_1207
  let v1310 : BitVec 32 := Scalar.addi v1308 v1309
  v1310.toNat
def k0_dev320 (d0 : Dev nD) : Nat :=
  let c0_i32_1228 : BitVec 32 := 0#32
  let c1_i32_1225 : BitVec 32 := 1#32
  let c8_i32_1227 : BitVec 32 := 8#32
  let v1327 : BitVec 32 := Scalar.muli c1_i32_1225 c8_i32_1227
  let v1328 : BitVec 32 := Scalar.addi c0_i32_1228 v1327
  let c0_i32_1226 : BitVec 32 := 0#32
  let c4_i32_1229 : BitVec 32 := 4#32
  let v1329 : BitVec 32 := Scalar.muli c0_i32_1226 c4_i32_1229
  let v1330 : BitVec 32 := Scalar.addi v1328 v1329
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1230 : BitVec 32 := 1#32
  let v1331 : BitVec 32 := Scalar.muli v100 c1_i32_1230
  let v1332 : BitVec 32 := Scalar.addi v1330 v1331
  v1332.toNat
def k0_dev321 (d0 : Dev nD) : Nat :=
  let c0_i32_1251 : BitVec 32 := 0#32
  let c1_i32_1248 : BitVec 32 := 1#32
  let c8_i32_1250 : BitVec 32 := 8#32
  let v1349 : BitVec 32 := Scalar.muli c1_i32_1248 c8_i32_1250
  let v1350 : BitVec 32 := Scalar.addi c0_i32_1251 v1349
  let c0_i32_1249 : BitVec 32 := 0#32
  let c4_i32_1252 : BitVec 32 := 4#32
  let v1351 : BitVec 32 := Scalar.muli c0_i32_1249 c4_i32_1252
  let v1352 : BitVec 32 := Scalar.addi v1350 v1351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1253 : BitVec 32 := 1#32
  let v1353 : BitVec 32 := Scalar.muli v100 c1_i32_1253
  let v1354 : BitVec 32 := Scalar.addi v1352 v1353
  v1354.toNat
def k0_dev322 (d0 : Dev nD) : Nat :=
  let c0_i32_1274 : BitVec 32 := 0#32
  let c1_i32_1271 : BitVec 32 := 1#32
  let c8_i32_1273 : BitVec 32 := 8#32
  let v1371 : BitVec 32 := Scalar.muli c1_i32_1271 c8_i32_1273
  let v1372 : BitVec 32 := Scalar.addi c0_i32_1274 v1371
  let c0_i32_1272 : BitVec 32 := 0#32
  let c4_i32_1275 : BitVec 32 := 4#32
  let v1373 : BitVec 32 := Scalar.muli c0_i32_1272 c4_i32_1275
  let v1374 : BitVec 32 := Scalar.addi v1372 v1373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1276 : BitVec 32 := 1#32
  let v1375 : BitVec 32 := Scalar.muli v100 c1_i32_1276
  let v1376 : BitVec 32 := Scalar.addi v1374 v1375
  v1376.toNat
def k0_dev323 (d0 : Dev nD) : Nat :=
  let c0_i32_1297 : BitVec 32 := 0#32
  let c1_i32_1294 : BitVec 32 := 1#32
  let c8_i32_1296 : BitVec 32 := 8#32
  let v1393 : BitVec 32 := Scalar.muli c1_i32_1294 c8_i32_1296
  let v1394 : BitVec 32 := Scalar.addi c0_i32_1297 v1393
  let c0_i32_1295 : BitVec 32 := 0#32
  let c4_i32_1298 : BitVec 32 := 4#32
  let v1395 : BitVec 32 := Scalar.muli c0_i32_1295 c4_i32_1298
  let v1396 : BitVec 32 := Scalar.addi v1394 v1395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1299 : BitVec 32 := 1#32
  let v1397 : BitVec 32 := Scalar.muli v100 c1_i32_1299
  let v1398 : BitVec 32 := Scalar.addi v1396 v1397
  v1398.toNat
def k0_cond6 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_46 : BitVec 32 := 1#32
  let v78 : BitVec 1 := Scalar.cmpi .eq v2 c1_i32_46
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_47 : BitVec 32 := 0#32
  let v79 : BitVec 1 := Scalar.cmpi .eq v5 c0_i32_47
  let v80 : BitVec 1 := Scalar.andi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1_i32_48 : BitVec 32 := 1#32
  let v81 : BitVec 1 := Scalar.cmpi .eq v18 c1_i32_48
  let v82 : BitVec 1 := Scalar.andi v80 v81
  let v83 : BitVec 32 := Scalar.extui v82
  let c0_i32_49 : BitVec 32 := 0#32
  let v84 : BitVec 1 := Scalar.cmpi .ne v83 c0_i32_49
  v84

def k0_dev324 (d0 : Dev nD) : Nat :=
  let c0_i32_206 : BitVec 32 := 0#32
  let c1_i32_203 : BitVec 32 := 1#32
  let c8_i32_205 : BitVec 32 := 8#32
  let v309 : BitVec 32 := Scalar.muli c1_i32_203 c8_i32_205
  let v310 : BitVec 32 := Scalar.addi c0_i32_206 v309
  let c1_i32_204 : BitVec 32 := 1#32
  let c4_i32_207 : BitVec 32 := 4#32
  let v311 : BitVec 32 := Scalar.muli c1_i32_204 c4_i32_207
  let v312 : BitVec 32 := Scalar.addi v310 v311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_208 : BitVec 32 := 1#32
  let v313 : BitVec 32 := Scalar.muli v8 c1_i32_208
  let v314 : BitVec 32 := Scalar.addi v312 v313
  v314.toNat
def k0_dev325 (d0 : Dev nD) : Nat :=
  let c0_i32_218 : BitVec 32 := 0#32
  let c1_i32_215 : BitVec 32 := 1#32
  let c8_i32_217 : BitVec 32 := 8#32
  let v321 : BitVec 32 := Scalar.muli c1_i32_215 c8_i32_217
  let v322 : BitVec 32 := Scalar.addi c0_i32_218 v321
  let c1_i32_216 : BitVec 32 := 1#32
  let c4_i32_219 : BitVec 32 := 4#32
  let v323 : BitVec 32 := Scalar.muli c1_i32_216 c4_i32_219
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_220 : BitVec 32 := 1#32
  let v325 : BitVec 32 := Scalar.muli v8 c1_i32_220
  let v326 : BitVec 32 := Scalar.addi v324 v325
  v326.toNat
def k0_dev326 (d0 : Dev nD) : Nat :=
  let c0_i32_228 : BitVec 32 := 0#32
  let c1_i32_225 : BitVec 32 := 1#32
  let c8_i32_227 : BitVec 32 := 8#32
  let v333 : BitVec 32 := Scalar.muli c1_i32_225 c8_i32_227
  let v334 : BitVec 32 := Scalar.addi c0_i32_228 v333
  let c1_i32_226 : BitVec 32 := 1#32
  let c4_i32_229 : BitVec 32 := 4#32
  let v335 : BitVec 32 := Scalar.muli c1_i32_226 c4_i32_229
  let v336 : BitVec 32 := Scalar.addi v334 v335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_230 : BitVec 32 := 1#32
  let v337 : BitVec 32 := Scalar.muli v8 c1_i32_230
  let v338 : BitVec 32 := Scalar.addi v336 v337
  v338.toNat
def k0_dev327 (d0 : Dev nD) : Nat :=
  let c0_i32_238 : BitVec 32 := 0#32
  let c1_i32_235 : BitVec 32 := 1#32
  let c8_i32_237 : BitVec 32 := 8#32
  let v345 : BitVec 32 := Scalar.muli c1_i32_235 c8_i32_237
  let v346 : BitVec 32 := Scalar.addi c0_i32_238 v345
  let c1_i32_236 : BitVec 32 := 1#32
  let c4_i32_239 : BitVec 32 := 4#32
  let v347 : BitVec 32 := Scalar.muli c1_i32_236 c4_i32_239
  let v348 : BitVec 32 := Scalar.addi v346 v347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_240 : BitVec 32 := 1#32
  let v349 : BitVec 32 := Scalar.muli v8 c1_i32_240
  let v350 : BitVec 32 := Scalar.addi v348 v349
  v350.toNat
def k0_dev328 (d0 : Dev nD) : Nat :=
  let c0_i32_248 : BitVec 32 := 0#32
  let c1_i32_245 : BitVec 32 := 1#32
  let c8_i32_247 : BitVec 32 := 8#32
  let v357 : BitVec 32 := Scalar.muli c1_i32_245 c8_i32_247
  let v358 : BitVec 32 := Scalar.addi c0_i32_248 v357
  let c1_i32_246 : BitVec 32 := 1#32
  let c4_i32_249 : BitVec 32 := 4#32
  let v359 : BitVec 32 := Scalar.muli c1_i32_246 c4_i32_249
  let v360 : BitVec 32 := Scalar.addi v358 v359
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_250 : BitVec 32 := 1#32
  let v361 : BitVec 32 := Scalar.muli v8 c1_i32_250
  let v362 : BitVec 32 := Scalar.addi v360 v361
  v362.toNat
def k0_dev329 (d0 : Dev nD) : Nat :=
  let c0_i32_260 : BitVec 32 := 0#32
  let c1_i32_257 : BitVec 32 := 1#32
  let c8_i32_259 : BitVec 32 := 8#32
  let v369 : BitVec 32 := Scalar.muli c1_i32_257 c8_i32_259
  let v370 : BitVec 32 := Scalar.addi c0_i32_260 v369
  let c1_i32_258 : BitVec 32 := 1#32
  let c4_i32_261 : BitVec 32 := 4#32
  let v371 : BitVec 32 := Scalar.muli c1_i32_258 c4_i32_261
  let v372 : BitVec 32 := Scalar.addi v370 v371
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v373 : BitVec 32 := Scalar.muli v8 c1_i32_262
  let v374 : BitVec 32 := Scalar.addi v372 v373
  v374.toNat
def k0_dev330 (d0 : Dev nD) : Nat :=
  let c0_i32_270 : BitVec 32 := 0#32
  let c1_i32_267 : BitVec 32 := 1#32
  let c8_i32_269 : BitVec 32 := 8#32
  let v381 : BitVec 32 := Scalar.muli c1_i32_267 c8_i32_269
  let v382 : BitVec 32 := Scalar.addi c0_i32_270 v381
  let c1_i32_268 : BitVec 32 := 1#32
  let c4_i32_271 : BitVec 32 := 4#32
  let v383 : BitVec 32 := Scalar.muli c1_i32_268 c4_i32_271
  let v384 : BitVec 32 := Scalar.addi v382 v383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_272 : BitVec 32 := 1#32
  let v385 : BitVec 32 := Scalar.muli v8 c1_i32_272
  let v386 : BitVec 32 := Scalar.addi v384 v385
  v386.toNat
def k0_dev331 (d0 : Dev nD) : Nat :=
  let c0_i32_280 : BitVec 32 := 0#32
  let c1_i32_277 : BitVec 32 := 1#32
  let c8_i32_279 : BitVec 32 := 8#32
  let v393 : BitVec 32 := Scalar.muli c1_i32_277 c8_i32_279
  let v394 : BitVec 32 := Scalar.addi c0_i32_280 v393
  let c1_i32_278 : BitVec 32 := 1#32
  let c4_i32_281 : BitVec 32 := 4#32
  let v395 : BitVec 32 := Scalar.muli c1_i32_278 c4_i32_281
  let v396 : BitVec 32 := Scalar.addi v394 v395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_282 : BitVec 32 := 1#32
  let v397 : BitVec 32 := Scalar.muli v8 c1_i32_282
  let v398 : BitVec 32 := Scalar.addi v396 v397
  v398.toNat
def k0_dev332 (d0 : Dev nD) : Nat :=
  let c0_i32_290 : BitVec 32 := 0#32
  let c1_i32_287 : BitVec 32 := 1#32
  let c8_i32_289 : BitVec 32 := 8#32
  let v405 : BitVec 32 := Scalar.muli c1_i32_287 c8_i32_289
  let v406 : BitVec 32 := Scalar.addi c0_i32_290 v405
  let c1_i32_288 : BitVec 32 := 1#32
  let c4_i32_291 : BitVec 32 := 4#32
  let v407 : BitVec 32 := Scalar.muli c1_i32_288 c4_i32_291
  let v408 : BitVec 32 := Scalar.addi v406 v407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_292 : BitVec 32 := 1#32
  let v409 : BitVec 32 := Scalar.muli v8 c1_i32_292
  let v410 : BitVec 32 := Scalar.addi v408 v409
  v410.toNat
def k0_dev333 (d0 : Dev nD) : Nat :=
  let c0_i32_302 : BitVec 32 := 0#32
  let c1_i32_299 : BitVec 32 := 1#32
  let c8_i32_301 : BitVec 32 := 8#32
  let v417 : BitVec 32 := Scalar.muli c1_i32_299 c8_i32_301
  let v418 : BitVec 32 := Scalar.addi c0_i32_302 v417
  let c1_i32_300 : BitVec 32 := 1#32
  let c4_i32_303 : BitVec 32 := 4#32
  let v419 : BitVec 32 := Scalar.muli c1_i32_300 c4_i32_303
  let v420 : BitVec 32 := Scalar.addi v418 v419
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v421 : BitVec 32 := Scalar.muli v8 c1_i32_304
  let v422 : BitVec 32 := Scalar.addi v420 v421
  v422.toNat
def k0_dev334 (d0 : Dev nD) : Nat :=
  let c0_i32_312 : BitVec 32 := 0#32
  let c1_i32_309 : BitVec 32 := 1#32
  let c8_i32_311 : BitVec 32 := 8#32
  let v429 : BitVec 32 := Scalar.muli c1_i32_309 c8_i32_311
  let v430 : BitVec 32 := Scalar.addi c0_i32_312 v429
  let c1_i32_310 : BitVec 32 := 1#32
  let c4_i32_313 : BitVec 32 := 4#32
  let v431 : BitVec 32 := Scalar.muli c1_i32_310 c4_i32_313
  let v432 : BitVec 32 := Scalar.addi v430 v431
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_314 : BitVec 32 := 1#32
  let v433 : BitVec 32 := Scalar.muli v8 c1_i32_314
  let v434 : BitVec 32 := Scalar.addi v432 v433
  v434.toNat
def k0_dev335 (d0 : Dev nD) : Nat :=
  let c0_i32_322 : BitVec 32 := 0#32
  let c1_i32_319 : BitVec 32 := 1#32
  let c8_i32_321 : BitVec 32 := 8#32
  let v441 : BitVec 32 := Scalar.muli c1_i32_319 c8_i32_321
  let v442 : BitVec 32 := Scalar.addi c0_i32_322 v441
  let c1_i32_320 : BitVec 32 := 1#32
  let c4_i32_323 : BitVec 32 := 4#32
  let v443 : BitVec 32 := Scalar.muli c1_i32_320 c4_i32_323
  let v444 : BitVec 32 := Scalar.addi v442 v443
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_324 : BitVec 32 := 1#32
  let v445 : BitVec 32 := Scalar.muli v8 c1_i32_324
  let v446 : BitVec 32 := Scalar.addi v444 v445
  v446.toNat
def k0_dev336 (d0 : Dev nD) : Nat :=
  let c0_i32_332 : BitVec 32 := 0#32
  let c1_i32_329 : BitVec 32 := 1#32
  let c8_i32_331 : BitVec 32 := 8#32
  let v453 : BitVec 32 := Scalar.muli c1_i32_329 c8_i32_331
  let v454 : BitVec 32 := Scalar.addi c0_i32_332 v453
  let c1_i32_330 : BitVec 32 := 1#32
  let c4_i32_333 : BitVec 32 := 4#32
  let v455 : BitVec 32 := Scalar.muli c1_i32_330 c4_i32_333
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v457 : BitVec 32 := Scalar.muli v8 c1_i32_334
  let v458 : BitVec 32 := Scalar.addi v456 v457
  v458.toNat
def k0_dev337 (d0 : Dev nD) : Nat :=
  let c0_i32_344 : BitVec 32 := 0#32
  let c1_i32_341 : BitVec 32 := 1#32
  let c8_i32_343 : BitVec 32 := 8#32
  let v465 : BitVec 32 := Scalar.muli c1_i32_341 c8_i32_343
  let v466 : BitVec 32 := Scalar.addi c0_i32_344 v465
  let c1_i32_342 : BitVec 32 := 1#32
  let c4_i32_345 : BitVec 32 := 4#32
  let v467 : BitVec 32 := Scalar.muli c1_i32_342 c4_i32_345
  let v468 : BitVec 32 := Scalar.addi v466 v467
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_346 : BitVec 32 := 1#32
  let v469 : BitVec 32 := Scalar.muli v8 c1_i32_346
  let v470 : BitVec 32 := Scalar.addi v468 v469
  v470.toNat
def k0_dev338 (d0 : Dev nD) : Nat :=
  let c0_i32_354 : BitVec 32 := 0#32
  let c1_i32_351 : BitVec 32 := 1#32
  let c8_i32_353 : BitVec 32 := 8#32
  let v477 : BitVec 32 := Scalar.muli c1_i32_351 c8_i32_353
  let v478 : BitVec 32 := Scalar.addi c0_i32_354 v477
  let c1_i32_352 : BitVec 32 := 1#32
  let c4_i32_355 : BitVec 32 := 4#32
  let v479 : BitVec 32 := Scalar.muli c1_i32_352 c4_i32_355
  let v480 : BitVec 32 := Scalar.addi v478 v479
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_356 : BitVec 32 := 1#32
  let v481 : BitVec 32 := Scalar.muli v8 c1_i32_356
  let v482 : BitVec 32 := Scalar.addi v480 v481
  v482.toNat
def k0_dev339 (d0 : Dev nD) : Nat :=
  let c0_i32_364 : BitVec 32 := 0#32
  let c1_i32_361 : BitVec 32 := 1#32
  let c8_i32_363 : BitVec 32 := 8#32
  let v489 : BitVec 32 := Scalar.muli c1_i32_361 c8_i32_363
  let v490 : BitVec 32 := Scalar.addi c0_i32_364 v489
  let c1_i32_362 : BitVec 32 := 1#32
  let c4_i32_365 : BitVec 32 := 4#32
  let v491 : BitVec 32 := Scalar.muli c1_i32_362 c4_i32_365
  let v492 : BitVec 32 := Scalar.addi v490 v491
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_366 : BitVec 32 := 1#32
  let v493 : BitVec 32 := Scalar.muli v8 c1_i32_366
  let v494 : BitVec 32 := Scalar.addi v492 v493
  v494.toNat
def k0_dev340 (d0 : Dev nD) : Nat :=
  let c0_i32_373 : BitVec 32 := 0#32
  let c1_i32_370 : BitVec 32 := 1#32
  let c8_i32_372 : BitVec 32 := 8#32
  let v501 : BitVec 32 := Scalar.muli c1_i32_370 c8_i32_372
  let v502 : BitVec 32 := Scalar.addi c0_i32_373 v501
  let c1_i32_371 : BitVec 32 := 1#32
  let c4_i32_374 : BitVec 32 := 4#32
  let v503 : BitVec 32 := Scalar.muli c1_i32_371 c4_i32_374
  let v504 : BitVec 32 := Scalar.addi v502 v503
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_375 : BitVec 32 := 1#32
  let v505 : BitVec 32 := Scalar.muli v8 c1_i32_375
  let v506 : BitVec 32 := Scalar.addi v504 v505
  v506.toNat
def k0_dev341 (d0 : Dev nD) : Nat :=
  let c0_i32_384 : BitVec 32 := 0#32
  let c1_i32_381 : BitVec 32 := 1#32
  let c8_i32_383 : BitVec 32 := 8#32
  let v513 : BitVec 32 := Scalar.muli c1_i32_381 c8_i32_383
  let v514 : BitVec 32 := Scalar.addi c0_i32_384 v513
  let c1_i32_382 : BitVec 32 := 1#32
  let c4_i32_385 : BitVec 32 := 4#32
  let v515 : BitVec 32 := Scalar.muli c1_i32_382 c4_i32_385
  let v516 : BitVec 32 := Scalar.addi v514 v515
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_386 : BitVec 32 := 1#32
  let v517 : BitVec 32 := Scalar.muli v8 c1_i32_386
  let v518 : BitVec 32 := Scalar.addi v516 v517
  v518.toNat
def k0_dev342 (d0 : Dev nD) : Nat :=
  let c0_i32_394 : BitVec 32 := 0#32
  let c1_i32_391 : BitVec 32 := 1#32
  let c8_i32_393 : BitVec 32 := 8#32
  let v525 : BitVec 32 := Scalar.muli c1_i32_391 c8_i32_393
  let v526 : BitVec 32 := Scalar.addi c0_i32_394 v525
  let c1_i32_392 : BitVec 32 := 1#32
  let c4_i32_395 : BitVec 32 := 4#32
  let v527 : BitVec 32 := Scalar.muli c1_i32_392 c4_i32_395
  let v528 : BitVec 32 := Scalar.addi v526 v527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_396 : BitVec 32 := 1#32
  let v529 : BitVec 32 := Scalar.muli v8 c1_i32_396
  let v530 : BitVec 32 := Scalar.addi v528 v529
  v530.toNat
def k0_dev343 (d0 : Dev nD) : Nat :=
  let c0_i32_404 : BitVec 32 := 0#32
  let c1_i32_401 : BitVec 32 := 1#32
  let c8_i32_403 : BitVec 32 := 8#32
  let v537 : BitVec 32 := Scalar.muli c1_i32_401 c8_i32_403
  let v538 : BitVec 32 := Scalar.addi c0_i32_404 v537
  let c1_i32_402 : BitVec 32 := 1#32
  let c4_i32_405 : BitVec 32 := 4#32
  let v539 : BitVec 32 := Scalar.muli c1_i32_402 c4_i32_405
  let v540 : BitVec 32 := Scalar.addi v538 v539
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_406 : BitVec 32 := 1#32
  let v541 : BitVec 32 := Scalar.muli v8 c1_i32_406
  let v542 : BitVec 32 := Scalar.addi v540 v541
  v542.toNat
def k0_dev344 (d0 : Dev nD) : Nat :=
  let c0_i32_414 : BitVec 32 := 0#32
  let c1_i32_411 : BitVec 32 := 1#32
  let c8_i32_413 : BitVec 32 := 8#32
  let v549 : BitVec 32 := Scalar.muli c1_i32_411 c8_i32_413
  let v550 : BitVec 32 := Scalar.addi c0_i32_414 v549
  let c1_i32_412 : BitVec 32 := 1#32
  let c4_i32_415 : BitVec 32 := 4#32
  let v551 : BitVec 32 := Scalar.muli c1_i32_412 c4_i32_415
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_416 : BitVec 32 := 1#32
  let v553 : BitVec 32 := Scalar.muli v8 c1_i32_416
  let v554 : BitVec 32 := Scalar.addi v552 v553
  v554.toNat
def k0_dev345 (d0 : Dev nD) : Nat :=
  let c0_i32_425 : BitVec 32 := 0#32
  let c1_i32_422 : BitVec 32 := 1#32
  let c8_i32_424 : BitVec 32 := 8#32
  let v561 : BitVec 32 := Scalar.muli c1_i32_422 c8_i32_424
  let v562 : BitVec 32 := Scalar.addi c0_i32_425 v561
  let c1_i32_423 : BitVec 32 := 1#32
  let c4_i32_426 : BitVec 32 := 4#32
  let v563 : BitVec 32 := Scalar.muli c1_i32_423 c4_i32_426
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_427 : BitVec 32 := 1#32
  let v565 : BitVec 32 := Scalar.muli v8 c1_i32_427
  let v566 : BitVec 32 := Scalar.addi v564 v565
  v566.toNat
def k0_dev346 (d0 : Dev nD) : Nat :=
  let c0_i32_435 : BitVec 32 := 0#32
  let c1_i32_432 : BitVec 32 := 1#32
  let c8_i32_434 : BitVec 32 := 8#32
  let v573 : BitVec 32 := Scalar.muli c1_i32_432 c8_i32_434
  let v574 : BitVec 32 := Scalar.addi c0_i32_435 v573
  let c1_i32_433 : BitVec 32 := 1#32
  let c4_i32_436 : BitVec 32 := 4#32
  let v575 : BitVec 32 := Scalar.muli c1_i32_433 c4_i32_436
  let v576 : BitVec 32 := Scalar.addi v574 v575
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_437 : BitVec 32 := 1#32
  let v577 : BitVec 32 := Scalar.muli v8 c1_i32_437
  let v578 : BitVec 32 := Scalar.addi v576 v577
  v578.toNat
def k0_dev347 (d0 : Dev nD) : Nat :=
  let c0_i32_445 : BitVec 32 := 0#32
  let c1_i32_442 : BitVec 32 := 1#32
  let c8_i32_444 : BitVec 32 := 8#32
  let v585 : BitVec 32 := Scalar.muli c1_i32_442 c8_i32_444
  let v586 : BitVec 32 := Scalar.addi c0_i32_445 v585
  let c1_i32_443 : BitVec 32 := 1#32
  let c4_i32_446 : BitVec 32 := 4#32
  let v587 : BitVec 32 := Scalar.muli c1_i32_443 c4_i32_446
  let v588 : BitVec 32 := Scalar.addi v586 v587
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_447 : BitVec 32 := 1#32
  let v589 : BitVec 32 := Scalar.muli v8 c1_i32_447
  let v590 : BitVec 32 := Scalar.addi v588 v589
  v590.toNat
def k0_dev348 (d0 : Dev nD) : Nat :=
  let c0_i32_468 : BitVec 32 := 0#32
  let c0_i32_465 : BitVec 32 := 0#32
  let c8_i32_467 : BitVec 32 := 8#32
  let v607 : BitVec 32 := Scalar.muli c0_i32_465 c8_i32_467
  let v608 : BitVec 32 := Scalar.addi c0_i32_468 v607
  let c0_i32_466 : BitVec 32 := 0#32
  let c4_i32_469 : BitVec 32 := 4#32
  let v609 : BitVec 32 := Scalar.muli c0_i32_466 c4_i32_469
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_470 : BitVec 32 := 1#32
  let v611 : BitVec 32 := Scalar.muli v8 c1_i32_470
  let v612 : BitVec 32 := Scalar.addi v610 v611
  v612.toNat
def k0_dev349 (d0 : Dev nD) : Nat :=
  let c0_i32_479 : BitVec 32 := 0#32
  let c1_i32_476 : BitVec 32 := 1#32
  let c8_i32_478 : BitVec 32 := 8#32
  let v619 : BitVec 32 := Scalar.muli c1_i32_476 c8_i32_478
  let v620 : BitVec 32 := Scalar.addi c0_i32_479 v619
  let c0_i32_477 : BitVec 32 := 0#32
  let c4_i32_480 : BitVec 32 := 4#32
  let v621 : BitVec 32 := Scalar.muli c0_i32_477 c4_i32_480
  let v622 : BitVec 32 := Scalar.addi v620 v621
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_481 : BitVec 32 := 1#32
  let v623 : BitVec 32 := Scalar.muli v100 c1_i32_481
  let v624 : BitVec 32 := Scalar.addi v622 v623
  v624.toNat
def k0_dev350 (d0 : Dev nD) : Nat :=
  let c0_i32_507 : BitVec 32 := 0#32
  let c0_i32_504 : BitVec 32 := 0#32
  let c8_i32_506 : BitVec 32 := 8#32
  let v644 : BitVec 32 := Scalar.muli c0_i32_504 c8_i32_506
  let v645 : BitVec 32 := Scalar.addi c0_i32_507 v644
  let c0_i32_505 : BitVec 32 := 0#32
  let c4_i32_508 : BitVec 32 := 4#32
  let v646 : BitVec 32 := Scalar.muli c0_i32_505 c4_i32_508
  let v647 : BitVec 32 := Scalar.addi v645 v646
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_509 : BitVec 32 := 1#32
  let v648 : BitVec 32 := Scalar.muli v8 c1_i32_509
  let v649 : BitVec 32 := Scalar.addi v647 v648
  v649.toNat
def k0_dev351 (d0 : Dev nD) : Nat :=
  let c0_i32_518 : BitVec 32 := 0#32
  let c1_i32_515 : BitVec 32 := 1#32
  let c8_i32_517 : BitVec 32 := 8#32
  let v656 : BitVec 32 := Scalar.muli c1_i32_515 c8_i32_517
  let v657 : BitVec 32 := Scalar.addi c0_i32_518 v656
  let c0_i32_516 : BitVec 32 := 0#32
  let c4_i32_519 : BitVec 32 := 4#32
  let v658 : BitVec 32 := Scalar.muli c0_i32_516 c4_i32_519
  let v659 : BitVec 32 := Scalar.addi v657 v658
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_520 : BitVec 32 := 1#32
  let v660 : BitVec 32 := Scalar.muli v100 c1_i32_520
  let v661 : BitVec 32 := Scalar.addi v659 v660
  v661.toNat
def k0_dev352 (d0 : Dev nD) : Nat :=
  let c0_i32_546 : BitVec 32 := 0#32
  let c0_i32_543 : BitVec 32 := 0#32
  let c8_i32_545 : BitVec 32 := 8#32
  let v681 : BitVec 32 := Scalar.muli c0_i32_543 c8_i32_545
  let v682 : BitVec 32 := Scalar.addi c0_i32_546 v681
  let c0_i32_544 : BitVec 32 := 0#32
  let c4_i32_547 : BitVec 32 := 4#32
  let v683 : BitVec 32 := Scalar.muli c0_i32_544 c4_i32_547
  let v684 : BitVec 32 := Scalar.addi v682 v683
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_548 : BitVec 32 := 1#32
  let v685 : BitVec 32 := Scalar.muli v8 c1_i32_548
  let v686 : BitVec 32 := Scalar.addi v684 v685
  v686.toNat
def k0_dev353 (d0 : Dev nD) : Nat :=
  let c0_i32_557 : BitVec 32 := 0#32
  let c1_i32_554 : BitVec 32 := 1#32
  let c8_i32_556 : BitVec 32 := 8#32
  let v693 : BitVec 32 := Scalar.muli c1_i32_554 c8_i32_556
  let v694 : BitVec 32 := Scalar.addi c0_i32_557 v693
  let c0_i32_555 : BitVec 32 := 0#32
  let c4_i32_558 : BitVec 32 := 4#32
  let v695 : BitVec 32 := Scalar.muli c0_i32_555 c4_i32_558
  let v696 : BitVec 32 := Scalar.addi v694 v695
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_559 : BitVec 32 := 1#32
  let v697 : BitVec 32 := Scalar.muli v100 c1_i32_559
  let v698 : BitVec 32 := Scalar.addi v696 v697
  v698.toNat
def k0_dev354 (d0 : Dev nD) : Nat :=
  let c0_i32_585 : BitVec 32 := 0#32
  let c0_i32_582 : BitVec 32 := 0#32
  let c8_i32_584 : BitVec 32 := 8#32
  let v718 : BitVec 32 := Scalar.muli c0_i32_582 c8_i32_584
  let v719 : BitVec 32 := Scalar.addi c0_i32_585 v718
  let c0_i32_583 : BitVec 32 := 0#32
  let c4_i32_586 : BitVec 32 := 4#32
  let v720 : BitVec 32 := Scalar.muli c0_i32_583 c4_i32_586
  let v721 : BitVec 32 := Scalar.addi v719 v720
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_587 : BitVec 32 := 1#32
  let v722 : BitVec 32 := Scalar.muli v8 c1_i32_587
  let v723 : BitVec 32 := Scalar.addi v721 v722
  v723.toNat
def k0_dev355 (d0 : Dev nD) : Nat :=
  let c0_i32_596 : BitVec 32 := 0#32
  let c1_i32_593 : BitVec 32 := 1#32
  let c8_i32_595 : BitVec 32 := 8#32
  let v730 : BitVec 32 := Scalar.muli c1_i32_593 c8_i32_595
  let v731 : BitVec 32 := Scalar.addi c0_i32_596 v730
  let c0_i32_594 : BitVec 32 := 0#32
  let c4_i32_597 : BitVec 32 := 4#32
  let v732 : BitVec 32 := Scalar.muli c0_i32_594 c4_i32_597
  let v733 : BitVec 32 := Scalar.addi v731 v732
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_598 : BitVec 32 := 1#32
  let v734 : BitVec 32 := Scalar.muli v100 c1_i32_598
  let v735 : BitVec 32 := Scalar.addi v733 v734
  v735.toNat
def k0_dev356 (d0 : Dev nD) : Nat :=
  let c0_i32_624 : BitVec 32 := 0#32
  let c0_i32_621 : BitVec 32 := 0#32
  let c8_i32_623 : BitVec 32 := 8#32
  let v755 : BitVec 32 := Scalar.muli c0_i32_621 c8_i32_623
  let v756 : BitVec 32 := Scalar.addi c0_i32_624 v755
  let c0_i32_622 : BitVec 32 := 0#32
  let c4_i32_625 : BitVec 32 := 4#32
  let v757 : BitVec 32 := Scalar.muli c0_i32_622 c4_i32_625
  let v758 : BitVec 32 := Scalar.addi v756 v757
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_626 : BitVec 32 := 1#32
  let v759 : BitVec 32 := Scalar.muli v8 c1_i32_626
  let v760 : BitVec 32 := Scalar.addi v758 v759
  v760.toNat
def k0_dev357 (d0 : Dev nD) : Nat :=
  let c0_i32_635 : BitVec 32 := 0#32
  let c1_i32_632 : BitVec 32 := 1#32
  let c8_i32_634 : BitVec 32 := 8#32
  let v767 : BitVec 32 := Scalar.muli c1_i32_632 c8_i32_634
  let v768 : BitVec 32 := Scalar.addi c0_i32_635 v767
  let c0_i32_633 : BitVec 32 := 0#32
  let c4_i32_636 : BitVec 32 := 4#32
  let v769 : BitVec 32 := Scalar.muli c0_i32_633 c4_i32_636
  let v770 : BitVec 32 := Scalar.addi v768 v769
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_637 : BitVec 32 := 1#32
  let v771 : BitVec 32 := Scalar.muli v100 c1_i32_637
  let v772 : BitVec 32 := Scalar.addi v770 v771
  v772.toNat
def k0_dev358 (d0 : Dev nD) : Nat :=
  let c0_i32_663 : BitVec 32 := 0#32
  let c0_i32_660 : BitVec 32 := 0#32
  let c8_i32_662 : BitVec 32 := 8#32
  let v792 : BitVec 32 := Scalar.muli c0_i32_660 c8_i32_662
  let v793 : BitVec 32 := Scalar.addi c0_i32_663 v792
  let c0_i32_661 : BitVec 32 := 0#32
  let c4_i32_664 : BitVec 32 := 4#32
  let v794 : BitVec 32 := Scalar.muli c0_i32_661 c4_i32_664
  let v795 : BitVec 32 := Scalar.addi v793 v794
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_665 : BitVec 32 := 1#32
  let v796 : BitVec 32 := Scalar.muli v8 c1_i32_665
  let v797 : BitVec 32 := Scalar.addi v795 v796
  v797.toNat
def k0_dev359 (d0 : Dev nD) : Nat :=
  let c0_i32_674 : BitVec 32 := 0#32
  let c1_i32_671 : BitVec 32 := 1#32
  let c8_i32_673 : BitVec 32 := 8#32
  let v804 : BitVec 32 := Scalar.muli c1_i32_671 c8_i32_673
  let v805 : BitVec 32 := Scalar.addi c0_i32_674 v804
  let c0_i32_672 : BitVec 32 := 0#32
  let c4_i32_675 : BitVec 32 := 4#32
  let v806 : BitVec 32 := Scalar.muli c0_i32_672 c4_i32_675
  let v807 : BitVec 32 := Scalar.addi v805 v806
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_676 : BitVec 32 := 1#32
  let v808 : BitVec 32 := Scalar.muli v100 c1_i32_676
  let v809 : BitVec 32 := Scalar.addi v807 v808
  v809.toNat
def k0_dev360 (d0 : Dev nD) : Nat :=
  let c0_i32_702 : BitVec 32 := 0#32
  let c0_i32_699 : BitVec 32 := 0#32
  let c8_i32_701 : BitVec 32 := 8#32
  let v829 : BitVec 32 := Scalar.muli c0_i32_699 c8_i32_701
  let v830 : BitVec 32 := Scalar.addi c0_i32_702 v829
  let c0_i32_700 : BitVec 32 := 0#32
  let c4_i32_703 : BitVec 32 := 4#32
  let v831 : BitVec 32 := Scalar.muli c0_i32_700 c4_i32_703
  let v832 : BitVec 32 := Scalar.addi v830 v831
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_704 : BitVec 32 := 1#32
  let v833 : BitVec 32 := Scalar.muli v8 c1_i32_704
  let v834 : BitVec 32 := Scalar.addi v832 v833
  v834.toNat
def k0_dev361 (d0 : Dev nD) : Nat :=
  let c0_i32_713 : BitVec 32 := 0#32
  let c1_i32_710 : BitVec 32 := 1#32
  let c8_i32_712 : BitVec 32 := 8#32
  let v841 : BitVec 32 := Scalar.muli c1_i32_710 c8_i32_712
  let v842 : BitVec 32 := Scalar.addi c0_i32_713 v841
  let c0_i32_711 : BitVec 32 := 0#32
  let c4_i32_714 : BitVec 32 := 4#32
  let v843 : BitVec 32 := Scalar.muli c0_i32_711 c4_i32_714
  let v844 : BitVec 32 := Scalar.addi v842 v843
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_715 : BitVec 32 := 1#32
  let v845 : BitVec 32 := Scalar.muli v100 c1_i32_715
  let v846 : BitVec 32 := Scalar.addi v844 v845
  v846.toNat
def k0_dev362 (d0 : Dev nD) : Nat :=
  let c0_i32_746 : BitVec 32 := 0#32
  let c0_i32_743 : BitVec 32 := 0#32
  let c8_i32_745 : BitVec 32 := 8#32
  let v870 : BitVec 32 := Scalar.muli c0_i32_743 c8_i32_745
  let v871 : BitVec 32 := Scalar.addi c0_i32_746 v870
  let c0_i32_744 : BitVec 32 := 0#32
  let c4_i32_747 : BitVec 32 := 4#32
  let v872 : BitVec 32 := Scalar.muli c0_i32_744 c4_i32_747
  let v873 : BitVec 32 := Scalar.addi v871 v872
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_748 : BitVec 32 := 1#32
  let v874 : BitVec 32 := Scalar.muli v8 c1_i32_748
  let v875 : BitVec 32 := Scalar.addi v873 v874
  v875.toNat
def k0_dev363 (d0 : Dev nD) : Nat :=
  let c0_i32_757 : BitVec 32 := 0#32
  let c1_i32_754 : BitVec 32 := 1#32
  let c8_i32_756 : BitVec 32 := 8#32
  let v882 : BitVec 32 := Scalar.muli c1_i32_754 c8_i32_756
  let v883 : BitVec 32 := Scalar.addi c0_i32_757 v882
  let c0_i32_755 : BitVec 32 := 0#32
  let c4_i32_758 : BitVec 32 := 4#32
  let v884 : BitVec 32 := Scalar.muli c0_i32_755 c4_i32_758
  let v885 : BitVec 32 := Scalar.addi v883 v884
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_759 : BitVec 32 := 1#32
  let v886 : BitVec 32 := Scalar.muli v100 c1_i32_759
  let v887 : BitVec 32 := Scalar.addi v885 v886
  v887.toNat
def k0_dev364 (d0 : Dev nD) : Nat :=
  let c0_i32_790 : BitVec 32 := 0#32
  let c0_i32_787 : BitVec 32 := 0#32
  let c8_i32_789 : BitVec 32 := 8#32
  let v911 : BitVec 32 := Scalar.muli c0_i32_787 c8_i32_789
  let v912 : BitVec 32 := Scalar.addi c0_i32_790 v911
  let c0_i32_788 : BitVec 32 := 0#32
  let c4_i32_791 : BitVec 32 := 4#32
  let v913 : BitVec 32 := Scalar.muli c0_i32_788 c4_i32_791
  let v914 : BitVec 32 := Scalar.addi v912 v913
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_792 : BitVec 32 := 1#32
  let v915 : BitVec 32 := Scalar.muli v8 c1_i32_792
  let v916 : BitVec 32 := Scalar.addi v914 v915
  v916.toNat
def k0_dev365 (d0 : Dev nD) : Nat :=
  let c0_i32_801 : BitVec 32 := 0#32
  let c1_i32_798 : BitVec 32 := 1#32
  let c8_i32_800 : BitVec 32 := 8#32
  let v923 : BitVec 32 := Scalar.muli c1_i32_798 c8_i32_800
  let v924 : BitVec 32 := Scalar.addi c0_i32_801 v923
  let c0_i32_799 : BitVec 32 := 0#32
  let c4_i32_802 : BitVec 32 := 4#32
  let v925 : BitVec 32 := Scalar.muli c0_i32_799 c4_i32_802
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_803 : BitVec 32 := 1#32
  let v927 : BitVec 32 := Scalar.muli v100 c1_i32_803
  let v928 : BitVec 32 := Scalar.addi v926 v927
  v928.toNat
def k0_dev366 (d0 : Dev nD) : Nat :=
  let c0_i32_834 : BitVec 32 := 0#32
  let c0_i32_831 : BitVec 32 := 0#32
  let c8_i32_833 : BitVec 32 := 8#32
  let v952 : BitVec 32 := Scalar.muli c0_i32_831 c8_i32_833
  let v953 : BitVec 32 := Scalar.addi c0_i32_834 v952
  let c0_i32_832 : BitVec 32 := 0#32
  let c4_i32_835 : BitVec 32 := 4#32
  let v954 : BitVec 32 := Scalar.muli c0_i32_832 c4_i32_835
  let v955 : BitVec 32 := Scalar.addi v953 v954
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_836 : BitVec 32 := 1#32
  let v956 : BitVec 32 := Scalar.muli v8 c1_i32_836
  let v957 : BitVec 32 := Scalar.addi v955 v956
  v957.toNat
def k0_dev367 (d0 : Dev nD) : Nat :=
  let c0_i32_845 : BitVec 32 := 0#32
  let c1_i32_842 : BitVec 32 := 1#32
  let c8_i32_844 : BitVec 32 := 8#32
  let v964 : BitVec 32 := Scalar.muli c1_i32_842 c8_i32_844
  let v965 : BitVec 32 := Scalar.addi c0_i32_845 v964
  let c0_i32_843 : BitVec 32 := 0#32
  let c4_i32_846 : BitVec 32 := 4#32
  let v966 : BitVec 32 := Scalar.muli c0_i32_843 c4_i32_846
  let v967 : BitVec 32 := Scalar.addi v965 v966
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_847 : BitVec 32 := 1#32
  let v968 : BitVec 32 := Scalar.muli v100 c1_i32_847
  let v969 : BitVec 32 := Scalar.addi v967 v968
  v969.toNat
def k0_dev368 (d0 : Dev nD) : Nat :=
  let c0_i32_878 : BitVec 32 := 0#32
  let c0_i32_875 : BitVec 32 := 0#32
  let c8_i32_877 : BitVec 32 := 8#32
  let v993 : BitVec 32 := Scalar.muli c0_i32_875 c8_i32_877
  let v994 : BitVec 32 := Scalar.addi c0_i32_878 v993
  let c0_i32_876 : BitVec 32 := 0#32
  let c4_i32_879 : BitVec 32 := 4#32
  let v995 : BitVec 32 := Scalar.muli c0_i32_876 c4_i32_879
  let v996 : BitVec 32 := Scalar.addi v994 v995
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_880 : BitVec 32 := 1#32
  let v997 : BitVec 32 := Scalar.muli v8 c1_i32_880
  let v998 : BitVec 32 := Scalar.addi v996 v997
  v998.toNat
def k0_dev369 (d0 : Dev nD) : Nat :=
  let c0_i32_889 : BitVec 32 := 0#32
  let c1_i32_886 : BitVec 32 := 1#32
  let c8_i32_888 : BitVec 32 := 8#32
  let v1005 : BitVec 32 := Scalar.muli c1_i32_886 c8_i32_888
  let v1006 : BitVec 32 := Scalar.addi c0_i32_889 v1005
  let c0_i32_887 : BitVec 32 := 0#32
  let c4_i32_890 : BitVec 32 := 4#32
  let v1007 : BitVec 32 := Scalar.muli c0_i32_887 c4_i32_890
  let v1008 : BitVec 32 := Scalar.addi v1006 v1007
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_891 : BitVec 32 := 1#32
  let v1009 : BitVec 32 := Scalar.muli v100 c1_i32_891
  let v1010 : BitVec 32 := Scalar.addi v1008 v1009
  v1010.toNat
def k0_dev370 (d0 : Dev nD) : Nat :=
  let c0_i32_921 : BitVec 32 := 0#32
  let c0_i32_918 : BitVec 32 := 0#32
  let c8_i32_920 : BitVec 32 := 8#32
  let v1034 : BitVec 32 := Scalar.muli c0_i32_918 c8_i32_920
  let v1035 : BitVec 32 := Scalar.addi c0_i32_921 v1034
  let c0_i32_919 : BitVec 32 := 0#32
  let c4_i32_922 : BitVec 32 := 4#32
  let v1036 : BitVec 32 := Scalar.muli c0_i32_919 c4_i32_922
  let v1037 : BitVec 32 := Scalar.addi v1035 v1036
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_923 : BitVec 32 := 1#32
  let v1038 : BitVec 32 := Scalar.muli v8 c1_i32_923
  let v1039 : BitVec 32 := Scalar.addi v1037 v1038
  v1039.toNat
def k0_dev371 (d0 : Dev nD) : Nat :=
  let c0_i32_932 : BitVec 32 := 0#32
  let c1_i32_929 : BitVec 32 := 1#32
  let c8_i32_931 : BitVec 32 := 8#32
  let v1046 : BitVec 32 := Scalar.muli c1_i32_929 c8_i32_931
  let v1047 : BitVec 32 := Scalar.addi c0_i32_932 v1046
  let c0_i32_930 : BitVec 32 := 0#32
  let c4_i32_933 : BitVec 32 := 4#32
  let v1048 : BitVec 32 := Scalar.muli c0_i32_930 c4_i32_933
  let v1049 : BitVec 32 := Scalar.addi v1047 v1048
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_934 : BitVec 32 := 1#32
  let v1050 : BitVec 32 := Scalar.muli v100 c1_i32_934
  let v1051 : BitVec 32 := Scalar.addi v1049 v1050
  v1051.toNat
def k0_dev372 (d0 : Dev nD) : Nat :=
  let c0_i32_964 : BitVec 32 := 0#32
  let c0_i32_961 : BitVec 32 := 0#32
  let c8_i32_963 : BitVec 32 := 8#32
  let v1075 : BitVec 32 := Scalar.muli c0_i32_961 c8_i32_963
  let v1076 : BitVec 32 := Scalar.addi c0_i32_964 v1075
  let c0_i32_962 : BitVec 32 := 0#32
  let c4_i32_965 : BitVec 32 := 4#32
  let v1077 : BitVec 32 := Scalar.muli c0_i32_962 c4_i32_965
  let v1078 : BitVec 32 := Scalar.addi v1076 v1077
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_966 : BitVec 32 := 1#32
  let v1079 : BitVec 32 := Scalar.muli v8 c1_i32_966
  let v1080 : BitVec 32 := Scalar.addi v1078 v1079
  v1080.toNat
def k0_dev373 (d0 : Dev nD) : Nat :=
  let c0_i32_975 : BitVec 32 := 0#32
  let c1_i32_972 : BitVec 32 := 1#32
  let c8_i32_974 : BitVec 32 := 8#32
  let v1087 : BitVec 32 := Scalar.muli c1_i32_972 c8_i32_974
  let v1088 : BitVec 32 := Scalar.addi c0_i32_975 v1087
  let c0_i32_973 : BitVec 32 := 0#32
  let c4_i32_976 : BitVec 32 := 4#32
  let v1089 : BitVec 32 := Scalar.muli c0_i32_973 c4_i32_976
  let v1090 : BitVec 32 := Scalar.addi v1088 v1089
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_977 : BitVec 32 := 1#32
  let v1091 : BitVec 32 := Scalar.muli v100 c1_i32_977
  let v1092 : BitVec 32 := Scalar.addi v1090 v1091
  v1092.toNat
def k0_dev374 (d0 : Dev nD) : Nat :=
  let c0_i32_1007 : BitVec 32 := 0#32
  let c0_i32_1004 : BitVec 32 := 0#32
  let c8_i32_1006 : BitVec 32 := 8#32
  let v1116 : BitVec 32 := Scalar.muli c0_i32_1004 c8_i32_1006
  let v1117 : BitVec 32 := Scalar.addi c0_i32_1007 v1116
  let c0_i32_1005 : BitVec 32 := 0#32
  let c4_i32_1008 : BitVec 32 := 4#32
  let v1118 : BitVec 32 := Scalar.muli c0_i32_1005 c4_i32_1008
  let v1119 : BitVec 32 := Scalar.addi v1117 v1118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1009 : BitVec 32 := 1#32
  let v1120 : BitVec 32 := Scalar.muli v8 c1_i32_1009
  let v1121 : BitVec 32 := Scalar.addi v1119 v1120
  v1121.toNat
def k0_dev375 (d0 : Dev nD) : Nat :=
  let c0_i32_1018 : BitVec 32 := 0#32
  let c1_i32_1015 : BitVec 32 := 1#32
  let c8_i32_1017 : BitVec 32 := 8#32
  let v1128 : BitVec 32 := Scalar.muli c1_i32_1015 c8_i32_1017
  let v1129 : BitVec 32 := Scalar.addi c0_i32_1018 v1128
  let c0_i32_1016 : BitVec 32 := 0#32
  let c4_i32_1019 : BitVec 32 := 4#32
  let v1130 : BitVec 32 := Scalar.muli c0_i32_1016 c4_i32_1019
  let v1131 : BitVec 32 := Scalar.addi v1129 v1130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1020 : BitVec 32 := 1#32
  let v1132 : BitVec 32 := Scalar.muli v100 c1_i32_1020
  let v1133 : BitVec 32 := Scalar.addi v1131 v1132
  v1133.toNat
def k0_dev376 (d0 : Dev nD) : Nat :=
  let c0_i32_1050 : BitVec 32 := 0#32
  let c0_i32_1047 : BitVec 32 := 0#32
  let c8_i32_1049 : BitVec 32 := 8#32
  let v1157 : BitVec 32 := Scalar.muli c0_i32_1047 c8_i32_1049
  let v1158 : BitVec 32 := Scalar.addi c0_i32_1050 v1157
  let c0_i32_1048 : BitVec 32 := 0#32
  let c4_i32_1051 : BitVec 32 := 4#32
  let v1159 : BitVec 32 := Scalar.muli c0_i32_1048 c4_i32_1051
  let v1160 : BitVec 32 := Scalar.addi v1158 v1159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1052 : BitVec 32 := 1#32
  let v1161 : BitVec 32 := Scalar.muli v8 c1_i32_1052
  let v1162 : BitVec 32 := Scalar.addi v1160 v1161
  v1162.toNat
def k0_dev377 (d0 : Dev nD) : Nat :=
  let c0_i32_1061 : BitVec 32 := 0#32
  let c1_i32_1058 : BitVec 32 := 1#32
  let c8_i32_1060 : BitVec 32 := 8#32
  let v1169 : BitVec 32 := Scalar.muli c1_i32_1058 c8_i32_1060
  let v1170 : BitVec 32 := Scalar.addi c0_i32_1061 v1169
  let c0_i32_1059 : BitVec 32 := 0#32
  let c4_i32_1062 : BitVec 32 := 4#32
  let v1171 : BitVec 32 := Scalar.muli c0_i32_1059 c4_i32_1062
  let v1172 : BitVec 32 := Scalar.addi v1170 v1171
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1063 : BitVec 32 := 1#32
  let v1173 : BitVec 32 := Scalar.muli v100 c1_i32_1063
  let v1174 : BitVec 32 := Scalar.addi v1172 v1173
  v1174.toNat
def k0_dev378 (d0 : Dev nD) : Nat :=
  let c0_i32_1093 : BitVec 32 := 0#32
  let c0_i32_1090 : BitVec 32 := 0#32
  let c8_i32_1092 : BitVec 32 := 8#32
  let v1198 : BitVec 32 := Scalar.muli c0_i32_1090 c8_i32_1092
  let v1199 : BitVec 32 := Scalar.addi c0_i32_1093 v1198
  let c0_i32_1091 : BitVec 32 := 0#32
  let c4_i32_1094 : BitVec 32 := 4#32
  let v1200 : BitVec 32 := Scalar.muli c0_i32_1091 c4_i32_1094
  let v1201 : BitVec 32 := Scalar.addi v1199 v1200
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1095 : BitVec 32 := 1#32
  let v1202 : BitVec 32 := Scalar.muli v8 c1_i32_1095
  let v1203 : BitVec 32 := Scalar.addi v1201 v1202
  v1203.toNat
def k0_dev379 (d0 : Dev nD) : Nat :=
  let c0_i32_1104 : BitVec 32 := 0#32
  let c1_i32_1101 : BitVec 32 := 1#32
  let c8_i32_1103 : BitVec 32 := 8#32
  let v1210 : BitVec 32 := Scalar.muli c1_i32_1101 c8_i32_1103
  let v1211 : BitVec 32 := Scalar.addi c0_i32_1104 v1210
  let c0_i32_1102 : BitVec 32 := 0#32
  let c4_i32_1105 : BitVec 32 := 4#32
  let v1212 : BitVec 32 := Scalar.muli c0_i32_1102 c4_i32_1105
  let v1213 : BitVec 32 := Scalar.addi v1211 v1212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1106 : BitVec 32 := 1#32
  let v1214 : BitVec 32 := Scalar.muli v100 c1_i32_1106
  let v1215 : BitVec 32 := Scalar.addi v1213 v1214
  v1215.toNat
def k0_dev380 (d0 : Dev nD) : Nat :=
  let c0_i32_1136 : BitVec 32 := 0#32
  let c0_i32_1133 : BitVec 32 := 0#32
  let c8_i32_1135 : BitVec 32 := 8#32
  let v1239 : BitVec 32 := Scalar.muli c0_i32_1133 c8_i32_1135
  let v1240 : BitVec 32 := Scalar.addi c0_i32_1136 v1239
  let c0_i32_1134 : BitVec 32 := 0#32
  let c4_i32_1137 : BitVec 32 := 4#32
  let v1241 : BitVec 32 := Scalar.muli c0_i32_1134 c4_i32_1137
  let v1242 : BitVec 32 := Scalar.addi v1240 v1241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1138 : BitVec 32 := 1#32
  let v1243 : BitVec 32 := Scalar.muli v8 c1_i32_1138
  let v1244 : BitVec 32 := Scalar.addi v1242 v1243
  v1244.toNat
def k0_dev381 (d0 : Dev nD) : Nat :=
  let c0_i32_1159 : BitVec 32 := 0#32
  let c0_i32_1156 : BitVec 32 := 0#32
  let c8_i32_1158 : BitVec 32 := 8#32
  let v1261 : BitVec 32 := Scalar.muli c0_i32_1156 c8_i32_1158
  let v1262 : BitVec 32 := Scalar.addi c0_i32_1159 v1261
  let c0_i32_1157 : BitVec 32 := 0#32
  let c4_i32_1160 : BitVec 32 := 4#32
  let v1263 : BitVec 32 := Scalar.muli c0_i32_1157 c4_i32_1160
  let v1264 : BitVec 32 := Scalar.addi v1262 v1263
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1161 : BitVec 32 := 1#32
  let v1265 : BitVec 32 := Scalar.muli v8 c1_i32_1161
  let v1266 : BitVec 32 := Scalar.addi v1264 v1265
  v1266.toNat
def k0_dev382 (d0 : Dev nD) : Nat :=
  let c0_i32_1182 : BitVec 32 := 0#32
  let c0_i32_1179 : BitVec 32 := 0#32
  let c8_i32_1181 : BitVec 32 := 8#32
  let v1283 : BitVec 32 := Scalar.muli c0_i32_1179 c8_i32_1181
  let v1284 : BitVec 32 := Scalar.addi c0_i32_1182 v1283
  let c0_i32_1180 : BitVec 32 := 0#32
  let c4_i32_1183 : BitVec 32 := 4#32
  let v1285 : BitVec 32 := Scalar.muli c0_i32_1180 c4_i32_1183
  let v1286 : BitVec 32 := Scalar.addi v1284 v1285
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1184 : BitVec 32 := 1#32
  let v1287 : BitVec 32 := Scalar.muli v8 c1_i32_1184
  let v1288 : BitVec 32 := Scalar.addi v1286 v1287
  v1288.toNat
def k0_dev383 (d0 : Dev nD) : Nat :=
  let c0_i32_1205 : BitVec 32 := 0#32
  let c0_i32_1202 : BitVec 32 := 0#32
  let c8_i32_1204 : BitVec 32 := 8#32
  let v1305 : BitVec 32 := Scalar.muli c0_i32_1202 c8_i32_1204
  let v1306 : BitVec 32 := Scalar.addi c0_i32_1205 v1305
  let c0_i32_1203 : BitVec 32 := 0#32
  let c4_i32_1206 : BitVec 32 := 4#32
  let v1307 : BitVec 32 := Scalar.muli c0_i32_1203 c4_i32_1206
  let v1308 : BitVec 32 := Scalar.addi v1306 v1307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1207 : BitVec 32 := 1#32
  let v1309 : BitVec 32 := Scalar.muli v8 c1_i32_1207
  let v1310 : BitVec 32 := Scalar.addi v1308 v1309
  v1310.toNat
def k0_dev384 (d0 : Dev nD) : Nat :=
  let c0_i32_1228 : BitVec 32 := 0#32
  let c1_i32_1225 : BitVec 32 := 1#32
  let c8_i32_1227 : BitVec 32 := 8#32
  let v1327 : BitVec 32 := Scalar.muli c1_i32_1225 c8_i32_1227
  let v1328 : BitVec 32 := Scalar.addi c0_i32_1228 v1327
  let c0_i32_1226 : BitVec 32 := 0#32
  let c4_i32_1229 : BitVec 32 := 4#32
  let v1329 : BitVec 32 := Scalar.muli c0_i32_1226 c4_i32_1229
  let v1330 : BitVec 32 := Scalar.addi v1328 v1329
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1230 : BitVec 32 := 1#32
  let v1331 : BitVec 32 := Scalar.muli v100 c1_i32_1230
  let v1332 : BitVec 32 := Scalar.addi v1330 v1331
  v1332.toNat
def k0_dev385 (d0 : Dev nD) : Nat :=
  let c0_i32_1251 : BitVec 32 := 0#32
  let c1_i32_1248 : BitVec 32 := 1#32
  let c8_i32_1250 : BitVec 32 := 8#32
  let v1349 : BitVec 32 := Scalar.muli c1_i32_1248 c8_i32_1250
  let v1350 : BitVec 32 := Scalar.addi c0_i32_1251 v1349
  let c0_i32_1249 : BitVec 32 := 0#32
  let c4_i32_1252 : BitVec 32 := 4#32
  let v1351 : BitVec 32 := Scalar.muli c0_i32_1249 c4_i32_1252
  let v1352 : BitVec 32 := Scalar.addi v1350 v1351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1253 : BitVec 32 := 1#32
  let v1353 : BitVec 32 := Scalar.muli v100 c1_i32_1253
  let v1354 : BitVec 32 := Scalar.addi v1352 v1353
  v1354.toNat
def k0_dev386 (d0 : Dev nD) : Nat :=
  let c0_i32_1274 : BitVec 32 := 0#32
  let c1_i32_1271 : BitVec 32 := 1#32
  let c8_i32_1273 : BitVec 32 := 8#32
  let v1371 : BitVec 32 := Scalar.muli c1_i32_1271 c8_i32_1273
  let v1372 : BitVec 32 := Scalar.addi c0_i32_1274 v1371
  let c0_i32_1272 : BitVec 32 := 0#32
  let c4_i32_1275 : BitVec 32 := 4#32
  let v1373 : BitVec 32 := Scalar.muli c0_i32_1272 c4_i32_1275
  let v1374 : BitVec 32 := Scalar.addi v1372 v1373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1276 : BitVec 32 := 1#32
  let v1375 : BitVec 32 := Scalar.muli v100 c1_i32_1276
  let v1376 : BitVec 32 := Scalar.addi v1374 v1375
  v1376.toNat
def k0_dev387 (d0 : Dev nD) : Nat :=
  let c0_i32_1297 : BitVec 32 := 0#32
  let c1_i32_1294 : BitVec 32 := 1#32
  let c8_i32_1296 : BitVec 32 := 8#32
  let v1393 : BitVec 32 := Scalar.muli c1_i32_1294 c8_i32_1296
  let v1394 : BitVec 32 := Scalar.addi c0_i32_1297 v1393
  let c0_i32_1295 : BitVec 32 := 0#32
  let c4_i32_1298 : BitVec 32 := 4#32
  let v1395 : BitVec 32 := Scalar.muli c0_i32_1295 c4_i32_1298
  let v1396 : BitVec 32 := Scalar.addi v1394 v1395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1299 : BitVec 32 := 1#32
  let v1397 : BitVec 32 := Scalar.muli v100 c1_i32_1299
  let v1398 : BitVec 32 := Scalar.addi v1396 v1397
  v1398.toNat
def k0_cond7 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_50 : BitVec 32 := 1#32
  let v85 : BitVec 1 := Scalar.cmpi .eq v2 c1_i32_50
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_51 : BitVec 32 := 1#32
  let v86 : BitVec 1 := Scalar.cmpi .eq v5 c1_i32_51
  let v87 : BitVec 1 := Scalar.andi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c0_i32_52 : BitVec 32 := 0#32
  let v88 : BitVec 1 := Scalar.cmpi .eq v18 c0_i32_52
  let v89 : BitVec 1 := Scalar.andi v87 v88
  let v90 : BitVec 32 := Scalar.extui v89
  let c0_i32_53 : BitVec 32 := 0#32
  let v91 : BitVec 1 := Scalar.cmpi .ne v90 c0_i32_53
  v91

def k0_dev388 (d0 : Dev nD) : Nat :=
  let c0_i32_206 : BitVec 32 := 0#32
  let c1_i32_203 : BitVec 32 := 1#32
  let c8_i32_205 : BitVec 32 := 8#32
  let v309 : BitVec 32 := Scalar.muli c1_i32_203 c8_i32_205
  let v310 : BitVec 32 := Scalar.addi c0_i32_206 v309
  let c0_i32_204 : BitVec 32 := 0#32
  let c4_i32_207 : BitVec 32 := 4#32
  let v311 : BitVec 32 := Scalar.muli c0_i32_204 c4_i32_207
  let v312 : BitVec 32 := Scalar.addi v310 v311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_208 : BitVec 32 := 1#32
  let v313 : BitVec 32 := Scalar.muli v8 c1_i32_208
  let v314 : BitVec 32 := Scalar.addi v312 v313
  v314.toNat
def k0_dev389 (d0 : Dev nD) : Nat :=
  let c0_i32_217 : BitVec 32 := 0#32
  let c1_i32_214 : BitVec 32 := 1#32
  let c8_i32_216 : BitVec 32 := 8#32
  let v321 : BitVec 32 := Scalar.muli c1_i32_214 c8_i32_216
  let v322 : BitVec 32 := Scalar.addi c0_i32_217 v321
  let c0_i32_215 : BitVec 32 := 0#32
  let c4_i32_218 : BitVec 32 := 4#32
  let v323 : BitVec 32 := Scalar.muli c0_i32_215 c4_i32_218
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_219 : BitVec 32 := 1#32
  let v325 : BitVec 32 := Scalar.muli v8 c1_i32_219
  let v326 : BitVec 32 := Scalar.addi v324 v325
  v326.toNat
def k0_dev390 (d0 : Dev nD) : Nat :=
  let c0_i32_227 : BitVec 32 := 0#32
  let c1_i32_224 : BitVec 32 := 1#32
  let c8_i32_226 : BitVec 32 := 8#32
  let v333 : BitVec 32 := Scalar.muli c1_i32_224 c8_i32_226
  let v334 : BitVec 32 := Scalar.addi c0_i32_227 v333
  let c0_i32_225 : BitVec 32 := 0#32
  let c4_i32_228 : BitVec 32 := 4#32
  let v335 : BitVec 32 := Scalar.muli c0_i32_225 c4_i32_228
  let v336 : BitVec 32 := Scalar.addi v334 v335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v337 : BitVec 32 := Scalar.muli v8 c1_i32_229
  let v338 : BitVec 32 := Scalar.addi v336 v337
  v338.toNat
def k0_dev391 (d0 : Dev nD) : Nat :=
  let c0_i32_237 : BitVec 32 := 0#32
  let c1_i32_234 : BitVec 32 := 1#32
  let c8_i32_236 : BitVec 32 := 8#32
  let v345 : BitVec 32 := Scalar.muli c1_i32_234 c8_i32_236
  let v346 : BitVec 32 := Scalar.addi c0_i32_237 v345
  let c0_i32_235 : BitVec 32 := 0#32
  let c4_i32_238 : BitVec 32 := 4#32
  let v347 : BitVec 32 := Scalar.muli c0_i32_235 c4_i32_238
  let v348 : BitVec 32 := Scalar.addi v346 v347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_239 : BitVec 32 := 1#32
  let v349 : BitVec 32 := Scalar.muli v8 c1_i32_239
  let v350 : BitVec 32 := Scalar.addi v348 v349
  v350.toNat
def k0_dev392 (d0 : Dev nD) : Nat :=
  let c0_i32_247 : BitVec 32 := 0#32
  let c1_i32_244 : BitVec 32 := 1#32
  let c8_i32_246 : BitVec 32 := 8#32
  let v357 : BitVec 32 := Scalar.muli c1_i32_244 c8_i32_246
  let v358 : BitVec 32 := Scalar.addi c0_i32_247 v357
  let c0_i32_245 : BitVec 32 := 0#32
  let c4_i32_248 : BitVec 32 := 4#32
  let v359 : BitVec 32 := Scalar.muli c0_i32_245 c4_i32_248
  let v360 : BitVec 32 := Scalar.addi v358 v359
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v361 : BitVec 32 := Scalar.muli v8 c1_i32_249
  let v362 : BitVec 32 := Scalar.addi v360 v361
  v362.toNat
def k0_dev393 (d0 : Dev nD) : Nat :=
  let c0_i32_258 : BitVec 32 := 0#32
  let c1_i32_255 : BitVec 32 := 1#32
  let c8_i32_257 : BitVec 32 := 8#32
  let v369 : BitVec 32 := Scalar.muli c1_i32_255 c8_i32_257
  let v370 : BitVec 32 := Scalar.addi c0_i32_258 v369
  let c0_i32_256 : BitVec 32 := 0#32
  let c4_i32_259 : BitVec 32 := 4#32
  let v371 : BitVec 32 := Scalar.muli c0_i32_256 c4_i32_259
  let v372 : BitVec 32 := Scalar.addi v370 v371
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_260 : BitVec 32 := 1#32
  let v373 : BitVec 32 := Scalar.muli v8 c1_i32_260
  let v374 : BitVec 32 := Scalar.addi v372 v373
  v374.toNat
def k0_dev394 (d0 : Dev nD) : Nat :=
  let c0_i32_268 : BitVec 32 := 0#32
  let c1_i32_265 : BitVec 32 := 1#32
  let c8_i32_267 : BitVec 32 := 8#32
  let v381 : BitVec 32 := Scalar.muli c1_i32_265 c8_i32_267
  let v382 : BitVec 32 := Scalar.addi c0_i32_268 v381
  let c0_i32_266 : BitVec 32 := 0#32
  let c4_i32_269 : BitVec 32 := 4#32
  let v383 : BitVec 32 := Scalar.muli c0_i32_266 c4_i32_269
  let v384 : BitVec 32 := Scalar.addi v382 v383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_270 : BitVec 32 := 1#32
  let v385 : BitVec 32 := Scalar.muli v8 c1_i32_270
  let v386 : BitVec 32 := Scalar.addi v384 v385
  v386.toNat
def k0_dev395 (d0 : Dev nD) : Nat :=
  let c0_i32_278 : BitVec 32 := 0#32
  let c1_i32_275 : BitVec 32 := 1#32
  let c8_i32_277 : BitVec 32 := 8#32
  let v393 : BitVec 32 := Scalar.muli c1_i32_275 c8_i32_277
  let v394 : BitVec 32 := Scalar.addi c0_i32_278 v393
  let c0_i32_276 : BitVec 32 := 0#32
  let c4_i32_279 : BitVec 32 := 4#32
  let v395 : BitVec 32 := Scalar.muli c0_i32_276 c4_i32_279
  let v396 : BitVec 32 := Scalar.addi v394 v395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_280 : BitVec 32 := 1#32
  let v397 : BitVec 32 := Scalar.muli v8 c1_i32_280
  let v398 : BitVec 32 := Scalar.addi v396 v397
  v398.toNat
def k0_dev396 (d0 : Dev nD) : Nat :=
  let c0_i32_288 : BitVec 32 := 0#32
  let c1_i32_285 : BitVec 32 := 1#32
  let c8_i32_287 : BitVec 32 := 8#32
  let v405 : BitVec 32 := Scalar.muli c1_i32_285 c8_i32_287
  let v406 : BitVec 32 := Scalar.addi c0_i32_288 v405
  let c0_i32_286 : BitVec 32 := 0#32
  let c4_i32_289 : BitVec 32 := 4#32
  let v407 : BitVec 32 := Scalar.muli c0_i32_286 c4_i32_289
  let v408 : BitVec 32 := Scalar.addi v406 v407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_290 : BitVec 32 := 1#32
  let v409 : BitVec 32 := Scalar.muli v8 c1_i32_290
  let v410 : BitVec 32 := Scalar.addi v408 v409
  v410.toNat
def k0_dev397 (d0 : Dev nD) : Nat :=
  let c0_i32_299 : BitVec 32 := 0#32
  let c1_i32_296 : BitVec 32 := 1#32
  let c8_i32_298 : BitVec 32 := 8#32
  let v417 : BitVec 32 := Scalar.muli c1_i32_296 c8_i32_298
  let v418 : BitVec 32 := Scalar.addi c0_i32_299 v417
  let c0_i32_297 : BitVec 32 := 0#32
  let c4_i32_300 : BitVec 32 := 4#32
  let v419 : BitVec 32 := Scalar.muli c0_i32_297 c4_i32_300
  let v420 : BitVec 32 := Scalar.addi v418 v419
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_301 : BitVec 32 := 1#32
  let v421 : BitVec 32 := Scalar.muli v8 c1_i32_301
  let v422 : BitVec 32 := Scalar.addi v420 v421
  v422.toNat
def k0_dev398 (d0 : Dev nD) : Nat :=
  let c0_i32_309 : BitVec 32 := 0#32
  let c1_i32_306 : BitVec 32 := 1#32
  let c8_i32_308 : BitVec 32 := 8#32
  let v429 : BitVec 32 := Scalar.muli c1_i32_306 c8_i32_308
  let v430 : BitVec 32 := Scalar.addi c0_i32_309 v429
  let c0_i32_307 : BitVec 32 := 0#32
  let c4_i32_310 : BitVec 32 := 4#32
  let v431 : BitVec 32 := Scalar.muli c0_i32_307 c4_i32_310
  let v432 : BitVec 32 := Scalar.addi v430 v431
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_311 : BitVec 32 := 1#32
  let v433 : BitVec 32 := Scalar.muli v8 c1_i32_311
  let v434 : BitVec 32 := Scalar.addi v432 v433
  v434.toNat
def k0_dev399 (d0 : Dev nD) : Nat :=
  let c0_i32_319 : BitVec 32 := 0#32
  let c1_i32_316 : BitVec 32 := 1#32
  let c8_i32_318 : BitVec 32 := 8#32
  let v441 : BitVec 32 := Scalar.muli c1_i32_316 c8_i32_318
  let v442 : BitVec 32 := Scalar.addi c0_i32_319 v441
  let c0_i32_317 : BitVec 32 := 0#32
  let c4_i32_320 : BitVec 32 := 4#32
  let v443 : BitVec 32 := Scalar.muli c0_i32_317 c4_i32_320
  let v444 : BitVec 32 := Scalar.addi v442 v443
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_321 : BitVec 32 := 1#32
  let v445 : BitVec 32 := Scalar.muli v8 c1_i32_321
  let v446 : BitVec 32 := Scalar.addi v444 v445
  v446.toNat
def k0_dev400 (d0 : Dev nD) : Nat :=
  let c0_i32_329 : BitVec 32 := 0#32
  let c1_i32_326 : BitVec 32 := 1#32
  let c8_i32_328 : BitVec 32 := 8#32
  let v453 : BitVec 32 := Scalar.muli c1_i32_326 c8_i32_328
  let v454 : BitVec 32 := Scalar.addi c0_i32_329 v453
  let c0_i32_327 : BitVec 32 := 0#32
  let c4_i32_330 : BitVec 32 := 4#32
  let v455 : BitVec 32 := Scalar.muli c0_i32_327 c4_i32_330
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v457 : BitVec 32 := Scalar.muli v8 c1_i32_331
  let v458 : BitVec 32 := Scalar.addi v456 v457
  v458.toNat
def k0_dev401 (d0 : Dev nD) : Nat :=
  let c0_i32_340 : BitVec 32 := 0#32
  let c1_i32_337 : BitVec 32 := 1#32
  let c8_i32_339 : BitVec 32 := 8#32
  let v465 : BitVec 32 := Scalar.muli c1_i32_337 c8_i32_339
  let v466 : BitVec 32 := Scalar.addi c0_i32_340 v465
  let c0_i32_338 : BitVec 32 := 0#32
  let c4_i32_341 : BitVec 32 := 4#32
  let v467 : BitVec 32 := Scalar.muli c0_i32_338 c4_i32_341
  let v468 : BitVec 32 := Scalar.addi v466 v467
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_342 : BitVec 32 := 1#32
  let v469 : BitVec 32 := Scalar.muli v8 c1_i32_342
  let v470 : BitVec 32 := Scalar.addi v468 v469
  v470.toNat
def k0_dev402 (d0 : Dev nD) : Nat :=
  let c0_i32_350 : BitVec 32 := 0#32
  let c1_i32_347 : BitVec 32 := 1#32
  let c8_i32_349 : BitVec 32 := 8#32
  let v477 : BitVec 32 := Scalar.muli c1_i32_347 c8_i32_349
  let v478 : BitVec 32 := Scalar.addi c0_i32_350 v477
  let c0_i32_348 : BitVec 32 := 0#32
  let c4_i32_351 : BitVec 32 := 4#32
  let v479 : BitVec 32 := Scalar.muli c0_i32_348 c4_i32_351
  let v480 : BitVec 32 := Scalar.addi v478 v479
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_352 : BitVec 32 := 1#32
  let v481 : BitVec 32 := Scalar.muli v8 c1_i32_352
  let v482 : BitVec 32 := Scalar.addi v480 v481
  v482.toNat
def k0_dev403 (d0 : Dev nD) : Nat :=
  let c0_i32_360 : BitVec 32 := 0#32
  let c1_i32_357 : BitVec 32 := 1#32
  let c8_i32_359 : BitVec 32 := 8#32
  let v489 : BitVec 32 := Scalar.muli c1_i32_357 c8_i32_359
  let v490 : BitVec 32 := Scalar.addi c0_i32_360 v489
  let c0_i32_358 : BitVec 32 := 0#32
  let c4_i32_361 : BitVec 32 := 4#32
  let v491 : BitVec 32 := Scalar.muli c0_i32_358 c4_i32_361
  let v492 : BitVec 32 := Scalar.addi v490 v491
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_362 : BitVec 32 := 1#32
  let v493 : BitVec 32 := Scalar.muli v8 c1_i32_362
  let v494 : BitVec 32 := Scalar.addi v492 v493
  v494.toNat
def k0_dev404 (d0 : Dev nD) : Nat :=
  let c0_i32_369 : BitVec 32 := 0#32
  let c1_i32_366 : BitVec 32 := 1#32
  let c8_i32_368 : BitVec 32 := 8#32
  let v501 : BitVec 32 := Scalar.muli c1_i32_366 c8_i32_368
  let v502 : BitVec 32 := Scalar.addi c0_i32_369 v501
  let c0_i32_367 : BitVec 32 := 0#32
  let c4_i32_370 : BitVec 32 := 4#32
  let v503 : BitVec 32 := Scalar.muli c0_i32_367 c4_i32_370
  let v504 : BitVec 32 := Scalar.addi v502 v503
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_371 : BitVec 32 := 1#32
  let v505 : BitVec 32 := Scalar.muli v8 c1_i32_371
  let v506 : BitVec 32 := Scalar.addi v504 v505
  v506.toNat
def k0_dev405 (d0 : Dev nD) : Nat :=
  let c0_i32_379 : BitVec 32 := 0#32
  let c1_i32_376 : BitVec 32 := 1#32
  let c8_i32_378 : BitVec 32 := 8#32
  let v513 : BitVec 32 := Scalar.muli c1_i32_376 c8_i32_378
  let v514 : BitVec 32 := Scalar.addi c0_i32_379 v513
  let c0_i32_377 : BitVec 32 := 0#32
  let c4_i32_380 : BitVec 32 := 4#32
  let v515 : BitVec 32 := Scalar.muli c0_i32_377 c4_i32_380
  let v516 : BitVec 32 := Scalar.addi v514 v515
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_381 : BitVec 32 := 1#32
  let v517 : BitVec 32 := Scalar.muli v8 c1_i32_381
  let v518 : BitVec 32 := Scalar.addi v516 v517
  v518.toNat
def k0_dev406 (d0 : Dev nD) : Nat :=
  let c0_i32_388 : BitVec 32 := 0#32
  let c1_i32_385 : BitVec 32 := 1#32
  let c8_i32_387 : BitVec 32 := 8#32
  let v525 : BitVec 32 := Scalar.muli c1_i32_385 c8_i32_387
  let v526 : BitVec 32 := Scalar.addi c0_i32_388 v525
  let c0_i32_386 : BitVec 32 := 0#32
  let c4_i32_389 : BitVec 32 := 4#32
  let v527 : BitVec 32 := Scalar.muli c0_i32_386 c4_i32_389
  let v528 : BitVec 32 := Scalar.addi v526 v527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v529 : BitVec 32 := Scalar.muli v8 c1_i32_390
  let v530 : BitVec 32 := Scalar.addi v528 v529
  v530.toNat
def k0_dev407 (d0 : Dev nD) : Nat :=
  let c0_i32_397 : BitVec 32 := 0#32
  let c1_i32_394 : BitVec 32 := 1#32
  let c8_i32_396 : BitVec 32 := 8#32
  let v537 : BitVec 32 := Scalar.muli c1_i32_394 c8_i32_396
  let v538 : BitVec 32 := Scalar.addi c0_i32_397 v537
  let c0_i32_395 : BitVec 32 := 0#32
  let c4_i32_398 : BitVec 32 := 4#32
  let v539 : BitVec 32 := Scalar.muli c0_i32_395 c4_i32_398
  let v540 : BitVec 32 := Scalar.addi v538 v539
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_399 : BitVec 32 := 1#32
  let v541 : BitVec 32 := Scalar.muli v8 c1_i32_399
  let v542 : BitVec 32 := Scalar.addi v540 v541
  v542.toNat
def k0_dev408 (d0 : Dev nD) : Nat :=
  let c0_i32_406 : BitVec 32 := 0#32
  let c1_i32_403 : BitVec 32 := 1#32
  let c8_i32_405 : BitVec 32 := 8#32
  let v549 : BitVec 32 := Scalar.muli c1_i32_403 c8_i32_405
  let v550 : BitVec 32 := Scalar.addi c0_i32_406 v549
  let c0_i32_404 : BitVec 32 := 0#32
  let c4_i32_407 : BitVec 32 := 4#32
  let v551 : BitVec 32 := Scalar.muli c0_i32_404 c4_i32_407
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v553 : BitVec 32 := Scalar.muli v8 c1_i32_408
  let v554 : BitVec 32 := Scalar.addi v552 v553
  v554.toNat
def k0_dev409 (d0 : Dev nD) : Nat :=
  let c0_i32_416 : BitVec 32 := 0#32
  let c1_i32_413 : BitVec 32 := 1#32
  let c8_i32_415 : BitVec 32 := 8#32
  let v561 : BitVec 32 := Scalar.muli c1_i32_413 c8_i32_415
  let v562 : BitVec 32 := Scalar.addi c0_i32_416 v561
  let c0_i32_414 : BitVec 32 := 0#32
  let c4_i32_417 : BitVec 32 := 4#32
  let v563 : BitVec 32 := Scalar.muli c0_i32_414 c4_i32_417
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_418 : BitVec 32 := 1#32
  let v565 : BitVec 32 := Scalar.muli v8 c1_i32_418
  let v566 : BitVec 32 := Scalar.addi v564 v565
  v566.toNat
def k0_dev410 (d0 : Dev nD) : Nat :=
  let c0_i32_425 : BitVec 32 := 0#32
  let c1_i32_422 : BitVec 32 := 1#32
  let c8_i32_424 : BitVec 32 := 8#32
  let v573 : BitVec 32 := Scalar.muli c1_i32_422 c8_i32_424
  let v574 : BitVec 32 := Scalar.addi c0_i32_425 v573
  let c0_i32_423 : BitVec 32 := 0#32
  let c4_i32_426 : BitVec 32 := 4#32
  let v575 : BitVec 32 := Scalar.muli c0_i32_423 c4_i32_426
  let v576 : BitVec 32 := Scalar.addi v574 v575
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_427 : BitVec 32 := 1#32
  let v577 : BitVec 32 := Scalar.muli v8 c1_i32_427
  let v578 : BitVec 32 := Scalar.addi v576 v577
  v578.toNat
def k0_dev411 (d0 : Dev nD) : Nat :=
  let c0_i32_434 : BitVec 32 := 0#32
  let c1_i32_431 : BitVec 32 := 1#32
  let c8_i32_433 : BitVec 32 := 8#32
  let v585 : BitVec 32 := Scalar.muli c1_i32_431 c8_i32_433
  let v586 : BitVec 32 := Scalar.addi c0_i32_434 v585
  let c0_i32_432 : BitVec 32 := 0#32
  let c4_i32_435 : BitVec 32 := 4#32
  let v587 : BitVec 32 := Scalar.muli c0_i32_432 c4_i32_435
  let v588 : BitVec 32 := Scalar.addi v586 v587
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_436 : BitVec 32 := 1#32
  let v589 : BitVec 32 := Scalar.muli v8 c1_i32_436
  let v590 : BitVec 32 := Scalar.addi v588 v589
  v590.toNat
def k0_dev412 (d0 : Dev nD) : Nat :=
  let c0_i32_456 : BitVec 32 := 0#32
  let c0_i32_453 : BitVec 32 := 0#32
  let c8_i32_455 : BitVec 32 := 8#32
  let v607 : BitVec 32 := Scalar.muli c0_i32_453 c8_i32_455
  let v608 : BitVec 32 := Scalar.addi c0_i32_456 v607
  let c1_i32_454 : BitVec 32 := 1#32
  let c4_i32_457 : BitVec 32 := 4#32
  let v609 : BitVec 32 := Scalar.muli c1_i32_454 c4_i32_457
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_458 : BitVec 32 := 1#32
  let v611 : BitVec 32 := Scalar.muli v8 c1_i32_458
  let v612 : BitVec 32 := Scalar.addi v610 v611
  v612.toNat
def k0_dev413 (d0 : Dev nD) : Nat :=
  let c0_i32_468 : BitVec 32 := 0#32
  let c1_i32_465 : BitVec 32 := 1#32
  let c8_i32_467 : BitVec 32 := 8#32
  let v619 : BitVec 32 := Scalar.muli c1_i32_465 c8_i32_467
  let v620 : BitVec 32 := Scalar.addi c0_i32_468 v619
  let c1_i32_466 : BitVec 32 := 1#32
  let c4_i32_469 : BitVec 32 := 4#32
  let v621 : BitVec 32 := Scalar.muli c1_i32_466 c4_i32_469
  let v622 : BitVec 32 := Scalar.addi v620 v621
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_470 : BitVec 32 := 1#32
  let v623 : BitVec 32 := Scalar.muli v100 c1_i32_470
  let v624 : BitVec 32 := Scalar.addi v622 v623
  v624.toNat
def k0_dev414 (d0 : Dev nD) : Nat :=
  let c0_i32_495 : BitVec 32 := 0#32
  let c0_i32_492 : BitVec 32 := 0#32
  let c8_i32_494 : BitVec 32 := 8#32
  let v644 : BitVec 32 := Scalar.muli c0_i32_492 c8_i32_494
  let v645 : BitVec 32 := Scalar.addi c0_i32_495 v644
  let c1_i32_493 : BitVec 32 := 1#32
  let c4_i32_496 : BitVec 32 := 4#32
  let v646 : BitVec 32 := Scalar.muli c1_i32_493 c4_i32_496
  let v647 : BitVec 32 := Scalar.addi v645 v646
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_497 : BitVec 32 := 1#32
  let v648 : BitVec 32 := Scalar.muli v8 c1_i32_497
  let v649 : BitVec 32 := Scalar.addi v647 v648
  v649.toNat
def k0_dev415 (d0 : Dev nD) : Nat :=
  let c0_i32_506 : BitVec 32 := 0#32
  let c1_i32_503 : BitVec 32 := 1#32
  let c8_i32_505 : BitVec 32 := 8#32
  let v656 : BitVec 32 := Scalar.muli c1_i32_503 c8_i32_505
  let v657 : BitVec 32 := Scalar.addi c0_i32_506 v656
  let c1_i32_504 : BitVec 32 := 1#32
  let c4_i32_507 : BitVec 32 := 4#32
  let v658 : BitVec 32 := Scalar.muli c1_i32_504 c4_i32_507
  let v659 : BitVec 32 := Scalar.addi v657 v658
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_508 : BitVec 32 := 1#32
  let v660 : BitVec 32 := Scalar.muli v100 c1_i32_508
  let v661 : BitVec 32 := Scalar.addi v659 v660
  v661.toNat
def k0_dev416 (d0 : Dev nD) : Nat :=
  let c0_i32_533 : BitVec 32 := 0#32
  let c0_i32_530 : BitVec 32 := 0#32
  let c8_i32_532 : BitVec 32 := 8#32
  let v681 : BitVec 32 := Scalar.muli c0_i32_530 c8_i32_532
  let v682 : BitVec 32 := Scalar.addi c0_i32_533 v681
  let c1_i32_531 : BitVec 32 := 1#32
  let c4_i32_534 : BitVec 32 := 4#32
  let v683 : BitVec 32 := Scalar.muli c1_i32_531 c4_i32_534
  let v684 : BitVec 32 := Scalar.addi v682 v683
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_535 : BitVec 32 := 1#32
  let v685 : BitVec 32 := Scalar.muli v8 c1_i32_535
  let v686 : BitVec 32 := Scalar.addi v684 v685
  v686.toNat
def k0_dev417 (d0 : Dev nD) : Nat :=
  let c0_i32_544 : BitVec 32 := 0#32
  let c1_i32_541 : BitVec 32 := 1#32
  let c8_i32_543 : BitVec 32 := 8#32
  let v693 : BitVec 32 := Scalar.muli c1_i32_541 c8_i32_543
  let v694 : BitVec 32 := Scalar.addi c0_i32_544 v693
  let c1_i32_542 : BitVec 32 := 1#32
  let c4_i32_545 : BitVec 32 := 4#32
  let v695 : BitVec 32 := Scalar.muli c1_i32_542 c4_i32_545
  let v696 : BitVec 32 := Scalar.addi v694 v695
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_546 : BitVec 32 := 1#32
  let v697 : BitVec 32 := Scalar.muli v100 c1_i32_546
  let v698 : BitVec 32 := Scalar.addi v696 v697
  v698.toNat
def k0_dev418 (d0 : Dev nD) : Nat :=
  let c0_i32_571 : BitVec 32 := 0#32
  let c0_i32_568 : BitVec 32 := 0#32
  let c8_i32_570 : BitVec 32 := 8#32
  let v718 : BitVec 32 := Scalar.muli c0_i32_568 c8_i32_570
  let v719 : BitVec 32 := Scalar.addi c0_i32_571 v718
  let c1_i32_569 : BitVec 32 := 1#32
  let c4_i32_572 : BitVec 32 := 4#32
  let v720 : BitVec 32 := Scalar.muli c1_i32_569 c4_i32_572
  let v721 : BitVec 32 := Scalar.addi v719 v720
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_573 : BitVec 32 := 1#32
  let v722 : BitVec 32 := Scalar.muli v8 c1_i32_573
  let v723 : BitVec 32 := Scalar.addi v721 v722
  v723.toNat
def k0_dev419 (d0 : Dev nD) : Nat :=
  let c0_i32_582 : BitVec 32 := 0#32
  let c1_i32_579 : BitVec 32 := 1#32
  let c8_i32_581 : BitVec 32 := 8#32
  let v730 : BitVec 32 := Scalar.muli c1_i32_579 c8_i32_581
  let v731 : BitVec 32 := Scalar.addi c0_i32_582 v730
  let c1_i32_580 : BitVec 32 := 1#32
  let c4_i32_583 : BitVec 32 := 4#32
  let v732 : BitVec 32 := Scalar.muli c1_i32_580 c4_i32_583
  let v733 : BitVec 32 := Scalar.addi v731 v732
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_584 : BitVec 32 := 1#32
  let v734 : BitVec 32 := Scalar.muli v100 c1_i32_584
  let v735 : BitVec 32 := Scalar.addi v733 v734
  v735.toNat
def k0_dev420 (d0 : Dev nD) : Nat :=
  let c0_i32_609 : BitVec 32 := 0#32
  let c0_i32_606 : BitVec 32 := 0#32
  let c8_i32_608 : BitVec 32 := 8#32
  let v755 : BitVec 32 := Scalar.muli c0_i32_606 c8_i32_608
  let v756 : BitVec 32 := Scalar.addi c0_i32_609 v755
  let c1_i32_607 : BitVec 32 := 1#32
  let c4_i32_610 : BitVec 32 := 4#32
  let v757 : BitVec 32 := Scalar.muli c1_i32_607 c4_i32_610
  let v758 : BitVec 32 := Scalar.addi v756 v757
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_611 : BitVec 32 := 1#32
  let v759 : BitVec 32 := Scalar.muli v8 c1_i32_611
  let v760 : BitVec 32 := Scalar.addi v758 v759
  v760.toNat
def k0_dev421 (d0 : Dev nD) : Nat :=
  let c0_i32_621 : BitVec 32 := 0#32
  let c1_i32_618 : BitVec 32 := 1#32
  let c8_i32_620 : BitVec 32 := 8#32
  let v767 : BitVec 32 := Scalar.muli c1_i32_618 c8_i32_620
  let v768 : BitVec 32 := Scalar.addi c0_i32_621 v767
  let c1_i32_619 : BitVec 32 := 1#32
  let c4_i32_622 : BitVec 32 := 4#32
  let v769 : BitVec 32 := Scalar.muli c1_i32_619 c4_i32_622
  let v770 : BitVec 32 := Scalar.addi v768 v769
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_623 : BitVec 32 := 1#32
  let v771 : BitVec 32 := Scalar.muli v100 c1_i32_623
  let v772 : BitVec 32 := Scalar.addi v770 v771
  v772.toNat
def k0_dev422 (d0 : Dev nD) : Nat :=
  let c0_i32_648 : BitVec 32 := 0#32
  let c0_i32_645 : BitVec 32 := 0#32
  let c8_i32_647 : BitVec 32 := 8#32
  let v792 : BitVec 32 := Scalar.muli c0_i32_645 c8_i32_647
  let v793 : BitVec 32 := Scalar.addi c0_i32_648 v792
  let c1_i32_646 : BitVec 32 := 1#32
  let c4_i32_649 : BitVec 32 := 4#32
  let v794 : BitVec 32 := Scalar.muli c1_i32_646 c4_i32_649
  let v795 : BitVec 32 := Scalar.addi v793 v794
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_650 : BitVec 32 := 1#32
  let v796 : BitVec 32 := Scalar.muli v8 c1_i32_650
  let v797 : BitVec 32 := Scalar.addi v795 v796
  v797.toNat
def k0_dev423 (d0 : Dev nD) : Nat :=
  let c0_i32_659 : BitVec 32 := 0#32
  let c1_i32_656 : BitVec 32 := 1#32
  let c8_i32_658 : BitVec 32 := 8#32
  let v804 : BitVec 32 := Scalar.muli c1_i32_656 c8_i32_658
  let v805 : BitVec 32 := Scalar.addi c0_i32_659 v804
  let c1_i32_657 : BitVec 32 := 1#32
  let c4_i32_660 : BitVec 32 := 4#32
  let v806 : BitVec 32 := Scalar.muli c1_i32_657 c4_i32_660
  let v807 : BitVec 32 := Scalar.addi v805 v806
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_661 : BitVec 32 := 1#32
  let v808 : BitVec 32 := Scalar.muli v100 c1_i32_661
  let v809 : BitVec 32 := Scalar.addi v807 v808
  v809.toNat
def k0_dev424 (d0 : Dev nD) : Nat :=
  let c0_i32_686 : BitVec 32 := 0#32
  let c0_i32_683 : BitVec 32 := 0#32
  let c8_i32_685 : BitVec 32 := 8#32
  let v829 : BitVec 32 := Scalar.muli c0_i32_683 c8_i32_685
  let v830 : BitVec 32 := Scalar.addi c0_i32_686 v829
  let c1_i32_684 : BitVec 32 := 1#32
  let c4_i32_687 : BitVec 32 := 4#32
  let v831 : BitVec 32 := Scalar.muli c1_i32_684 c4_i32_687
  let v832 : BitVec 32 := Scalar.addi v830 v831
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_688 : BitVec 32 := 1#32
  let v833 : BitVec 32 := Scalar.muli v8 c1_i32_688
  let v834 : BitVec 32 := Scalar.addi v832 v833
  v834.toNat
def k0_dev425 (d0 : Dev nD) : Nat :=
  let c0_i32_697 : BitVec 32 := 0#32
  let c1_i32_694 : BitVec 32 := 1#32
  let c8_i32_696 : BitVec 32 := 8#32
  let v841 : BitVec 32 := Scalar.muli c1_i32_694 c8_i32_696
  let v842 : BitVec 32 := Scalar.addi c0_i32_697 v841
  let c1_i32_695 : BitVec 32 := 1#32
  let c4_i32_698 : BitVec 32 := 4#32
  let v843 : BitVec 32 := Scalar.muli c1_i32_695 c4_i32_698
  let v844 : BitVec 32 := Scalar.addi v842 v843
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_699 : BitVec 32 := 1#32
  let v845 : BitVec 32 := Scalar.muli v100 c1_i32_699
  let v846 : BitVec 32 := Scalar.addi v844 v845
  v846.toNat
def k0_dev426 (d0 : Dev nD) : Nat :=
  let c0_i32_729 : BitVec 32 := 0#32
  let c0_i32_726 : BitVec 32 := 0#32
  let c8_i32_728 : BitVec 32 := 8#32
  let v870 : BitVec 32 := Scalar.muli c0_i32_726 c8_i32_728
  let v871 : BitVec 32 := Scalar.addi c0_i32_729 v870
  let c1_i32_727 : BitVec 32 := 1#32
  let c4_i32_730 : BitVec 32 := 4#32
  let v872 : BitVec 32 := Scalar.muli c1_i32_727 c4_i32_730
  let v873 : BitVec 32 := Scalar.addi v871 v872
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_731 : BitVec 32 := 1#32
  let v874 : BitVec 32 := Scalar.muli v8 c1_i32_731
  let v875 : BitVec 32 := Scalar.addi v873 v874
  v875.toNat
def k0_dev427 (d0 : Dev nD) : Nat :=
  let c0_i32_740 : BitVec 32 := 0#32
  let c1_i32_737 : BitVec 32 := 1#32
  let c8_i32_739 : BitVec 32 := 8#32
  let v882 : BitVec 32 := Scalar.muli c1_i32_737 c8_i32_739
  let v883 : BitVec 32 := Scalar.addi c0_i32_740 v882
  let c1_i32_738 : BitVec 32 := 1#32
  let c4_i32_741 : BitVec 32 := 4#32
  let v884 : BitVec 32 := Scalar.muli c1_i32_738 c4_i32_741
  let v885 : BitVec 32 := Scalar.addi v883 v884
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_742 : BitVec 32 := 1#32
  let v886 : BitVec 32 := Scalar.muli v100 c1_i32_742
  let v887 : BitVec 32 := Scalar.addi v885 v886
  v887.toNat
def k0_dev428 (d0 : Dev nD) : Nat :=
  let c0_i32_772 : BitVec 32 := 0#32
  let c0_i32_769 : BitVec 32 := 0#32
  let c8_i32_771 : BitVec 32 := 8#32
  let v911 : BitVec 32 := Scalar.muli c0_i32_769 c8_i32_771
  let v912 : BitVec 32 := Scalar.addi c0_i32_772 v911
  let c1_i32_770 : BitVec 32 := 1#32
  let c4_i32_773 : BitVec 32 := 4#32
  let v913 : BitVec 32 := Scalar.muli c1_i32_770 c4_i32_773
  let v914 : BitVec 32 := Scalar.addi v912 v913
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_774 : BitVec 32 := 1#32
  let v915 : BitVec 32 := Scalar.muli v8 c1_i32_774
  let v916 : BitVec 32 := Scalar.addi v914 v915
  v916.toNat
def k0_dev429 (d0 : Dev nD) : Nat :=
  let c0_i32_784 : BitVec 32 := 0#32
  let c1_i32_781 : BitVec 32 := 1#32
  let c8_i32_783 : BitVec 32 := 8#32
  let v923 : BitVec 32 := Scalar.muli c1_i32_781 c8_i32_783
  let v924 : BitVec 32 := Scalar.addi c0_i32_784 v923
  let c1_i32_782 : BitVec 32 := 1#32
  let c4_i32_785 : BitVec 32 := 4#32
  let v925 : BitVec 32 := Scalar.muli c1_i32_782 c4_i32_785
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_786 : BitVec 32 := 1#32
  let v927 : BitVec 32 := Scalar.muli v100 c1_i32_786
  let v928 : BitVec 32 := Scalar.addi v926 v927
  v928.toNat
def k0_dev430 (d0 : Dev nD) : Nat :=
  let c0_i32_816 : BitVec 32 := 0#32
  let c0_i32_813 : BitVec 32 := 0#32
  let c8_i32_815 : BitVec 32 := 8#32
  let v952 : BitVec 32 := Scalar.muli c0_i32_813 c8_i32_815
  let v953 : BitVec 32 := Scalar.addi c0_i32_816 v952
  let c1_i32_814 : BitVec 32 := 1#32
  let c4_i32_817 : BitVec 32 := 4#32
  let v954 : BitVec 32 := Scalar.muli c1_i32_814 c4_i32_817
  let v955 : BitVec 32 := Scalar.addi v953 v954
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_818 : BitVec 32 := 1#32
  let v956 : BitVec 32 := Scalar.muli v8 c1_i32_818
  let v957 : BitVec 32 := Scalar.addi v955 v956
  v957.toNat
def k0_dev431 (d0 : Dev nD) : Nat :=
  let c0_i32_827 : BitVec 32 := 0#32
  let c1_i32_824 : BitVec 32 := 1#32
  let c8_i32_826 : BitVec 32 := 8#32
  let v964 : BitVec 32 := Scalar.muli c1_i32_824 c8_i32_826
  let v965 : BitVec 32 := Scalar.addi c0_i32_827 v964
  let c1_i32_825 : BitVec 32 := 1#32
  let c4_i32_828 : BitVec 32 := 4#32
  let v966 : BitVec 32 := Scalar.muli c1_i32_825 c4_i32_828
  let v967 : BitVec 32 := Scalar.addi v965 v966
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_829 : BitVec 32 := 1#32
  let v968 : BitVec 32 := Scalar.muli v100 c1_i32_829
  let v969 : BitVec 32 := Scalar.addi v967 v968
  v969.toNat
def k0_dev432 (d0 : Dev nD) : Nat :=
  let c0_i32_859 : BitVec 32 := 0#32
  let c0_i32_856 : BitVec 32 := 0#32
  let c8_i32_858 : BitVec 32 := 8#32
  let v993 : BitVec 32 := Scalar.muli c0_i32_856 c8_i32_858
  let v994 : BitVec 32 := Scalar.addi c0_i32_859 v993
  let c1_i32_857 : BitVec 32 := 1#32
  let c4_i32_860 : BitVec 32 := 4#32
  let v995 : BitVec 32 := Scalar.muli c1_i32_857 c4_i32_860
  let v996 : BitVec 32 := Scalar.addi v994 v995
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_861 : BitVec 32 := 1#32
  let v997 : BitVec 32 := Scalar.muli v8 c1_i32_861
  let v998 : BitVec 32 := Scalar.addi v996 v997
  v998.toNat
def k0_dev433 (d0 : Dev nD) : Nat :=
  let c0_i32_870 : BitVec 32 := 0#32
  let c1_i32_867 : BitVec 32 := 1#32
  let c8_i32_869 : BitVec 32 := 8#32
  let v1005 : BitVec 32 := Scalar.muli c1_i32_867 c8_i32_869
  let v1006 : BitVec 32 := Scalar.addi c0_i32_870 v1005
  let c1_i32_868 : BitVec 32 := 1#32
  let c4_i32_871 : BitVec 32 := 4#32
  let v1007 : BitVec 32 := Scalar.muli c1_i32_868 c4_i32_871
  let v1008 : BitVec 32 := Scalar.addi v1006 v1007
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_872 : BitVec 32 := 1#32
  let v1009 : BitVec 32 := Scalar.muli v100 c1_i32_872
  let v1010 : BitVec 32 := Scalar.addi v1008 v1009
  v1010.toNat
def k0_dev434 (d0 : Dev nD) : Nat :=
  let c0_i32_901 : BitVec 32 := 0#32
  let c0_i32_898 : BitVec 32 := 0#32
  let c8_i32_900 : BitVec 32 := 8#32
  let v1034 : BitVec 32 := Scalar.muli c0_i32_898 c8_i32_900
  let v1035 : BitVec 32 := Scalar.addi c0_i32_901 v1034
  let c1_i32_899 : BitVec 32 := 1#32
  let c4_i32_902 : BitVec 32 := 4#32
  let v1036 : BitVec 32 := Scalar.muli c1_i32_899 c4_i32_902
  let v1037 : BitVec 32 := Scalar.addi v1035 v1036
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_903 : BitVec 32 := 1#32
  let v1038 : BitVec 32 := Scalar.muli v8 c1_i32_903
  let v1039 : BitVec 32 := Scalar.addi v1037 v1038
  v1039.toNat
def k0_dev435 (d0 : Dev nD) : Nat :=
  let c0_i32_912 : BitVec 32 := 0#32
  let c1_i32_909 : BitVec 32 := 1#32
  let c8_i32_911 : BitVec 32 := 8#32
  let v1046 : BitVec 32 := Scalar.muli c1_i32_909 c8_i32_911
  let v1047 : BitVec 32 := Scalar.addi c0_i32_912 v1046
  let c1_i32_910 : BitVec 32 := 1#32
  let c4_i32_913 : BitVec 32 := 4#32
  let v1048 : BitVec 32 := Scalar.muli c1_i32_910 c4_i32_913
  let v1049 : BitVec 32 := Scalar.addi v1047 v1048
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_914 : BitVec 32 := 1#32
  let v1050 : BitVec 32 := Scalar.muli v100 c1_i32_914
  let v1051 : BitVec 32 := Scalar.addi v1049 v1050
  v1051.toNat
def k0_dev436 (d0 : Dev nD) : Nat :=
  let c0_i32_943 : BitVec 32 := 0#32
  let c0_i32_940 : BitVec 32 := 0#32
  let c8_i32_942 : BitVec 32 := 8#32
  let v1075 : BitVec 32 := Scalar.muli c0_i32_940 c8_i32_942
  let v1076 : BitVec 32 := Scalar.addi c0_i32_943 v1075
  let c1_i32_941 : BitVec 32 := 1#32
  let c4_i32_944 : BitVec 32 := 4#32
  let v1077 : BitVec 32 := Scalar.muli c1_i32_941 c4_i32_944
  let v1078 : BitVec 32 := Scalar.addi v1076 v1077
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_945 : BitVec 32 := 1#32
  let v1079 : BitVec 32 := Scalar.muli v8 c1_i32_945
  let v1080 : BitVec 32 := Scalar.addi v1078 v1079
  v1080.toNat
def k0_dev437 (d0 : Dev nD) : Nat :=
  let c0_i32_955 : BitVec 32 := 0#32
  let c1_i32_952 : BitVec 32 := 1#32
  let c8_i32_954 : BitVec 32 := 8#32
  let v1087 : BitVec 32 := Scalar.muli c1_i32_952 c8_i32_954
  let v1088 : BitVec 32 := Scalar.addi c0_i32_955 v1087
  let c1_i32_953 : BitVec 32 := 1#32
  let c4_i32_956 : BitVec 32 := 4#32
  let v1089 : BitVec 32 := Scalar.muli c1_i32_953 c4_i32_956
  let v1090 : BitVec 32 := Scalar.addi v1088 v1089
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_957 : BitVec 32 := 1#32
  let v1091 : BitVec 32 := Scalar.muli v100 c1_i32_957
  let v1092 : BitVec 32 := Scalar.addi v1090 v1091
  v1092.toNat
def k0_dev438 (d0 : Dev nD) : Nat :=
  let c0_i32_986 : BitVec 32 := 0#32
  let c0_i32_983 : BitVec 32 := 0#32
  let c8_i32_985 : BitVec 32 := 8#32
  let v1116 : BitVec 32 := Scalar.muli c0_i32_983 c8_i32_985
  let v1117 : BitVec 32 := Scalar.addi c0_i32_986 v1116
  let c1_i32_984 : BitVec 32 := 1#32
  let c4_i32_987 : BitVec 32 := 4#32
  let v1118 : BitVec 32 := Scalar.muli c1_i32_984 c4_i32_987
  let v1119 : BitVec 32 := Scalar.addi v1117 v1118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_988 : BitVec 32 := 1#32
  let v1120 : BitVec 32 := Scalar.muli v8 c1_i32_988
  let v1121 : BitVec 32 := Scalar.addi v1119 v1120
  v1121.toNat
def k0_dev439 (d0 : Dev nD) : Nat :=
  let c0_i32_997 : BitVec 32 := 0#32
  let c1_i32_994 : BitVec 32 := 1#32
  let c8_i32_996 : BitVec 32 := 8#32
  let v1128 : BitVec 32 := Scalar.muli c1_i32_994 c8_i32_996
  let v1129 : BitVec 32 := Scalar.addi c0_i32_997 v1128
  let c1_i32_995 : BitVec 32 := 1#32
  let c4_i32_998 : BitVec 32 := 4#32
  let v1130 : BitVec 32 := Scalar.muli c1_i32_995 c4_i32_998
  let v1131 : BitVec 32 := Scalar.addi v1129 v1130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_999 : BitVec 32 := 1#32
  let v1132 : BitVec 32 := Scalar.muli v100 c1_i32_999
  let v1133 : BitVec 32 := Scalar.addi v1131 v1132
  v1133.toNat
def k0_dev440 (d0 : Dev nD) : Nat :=
  let c0_i32_1028 : BitVec 32 := 0#32
  let c0_i32_1025 : BitVec 32 := 0#32
  let c8_i32_1027 : BitVec 32 := 8#32
  let v1157 : BitVec 32 := Scalar.muli c0_i32_1025 c8_i32_1027
  let v1158 : BitVec 32 := Scalar.addi c0_i32_1028 v1157
  let c1_i32_1026 : BitVec 32 := 1#32
  let c4_i32_1029 : BitVec 32 := 4#32
  let v1159 : BitVec 32 := Scalar.muli c1_i32_1026 c4_i32_1029
  let v1160 : BitVec 32 := Scalar.addi v1158 v1159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1030 : BitVec 32 := 1#32
  let v1161 : BitVec 32 := Scalar.muli v8 c1_i32_1030
  let v1162 : BitVec 32 := Scalar.addi v1160 v1161
  v1162.toNat
def k0_dev441 (d0 : Dev nD) : Nat :=
  let c0_i32_1039 : BitVec 32 := 0#32
  let c1_i32_1036 : BitVec 32 := 1#32
  let c8_i32_1038 : BitVec 32 := 8#32
  let v1169 : BitVec 32 := Scalar.muli c1_i32_1036 c8_i32_1038
  let v1170 : BitVec 32 := Scalar.addi c0_i32_1039 v1169
  let c1_i32_1037 : BitVec 32 := 1#32
  let c4_i32_1040 : BitVec 32 := 4#32
  let v1171 : BitVec 32 := Scalar.muli c1_i32_1037 c4_i32_1040
  let v1172 : BitVec 32 := Scalar.addi v1170 v1171
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1041 : BitVec 32 := 1#32
  let v1173 : BitVec 32 := Scalar.muli v100 c1_i32_1041
  let v1174 : BitVec 32 := Scalar.addi v1172 v1173
  v1174.toNat
def k0_dev442 (d0 : Dev nD) : Nat :=
  let c0_i32_1070 : BitVec 32 := 0#32
  let c0_i32_1067 : BitVec 32 := 0#32
  let c8_i32_1069 : BitVec 32 := 8#32
  let v1198 : BitVec 32 := Scalar.muli c0_i32_1067 c8_i32_1069
  let v1199 : BitVec 32 := Scalar.addi c0_i32_1070 v1198
  let c1_i32_1068 : BitVec 32 := 1#32
  let c4_i32_1071 : BitVec 32 := 4#32
  let v1200 : BitVec 32 := Scalar.muli c1_i32_1068 c4_i32_1071
  let v1201 : BitVec 32 := Scalar.addi v1199 v1200
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1072 : BitVec 32 := 1#32
  let v1202 : BitVec 32 := Scalar.muli v8 c1_i32_1072
  let v1203 : BitVec 32 := Scalar.addi v1201 v1202
  v1203.toNat
def k0_dev443 (d0 : Dev nD) : Nat :=
  let c0_i32_1081 : BitVec 32 := 0#32
  let c1_i32_1078 : BitVec 32 := 1#32
  let c8_i32_1080 : BitVec 32 := 8#32
  let v1210 : BitVec 32 := Scalar.muli c1_i32_1078 c8_i32_1080
  let v1211 : BitVec 32 := Scalar.addi c0_i32_1081 v1210
  let c1_i32_1079 : BitVec 32 := 1#32
  let c4_i32_1082 : BitVec 32 := 4#32
  let v1212 : BitVec 32 := Scalar.muli c1_i32_1079 c4_i32_1082
  let v1213 : BitVec 32 := Scalar.addi v1211 v1212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1083 : BitVec 32 := 1#32
  let v1214 : BitVec 32 := Scalar.muli v100 c1_i32_1083
  let v1215 : BitVec 32 := Scalar.addi v1213 v1214
  v1215.toNat
def k0_dev444 (d0 : Dev nD) : Nat :=
  let c0_i32_1112 : BitVec 32 := 0#32
  let c0_i32_1109 : BitVec 32 := 0#32
  let c8_i32_1111 : BitVec 32 := 8#32
  let v1239 : BitVec 32 := Scalar.muli c0_i32_1109 c8_i32_1111
  let v1240 : BitVec 32 := Scalar.addi c0_i32_1112 v1239
  let c1_i32_1110 : BitVec 32 := 1#32
  let c4_i32_1113 : BitVec 32 := 4#32
  let v1241 : BitVec 32 := Scalar.muli c1_i32_1110 c4_i32_1113
  let v1242 : BitVec 32 := Scalar.addi v1240 v1241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1243 : BitVec 32 := Scalar.muli v8 c1_i32_1114
  let v1244 : BitVec 32 := Scalar.addi v1242 v1243
  v1244.toNat
def k0_dev445 (d0 : Dev nD) : Nat :=
  let c0_i32_1136 : BitVec 32 := 0#32
  let c0_i32_1133 : BitVec 32 := 0#32
  let c8_i32_1135 : BitVec 32 := 8#32
  let v1261 : BitVec 32 := Scalar.muli c0_i32_1133 c8_i32_1135
  let v1262 : BitVec 32 := Scalar.addi c0_i32_1136 v1261
  let c1_i32_1134 : BitVec 32 := 1#32
  let c4_i32_1137 : BitVec 32 := 4#32
  let v1263 : BitVec 32 := Scalar.muli c1_i32_1134 c4_i32_1137
  let v1264 : BitVec 32 := Scalar.addi v1262 v1263
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1138 : BitVec 32 := 1#32
  let v1265 : BitVec 32 := Scalar.muli v8 c1_i32_1138
  let v1266 : BitVec 32 := Scalar.addi v1264 v1265
  v1266.toNat
def k0_dev446 (d0 : Dev nD) : Nat :=
  let c0_i32_1159 : BitVec 32 := 0#32
  let c0_i32_1156 : BitVec 32 := 0#32
  let c8_i32_1158 : BitVec 32 := 8#32
  let v1283 : BitVec 32 := Scalar.muli c0_i32_1156 c8_i32_1158
  let v1284 : BitVec 32 := Scalar.addi c0_i32_1159 v1283
  let c1_i32_1157 : BitVec 32 := 1#32
  let c4_i32_1160 : BitVec 32 := 4#32
  let v1285 : BitVec 32 := Scalar.muli c1_i32_1157 c4_i32_1160
  let v1286 : BitVec 32 := Scalar.addi v1284 v1285
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1161 : BitVec 32 := 1#32
  let v1287 : BitVec 32 := Scalar.muli v8 c1_i32_1161
  let v1288 : BitVec 32 := Scalar.addi v1286 v1287
  v1288.toNat
def k0_dev447 (d0 : Dev nD) : Nat :=
  let c0_i32_1182 : BitVec 32 := 0#32
  let c0_i32_1179 : BitVec 32 := 0#32
  let c8_i32_1181 : BitVec 32 := 8#32
  let v1305 : BitVec 32 := Scalar.muli c0_i32_1179 c8_i32_1181
  let v1306 : BitVec 32 := Scalar.addi c0_i32_1182 v1305
  let c1_i32_1180 : BitVec 32 := 1#32
  let c4_i32_1183 : BitVec 32 := 4#32
  let v1307 : BitVec 32 := Scalar.muli c1_i32_1180 c4_i32_1183
  let v1308 : BitVec 32 := Scalar.addi v1306 v1307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1184 : BitVec 32 := 1#32
  let v1309 : BitVec 32 := Scalar.muli v8 c1_i32_1184
  let v1310 : BitVec 32 := Scalar.addi v1308 v1309
  v1310.toNat
def k0_dev448 (d0 : Dev nD) : Nat :=
  let c0_i32_1205 : BitVec 32 := 0#32
  let c1_i32_1202 : BitVec 32 := 1#32
  let c8_i32_1204 : BitVec 32 := 8#32
  let v1327 : BitVec 32 := Scalar.muli c1_i32_1202 c8_i32_1204
  let v1328 : BitVec 32 := Scalar.addi c0_i32_1205 v1327
  let c1_i32_1203 : BitVec 32 := 1#32
  let c4_i32_1206 : BitVec 32 := 4#32
  let v1329 : BitVec 32 := Scalar.muli c1_i32_1203 c4_i32_1206
  let v1330 : BitVec 32 := Scalar.addi v1328 v1329
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1207 : BitVec 32 := 1#32
  let v1331 : BitVec 32 := Scalar.muli v100 c1_i32_1207
  let v1332 : BitVec 32 := Scalar.addi v1330 v1331
  v1332.toNat
def k0_dev449 (d0 : Dev nD) : Nat :=
  let c0_i32_1229 : BitVec 32 := 0#32
  let c1_i32_1226 : BitVec 32 := 1#32
  let c8_i32_1228 : BitVec 32 := 8#32
  let v1349 : BitVec 32 := Scalar.muli c1_i32_1226 c8_i32_1228
  let v1350 : BitVec 32 := Scalar.addi c0_i32_1229 v1349
  let c1_i32_1227 : BitVec 32 := 1#32
  let c4_i32_1230 : BitVec 32 := 4#32
  let v1351 : BitVec 32 := Scalar.muli c1_i32_1227 c4_i32_1230
  let v1352 : BitVec 32 := Scalar.addi v1350 v1351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1231 : BitVec 32 := 1#32
  let v1353 : BitVec 32 := Scalar.muli v100 c1_i32_1231
  let v1354 : BitVec 32 := Scalar.addi v1352 v1353
  v1354.toNat
def k0_dev450 (d0 : Dev nD) : Nat :=
  let c0_i32_1253 : BitVec 32 := 0#32
  let c1_i32_1250 : BitVec 32 := 1#32
  let c8_i32_1252 : BitVec 32 := 8#32
  let v1371 : BitVec 32 := Scalar.muli c1_i32_1250 c8_i32_1252
  let v1372 : BitVec 32 := Scalar.addi c0_i32_1253 v1371
  let c1_i32_1251 : BitVec 32 := 1#32
  let c4_i32_1254 : BitVec 32 := 4#32
  let v1373 : BitVec 32 := Scalar.muli c1_i32_1251 c4_i32_1254
  let v1374 : BitVec 32 := Scalar.addi v1372 v1373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1255 : BitVec 32 := 1#32
  let v1375 : BitVec 32 := Scalar.muli v100 c1_i32_1255
  let v1376 : BitVec 32 := Scalar.addi v1374 v1375
  v1376.toNat
def k0_dev451 (d0 : Dev nD) : Nat :=
  let c0_i32_1277 : BitVec 32 := 0#32
  let c1_i32_1274 : BitVec 32 := 1#32
  let c8_i32_1276 : BitVec 32 := 8#32
  let v1393 : BitVec 32 := Scalar.muli c1_i32_1274 c8_i32_1276
  let v1394 : BitVec 32 := Scalar.addi c0_i32_1277 v1393
  let c1_i32_1275 : BitVec 32 := 1#32
  let c4_i32_1278 : BitVec 32 := 4#32
  let v1395 : BitVec 32 := Scalar.muli c1_i32_1275 c4_i32_1278
  let v1396 : BitVec 32 := Scalar.addi v1394 v1395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c0_i32_59 : BitVec 32 := 0#32
  let v100 : BitVec 32 := Scalar.subi v99 c0_i32_59
  let c1_i32_1279 : BitVec 32 := 1#32
  let v1397 : BitVec 32 := Scalar.muli v100 c1_i32_1279
  let v1398 : BitVec 32 := Scalar.addi v1396 v1397
  v1398.toNat
def k0_cond8 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_54 : BitVec 32 := 1#32
  let v92 : BitVec 1 := Scalar.cmpi .eq v2 c1_i32_54
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_55 : BitVec 32 := 1#32
  let v93 : BitVec 1 := Scalar.cmpi .eq v5 c1_i32_55
  let v94 : BitVec 1 := Scalar.andi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1_i32_56 : BitVec 32 := 1#32
  let v95 : BitVec 1 := Scalar.cmpi .eq v18 c1_i32_56
  let v96 : BitVec 1 := Scalar.andi v94 v95
  let v97 : BitVec 32 := Scalar.extui v96
  let c0_i32_57 : BitVec 32 := 0#32
  let v98 : BitVec 1 := Scalar.cmpi .ne v97 c0_i32_57
  v98

def k0_dev452 (d0 : Dev nD) : Nat :=
  let c0_i32_206 : BitVec 32 := 0#32
  let c1_i32_203 : BitVec 32 := 1#32
  let c8_i32_205 : BitVec 32 := 8#32
  let v309 : BitVec 32 := Scalar.muli c1_i32_203 c8_i32_205
  let v310 : BitVec 32 := Scalar.addi c0_i32_206 v309
  let c0_i32_204 : BitVec 32 := 0#32
  let c4_i32_207 : BitVec 32 := 4#32
  let v311 : BitVec 32 := Scalar.muli c0_i32_204 c4_i32_207
  let v312 : BitVec 32 := Scalar.addi v310 v311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_208 : BitVec 32 := 1#32
  let v313 : BitVec 32 := Scalar.muli v8 c1_i32_208
  let v314 : BitVec 32 := Scalar.addi v312 v313
  v314.toNat
def k0_dev453 (d0 : Dev nD) : Nat :=
  let c0_i32_217 : BitVec 32 := 0#32
  let c1_i32_214 : BitVec 32 := 1#32
  let c8_i32_216 : BitVec 32 := 8#32
  let v321 : BitVec 32 := Scalar.muli c1_i32_214 c8_i32_216
  let v322 : BitVec 32 := Scalar.addi c0_i32_217 v321
  let c0_i32_215 : BitVec 32 := 0#32
  let c4_i32_218 : BitVec 32 := 4#32
  let v323 : BitVec 32 := Scalar.muli c0_i32_215 c4_i32_218
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_219 : BitVec 32 := 1#32
  let v325 : BitVec 32 := Scalar.muli v8 c1_i32_219
  let v326 : BitVec 32 := Scalar.addi v324 v325
  v326.toNat
def k0_dev454 (d0 : Dev nD) : Nat :=
  let c0_i32_227 : BitVec 32 := 0#32
  let c1_i32_224 : BitVec 32 := 1#32
  let c8_i32_226 : BitVec 32 := 8#32
  let v333 : BitVec 32 := Scalar.muli c1_i32_224 c8_i32_226
  let v334 : BitVec 32 := Scalar.addi c0_i32_227 v333
  let c0_i32_225 : BitVec 32 := 0#32
  let c4_i32_228 : BitVec 32 := 4#32
  let v335 : BitVec 32 := Scalar.muli c0_i32_225 c4_i32_228
  let v336 : BitVec 32 := Scalar.addi v334 v335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v337 : BitVec 32 := Scalar.muli v8 c1_i32_229
  let v338 : BitVec 32 := Scalar.addi v336 v337
  v338.toNat
def k0_dev455 (d0 : Dev nD) : Nat :=
  let c0_i32_237 : BitVec 32 := 0#32
  let c1_i32_234 : BitVec 32 := 1#32
  let c8_i32_236 : BitVec 32 := 8#32
  let v345 : BitVec 32 := Scalar.muli c1_i32_234 c8_i32_236
  let v346 : BitVec 32 := Scalar.addi c0_i32_237 v345
  let c0_i32_235 : BitVec 32 := 0#32
  let c4_i32_238 : BitVec 32 := 4#32
  let v347 : BitVec 32 := Scalar.muli c0_i32_235 c4_i32_238
  let v348 : BitVec 32 := Scalar.addi v346 v347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_239 : BitVec 32 := 1#32
  let v349 : BitVec 32 := Scalar.muli v8 c1_i32_239
  let v350 : BitVec 32 := Scalar.addi v348 v349
  v350.toNat
def k0_dev456 (d0 : Dev nD) : Nat :=
  let c0_i32_247 : BitVec 32 := 0#32
  let c1_i32_244 : BitVec 32 := 1#32
  let c8_i32_246 : BitVec 32 := 8#32
  let v357 : BitVec 32 := Scalar.muli c1_i32_244 c8_i32_246
  let v358 : BitVec 32 := Scalar.addi c0_i32_247 v357
  let c0_i32_245 : BitVec 32 := 0#32
  let c4_i32_248 : BitVec 32 := 4#32
  let v359 : BitVec 32 := Scalar.muli c0_i32_245 c4_i32_248
  let v360 : BitVec 32 := Scalar.addi v358 v359
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v361 : BitVec 32 := Scalar.muli v8 c1_i32_249
  let v362 : BitVec 32 := Scalar.addi v360 v361
  v362.toNat
def k0_dev457 (d0 : Dev nD) : Nat :=
  let c0_i32_258 : BitVec 32 := 0#32
  let c1_i32_255 : BitVec 32 := 1#32
  let c8_i32_257 : BitVec 32 := 8#32
  let v369 : BitVec 32 := Scalar.muli c1_i32_255 c8_i32_257
  let v370 : BitVec 32 := Scalar.addi c0_i32_258 v369
  let c0_i32_256 : BitVec 32 := 0#32
  let c4_i32_259 : BitVec 32 := 4#32
  let v371 : BitVec 32 := Scalar.muli c0_i32_256 c4_i32_259
  let v372 : BitVec 32 := Scalar.addi v370 v371
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_260 : BitVec 32 := 1#32
  let v373 : BitVec 32 := Scalar.muli v8 c1_i32_260
  let v374 : BitVec 32 := Scalar.addi v372 v373
  v374.toNat
def k0_dev458 (d0 : Dev nD) : Nat :=
  let c0_i32_268 : BitVec 32 := 0#32
  let c1_i32_265 : BitVec 32 := 1#32
  let c8_i32_267 : BitVec 32 := 8#32
  let v381 : BitVec 32 := Scalar.muli c1_i32_265 c8_i32_267
  let v382 : BitVec 32 := Scalar.addi c0_i32_268 v381
  let c0_i32_266 : BitVec 32 := 0#32
  let c4_i32_269 : BitVec 32 := 4#32
  let v383 : BitVec 32 := Scalar.muli c0_i32_266 c4_i32_269
  let v384 : BitVec 32 := Scalar.addi v382 v383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_270 : BitVec 32 := 1#32
  let v385 : BitVec 32 := Scalar.muli v8 c1_i32_270
  let v386 : BitVec 32 := Scalar.addi v384 v385
  v386.toNat
def k0_dev459 (d0 : Dev nD) : Nat :=
  let c0_i32_278 : BitVec 32 := 0#32
  let c1_i32_275 : BitVec 32 := 1#32
  let c8_i32_277 : BitVec 32 := 8#32
  let v393 : BitVec 32 := Scalar.muli c1_i32_275 c8_i32_277
  let v394 : BitVec 32 := Scalar.addi c0_i32_278 v393
  let c0_i32_276 : BitVec 32 := 0#32
  let c4_i32_279 : BitVec 32 := 4#32
  let v395 : BitVec 32 := Scalar.muli c0_i32_276 c4_i32_279
  let v396 : BitVec 32 := Scalar.addi v394 v395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_280 : BitVec 32 := 1#32
  let v397 : BitVec 32 := Scalar.muli v8 c1_i32_280
  let v398 : BitVec 32 := Scalar.addi v396 v397
  v398.toNat
def k0_dev460 (d0 : Dev nD) : Nat :=
  let c0_i32_288 : BitVec 32 := 0#32
  let c1_i32_285 : BitVec 32 := 1#32
  let c8_i32_287 : BitVec 32 := 8#32
  let v405 : BitVec 32 := Scalar.muli c1_i32_285 c8_i32_287
  let v406 : BitVec 32 := Scalar.addi c0_i32_288 v405
  let c0_i32_286 : BitVec 32 := 0#32
  let c4_i32_289 : BitVec 32 := 4#32
  let v407 : BitVec 32 := Scalar.muli c0_i32_286 c4_i32_289
  let v408 : BitVec 32 := Scalar.addi v406 v407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_290 : BitVec 32 := 1#32
  let v409 : BitVec 32 := Scalar.muli v8 c1_i32_290
  let v410 : BitVec 32 := Scalar.addi v408 v409
  v410.toNat
def k0_dev461 (d0 : Dev nD) : Nat :=
  let c0_i32_299 : BitVec 32 := 0#32
  let c1_i32_296 : BitVec 32 := 1#32
  let c8_i32_298 : BitVec 32 := 8#32
  let v417 : BitVec 32 := Scalar.muli c1_i32_296 c8_i32_298
  let v418 : BitVec 32 := Scalar.addi c0_i32_299 v417
  let c0_i32_297 : BitVec 32 := 0#32
  let c4_i32_300 : BitVec 32 := 4#32
  let v419 : BitVec 32 := Scalar.muli c0_i32_297 c4_i32_300
  let v420 : BitVec 32 := Scalar.addi v418 v419
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_301 : BitVec 32 := 1#32
  let v421 : BitVec 32 := Scalar.muli v8 c1_i32_301
  let v422 : BitVec 32 := Scalar.addi v420 v421
  v422.toNat
def k0_dev462 (d0 : Dev nD) : Nat :=
  let c0_i32_309 : BitVec 32 := 0#32
  let c1_i32_306 : BitVec 32 := 1#32
  let c8_i32_308 : BitVec 32 := 8#32
  let v429 : BitVec 32 := Scalar.muli c1_i32_306 c8_i32_308
  let v430 : BitVec 32 := Scalar.addi c0_i32_309 v429
  let c0_i32_307 : BitVec 32 := 0#32
  let c4_i32_310 : BitVec 32 := 4#32
  let v431 : BitVec 32 := Scalar.muli c0_i32_307 c4_i32_310
  let v432 : BitVec 32 := Scalar.addi v430 v431
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_311 : BitVec 32 := 1#32
  let v433 : BitVec 32 := Scalar.muli v8 c1_i32_311
  let v434 : BitVec 32 := Scalar.addi v432 v433
  v434.toNat
def k0_dev463 (d0 : Dev nD) : Nat :=
  let c0_i32_319 : BitVec 32 := 0#32
  let c1_i32_316 : BitVec 32 := 1#32
  let c8_i32_318 : BitVec 32 := 8#32
  let v441 : BitVec 32 := Scalar.muli c1_i32_316 c8_i32_318
  let v442 : BitVec 32 := Scalar.addi c0_i32_319 v441
  let c0_i32_317 : BitVec 32 := 0#32
  let c4_i32_320 : BitVec 32 := 4#32
  let v443 : BitVec 32 := Scalar.muli c0_i32_317 c4_i32_320
  let v444 : BitVec 32 := Scalar.addi v442 v443
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_321 : BitVec 32 := 1#32
  let v445 : BitVec 32 := Scalar.muli v8 c1_i32_321
  let v446 : BitVec 32 := Scalar.addi v444 v445
  v446.toNat
def k0_dev464 (d0 : Dev nD) : Nat :=
  let c0_i32_329 : BitVec 32 := 0#32
  let c1_i32_326 : BitVec 32 := 1#32
  let c8_i32_328 : BitVec 32 := 8#32
  let v453 : BitVec 32 := Scalar.muli c1_i32_326 c8_i32_328
  let v454 : BitVec 32 := Scalar.addi c0_i32_329 v453
  let c0_i32_327 : BitVec 32 := 0#32
  let c4_i32_330 : BitVec 32 := 4#32
  let v455 : BitVec 32 := Scalar.muli c0_i32_327 c4_i32_330
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v457 : BitVec 32 := Scalar.muli v8 c1_i32_331
  let v458 : BitVec 32 := Scalar.addi v456 v457
  v458.toNat
def k0_dev465 (d0 : Dev nD) : Nat :=
  let c0_i32_340 : BitVec 32 := 0#32
  let c1_i32_337 : BitVec 32 := 1#32
  let c8_i32_339 : BitVec 32 := 8#32
  let v465 : BitVec 32 := Scalar.muli c1_i32_337 c8_i32_339
  let v466 : BitVec 32 := Scalar.addi c0_i32_340 v465
  let c0_i32_338 : BitVec 32 := 0#32
  let c4_i32_341 : BitVec 32 := 4#32
  let v467 : BitVec 32 := Scalar.muli c0_i32_338 c4_i32_341
  let v468 : BitVec 32 := Scalar.addi v466 v467
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_342 : BitVec 32 := 1#32
  let v469 : BitVec 32 := Scalar.muli v8 c1_i32_342
  let v470 : BitVec 32 := Scalar.addi v468 v469
  v470.toNat
def k0_dev466 (d0 : Dev nD) : Nat :=
  let c0_i32_350 : BitVec 32 := 0#32
  let c1_i32_347 : BitVec 32 := 1#32
  let c8_i32_349 : BitVec 32 := 8#32
  let v477 : BitVec 32 := Scalar.muli c1_i32_347 c8_i32_349
  let v478 : BitVec 32 := Scalar.addi c0_i32_350 v477
  let c0_i32_348 : BitVec 32 := 0#32
  let c4_i32_351 : BitVec 32 := 4#32
  let v479 : BitVec 32 := Scalar.muli c0_i32_348 c4_i32_351
  let v480 : BitVec 32 := Scalar.addi v478 v479
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_352 : BitVec 32 := 1#32
  let v481 : BitVec 32 := Scalar.muli v8 c1_i32_352
  let v482 : BitVec 32 := Scalar.addi v480 v481
  v482.toNat
def k0_dev467 (d0 : Dev nD) : Nat :=
  let c0_i32_360 : BitVec 32 := 0#32
  let c1_i32_357 : BitVec 32 := 1#32
  let c8_i32_359 : BitVec 32 := 8#32
  let v489 : BitVec 32 := Scalar.muli c1_i32_357 c8_i32_359
  let v490 : BitVec 32 := Scalar.addi c0_i32_360 v489
  let c0_i32_358 : BitVec 32 := 0#32
  let c4_i32_361 : BitVec 32 := 4#32
  let v491 : BitVec 32 := Scalar.muli c0_i32_358 c4_i32_361
  let v492 : BitVec 32 := Scalar.addi v490 v491
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_362 : BitVec 32 := 1#32
  let v493 : BitVec 32 := Scalar.muli v8 c1_i32_362
  let v494 : BitVec 32 := Scalar.addi v492 v493
  v494.toNat
def k0_dev468 (d0 : Dev nD) : Nat :=
  let c0_i32_369 : BitVec 32 := 0#32
  let c1_i32_366 : BitVec 32 := 1#32
  let c8_i32_368 : BitVec 32 := 8#32
  let v501 : BitVec 32 := Scalar.muli c1_i32_366 c8_i32_368
  let v502 : BitVec 32 := Scalar.addi c0_i32_369 v501
  let c0_i32_367 : BitVec 32 := 0#32
  let c4_i32_370 : BitVec 32 := 4#32
  let v503 : BitVec 32 := Scalar.muli c0_i32_367 c4_i32_370
  let v504 : BitVec 32 := Scalar.addi v502 v503
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_371 : BitVec 32 := 1#32
  let v505 : BitVec 32 := Scalar.muli v8 c1_i32_371
  let v506 : BitVec 32 := Scalar.addi v504 v505
  v506.toNat
def k0_dev469 (d0 : Dev nD) : Nat :=
  let c0_i32_379 : BitVec 32 := 0#32
  let c1_i32_376 : BitVec 32 := 1#32
  let c8_i32_378 : BitVec 32 := 8#32
  let v513 : BitVec 32 := Scalar.muli c1_i32_376 c8_i32_378
  let v514 : BitVec 32 := Scalar.addi c0_i32_379 v513
  let c0_i32_377 : BitVec 32 := 0#32
  let c4_i32_380 : BitVec 32 := 4#32
  let v515 : BitVec 32 := Scalar.muli c0_i32_377 c4_i32_380
  let v516 : BitVec 32 := Scalar.addi v514 v515
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_381 : BitVec 32 := 1#32
  let v517 : BitVec 32 := Scalar.muli v8 c1_i32_381
  let v518 : BitVec 32 := Scalar.addi v516 v517
  v518.toNat
def k0_dev470 (d0 : Dev nD) : Nat :=
  let c0_i32_388 : BitVec 32 := 0#32
  let c1_i32_385 : BitVec 32 := 1#32
  let c8_i32_387 : BitVec 32 := 8#32
  let v525 : BitVec 32 := Scalar.muli c1_i32_385 c8_i32_387
  let v526 : BitVec 32 := Scalar.addi c0_i32_388 v525
  let c0_i32_386 : BitVec 32 := 0#32
  let c4_i32_389 : BitVec 32 := 4#32
  let v527 : BitVec 32 := Scalar.muli c0_i32_386 c4_i32_389
  let v528 : BitVec 32 := Scalar.addi v526 v527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v529 : BitVec 32 := Scalar.muli v8 c1_i32_390
  let v530 : BitVec 32 := Scalar.addi v528 v529
  v530.toNat
def k0_dev471 (d0 : Dev nD) : Nat :=
  let c0_i32_397 : BitVec 32 := 0#32
  let c1_i32_394 : BitVec 32 := 1#32
  let c8_i32_396 : BitVec 32 := 8#32
  let v537 : BitVec 32 := Scalar.muli c1_i32_394 c8_i32_396
  let v538 : BitVec 32 := Scalar.addi c0_i32_397 v537
  let c0_i32_395 : BitVec 32 := 0#32
  let c4_i32_398 : BitVec 32 := 4#32
  let v539 : BitVec 32 := Scalar.muli c0_i32_395 c4_i32_398
  let v540 : BitVec 32 := Scalar.addi v538 v539
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_399 : BitVec 32 := 1#32
  let v541 : BitVec 32 := Scalar.muli v8 c1_i32_399
  let v542 : BitVec 32 := Scalar.addi v540 v541
  v542.toNat
def k0_dev472 (d0 : Dev nD) : Nat :=
  let c0_i32_406 : BitVec 32 := 0#32
  let c1_i32_403 : BitVec 32 := 1#32
  let c8_i32_405 : BitVec 32 := 8#32
  let v549 : BitVec 32 := Scalar.muli c1_i32_403 c8_i32_405
  let v550 : BitVec 32 := Scalar.addi c0_i32_406 v549
  let c0_i32_404 : BitVec 32 := 0#32
  let c4_i32_407 : BitVec 32 := 4#32
  let v551 : BitVec 32 := Scalar.muli c0_i32_404 c4_i32_407
  let v552 : BitVec 32 := Scalar.addi v550 v551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v553 : BitVec 32 := Scalar.muli v8 c1_i32_408
  let v554 : BitVec 32 := Scalar.addi v552 v553
  v554.toNat
def k0_dev473 (d0 : Dev nD) : Nat :=
  let c0_i32_416 : BitVec 32 := 0#32
  let c1_i32_413 : BitVec 32 := 1#32
  let c8_i32_415 : BitVec 32 := 8#32
  let v561 : BitVec 32 := Scalar.muli c1_i32_413 c8_i32_415
  let v562 : BitVec 32 := Scalar.addi c0_i32_416 v561
  let c0_i32_414 : BitVec 32 := 0#32
  let c4_i32_417 : BitVec 32 := 4#32
  let v563 : BitVec 32 := Scalar.muli c0_i32_414 c4_i32_417
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_418 : BitVec 32 := 1#32
  let v565 : BitVec 32 := Scalar.muli v8 c1_i32_418
  let v566 : BitVec 32 := Scalar.addi v564 v565
  v566.toNat
def k0_dev474 (d0 : Dev nD) : Nat :=
  let c0_i32_425 : BitVec 32 := 0#32
  let c1_i32_422 : BitVec 32 := 1#32
  let c8_i32_424 : BitVec 32 := 8#32
  let v573 : BitVec 32 := Scalar.muli c1_i32_422 c8_i32_424
  let v574 : BitVec 32 := Scalar.addi c0_i32_425 v573
  let c0_i32_423 : BitVec 32 := 0#32
  let c4_i32_426 : BitVec 32 := 4#32
  let v575 : BitVec 32 := Scalar.muli c0_i32_423 c4_i32_426
  let v576 : BitVec 32 := Scalar.addi v574 v575
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_427 : BitVec 32 := 1#32
  let v577 : BitVec 32 := Scalar.muli v8 c1_i32_427
  let v578 : BitVec 32 := Scalar.addi v576 v577
  v578.toNat
def k0_dev475 (d0 : Dev nD) : Nat :=
  let c0_i32_434 : BitVec 32 := 0#32
  let c1_i32_431 : BitVec 32 := 1#32
  let c8_i32_433 : BitVec 32 := 8#32
  let v585 : BitVec 32 := Scalar.muli c1_i32_431 c8_i32_433
  let v586 : BitVec 32 := Scalar.addi c0_i32_434 v585
  let c0_i32_432 : BitVec 32 := 0#32
  let c4_i32_435 : BitVec 32 := 4#32
  let v587 : BitVec 32 := Scalar.muli c0_i32_432 c4_i32_435
  let v588 : BitVec 32 := Scalar.addi v586 v587
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_436 : BitVec 32 := 1#32
  let v589 : BitVec 32 := Scalar.muli v8 c1_i32_436
  let v590 : BitVec 32 := Scalar.addi v588 v589
  v590.toNat
def k0_dev476 (d0 : Dev nD) : Nat :=
  let c0_i32_456 : BitVec 32 := 0#32
  let c0_i32_453 : BitVec 32 := 0#32
  let c8_i32_455 : BitVec 32 := 8#32
  let v607 : BitVec 32 := Scalar.muli c0_i32_453 c8_i32_455
  let v608 : BitVec 32 := Scalar.addi c0_i32_456 v607
  let c1_i32_454 : BitVec 32 := 1#32
  let c4_i32_457 : BitVec 32 := 4#32
  let v609 : BitVec 32 := Scalar.muli c1_i32_454 c4_i32_457
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_458 : BitVec 32 := 1#32
  let v611 : BitVec 32 := Scalar.muli v8 c1_i32_458
  let v612 : BitVec 32 := Scalar.addi v610 v611
  v612.toNat
def k0_dev477 (d0 : Dev nD) : Nat :=
  let c0_i32_468 : BitVec 32 := 0#32
  let c1_i32_465 : BitVec 32 := 1#32
  let c8_i32_467 : BitVec 32 := 8#32
  let v619 : BitVec 32 := Scalar.muli c1_i32_465 c8_i32_467
  let v620 : BitVec 32 := Scalar.addi c0_i32_468 v619
  let c1_i32_466 : BitVec 32 := 1#32
  let c4_i32_469 : BitVec 32 := 4#32
  let v621 : BitVec 32 := Scalar.muli c1_i32_466 c4_i32_469
  let v622 : BitVec 32 := Scalar.addi v620 v621
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_470 : BitVec 32 := 1#32
  let v623 : BitVec 32 := Scalar.muli v100 c1_i32_470
  let v624 : BitVec 32 := Scalar.addi v622 v623
  v624.toNat
def k0_dev478 (d0 : Dev nD) : Nat :=
  let c0_i32_495 : BitVec 32 := 0#32
  let c0_i32_492 : BitVec 32 := 0#32
  let c8_i32_494 : BitVec 32 := 8#32
  let v644 : BitVec 32 := Scalar.muli c0_i32_492 c8_i32_494
  let v645 : BitVec 32 := Scalar.addi c0_i32_495 v644
  let c1_i32_493 : BitVec 32 := 1#32
  let c4_i32_496 : BitVec 32 := 4#32
  let v646 : BitVec 32 := Scalar.muli c1_i32_493 c4_i32_496
  let v647 : BitVec 32 := Scalar.addi v645 v646
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_497 : BitVec 32 := 1#32
  let v648 : BitVec 32 := Scalar.muli v8 c1_i32_497
  let v649 : BitVec 32 := Scalar.addi v647 v648
  v649.toNat
def k0_dev479 (d0 : Dev nD) : Nat :=
  let c0_i32_506 : BitVec 32 := 0#32
  let c1_i32_503 : BitVec 32 := 1#32
  let c8_i32_505 : BitVec 32 := 8#32
  let v656 : BitVec 32 := Scalar.muli c1_i32_503 c8_i32_505
  let v657 : BitVec 32 := Scalar.addi c0_i32_506 v656
  let c1_i32_504 : BitVec 32 := 1#32
  let c4_i32_507 : BitVec 32 := 4#32
  let v658 : BitVec 32 := Scalar.muli c1_i32_504 c4_i32_507
  let v659 : BitVec 32 := Scalar.addi v657 v658
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_508 : BitVec 32 := 1#32
  let v660 : BitVec 32 := Scalar.muli v100 c1_i32_508
  let v661 : BitVec 32 := Scalar.addi v659 v660
  v661.toNat
def k0_dev480 (d0 : Dev nD) : Nat :=
  let c0_i32_533 : BitVec 32 := 0#32
  let c0_i32_530 : BitVec 32 := 0#32
  let c8_i32_532 : BitVec 32 := 8#32
  let v681 : BitVec 32 := Scalar.muli c0_i32_530 c8_i32_532
  let v682 : BitVec 32 := Scalar.addi c0_i32_533 v681
  let c1_i32_531 : BitVec 32 := 1#32
  let c4_i32_534 : BitVec 32 := 4#32
  let v683 : BitVec 32 := Scalar.muli c1_i32_531 c4_i32_534
  let v684 : BitVec 32 := Scalar.addi v682 v683
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_535 : BitVec 32 := 1#32
  let v685 : BitVec 32 := Scalar.muli v8 c1_i32_535
  let v686 : BitVec 32 := Scalar.addi v684 v685
  v686.toNat
def k0_dev481 (d0 : Dev nD) : Nat :=
  let c0_i32_544 : BitVec 32 := 0#32
  let c1_i32_541 : BitVec 32 := 1#32
  let c8_i32_543 : BitVec 32 := 8#32
  let v693 : BitVec 32 := Scalar.muli c1_i32_541 c8_i32_543
  let v694 : BitVec 32 := Scalar.addi c0_i32_544 v693
  let c1_i32_542 : BitVec 32 := 1#32
  let c4_i32_545 : BitVec 32 := 4#32
  let v695 : BitVec 32 := Scalar.muli c1_i32_542 c4_i32_545
  let v696 : BitVec 32 := Scalar.addi v694 v695
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_546 : BitVec 32 := 1#32
  let v697 : BitVec 32 := Scalar.muli v100 c1_i32_546
  let v698 : BitVec 32 := Scalar.addi v696 v697
  v698.toNat
def k0_dev482 (d0 : Dev nD) : Nat :=
  let c0_i32_571 : BitVec 32 := 0#32
  let c0_i32_568 : BitVec 32 := 0#32
  let c8_i32_570 : BitVec 32 := 8#32
  let v718 : BitVec 32 := Scalar.muli c0_i32_568 c8_i32_570
  let v719 : BitVec 32 := Scalar.addi c0_i32_571 v718
  let c1_i32_569 : BitVec 32 := 1#32
  let c4_i32_572 : BitVec 32 := 4#32
  let v720 : BitVec 32 := Scalar.muli c1_i32_569 c4_i32_572
  let v721 : BitVec 32 := Scalar.addi v719 v720
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_573 : BitVec 32 := 1#32
  let v722 : BitVec 32 := Scalar.muli v8 c1_i32_573
  let v723 : BitVec 32 := Scalar.addi v721 v722
  v723.toNat
def k0_dev483 (d0 : Dev nD) : Nat :=
  let c0_i32_582 : BitVec 32 := 0#32
  let c1_i32_579 : BitVec 32 := 1#32
  let c8_i32_581 : BitVec 32 := 8#32
  let v730 : BitVec 32 := Scalar.muli c1_i32_579 c8_i32_581
  let v731 : BitVec 32 := Scalar.addi c0_i32_582 v730
  let c1_i32_580 : BitVec 32 := 1#32
  let c4_i32_583 : BitVec 32 := 4#32
  let v732 : BitVec 32 := Scalar.muli c1_i32_580 c4_i32_583
  let v733 : BitVec 32 := Scalar.addi v731 v732
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_584 : BitVec 32 := 1#32
  let v734 : BitVec 32 := Scalar.muli v100 c1_i32_584
  let v735 : BitVec 32 := Scalar.addi v733 v734
  v735.toNat
def k0_dev484 (d0 : Dev nD) : Nat :=
  let c0_i32_609 : BitVec 32 := 0#32
  let c0_i32_606 : BitVec 32 := 0#32
  let c8_i32_608 : BitVec 32 := 8#32
  let v755 : BitVec 32 := Scalar.muli c0_i32_606 c8_i32_608
  let v756 : BitVec 32 := Scalar.addi c0_i32_609 v755
  let c1_i32_607 : BitVec 32 := 1#32
  let c4_i32_610 : BitVec 32 := 4#32
  let v757 : BitVec 32 := Scalar.muli c1_i32_607 c4_i32_610
  let v758 : BitVec 32 := Scalar.addi v756 v757
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_611 : BitVec 32 := 1#32
  let v759 : BitVec 32 := Scalar.muli v8 c1_i32_611
  let v760 : BitVec 32 := Scalar.addi v758 v759
  v760.toNat
def k0_dev485 (d0 : Dev nD) : Nat :=
  let c0_i32_621 : BitVec 32 := 0#32
  let c1_i32_618 : BitVec 32 := 1#32
  let c8_i32_620 : BitVec 32 := 8#32
  let v767 : BitVec 32 := Scalar.muli c1_i32_618 c8_i32_620
  let v768 : BitVec 32 := Scalar.addi c0_i32_621 v767
  let c1_i32_619 : BitVec 32 := 1#32
  let c4_i32_622 : BitVec 32 := 4#32
  let v769 : BitVec 32 := Scalar.muli c1_i32_619 c4_i32_622
  let v770 : BitVec 32 := Scalar.addi v768 v769
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_623 : BitVec 32 := 1#32
  let v771 : BitVec 32 := Scalar.muli v100 c1_i32_623
  let v772 : BitVec 32 := Scalar.addi v770 v771
  v772.toNat
def k0_dev486 (d0 : Dev nD) : Nat :=
  let c0_i32_648 : BitVec 32 := 0#32
  let c0_i32_645 : BitVec 32 := 0#32
  let c8_i32_647 : BitVec 32 := 8#32
  let v792 : BitVec 32 := Scalar.muli c0_i32_645 c8_i32_647
  let v793 : BitVec 32 := Scalar.addi c0_i32_648 v792
  let c1_i32_646 : BitVec 32 := 1#32
  let c4_i32_649 : BitVec 32 := 4#32
  let v794 : BitVec 32 := Scalar.muli c1_i32_646 c4_i32_649
  let v795 : BitVec 32 := Scalar.addi v793 v794
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_650 : BitVec 32 := 1#32
  let v796 : BitVec 32 := Scalar.muli v8 c1_i32_650
  let v797 : BitVec 32 := Scalar.addi v795 v796
  v797.toNat
def k0_dev487 (d0 : Dev nD) : Nat :=
  let c0_i32_659 : BitVec 32 := 0#32
  let c1_i32_656 : BitVec 32 := 1#32
  let c8_i32_658 : BitVec 32 := 8#32
  let v804 : BitVec 32 := Scalar.muli c1_i32_656 c8_i32_658
  let v805 : BitVec 32 := Scalar.addi c0_i32_659 v804
  let c1_i32_657 : BitVec 32 := 1#32
  let c4_i32_660 : BitVec 32 := 4#32
  let v806 : BitVec 32 := Scalar.muli c1_i32_657 c4_i32_660
  let v807 : BitVec 32 := Scalar.addi v805 v806
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_661 : BitVec 32 := 1#32
  let v808 : BitVec 32 := Scalar.muli v100 c1_i32_661
  let v809 : BitVec 32 := Scalar.addi v807 v808
  v809.toNat
def k0_dev488 (d0 : Dev nD) : Nat :=
  let c0_i32_686 : BitVec 32 := 0#32
  let c0_i32_683 : BitVec 32 := 0#32
  let c8_i32_685 : BitVec 32 := 8#32
  let v829 : BitVec 32 := Scalar.muli c0_i32_683 c8_i32_685
  let v830 : BitVec 32 := Scalar.addi c0_i32_686 v829
  let c1_i32_684 : BitVec 32 := 1#32
  let c4_i32_687 : BitVec 32 := 4#32
  let v831 : BitVec 32 := Scalar.muli c1_i32_684 c4_i32_687
  let v832 : BitVec 32 := Scalar.addi v830 v831
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_688 : BitVec 32 := 1#32
  let v833 : BitVec 32 := Scalar.muli v8 c1_i32_688
  let v834 : BitVec 32 := Scalar.addi v832 v833
  v834.toNat
def k0_dev489 (d0 : Dev nD) : Nat :=
  let c0_i32_697 : BitVec 32 := 0#32
  let c1_i32_694 : BitVec 32 := 1#32
  let c8_i32_696 : BitVec 32 := 8#32
  let v841 : BitVec 32 := Scalar.muli c1_i32_694 c8_i32_696
  let v842 : BitVec 32 := Scalar.addi c0_i32_697 v841
  let c1_i32_695 : BitVec 32 := 1#32
  let c4_i32_698 : BitVec 32 := 4#32
  let v843 : BitVec 32 := Scalar.muli c1_i32_695 c4_i32_698
  let v844 : BitVec 32 := Scalar.addi v842 v843
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_699 : BitVec 32 := 1#32
  let v845 : BitVec 32 := Scalar.muli v100 c1_i32_699
  let v846 : BitVec 32 := Scalar.addi v844 v845
  v846.toNat
def k0_dev490 (d0 : Dev nD) : Nat :=
  let c0_i32_729 : BitVec 32 := 0#32
  let c0_i32_726 : BitVec 32 := 0#32
  let c8_i32_728 : BitVec 32 := 8#32
  let v870 : BitVec 32 := Scalar.muli c0_i32_726 c8_i32_728
  let v871 : BitVec 32 := Scalar.addi c0_i32_729 v870
  let c1_i32_727 : BitVec 32 := 1#32
  let c4_i32_730 : BitVec 32 := 4#32
  let v872 : BitVec 32 := Scalar.muli c1_i32_727 c4_i32_730
  let v873 : BitVec 32 := Scalar.addi v871 v872
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_731 : BitVec 32 := 1#32
  let v874 : BitVec 32 := Scalar.muli v8 c1_i32_731
  let v875 : BitVec 32 := Scalar.addi v873 v874
  v875.toNat
def k0_dev491 (d0 : Dev nD) : Nat :=
  let c0_i32_740 : BitVec 32 := 0#32
  let c1_i32_737 : BitVec 32 := 1#32
  let c8_i32_739 : BitVec 32 := 8#32
  let v882 : BitVec 32 := Scalar.muli c1_i32_737 c8_i32_739
  let v883 : BitVec 32 := Scalar.addi c0_i32_740 v882
  let c1_i32_738 : BitVec 32 := 1#32
  let c4_i32_741 : BitVec 32 := 4#32
  let v884 : BitVec 32 := Scalar.muli c1_i32_738 c4_i32_741
  let v885 : BitVec 32 := Scalar.addi v883 v884
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_742 : BitVec 32 := 1#32
  let v886 : BitVec 32 := Scalar.muli v100 c1_i32_742
  let v887 : BitVec 32 := Scalar.addi v885 v886
  v887.toNat
def k0_dev492 (d0 : Dev nD) : Nat :=
  let c0_i32_772 : BitVec 32 := 0#32
  let c0_i32_769 : BitVec 32 := 0#32
  let c8_i32_771 : BitVec 32 := 8#32
  let v911 : BitVec 32 := Scalar.muli c0_i32_769 c8_i32_771
  let v912 : BitVec 32 := Scalar.addi c0_i32_772 v911
  let c1_i32_770 : BitVec 32 := 1#32
  let c4_i32_773 : BitVec 32 := 4#32
  let v913 : BitVec 32 := Scalar.muli c1_i32_770 c4_i32_773
  let v914 : BitVec 32 := Scalar.addi v912 v913
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_774 : BitVec 32 := 1#32
  let v915 : BitVec 32 := Scalar.muli v8 c1_i32_774
  let v916 : BitVec 32 := Scalar.addi v914 v915
  v916.toNat
def k0_dev493 (d0 : Dev nD) : Nat :=
  let c0_i32_784 : BitVec 32 := 0#32
  let c1_i32_781 : BitVec 32 := 1#32
  let c8_i32_783 : BitVec 32 := 8#32
  let v923 : BitVec 32 := Scalar.muli c1_i32_781 c8_i32_783
  let v924 : BitVec 32 := Scalar.addi c0_i32_784 v923
  let c1_i32_782 : BitVec 32 := 1#32
  let c4_i32_785 : BitVec 32 := 4#32
  let v925 : BitVec 32 := Scalar.muli c1_i32_782 c4_i32_785
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_786 : BitVec 32 := 1#32
  let v927 : BitVec 32 := Scalar.muli v100 c1_i32_786
  let v928 : BitVec 32 := Scalar.addi v926 v927
  v928.toNat
def k0_dev494 (d0 : Dev nD) : Nat :=
  let c0_i32_816 : BitVec 32 := 0#32
  let c0_i32_813 : BitVec 32 := 0#32
  let c8_i32_815 : BitVec 32 := 8#32
  let v952 : BitVec 32 := Scalar.muli c0_i32_813 c8_i32_815
  let v953 : BitVec 32 := Scalar.addi c0_i32_816 v952
  let c1_i32_814 : BitVec 32 := 1#32
  let c4_i32_817 : BitVec 32 := 4#32
  let v954 : BitVec 32 := Scalar.muli c1_i32_814 c4_i32_817
  let v955 : BitVec 32 := Scalar.addi v953 v954
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_818 : BitVec 32 := 1#32
  let v956 : BitVec 32 := Scalar.muli v8 c1_i32_818
  let v957 : BitVec 32 := Scalar.addi v955 v956
  v957.toNat
def k0_dev495 (d0 : Dev nD) : Nat :=
  let c0_i32_827 : BitVec 32 := 0#32
  let c1_i32_824 : BitVec 32 := 1#32
  let c8_i32_826 : BitVec 32 := 8#32
  let v964 : BitVec 32 := Scalar.muli c1_i32_824 c8_i32_826
  let v965 : BitVec 32 := Scalar.addi c0_i32_827 v964
  let c1_i32_825 : BitVec 32 := 1#32
  let c4_i32_828 : BitVec 32 := 4#32
  let v966 : BitVec 32 := Scalar.muli c1_i32_825 c4_i32_828
  let v967 : BitVec 32 := Scalar.addi v965 v966
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_829 : BitVec 32 := 1#32
  let v968 : BitVec 32 := Scalar.muli v100 c1_i32_829
  let v969 : BitVec 32 := Scalar.addi v967 v968
  v969.toNat
def k0_dev496 (d0 : Dev nD) : Nat :=
  let c0_i32_859 : BitVec 32 := 0#32
  let c0_i32_856 : BitVec 32 := 0#32
  let c8_i32_858 : BitVec 32 := 8#32
  let v993 : BitVec 32 := Scalar.muli c0_i32_856 c8_i32_858
  let v994 : BitVec 32 := Scalar.addi c0_i32_859 v993
  let c1_i32_857 : BitVec 32 := 1#32
  let c4_i32_860 : BitVec 32 := 4#32
  let v995 : BitVec 32 := Scalar.muli c1_i32_857 c4_i32_860
  let v996 : BitVec 32 := Scalar.addi v994 v995
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_861 : BitVec 32 := 1#32
  let v997 : BitVec 32 := Scalar.muli v8 c1_i32_861
  let v998 : BitVec 32 := Scalar.addi v996 v997
  v998.toNat
def k0_dev497 (d0 : Dev nD) : Nat :=
  let c0_i32_870 : BitVec 32 := 0#32
  let c1_i32_867 : BitVec 32 := 1#32
  let c8_i32_869 : BitVec 32 := 8#32
  let v1005 : BitVec 32 := Scalar.muli c1_i32_867 c8_i32_869
  let v1006 : BitVec 32 := Scalar.addi c0_i32_870 v1005
  let c1_i32_868 : BitVec 32 := 1#32
  let c4_i32_871 : BitVec 32 := 4#32
  let v1007 : BitVec 32 := Scalar.muli c1_i32_868 c4_i32_871
  let v1008 : BitVec 32 := Scalar.addi v1006 v1007
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_872 : BitVec 32 := 1#32
  let v1009 : BitVec 32 := Scalar.muli v100 c1_i32_872
  let v1010 : BitVec 32 := Scalar.addi v1008 v1009
  v1010.toNat
def k0_dev498 (d0 : Dev nD) : Nat :=
  let c0_i32_901 : BitVec 32 := 0#32
  let c0_i32_898 : BitVec 32 := 0#32
  let c8_i32_900 : BitVec 32 := 8#32
  let v1034 : BitVec 32 := Scalar.muli c0_i32_898 c8_i32_900
  let v1035 : BitVec 32 := Scalar.addi c0_i32_901 v1034
  let c1_i32_899 : BitVec 32 := 1#32
  let c4_i32_902 : BitVec 32 := 4#32
  let v1036 : BitVec 32 := Scalar.muli c1_i32_899 c4_i32_902
  let v1037 : BitVec 32 := Scalar.addi v1035 v1036
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_903 : BitVec 32 := 1#32
  let v1038 : BitVec 32 := Scalar.muli v8 c1_i32_903
  let v1039 : BitVec 32 := Scalar.addi v1037 v1038
  v1039.toNat
def k0_dev499 (d0 : Dev nD) : Nat :=
  let c0_i32_912 : BitVec 32 := 0#32
  let c1_i32_909 : BitVec 32 := 1#32
  let c8_i32_911 : BitVec 32 := 8#32
  let v1046 : BitVec 32 := Scalar.muli c1_i32_909 c8_i32_911
  let v1047 : BitVec 32 := Scalar.addi c0_i32_912 v1046
  let c1_i32_910 : BitVec 32 := 1#32
  let c4_i32_913 : BitVec 32 := 4#32
  let v1048 : BitVec 32 := Scalar.muli c1_i32_910 c4_i32_913
  let v1049 : BitVec 32 := Scalar.addi v1047 v1048
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_914 : BitVec 32 := 1#32
  let v1050 : BitVec 32 := Scalar.muli v100 c1_i32_914
  let v1051 : BitVec 32 := Scalar.addi v1049 v1050
  v1051.toNat
def k0_dev500 (d0 : Dev nD) : Nat :=
  let c0_i32_943 : BitVec 32 := 0#32
  let c0_i32_940 : BitVec 32 := 0#32
  let c8_i32_942 : BitVec 32 := 8#32
  let v1075 : BitVec 32 := Scalar.muli c0_i32_940 c8_i32_942
  let v1076 : BitVec 32 := Scalar.addi c0_i32_943 v1075
  let c1_i32_941 : BitVec 32 := 1#32
  let c4_i32_944 : BitVec 32 := 4#32
  let v1077 : BitVec 32 := Scalar.muli c1_i32_941 c4_i32_944
  let v1078 : BitVec 32 := Scalar.addi v1076 v1077
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_945 : BitVec 32 := 1#32
  let v1079 : BitVec 32 := Scalar.muli v8 c1_i32_945
  let v1080 : BitVec 32 := Scalar.addi v1078 v1079
  v1080.toNat
def k0_dev501 (d0 : Dev nD) : Nat :=
  let c0_i32_955 : BitVec 32 := 0#32
  let c1_i32_952 : BitVec 32 := 1#32
  let c8_i32_954 : BitVec 32 := 8#32
  let v1087 : BitVec 32 := Scalar.muli c1_i32_952 c8_i32_954
  let v1088 : BitVec 32 := Scalar.addi c0_i32_955 v1087
  let c1_i32_953 : BitVec 32 := 1#32
  let c4_i32_956 : BitVec 32 := 4#32
  let v1089 : BitVec 32 := Scalar.muli c1_i32_953 c4_i32_956
  let v1090 : BitVec 32 := Scalar.addi v1088 v1089
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_957 : BitVec 32 := 1#32
  let v1091 : BitVec 32 := Scalar.muli v100 c1_i32_957
  let v1092 : BitVec 32 := Scalar.addi v1090 v1091
  v1092.toNat
def k0_dev502 (d0 : Dev nD) : Nat :=
  let c0_i32_986 : BitVec 32 := 0#32
  let c0_i32_983 : BitVec 32 := 0#32
  let c8_i32_985 : BitVec 32 := 8#32
  let v1116 : BitVec 32 := Scalar.muli c0_i32_983 c8_i32_985
  let v1117 : BitVec 32 := Scalar.addi c0_i32_986 v1116
  let c1_i32_984 : BitVec 32 := 1#32
  let c4_i32_987 : BitVec 32 := 4#32
  let v1118 : BitVec 32 := Scalar.muli c1_i32_984 c4_i32_987
  let v1119 : BitVec 32 := Scalar.addi v1117 v1118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_988 : BitVec 32 := 1#32
  let v1120 : BitVec 32 := Scalar.muli v8 c1_i32_988
  let v1121 : BitVec 32 := Scalar.addi v1119 v1120
  v1121.toNat
def k0_dev503 (d0 : Dev nD) : Nat :=
  let c0_i32_997 : BitVec 32 := 0#32
  let c1_i32_994 : BitVec 32 := 1#32
  let c8_i32_996 : BitVec 32 := 8#32
  let v1128 : BitVec 32 := Scalar.muli c1_i32_994 c8_i32_996
  let v1129 : BitVec 32 := Scalar.addi c0_i32_997 v1128
  let c1_i32_995 : BitVec 32 := 1#32
  let c4_i32_998 : BitVec 32 := 4#32
  let v1130 : BitVec 32 := Scalar.muli c1_i32_995 c4_i32_998
  let v1131 : BitVec 32 := Scalar.addi v1129 v1130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_999 : BitVec 32 := 1#32
  let v1132 : BitVec 32 := Scalar.muli v100 c1_i32_999
  let v1133 : BitVec 32 := Scalar.addi v1131 v1132
  v1133.toNat
def k0_dev504 (d0 : Dev nD) : Nat :=
  let c0_i32_1028 : BitVec 32 := 0#32
  let c0_i32_1025 : BitVec 32 := 0#32
  let c8_i32_1027 : BitVec 32 := 8#32
  let v1157 : BitVec 32 := Scalar.muli c0_i32_1025 c8_i32_1027
  let v1158 : BitVec 32 := Scalar.addi c0_i32_1028 v1157
  let c1_i32_1026 : BitVec 32 := 1#32
  let c4_i32_1029 : BitVec 32 := 4#32
  let v1159 : BitVec 32 := Scalar.muli c1_i32_1026 c4_i32_1029
  let v1160 : BitVec 32 := Scalar.addi v1158 v1159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1030 : BitVec 32 := 1#32
  let v1161 : BitVec 32 := Scalar.muli v8 c1_i32_1030
  let v1162 : BitVec 32 := Scalar.addi v1160 v1161
  v1162.toNat
def k0_dev505 (d0 : Dev nD) : Nat :=
  let c0_i32_1039 : BitVec 32 := 0#32
  let c1_i32_1036 : BitVec 32 := 1#32
  let c8_i32_1038 : BitVec 32 := 8#32
  let v1169 : BitVec 32 := Scalar.muli c1_i32_1036 c8_i32_1038
  let v1170 : BitVec 32 := Scalar.addi c0_i32_1039 v1169
  let c1_i32_1037 : BitVec 32 := 1#32
  let c4_i32_1040 : BitVec 32 := 4#32
  let v1171 : BitVec 32 := Scalar.muli c1_i32_1037 c4_i32_1040
  let v1172 : BitVec 32 := Scalar.addi v1170 v1171
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1041 : BitVec 32 := 1#32
  let v1173 : BitVec 32 := Scalar.muli v100 c1_i32_1041
  let v1174 : BitVec 32 := Scalar.addi v1172 v1173
  v1174.toNat
def k0_dev506 (d0 : Dev nD) : Nat :=
  let c0_i32_1070 : BitVec 32 := 0#32
  let c0_i32_1067 : BitVec 32 := 0#32
  let c8_i32_1069 : BitVec 32 := 8#32
  let v1198 : BitVec 32 := Scalar.muli c0_i32_1067 c8_i32_1069
  let v1199 : BitVec 32 := Scalar.addi c0_i32_1070 v1198
  let c1_i32_1068 : BitVec 32 := 1#32
  let c4_i32_1071 : BitVec 32 := 4#32
  let v1200 : BitVec 32 := Scalar.muli c1_i32_1068 c4_i32_1071
  let v1201 : BitVec 32 := Scalar.addi v1199 v1200
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1072 : BitVec 32 := 1#32
  let v1202 : BitVec 32 := Scalar.muli v8 c1_i32_1072
  let v1203 : BitVec 32 := Scalar.addi v1201 v1202
  v1203.toNat
def k0_dev507 (d0 : Dev nD) : Nat :=
  let c0_i32_1081 : BitVec 32 := 0#32
  let c1_i32_1078 : BitVec 32 := 1#32
  let c8_i32_1080 : BitVec 32 := 8#32
  let v1210 : BitVec 32 := Scalar.muli c1_i32_1078 c8_i32_1080
  let v1211 : BitVec 32 := Scalar.addi c0_i32_1081 v1210
  let c1_i32_1079 : BitVec 32 := 1#32
  let c4_i32_1082 : BitVec 32 := 4#32
  let v1212 : BitVec 32 := Scalar.muli c1_i32_1079 c4_i32_1082
  let v1213 : BitVec 32 := Scalar.addi v1211 v1212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1083 : BitVec 32 := 1#32
  let v1214 : BitVec 32 := Scalar.muli v100 c1_i32_1083
  let v1215 : BitVec 32 := Scalar.addi v1213 v1214
  v1215.toNat
def k0_dev508 (d0 : Dev nD) : Nat :=
  let c0_i32_1112 : BitVec 32 := 0#32
  let c0_i32_1109 : BitVec 32 := 0#32
  let c8_i32_1111 : BitVec 32 := 8#32
  let v1239 : BitVec 32 := Scalar.muli c0_i32_1109 c8_i32_1111
  let v1240 : BitVec 32 := Scalar.addi c0_i32_1112 v1239
  let c1_i32_1110 : BitVec 32 := 1#32
  let c4_i32_1113 : BitVec 32 := 4#32
  let v1241 : BitVec 32 := Scalar.muli c1_i32_1110 c4_i32_1113
  let v1242 : BitVec 32 := Scalar.addi v1240 v1241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1114 : BitVec 32 := 1#32
  let v1243 : BitVec 32 := Scalar.muli v8 c1_i32_1114
  let v1244 : BitVec 32 := Scalar.addi v1242 v1243
  v1244.toNat
def k0_dev509 (d0 : Dev nD) : Nat :=
  let c0_i32_1136 : BitVec 32 := 0#32
  let c0_i32_1133 : BitVec 32 := 0#32
  let c8_i32_1135 : BitVec 32 := 8#32
  let v1261 : BitVec 32 := Scalar.muli c0_i32_1133 c8_i32_1135
  let v1262 : BitVec 32 := Scalar.addi c0_i32_1136 v1261
  let c1_i32_1134 : BitVec 32 := 1#32
  let c4_i32_1137 : BitVec 32 := 4#32
  let v1263 : BitVec 32 := Scalar.muli c1_i32_1134 c4_i32_1137
  let v1264 : BitVec 32 := Scalar.addi v1262 v1263
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1138 : BitVec 32 := 1#32
  let v1265 : BitVec 32 := Scalar.muli v8 c1_i32_1138
  let v1266 : BitVec 32 := Scalar.addi v1264 v1265
  v1266.toNat
def k0_dev510 (d0 : Dev nD) : Nat :=
  let c0_i32_1159 : BitVec 32 := 0#32
  let c0_i32_1156 : BitVec 32 := 0#32
  let c8_i32_1158 : BitVec 32 := 8#32
  let v1283 : BitVec 32 := Scalar.muli c0_i32_1156 c8_i32_1158
  let v1284 : BitVec 32 := Scalar.addi c0_i32_1159 v1283
  let c1_i32_1157 : BitVec 32 := 1#32
  let c4_i32_1160 : BitVec 32 := 4#32
  let v1285 : BitVec 32 := Scalar.muli c1_i32_1157 c4_i32_1160
  let v1286 : BitVec 32 := Scalar.addi v1284 v1285
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1161 : BitVec 32 := 1#32
  let v1287 : BitVec 32 := Scalar.muli v8 c1_i32_1161
  let v1288 : BitVec 32 := Scalar.addi v1286 v1287
  v1288.toNat
def k0_dev511 (d0 : Dev nD) : Nat :=
  let c0_i32_1182 : BitVec 32 := 0#32
  let c0_i32_1179 : BitVec 32 := 0#32
  let c8_i32_1181 : BitVec 32 := 8#32
  let v1305 : BitVec 32 := Scalar.muli c0_i32_1179 c8_i32_1181
  let v1306 : BitVec 32 := Scalar.addi c0_i32_1182 v1305
  let c1_i32_1180 : BitVec 32 := 1#32
  let c4_i32_1183 : BitVec 32 := 4#32
  let v1307 : BitVec 32 := Scalar.muli c1_i32_1180 c4_i32_1183
  let v1308 : BitVec 32 := Scalar.addi v1306 v1307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1184 : BitVec 32 := 1#32
  let v1309 : BitVec 32 := Scalar.muli v8 c1_i32_1184
  let v1310 : BitVec 32 := Scalar.addi v1308 v1309
  v1310.toNat
def k0_dev512 (d0 : Dev nD) : Nat :=
  let c0_i32_1205 : BitVec 32 := 0#32
  let c1_i32_1202 : BitVec 32 := 1#32
  let c8_i32_1204 : BitVec 32 := 8#32
  let v1327 : BitVec 32 := Scalar.muli c1_i32_1202 c8_i32_1204
  let v1328 : BitVec 32 := Scalar.addi c0_i32_1205 v1327
  let c1_i32_1203 : BitVec 32 := 1#32
  let c4_i32_1206 : BitVec 32 := 4#32
  let v1329 : BitVec 32 := Scalar.muli c1_i32_1203 c4_i32_1206
  let v1330 : BitVec 32 := Scalar.addi v1328 v1329
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1207 : BitVec 32 := 1#32
  let v1331 : BitVec 32 := Scalar.muli v100 c1_i32_1207
  let v1332 : BitVec 32 := Scalar.addi v1330 v1331
  v1332.toNat
def k0_dev513 (d0 : Dev nD) : Nat :=
  let c0_i32_1229 : BitVec 32 := 0#32
  let c1_i32_1226 : BitVec 32 := 1#32
  let c8_i32_1228 : BitVec 32 := 8#32
  let v1349 : BitVec 32 := Scalar.muli c1_i32_1226 c8_i32_1228
  let v1350 : BitVec 32 := Scalar.addi c0_i32_1229 v1349
  let c1_i32_1227 : BitVec 32 := 1#32
  let c4_i32_1230 : BitVec 32 := 4#32
  let v1351 : BitVec 32 := Scalar.muli c1_i32_1227 c4_i32_1230
  let v1352 : BitVec 32 := Scalar.addi v1350 v1351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1231 : BitVec 32 := 1#32
  let v1353 : BitVec 32 := Scalar.muli v100 c1_i32_1231
  let v1354 : BitVec 32 := Scalar.addi v1352 v1353
  v1354.toNat
def k0_dev514 (d0 : Dev nD) : Nat :=
  let c0_i32_1252 : BitVec 32 := 0#32
  let c1_i32_1249 : BitVec 32 := 1#32
  let c8_i32_1251 : BitVec 32 := 8#32
  let v1371 : BitVec 32 := Scalar.muli c1_i32_1249 c8_i32_1251
  let v1372 : BitVec 32 := Scalar.addi c0_i32_1252 v1371
  let c1_i32_1250 : BitVec 32 := 1#32
  let c4_i32_1253 : BitVec 32 := 4#32
  let v1373 : BitVec 32 := Scalar.muli c1_i32_1250 c4_i32_1253
  let v1374 : BitVec 32 := Scalar.addi v1372 v1373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1254 : BitVec 32 := 1#32
  let v1375 : BitVec 32 := Scalar.muli v100 c1_i32_1254
  let v1376 : BitVec 32 := Scalar.addi v1374 v1375
  v1376.toNat
def k0_dev515 (d0 : Dev nD) : Nat :=
  let c0_i32_1275 : BitVec 32 := 0#32
  let c1_i32_1272 : BitVec 32 := 1#32
  let c8_i32_1274 : BitVec 32 := 8#32
  let v1393 : BitVec 32 := Scalar.muli c1_i32_1272 c8_i32_1274
  let v1394 : BitVec 32 := Scalar.addi c0_i32_1275 v1393
  let c1_i32_1273 : BitVec 32 := 1#32
  let c4_i32_1276 : BitVec 32 := 4#32
  let v1395 : BitVec 32 := Scalar.muli c1_i32_1273 c4_i32_1276
  let v1396 : BitVec 32 := Scalar.addi v1394 v1395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v99 : BitVec 32 := Scalar.addi v8 c1_i32_58
  let c2_i32_59 : BitVec 32 := 2#32
  let v100 : BitVec 32 := Scalar.subi v99 c2_i32_59
  let c1_i32_1277 : BitVec 32 := 1#32
  let v1397 : BitVec 32 := Scalar.muli v100 c1_i32_1277
  let v1398 : BitVec 32 := Scalar.addi v1396 v1397
  v1398.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x1024 : Shape := ⟨2, ![4096, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Ops.lean ====
/- The kernel body as a short structured program.

   A device's body is a fixed sequence of fetches, casts, remote copies and waits, printed once for each of
   the eight positions (x, y, z mod 2) a device can have. Here the sequence is written once, with loops over the
   chunks, at a device's quarter `Q = 2 x + (z mod 2)` and half `y`; `Cases.lean` shows that each printed
   position is this sequence. A continuation `k` is what runs afterwards. -/
module

public import proofs.«01_k».proof.Proof.Gen.KernelIdeal
public import Idealize.ShloMosaic.Lib.Pipeline.Regions

@[expose] public section

set_option maxRecDepth 16384

noncomputable section

namespace Cert.Exchange

open Cert.KernelIdeal Cert.KernelIdeal.Gen
open Idealize.ShloMosaic Idealize.SL.Sem

variable {F : FTy → Type} [FloatOps F]

/-! ## Buffers, semaphores, rectangles -/

/-- The argument in HBM, the result's staging buffer, the fetched copy of the argument, the send buffer. -/
abbrev hM : Memref sig .tc .hbm S2048x1024 .f32 := Memref.whole main_arg0
abbrev oM : Memref sig .tc .vmem S4096x512 .bf16 := Memref.whole cc0_stg0_0
abbrev xM : Memref sig .tc .vmem S2048x1024 .f32 := Memref.whole cc0_scratch0
abbrev bM : Memref sig .tc .vmem S768x512 .bf16 := Memref.whole cc0_scratch1

/-- The runtime's barrier semaphore. -/
abbrev barS : Sem sig := (SemArray.scalar (sig.barrier 0 rfl) : Sems sig S_).sem

/-- The DMA semaphores: fetch; send and receive of the copies along y, x and z. -/
def fS (i : Fin 16) : DmaSem sig := ⟨1 + i.1, show 1 + i.1 < 145 by omega⟩
def ysS (i : Fin 24) : DmaSem sig := ⟨17 + i.1, show 17 + i.1 < 145 by omega⟩
def yrS (i : Fin 24) : DmaSem sig := ⟨41 + i.1, show 41 + i.1 < 145 by omega⟩
def xsS (i : Fin 20) : DmaSem sig := ⟨65 + i.1, show 65 + i.1 < 145 by omega⟩
def xrS (i : Fin 20) : DmaSem sig := ⟨85 + i.1, show 85 + i.1 < 145 by omega⟩
def zsS (i : Fin 20) : DmaSem sig := ⟨105 + i.1, show 105 + i.1 < 145 by omega⟩
def zrS (i : Fin 20) : DmaSem sig := ⟨125 + i.1, show 125 + i.1 < 145 by omega⟩

theorem inbC (i : Fin 16) : ∀ a, (![128 * i.1, 0] : Fin 2 → Nat) a + S128x1024.size a ≤ S2048x1024.size a := by
  revert i; decide
theorem inbO (i : Fin 128) : ∀ a, (![32 * i.1, 0] : Fin 2 → Nat) a + S32x512.size a ≤ S4096x512.size a := by
  revert i; decide
theorem inbB (i : Fin 24) : ∀ a, (![32 * i.1, 0] : Fin 2 → Nat) a + S32x512.size a ≤ S768x512.size a := by
  revert i; decide
theorem inbX (i : Fin 64) (h : Fin 2) : ∀ a, (![32 * i.1, 512 * h.1] : Fin 2 → Nat) a + S32x512.size a ≤ S2048x1024.size a := by
  revert i h; decide
theorem inbXL (i : Fin 16) (h : Fin 2) : ∀ a, (![128 * i.1, 512 * h.1] : Fin 2 → Nat) a + S128x512.size a ≤ S2048x1024.size a := by
  revert i h; decide
theorem inbOL (i : Fin 16) (h : Fin 2) : ∀ a, (![2048 * h.1 + 128 * i.1, 0] : Fin 2 → Nat) a + S128x512.size a ≤ S4096x512.size a := by
  revert i h; decide

/-- Rows `[128 i, 128 i + 128)` of an argument-shaped buffer. -/
abbrev rC (i : Fin 16) : Rect S2048x1024 := Rect.unit (s := S2048x1024) ![128 * i.1, 0] S128x1024.size (inbC i)
/-- Rows `[32 i, 32 i + 32)` of the result. -/
abbrev rO (i : Fin 128) : Rect S4096x512 := Rect.unit (s := S4096x512) ![32 * i.1, 0] S32x512.size (inbO i)
/-- Rows `[32 i, 32 i + 32)` of the send buffer. -/
abbrev rB (i : Fin 24) : Rect S768x512 := Rect.unit (s := S768x512) ![32 * i.1, 0] S32x512.size (inbB i)
/-- Rows `[32 i, 32 i + 32)`, columns of half `h`, of the fetched argument. -/
abbrev rX (i : Fin 64) (h : Fin 2) : Rect S2048x1024 := Rect.unit (s := S2048x1024) ![32 * i.1, 512 * h.1] S32x512.size (inbX i h)
/-- Rows `[128 i, 128 i + 128)`, columns of half `h`, of the fetched argument. -/
abbrev rXL (i : Fin 16) (h : Fin 2) : Rect S2048x1024 := Rect.unit (s := S2048x1024) ![128 * i.1, 512 * h.1] S128x512.size (inbXL i h)
/-- Rows `[128 i, 128 i + 128)` of half `h` of the result. -/
abbrev rOL (i : Fin 16) (h : Fin 2) : Rect S4096x512 := Rect.unit (s := S4096x512) ![2048 * h.1 + 128 * i.1, 0] S128x512.size (inbOL i h)

theorem wordsO (i : Fin 128) : (rO i).WholeWords (EltTy.packing .bf16) := by revert i; decide
theorem wordsB (i : Fin 24) : (rB i).WholeWords (EltTy.packing .bf16) := by revert i; decide
theorem packedB (i : Fin 24) : (rB i).PackedRows (EltTy.packing .bf16) := by revert i; decide
theorem packedOL (i : Fin 16) (h : Fin 2) : (rOL i h).PackedRows (EltTy.packing .bf16) := by revert i h; decide

abbrev hC (i : Fin 16) : Memref sig .tc .hbm S128x1024 .f32 := hM.slice (rC i) (fun _ => rfl)
abbrev xC (i : Fin 16) : Memref sig .tc .vmem S128x1024 .f32 := xM.slice (rC i) (fun _ => rfl)
abbrev oU (i : Fin 128) : Memref sig .tc .vmem S32x512 .bf16 := oM.slice (rO i) (fun _ => rfl)
abbrev bU (i : Fin 24) : Memref sig .tc .vmem S32x512 .bf16 := bM.slice (rB i) (fun _ => rfl)

theorem exactO (i : Fin 128) : (oU i).view.WordExact := (Memref.isWhole_whole cc0_stg0_0).wordExact_slice rfl _ (wordsO i)
theorem exactB (i : Fin 24) : (bU i).view.WordExact := (Memref.isWhole_whole cc0_scratch1).wordExact_slice rfl _ (wordsB i)

/-- The casts: a block of the argument rounded to bf16. -/
abbrev cast32 (v : Vec F S32x512 .f32) : FVec F S32x512 .bf16 := shapeCast S32x512 (truncf .bf16 v bitsLt_bf16_f32) shapeCasts_S32x512_S32x512
abbrev cast128 (v : Vec F S128x512 .f32) : FVec F S128x512 .bf16 := truncf .bf16 v bitsLt_bf16_f32

/-! ## The steps -/

variable (F) in
abbrev PR : Type 1 := Prog (TpuEff nD τ sig (Elt F) Λ₀ .tc) PUnit

/-- `n` steps in order, then `k`. -/
def loopFrom {F : FTy → Type} {n : ℕ} (f : Fin n → PR F → PR F) : (m : ℕ) → m ≤ n → PR F → PR F
  | 0, _, k => k
  | m + 1, h, k => f ⟨n - (m + 1), by omega⟩ (loopFrom f m (by omega) k)
def loop {F : FTy → Type} (n : ℕ) (f : Fin n → PR F → PR F) (k : PR F) : PR F := loopFrom f n le_rfl k

def fetch (i : Fin 16) (k : PR F) : PR F :=
  .op (.enqueueDma (hC i) (.here (xC i)) (.dma (fS i)) (View.wordExact_bits rfl) (View.wordExact_bits rfl) ⟨Or.inl rfl, trivial⟩) fun _ => k
def fetchWait (i : Fin 16) (k : PR F) : PR F :=
  .op (.waitDma2 (fS i) (hC i) (xC i) (View.wordExact_bits rfl) (View.wordExact_bits rfl)) fun _ => k

/-- Rows of unit `r` of the argument, columns of half `h`, rounded, to unit `u` of the send buffer. -/
def castSend (h : Fin 2) (r : Fin 64) (u : Fin 24) (k : PR F) : PR F :=
  .op (.load xM (rX r h).toLoadRect (View.loadsAt_vmem h_S32x512)) fun v : Vec F S32x512 .f32 =>
  .op (.load bM (rB u).toLoadRect (View.loadsAt_vmem h_S32x512)) fun _ : Vec F S32x512 .bf16 =>
  .op (.store bM (rB u) (cast32 v) Finset.univ
    (View.stores_vmem h_S32x512 ((Memref.isWhole_whole cc0_scratch1).storeExact_slice rfl _ (packedB u)) (fun _ => rfl)) (.inl rfl)) fun _ => k

/-- Chunk `i` of the argument, columns of half `h`, rounded, to the same rows of half `h` of the result. -/
def castKeep (h : Fin 2) (i : Fin 16) (k : PR F) : PR F :=
  .op (.load xM (rXL i h).toLoadRect (View.loadsAt_vmem h_S128x512)) fun v : Vec F S128x512 .f32 =>
  .op (.load oM (rOL i h).toLoadRect (View.loadsAt_vmem h_S128x512)) fun _ : Vec F S128x512 .bf16 =>
  .op (.store oM (rOL i h) (cast128 v) Finset.univ
    (View.stores_vmem h_S128x512 ((Memref.isWhole_whole cc0_stg0_0).storeExact_slice rfl _ (packedOL i h)) (fun _ => rfl)) (.inl rfl)) fun _ => k

def barrierWait (k : PR F) : PR F := .op (.semWait barS 3) fun _ => k

/-- Unit `u` of the send buffer to unit `o` of device `d`'s result. -/
def sendY (d : Dev nD) (u : Fin 24) (o : Fin 128) (k : PR F) : PR F :=
  .op (.enqueueDma (bU u) (.remote (Dev.tc d) (oU o) (.dma (ysS u))) (.dma (yrS u)) (exactB u) (exactO o) ⟨⟨rfl, Or.inl rfl⟩, trivial⟩) fun _ => k
/-- Unit `o` of the result to the same unit of device `d`'s result: along x, along z. -/
def sendX (d : Dev nD) (i : Fin 20) (o : Fin 128) (k : PR F) : PR F :=
  .op (.enqueueDma (oU o) (.remote (Dev.tc d) (oU o) (.dma (xsS i))) (.dma (xrS i)) (exactO o) (exactO o) ⟨⟨rfl, Or.inl rfl⟩, trivial⟩) fun _ => k
def sendZ (d : Dev nD) (i : Fin 20) (o : Fin 128) (k : PR F) : PR F :=
  .op (.enqueueDma (oU o) (.remote (Dev.tc d) (oU o) (.dma (zsS i))) (.dma (zrS i)) (exactO o) (exactO o) ⟨⟨rfl, Or.inl rfl⟩, trivial⟩) fun _ => k

/-- A wait for a copy along y (its units name only the amount), along x or z. -/
def waitB (s : DmaSem sig) (u : Fin 24) (o : Fin 128) (k : PR F) : PR F :=
  .op (.waitDma2 s (bU u) (oU o) (exactB u) (exactO o)) fun _ => k
def waitB' (s : DmaSem sig) (u : Fin 24) (o : Fin 128) (k : PR F) : PR F :=
  .op (.waitDma2 s (oU o) (bU u) (exactO o) (exactB u)) fun _ => k
def waitO (s : DmaSem sig) (o : Fin 128) (k : PR F) : PR F :=
  .op (.waitDma2 s (oU o) (oU o) (exactO o) (exactO o)) fun _ => k

/-! ## The positions -/

/-- The quarter across z, across x, across both. -/
def qz (Q : Fin 4) : Fin 4 := ![1, 0, 3, 2] Q
def qx (Q : Fin 4) : Fin 4 := ![2, 3, 0, 1] Q
def qd (Q : Fin 4) : Fin 4 := ![3, 2, 1, 0] Q
/-- The half a device does not keep. -/
def oth (y : Fin 2) : Fin 2 := ![1, 0] y

/-- Unit `u` of quarter `Q`. -/
def unitOf (Q : Fin 4) (u : Fin 16) : Fin 64 := ⟨16 * Q.1 + u.1, by omega⟩
/-- Unit `r` of half `h` of the result. -/
def outOf (h : Fin 2) (r : Fin 64) : Fin 128 := ⟨64 * h.1 + r.1, by omega⟩
/-- The units sent along y: the device's own quarter, then the first half of the quarter across both. -/
def yUnit (Q : Fin 4) (u : Fin 24) : Fin 64 :=
  if h : u.1 < 16 then unitOf Q ⟨u.1, h⟩ else unitOf (qd Q) ⟨u.1 - 16, by omega⟩
/-- The units sent along x: the own quarter, then four units of the quarter across z. -/
def xUnit (Q : Fin 4) (i : Fin 20) : Fin 64 :=
  if h : i.1 < 16 then unitOf Q ⟨i.1, h⟩ else unitOf (qz Q) ⟨i.1 - 8, by omega⟩
/-- The units sent along z: the own quarter, then four units of the quarter across x. -/
def zUnit (Q : Fin 4) (i : Fin 20) : Fin 64 :=
  if h : i.1 < 16 then unitOf Q ⟨i.1, h⟩ else unitOf (qx Q) ⟨i.1 - 4, by omega⟩
/-- The chunks whose units go along y, in that order. -/
def needed (Q : Fin 4) (v : Fin 6) : Fin 16 :=
  if h : v.1 < 4 then ⟨4 * Q.1 + v.1, by omega⟩ else ⟨4 * (qd Q).1 + (v.1 - 4), by omega⟩
/-- The order of the fetches. -/
def order (Q : Fin 4) : Fin 16 → Fin 16 :=
  (![![0, 1, 2, 3, 12, 13, 4, 5, 6, 7, 8, 9, 10, 11, 14, 15],
     ![4, 5, 6, 7, 8, 9, 0, 1, 2, 3, 10, 11, 12, 13, 14, 15],
     ![4, 5, 8, 9, 10, 11, 0, 1, 2, 3, 6, 7, 12, 13, 14, 15],
     ![0, 1, 12, 13, 14, 15, 2, 3, 4, 5, 6, 7, 8, 9, 10, 11]] : Fin 4 → Fin 16 → Fin 16) Q

/-! ## The sequence -/

def f6 (v : Fin 6) (w : Fin 4) : Fin 24 := ⟨4 * v.1 + w.1, by omega⟩

/-- Everything after the entry signals, at quarter `Q`, half `y`, the three partners `dy`, `dx`, `dz`. -/
def seq (Q : Fin 4) (y : Fin 2) (dy dx dz : Dev nD) (k : PR F) : PR F :=
  loop 16 (fun i => fetch (order Q i)) <|
  loop 6 (fun v k => fetchWait (needed Q v) (loop 4 (fun w => castSend (oth y) (yUnit Q (f6 v w)) (f6 v w)) k)) <|
  barrierWait <|
  loop 24 (fun u => sendY dy u (outOf y (yUnit Q u))) <|
  loop 6 (fun i k =>
    waitB (yrS (i.castLE (by decide))) (i.castLE (by decide)) (outOf y (unitOf Q (i.castLE (by decide)))) <|
    sendX dx (i.castLE (by decide)) (outOf (oth y) (unitOf Q (i.castLE (by decide)))) <|
    sendZ dz (i.castLE (by decide)) (outOf (oth y) (unitOf Q (i.castLE (by decide)))) <|
    castKeep y (order Q (i.castLE (by decide))) k) <|
  loop 10 (fun i k =>
    waitB (yrS ⟨6 + i.1, by omega⟩) ⟨6 + i.1, by omega⟩ (outOf y (unitOf Q ⟨6 + i.1, by omega⟩)) <|
    sendX dx ⟨6 + i.1, by omega⟩ (outOf (oth y) (unitOf Q ⟨6 + i.1, by omega⟩)) <|
    sendZ dz ⟨6 + i.1, by omega⟩ (outOf (oth y) (unitOf Q ⟨6 + i.1, by omega⟩)) <|
    fetchWait (order Q ⟨6 + i.1, by omega⟩) <|
    castKeep y (order Q ⟨6 + i.1, by omega⟩) k) <|
  loop 4 (fun j k =>
    waitO (zrS ⟨8 + j.1, by omega⟩) (outOf (oth y) (unitOf Q ⟨8 + j.1, by omega⟩)) <|
    sendX dx ⟨16 + j.1, by omega⟩ (outOf (oth y) (xUnit Q ⟨16 + j.1, by omega⟩)) k) <|
  loop 4 (fun j k =>
    waitO (xrS ⟨12 + j.1, by omega⟩) (outOf (oth y) (unitOf Q ⟨12 + j.1, by omega⟩)) <|
    sendZ dz ⟨16 + j.1, by omega⟩ (outOf (oth y) (zUnit Q ⟨16 + j.1, by omega⟩)) k) <|
  loop 24 (fun u => waitB' (ysS u) u (outOf y (yUnit Q u))) <|
  loop 20 (fun i => waitO (xsS i) (outOf (oth y) (xUnit Q i))) <|
  loop 20 (fun i => waitO (zsS i) (outOf (oth y) (zUnit Q i))) <|
  loop 8 (fun j => waitB (yrS ⟨16 + j.1, by omega⟩) ⟨16 + j.1, by omega⟩ (outOf y (yUnit Q ⟨16 + j.1, by omega⟩))) <|
  loop 12 (fun i => waitO (xrS (i.castLE (by decide))) (outOf (oth y) (xUnit Q (i.castLE (by decide))))) <|
  loop 4 (fun i => waitO (xrS ⟨16 + i.1, by omega⟩) (outOf (oth y) (xUnit Q ⟨16 + i.1, by omega⟩))) <|
  loop 8 (fun i => waitO (zrS (i.castLE (by decide))) (outOf (oth y) (zUnit Q (i.castLE (by decide))))) <|
  loop 4 (fun i => waitO (zrS ⟨12 + i.1, by omega⟩) (outOf (oth y) (zUnit Q ⟨12 + i.1, by omega⟩))) <|
  loop 4 (fun i => waitO (zrS ⟨16 + i.1, by omega⟩) (outOf (oth y) (zUnit Q ⟨16 + i.1, by omega⟩))) k

end Cert.Exchange

end
-- ==== Proof.Cases.lean ====
/- Each of the eight printed positions of the body is `seq` at that position, and the whole body is the three
   entry signals and then `seq` at the device's own quarter, half and partners. -/
module

public import proofs.«01_k».proof.Proof.Ops

@[expose] public section

set_option maxRecDepth 65536

noncomputable section

namespace Cert.Exchange

open Cert.KernelIdeal Cert.KernelIdeal.Gen
open Idealize.ShloMosaic Idealize.SL.Sem

variable {F : FTy → Type} [FloatOps F]

/-! ## The devices -/

/-- The partner along y, along x, and the other device of the pair along z. Device `c` is at
    x = c / 8, y = c / 4 mod 2, z = c mod 4. -/
def pY (c : Dev nD) : Dev nD := ⟨(![4, 5, 6, 7, 0, 1, 2, 3, 12, 13, 14, 15, 8, 9, 10, 11] : Fin 16 → ℕ) c, by revert c; decide⟩
def pX (c : Dev nD) : Dev nD := ⟨(![8, 9, 10, 11, 12, 13, 14, 15, 0, 1, 2, 3, 4, 5, 6, 7] : Fin 16 → ℕ) c, by revert c; decide⟩
def pZ (c : Dev nD) : Dev nD := ⟨(![1, 0, 3, 2, 5, 4, 7, 6, 9, 8, 11, 10, 13, 12, 15, 14] : Fin 16 → ℕ) c, by revert c; decide⟩
/-- Its half (its y) and its quarter (2 x + z mod 2). -/
def hY (c : Dev nD) : Fin 2 := (![0, 0, 0, 0, 1, 1, 1, 1, 0, 0, 0, 0, 1, 1, 1, 1] : Fin 16 → Fin 2) c
def qQ (c : Dev nD) : Fin 4 := (![0, 1, 0, 1, 0, 1, 0, 1, 2, 3, 2, 3, 2, 3, 2, 3] : Fin 16 → Fin 4) c

theorem dev1_eq (c : Dev nD) : (⟨k0_dev1 c, k0_dev1_lt c⟩ : Dev nD) = pY c := by revert c; decide +kernel
theorem dev2_eq (c : Dev nD) : (⟨k0_dev2 c, k0_dev2_lt c⟩ : Dev nD) = pX c := by revert c; decide +kernel
theorem dev3_eq (c : Dev nD) : (⟨k0_dev3 c, k0_dev3_lt c⟩ : Dev nD) = pZ c := by revert c; decide +kernel

/-! ## The positions -/

abbrev barA : Sems sig S_ := SemArray.scalar (sig.barrier 0 rfl)

def reg1 {α : Type} (d : Dev nD) (v : BitVec 32) (h : k0_cond1 d = 1#1) (k : Prog (TpuEff nD τ sig (Elt F) Λ₀ .tc) α) : Prog (TpuEff nD τ sig (Elt F) Λ₀ .tc) α := do
  let w ← k0_part78 hM (Memref.isWhole_whole _) oM (Memref.isWhole_whole _) xM (Memref.isWhole_whole _) bM (Memref.isWhole_whole _)
      cc0_scratch2 cc0_scratch3 cc0_scratch4 cc0_scratch5 cc0_scratch6 cc0_scratch7 cc0_scratch8 d v barA h
  k0_part79 hM (Memref.isWhole_whole _) oM (Memref.isWhole_whole _) xM (Memref.isWhole_whole _) bM (Memref.isWhole_whole _)
      cc0_scratch2 cc0_scratch3 cc0_scratch4 cc0_scratch5 cc0_scratch6 cc0_scratch7 cc0_scratch8 v w
  k
def reg2 {α : Type} (d : Dev nD) (v : BitVec 32) (h : k0_cond2 d = 1#1) (k : Prog (TpuEff nD τ sig (Elt F) Λ₀ .tc) α) : Prog (TpuEff nD τ sig (Elt F) Λ₀ .tc) α := do
  let w ← k0_part157 hM (Memref.isWhole_whole _) oM (Memref.isWhole_whole _) xM (Memref.isWhole_whole _) bM (Memref.isWhole_whole _)
      cc0_scratch2 cc0_scratch3 cc0_scratch4 cc0_scratch5 cc0_scratch6 cc0_scratch7 cc0_scratch8 d v barA h
  k0_part158 hM (Memref.isWhole_whole _) oM (Memref.isWhole_whole _) xM (Memref.isWhole_whole _) bM (Memref.isWhole_whole _)
      cc0_scratch2 cc0_scratch3 cc0_scratch4 cc0_scratch5 cc0_scratch6 cc0_scratch7 cc0_scratch8 v w
  k
def reg3 {α : Type} (d : Dev nD) (v : BitVec 32) (h : k0_cond3 d = 1#1) (k : Prog (TpuEff nD τ sig (Elt F) Λ₀ .tc) α) : Prog (TpuEff nD τ sig (Elt F) Λ₀ .tc) α := do
  let w ← k0_part236 hM (Memref.isWhole_whole _) oM (Memref.isWhole_whole _) xM (Memref.isWhole_whole _) bM (Memref.isWhole_whole _)
      cc0_scratch2 cc0_scratch3 cc0_scratch4 cc0_scratch5 cc0_scratch6 cc0_scratch7 cc0_scratch8 d v barA h
  k0_part237 hM (Memref.isWhole_whole _) oM (Memref.isWhole_whole _) xM (Memref.isWhole_whole _) bM (Memref.isWhole_whole _)
      cc0_scratch2 cc0_scratch3 cc0_scratch4 cc0_scratch5 cc0_scratch6 cc0_scratch7 cc0_scratch8 v w
  k
def reg4 (d : Dev nD) (v : BitVec 32) (h : k0_cond4 d = 1#1) (k : PR F) : PR F := do
  let w ← k0_part315 hM (Memref.isWhole_whole _) oM (Memref.isWhole_whole _) xM (Memref.isWhole_whole _) bM (Memref.isWhole_whole _)
      cc0_scratch2 cc0_scratch3 cc0_scratch4 cc0_scratch5 cc0_scratch6 cc0_scratch7 cc0_scratch8 d v barA h
  k0_part316 hM (Memref.isWhole_whole _) oM (Memref.isWhole_whole _) xM (Memref.isWhole_whole _) bM (Memref.isWhole_whole _)
      cc0_scratch2 cc0_scratch3 cc0_scratch4 cc0_scratch5 cc0_scratch6 cc0_scratch7 cc0_scratch8 v w
  k
def reg5 (d : Dev nD) (v : BitVec 32) (h : k0_cond5 d = 1#1) (k : PR F) : PR F := do
  let w ← k0_part394 hM (Memref.isWhole_whole _) oM (Memref.isWhole_whole _) xM (Memref.isWhole_whole _) bM (Memref.isWhole_whole _)
      cc0_scratch2 cc0_scratch3 cc0_scratch4 cc0_scratch5 cc0_scratch6 cc0_scratch7 cc0_scratch8 d v barA h
  k0_part395 hM (Memref.isWhole_whole _) oM (Memref.isWhole_whole _) xM (Memref.isWhole_whole _) bM (Memref.isWhole_whole _)
      cc0_scratch2 cc0_scratch3 cc0_scratch4 cc0_scratch5 cc0_scratch6 cc0_scratch7 cc0_scratch8 v w
  k
def reg6 (d : Dev nD) (v : BitVec 32) (h : k0_cond6 d = 1#1) (k : PR F) : PR F := do
  let w ← k0_part473 hM (Memref.isWhole_whole _) oM (Memref.isWhole_whole _) xM (Memref.isWhole_whole _) bM (Memref.isWhole_whole _)
      cc0_scratch2 cc0_scratch3 cc0_scratch4 cc0_scratch5 cc0_scratch6 cc0_scratch7 cc0_scratch8 d v barA h
  k0_part474 hM (Memref.isWhole_whole _) oM (Memref.isWhole_whole _) xM (Memref.isWhole_whole _) bM (Memref.isWhole_whole _)
      cc0_scratch2 cc0_scratch3 cc0_scratch4 cc0_scratch5 cc0_scratch6 cc0_scratch7 cc0_scratch8 v w
  k
def reg7 (d : Dev nD) (v : BitVec 32) (h : k0_cond7 d = 1#1) (k : PR F) : PR F := do
  let w ← k0_part552 hM (Memref.isWhole_whole _) oM (Memref.isWhole_whole _) xM (Memref.isWhole_whole _) bM (Memref.isWhole_whole _)
      cc0_scratch2 cc0_scratch3 cc0_scratch4 cc0_scratch5 cc0_scratch6 cc0_scratch7 cc0_scratch8 d v barA h
  k0_part553 hM (Memref.isWhole_whole _) oM (Memref.isWhole_whole _) xM (Memref.isWhole_whole _) bM (Memref.isWhole_whole _)
      cc0_scratch2 cc0_scratch3 cc0_scratch4 cc0_scratch5 cc0_scratch6 cc0_scratch7 cc0_scratch8 v w
  k
def reg8 (d : Dev nD) (v : BitVec 32) (h : k0_cond8 d = 1#1) (k : PR F) : PR F := do
  let w ← k0_part631 hM (Memref.isWhole_whole _) oM (Memref.isWhole_whole _) xM (Memref.isWhole_whole _) bM (Memref.isWhole_whole _)
      cc0_scratch2 cc0_scratch3 cc0_scratch4 cc0_scratch5 cc0_scratch6 cc0_scratch7 cc0_scratch8 d v barA h
  k0_part632 hM (Memref.isWhole_whole _) oM (Memref.isWhole_whole _) xM (Memref.isWhole_whole _) bM (Memref.isWhole_whole _)
      cc0_scratch2 cc0_scratch3 cc0_scratch4 cc0_scratch5 cc0_scratch6 cc0_scratch7 cc0_scratch8 v w
  k

theorem reg1_eq {α : Type} (d : Dev nD) (v : BitVec 32) (h : k0_cond1 d = 1#1) (k : Prog (TpuEff nD τ sig (Elt F) Λ₀ .tc) α) (f : α → PR F) :
    (reg1 d v h k >>= f) = seq 0 0 ⟨k0_dev4 d, k0_dev4_lt d h⟩ ⟨k0_dev28 d, k0_dev28_lt d h⟩ ⟨k0_dev29 d, k0_dev29_lt d h⟩ (k >>= f) := by
  chain_rfl
theorem reg2_eq {α : Type} (d : Dev nD) (v : BitVec 32) (h : k0_cond2 d = 1#1) (k : Prog (TpuEff nD τ sig (Elt F) Λ₀ .tc) α) (f : α → PR F) :
    (reg2 d v h k >>= f) = seq 1 0 ⟨k0_dev68 d, k0_dev68_lt d h⟩ ⟨k0_dev92 d, k0_dev92_lt d h⟩ ⟨k0_dev93 d, k0_dev93_lt d h⟩ (k >>= f) := by
  chain_rfl
theorem reg3_eq {α : Type} (d : Dev nD) (v : BitVec 32) (h : k0_cond3 d = 1#1) (k : Prog (TpuEff nD τ sig (Elt F) Λ₀ .tc) α) (f : α → PR F) :
    (reg3 d v h k >>= f) = seq 0 1 ⟨k0_dev132 d, k0_dev132_lt d h⟩ ⟨k0_dev156 d, k0_dev156_lt d h⟩ ⟨k0_dev157 d, k0_dev157_lt d h⟩ (k >>= f) := by
  chain_rfl
theorem reg4_eq (d : Dev nD) (v : BitVec 32) (h : k0_cond4 d = 1#1) (k : PR F) :
    reg4 d v h k = seq 1 1 ⟨k0_dev196 d, k0_dev196_lt d h⟩ ⟨k0_dev220 d, k0_dev220_lt d h⟩ ⟨k0_dev221 d, k0_dev221_lt d h⟩ k := by
  chain_rfl
theorem reg5_eq (d : Dev nD) (v : BitVec 32) (h : k0_cond5 d = 1#1) (k : PR F) :
    reg5 d v h k = seq 2 0 ⟨k0_dev260 d, k0_dev260_lt d h⟩ ⟨k0_dev284 d, k0_dev284_lt d h⟩ ⟨k0_dev285 d, k0_dev285_lt d h⟩ k := by
  chain_rfl
theorem reg6_eq (d : Dev nD) (v : BitVec 32) (h : k0_cond6 d = 1#1) (k : PR F) :
    reg6 d v h k = seq 3 0 ⟨k0_dev324 d, k0_dev324_lt d h⟩ ⟨k0_dev348 d, k0_dev348_lt d h⟩ ⟨k0_dev349 d, k0_dev349_lt d h⟩ k := by
  chain_rfl
theorem reg7_eq (d : Dev nD) (v : BitVec 32) (h : k0_cond7 d = 1#1) (k : PR F) :
    reg7 d v h k = seq 2 1 ⟨k0_dev388 d, k0_dev388_lt d h⟩ ⟨k0_dev412 d, k0_dev412_lt d h⟩ ⟨k0_dev413 d, k0_dev413_lt d h⟩ k := by
  chain_rfl
theorem reg8_eq (d : Dev nD) (v : BitVec 32) (h : k0_cond8 d = 1#1) (k : PR F) :
    reg8 d v h k = seq 3 1 ⟨k0_dev452 d, k0_dev452_lt d h⟩ ⟨k0_dev476 d, k0_dev476_lt d h⟩ ⟨k0_dev477 d, k0_dev477_lt d h⟩ k := by
  chain_rfl

theorem at1 : ∀ (d : Dev nD) (h : k0_cond1 d = 1#1), (⟨k0_dev4 d, k0_dev4_lt d h⟩ : Dev nD) = pY d ∧ (⟨k0_dev28 d, k0_dev28_lt d h⟩ : Dev nD) = pX d
    ∧ (⟨k0_dev29 d, k0_dev29_lt d h⟩ : Dev nD) = pZ d ∧ (0 : Fin 4) = qQ d ∧ (0 : Fin 2) = hY d := by decide +kernel
theorem at2 : ∀ (d : Dev nD) (h : k0_cond2 d = 1#1), (⟨k0_dev68 d, k0_dev68_lt d h⟩ : Dev nD) = pY d ∧ (⟨k0_dev92 d, k0_dev92_lt d h⟩ : Dev nD) = pX d
    ∧ (⟨k0_dev93 d, k0_dev93_lt d h⟩ : Dev nD) = pZ d ∧ (1 : Fin 4) = qQ d ∧ (0 : Fin 2) = hY d := by decide +kernel
theorem at3 : ∀ (d : Dev nD) (h : k0_cond3 d = 1#1), (⟨k0_dev132 d, k0_dev132_lt d h⟩ : Dev nD) = pY d ∧ (⟨k0_dev156 d, k0_dev156_lt d h⟩ : Dev nD) = pX d
    ∧ (⟨k0_dev157 d, k0_dev157_lt d h⟩ : Dev nD) = pZ d ∧ (0 : Fin 4) = qQ d ∧ (1 : Fin 2) = hY d := by decide +kernel
theorem at4 : ∀ (d : Dev nD) (h : k0_cond4 d = 1#1), (⟨k0_dev196 d, k0_dev196_lt d h⟩ : Dev nD) = pY d ∧ (⟨k0_dev220 d, k0_dev220_lt d h⟩ : Dev nD) = pX d
    ∧ (⟨k0_dev221 d, k0_dev221_lt d h⟩ : Dev nD) = pZ d ∧ (1 : Fin 4) = qQ d ∧ (1 : Fin 2) = hY d := by decide +kernel
theorem at5 : ∀ (d : Dev nD) (h : k0_cond5 d = 1#1), (⟨k0_dev260 d, k0_dev260_lt d h⟩ : Dev nD) = pY d ∧ (⟨k0_dev284 d, k0_dev284_lt d h⟩ : Dev nD) = pX d
    ∧ (⟨k0_dev285 d, k0_dev285_lt d h⟩ : Dev nD) = pZ d ∧ (2 : Fin 4) = qQ d ∧ (0 : Fin 2) = hY d := by decide +kernel
theorem at6 : ∀ (d : Dev nD) (h : k0_cond6 d = 1#1), (⟨k0_dev324 d, k0_dev324_lt d h⟩ : Dev nD) = pY d ∧ (⟨k0_dev348 d, k0_dev348_lt d h⟩ : Dev nD) = pX d
    ∧ (⟨k0_dev349 d, k0_dev349_lt d h⟩ : Dev nD) = pZ d ∧ (3 : Fin 4) = qQ d ∧ (0 : Fin 2) = hY d := by decide +kernel
theorem at7 : ∀ (d : Dev nD) (h : k0_cond7 d = 1#1), (⟨k0_dev388 d, k0_dev388_lt d h⟩ : Dev nD) = pY d ∧ (⟨k0_dev412 d, k0_dev412_lt d h⟩ : Dev nD) = pX d
    ∧ (⟨k0_dev413 d, k0_dev413_lt d h⟩ : Dev nD) = pZ d ∧ (2 : Fin 4) = qQ d ∧ (1 : Fin 2) = hY d := by decide +kernel
theorem at8 : ∀ (d : Dev nD) (h : k0_cond8 d = 1#1), (⟨k0_dev452 d, k0_dev452_lt d h⟩ : Dev nD) = pY d ∧ (⟨k0_dev476 d, k0_dev476_lt d h⟩ : Dev nD) = pX d
    ∧ (⟨k0_dev477 d, k0_dev477_lt d h⟩ : Dev nD) = pZ d ∧ (3 : Fin 4) = qQ d ∧ (1 : Fin 2) = hY d := by decide +kernel

/-- Of the eight conditions exactly one holds. -/
theorem one_cond : ∀ d : Dev nD, ∃ i : Fin 8, ∀ j : Fin 8, (![k0_cond1 d, k0_cond2 d, k0_cond3 d, k0_cond4 d, k0_cond5 d, k0_cond6 d, k0_cond7 d, k0_cond8 d] : Fin 8 → BitVec 1) j = if j = i then 1#1 else 0#1 := by
  decide +kernel

/-- The first three conditional regions in a row, then the last five: each runs, if its condition holds, before what follows it. -/
def regionsA (d : Dev nD) (v : BitVec 32) (w : Σ' (_ : BitVec 1), BitVec 32) : Prog (TpuEff nD τ sig (Elt F) Λ₀ .tc) (Σ' (_ : BitVec 1), BitVec 32) :=
  have k3 := (if h : k0_cond3 d = 1#1 then reg3 d v h (pure w) else pure w)
  have k2 := (if h : k0_cond2 d = 1#1 then reg2 d v h k3 else k3)
  if h : k0_cond1 d = 1#1 then reg1 d v h k2 else k2
def regionsB (d : Dev nD) (v : BitVec 32) : PR F :=
  have k8 := (if h : k0_cond8 d = 1#1 then reg8 d v h (pure ⟨⟩) else pure ⟨⟩)
  have k7 := (if h : k0_cond7 d = 1#1 then reg7 d v h k8 else k8)
  have k6 := (if h : k0_cond6 d = 1#1 then reg6 d v h k7 else k7)
  have k5 := (if h : k0_cond5 d = 1#1 then reg5 d v h k6 else k6)
  if h : k0_cond4 d = 1#1 then reg4 d v h k5 else k5

/-- The word of the device's z coordinate, and a word of its x and y coordinates, as the body computes them. -/
def zWord (d : Dev nD) : BitVec 32 := Scalar.remsi (Scalar.divsi (Dev.word d) 1#32) 4#32
def xyWord (d : Dev nD) : BitVec 1 := Scalar.andi (Scalar.cmpi .eq (Scalar.remsi (Scalar.divsi (Dev.word d) 8#32) 2#32) 0#32)
  (Scalar.cmpi .eq (Scalar.remsi (Scalar.divsi (Dev.word d) 4#32) 2#32) 1#32)

theorem body_regions : cc0_body (F := F) hM (Memref.isWhole_whole _) oM (Memref.isWhole_whole _) xM (Memref.isWhole_whole _) bM (Memref.isWhole_whole _)
      cc0_scratch2 cc0_scratch3 cc0_scratch4 cc0_scratch5 cc0_scratch6 cc0_scratch7 cc0_scratch8
    = .op .deviceId fun d => .op (.semSignal (Dev.tc (⟨k0_dev1 d, k0_dev1_lt d⟩ : Dev nD)) barS 1) fun _ =>
      .op (.semSignal (Dev.tc (⟨k0_dev2 d, k0_dev2_lt d⟩ : Dev nD)) barS 1) fun _ => .op (.semSignal (Dev.tc (⟨k0_dev3 d, k0_dev3_lt d⟩ : Dev nD)) barS 1) fun _ =>
      regionsA d (zWord d) ⟨xyWord d, 1#32⟩ >>= fun _ => regionsB d (zWord d) := by
  chain_rfl

/-- Exactly one of the regions runs, and it is `seq` at the device's own place. -/
theorem regions_eq (d : Dev nD) (v : BitVec 32) (w : Σ' (_ : BitVec 1), BitVec 32) :
    (regionsA (F := F) d v w >>= fun _ => regionsB d v) = seq (qQ d) (hY d) (pY d) (pX d) (pZ d) (.ret ⟨⟩) := by
  obtain ⟨i, hi⟩ := one_cond d
  have h1 := hi 0; have h2 := hi 1; have h3 := hi 2; have h4 := hi 3; have h5 := hi 4; have h6 := hi 5; have h7 := hi 6; have h8 := hi 7
  clear hi
  have e : ¬ (0#1 = 1#1) := by decide
  unfold regionsA regionsB
  fin_cases i <;> simp at h1 h2 h3 h4 h5 h6 h7 h8 <;>
    simp only [h1, h2, h3, h4, h5, h6, h7, h8, e, dif_neg, dif_pos, not_false_eq_true, Prog.pure_eq_ret, Prog.bind_ret]
  · rw [reg1_eq]; obtain ⟨ay, ax, az, aQ, ah⟩ := at1 d h1
    rw [← ay, ← ax, ← az, ← aQ, ← ah, Prog.bind_ret]
  · rw [reg2_eq]; obtain ⟨ay, ax, az, aQ, ah⟩ := at2 d h2
    rw [← ay, ← ax, ← az, ← aQ, ← ah, Prog.bind_ret]
  · rw [reg3_eq]; obtain ⟨ay, ax, az, aQ, ah⟩ := at3 d h3
    rw [← ay, ← ax, ← az, ← aQ, ← ah, Prog.bind_ret]
  · rw [reg4_eq]; obtain ⟨ay, ax, az, aQ, ah⟩ := at4 d h4
    rw [← ay, ← ax, ← az, ← aQ, ← ah]
  · rw [reg5_eq]; obtain ⟨ay, ax, az, aQ, ah⟩ := at5 d h5
    rw [← ay, ← ax, ← az, ← aQ, ← ah]
  · rw [reg6_eq]; obtain ⟨ay, ax, az, aQ, ah⟩ := at6 d h6
    rw [← ay, ← ax, ← az, ← aQ, ← ah]
  · rw [reg7_eq]; obtain ⟨ay, ax, az, aQ, ah⟩ := at7 d h7
    rw [← ay, ← ax, ← az, ← aQ, ← ah]
  · rw [reg8_eq]; obtain ⟨ay, ax, az, aQ, ah⟩ := at8 d h8
    rw [← ay, ← ax, ← az, ← aQ, ← ah]

def signalTo (d : Dev nD) (k : PR F) : PR F := .op (.semSignal (Dev.tc d) barS 1) fun _ => k

/-- The whole body: the device's own number, a signal to each partner, the sequence. -/
theorem body_eq : cc0_body (F := F) hM (Memref.isWhole_whole _) oM (Memref.isWhole_whole _) xM (Memref.isWhole_whole _) bM (Memref.isWhole_whole _)
      cc0_scratch2 cc0_scratch3 cc0_scratch4 cc0_scratch5 cc0_scratch6 cc0_scratch7 cc0_scratch8
    = .op .deviceId fun d => signalTo (pY d) <| signalTo (pX d) <| signalTo (pZ d) <|
      seq (qQ d) (hY d) (pY d) (pX d) (pZ d) (.ret ⟨⟩) := by
  rw [body_regions]
  congr 1
  funext d
  unfold signalTo
  rw [regions_eq, dev1_eq, dev2_eq, dev3_eq]

end Cert.Exchange

end
-- ==== Proof.Contents.lean ====
/- Which device sends which rows to which, and what every buffer holds afterwards.

   A device keeps one half of the rows of the result: its own block of the argument, the columns of its half, rounded.
   The other half comes from the partner along y, a unit of 32 rows at a time: the units of its own quarter (and half
   of those of the quarter across both axes) directly, the others through the devices across x and z. -/
module

public import proofs.«01_k».proof.Proof.Cases

@[expose] public section

set_option maxRecDepth 16384

noncomputable section

namespace Cert.Exchange

open Cert.KernelIdeal Cert.KernelIdeal.Gen
open Idealize.ShloMosaic Idealize.ShloMosaic.TcCoe Idealize.SL.Sem

variable {F : FTy → Type} [FloatOps F]

/-! ## The partners -/

theorem pY_pY (c : Dev nD) : pY (pY c) = c := by revert c; decide
theorem pX_pX (c : Dev nD) : pX (pX c) = c := by revert c; decide
theorem pZ_pZ (c : Dev nD) : pZ (pZ c) = c := by revert c; decide
def eY : Dev nD ≃ Dev nD := ⟨pY, pY, pY_pY, pY_pY⟩
def eX : Dev nD ≃ Dev nD := ⟨pX, pX, pX_pX, pX_pX⟩
def eZ : Dev nD ≃ Dev nD := ⟨pZ, pZ, pZ_pZ, pZ_pZ⟩

theorem hY_pY (c : Dev nD) : hY (pY c) = oth (hY c) := by revert c; decide
theorem hY_pX (c : Dev nD) : hY (pX c) = hY c := by revert c; decide
theorem hY_pZ (c : Dev nD) : hY (pZ c) = hY c := by revert c; decide
theorem oth_oth (y : Fin 2) : oth (oth y) = y := by revert y; decide

/-! ## The units -/

/-- The units of the result device `c` receives along y, x and z; those it sends on along x and z. -/
def yrU (c : Dev nD) (u : Fin 24) : Fin 128 := outOf (oth (hY c)) (yUnit (qQ c) u)
def xrU (c : Dev nD) (i : Fin 20) : Fin 128 := outOf (oth (hY c)) (xUnit (qx (qQ c)) i)
def zrU (c : Dev nD) (i : Fin 20) : Fin 128 := outOf (oth (hY c)) (zUnit (qz (qQ c)) i)
def xsU (c : Dev nD) (i : Fin 20) : Fin 128 := outOf (oth (hY c)) (xUnit (qQ c) i)
def zsU (c : Dev nD) (i : Fin 20) : Fin 128 := outOf (oth (hY c)) (zUnit (qQ c) i)

theorem yrU_pY (c : Dev nD) (u : Fin 24) : yrU (pY c) u = outOf (hY c) (yUnit (qQ c) u) := by revert c u; decide +kernel
theorem xrU_pX (c : Dev nD) (i : Fin 20) : xrU (pX c) i = xsU c i := by revert c i; decide +kernel
theorem zrU_pZ (c : Dev nD) (i : Fin 20) : zrU (pZ c) i = zsU c i := by revert c i; decide +kernel

/-! ## The contents -/

/-- An index of the argument's block. -/
def argIdx (r q : ℕ) : S2048x1024.Idx := fun a => ⟨(![r % 2048, q % 1024] : Fin 2 → ℕ) a, by
  have h1 : r % 2048 < 2048 := Nat.mod_lt _ (by decide)
  have h2 : q % 1024 < 1024 := Nat.mod_lt _ (by decide)
  revert a; intro (a : Fin 2); fin_cases a
  · exact h1
  · exact h2⟩

theorem argIdx_eq (i : S2048x1024.Idx) {r q : ℕ} (hr : (i 0).1 = r % 2048) (hq : (i 1).1 = q % 1024) : argIdx r q = i := by
  funext a; apply Fin.ext; revert a; intro (a : Fin 2); fin_cases a
  · exact hr.symm
  · exact hq.symm

/-- The device whose block the rows of unit `o` of device `c`'s result come from. -/
def src (c : Dev nD) (o : Fin 128) : Dev nD :=
  if o.1 / 64 = (hY c).1 then c
  else if o.1 % 64 / 16 = (qQ c).1 then pY c
  else if o.1 % 64 / 16 = (qx (qQ c)).1 then pY (pX c)
  else if o.1 % 64 / 16 = (qz (qQ c)).1 then pY (pZ c)
  else if o.1 % 16 < 8 then pY c else pY (pX (pZ c))

theorem src_own (c : Dev nD) (r : Fin 64) : src c (outOf (hY c) r) = c := by revert c r; decide +kernel
theorem src_y (c : Dev nD) (u : Fin 24) : src (pY c) (yrU (pY c) u) = c := by revert c u; decide +kernel
theorem src_x (c : Dev nD) (i : Fin 20) : src (pX c) (xsU c i) = src c (xsU c i) := by revert c i; decide +kernel
theorem src_z (c : Dev nD) (i : Fin 20) : src (pZ c) (zsU c i) = src c (zsU c i) := by revert c i; decide +kernel
/-- The rows of a half come from devices of that half. -/
theorem hY_src (c : Dev nD) (o : Fin 128) : (hY (src c o)).1 = o.1 / 64 := by revert c o; decide +kernel

variable (m : (ℓ : Loc nD τ sig) → Buf (Elt F) ℓ)

/-- Device `c`'s block of the argument. -/
def xin (c : Dev nD) : (⟨S2048x1024, .f32⟩ : BufTy).Contents (Elt F) := m ((c : Thread nD τ).loc main_arg0)

/-- An element of it rounded to bf16. -/
def rnd (c : Dev nD) (r q : ℕ) : Elt F .bf16 := FloatOps.truncf .bf16 bitsLt_bf16_f32 (xin m c (argIdx r q) : F .f32)

/-- The send buffer after the casts. -/
def sendC (c : Dev nD) : (⟨S768x512, .bf16⟩ : BufTy).Contents (Elt F) := fun i =>
  rnd m c (32 * (yUnit (qQ c) ⟨(i 0).1 / 32 % 24, Nat.mod_lt _ (by decide)⟩).1 + (i 0).1 % 32) (512 * (oth (hY c)).1 + (i 1).1)
/-- The result. -/
def outC (c : Dev nD) : (⟨S4096x512, .bf16⟩ : BufTy).Contents (Elt F) := fun i =>
  rnd m (src c ⟨(i 0).1 / 32 % 128, Nat.mod_lt _ (by decide)⟩) ((i 0).1) (512 * (hY c).1 + (i 1).1)

/-! ## A view's elements, read and written -/

theorem mem_oU {o : Fin 128} {i : S4096x512.Idx} (h : i ∈ (oU o).view.set) : ∃ k : S32x512.Idx, (rO o).emb k = i := by
  rw [show (oU o).view.set = (rO o).set from View.set_slice_whole cc0_stg0_0 (rO o)] at h
  exact (rO o).exists_idx_of_mem h

/-- Written through a slice of a whole buffer, the element under an index takes the written one. -/
theorem write_slice (b : Ref sig .tc) (r : Rect b.ty.shape) (fd : b.ty.Contents (Elt F)) (w : r.shape.Idx → Elt F b.ty.elt) (k : r.shape.Idx) :
    ((View.whole b).slice r).write (Elt F) fd w Finset.univ (r.emb k) = w k :=
  (View.write_emb_of_mem (v := (View.whole b).slice r) fd w (Finset.mem_univ k)).trans rfl

/-- Two contents agree on a slice of a whole buffer if they agree under its indices. -/
theorem on_slice (b : Ref sig .tc) (r : Rect b.ty.shape) {f g : b.ty.Contents (Elt F)} (h : ∀ k : r.shape.Idx, f (r.emb k) = g (r.emb k)) :
    ∀ i ∈ ((View.whole b).slice r).set, f i = g i := fun i hi => by
  rw [View.set_slice_whole] at hi
  obtain ⟨k, rfl⟩ := r.exists_idx_of_mem hi
  exact h k

/-- A fetched chunk. -/
theorem fetched (c : Dev nD) (i : Fin 16) (fd : (cc0_scratch0 : Ref sig .tc).ty.Contents (Elt F)) :
    ∀ j ∈ (xC i).view.set, (xC i).view.write (Elt F) fd ((hC i).view.read (Elt F) (xin m c)) Finset.univ j = (xin m c : (cc0_scratch0 : Ref sig .tc).ty.Contents (Elt F)) j :=
  on_slice cc0_scratch0 (rC i) fun k => write_slice cc0_scratch0 (rC i) fd _ k

/-- A unit cast into the send buffer. -/
theorem casted (c : Dev nD) (u : Fin 24) (fd : (cc0_scratch1 : Ref sig .tc).ty.Contents (Elt F)) :
    ∀ j ∈ (bU u).view.set, (bM.access (rB u)).write (Elt F) fd (cast32 (xM.view.readAt (Elt F) (rX (yUnit (qQ c) u) (oth (hY c))).toLoadRect (xin m c))) Finset.univ j
      = sendC m c j :=
  on_slice cc0_scratch1 (rB u) fun k => by
    refine (write_slice cc0_scratch1 (rB u) fd _ k).trans ?_
    rw [show cast32 (xM.view.readAt (Elt F) (rX (yUnit (qQ c) u) (oth (hY c))).toLoadRect (xin m c))
        = truncf .bf16 (xM.view.readAt (Elt F) (rX (yUnit (qQ c) u) (oth (hY c))).toLoadRect (xin m c)) bitsLt_bf16_f32 from funext fun j => congrArg _ (Shape.reshapeEquiv_self _ j)]
    show FloatOps.truncf .bf16 bitsLt_bf16_f32 (xin m c ((rX (yUnit (qQ c) u) (oth (hY c))).emb k) : F .f32) = _
    have h0 : (k 0).1 < 32 := (k 0).2
    have h1 : (k 1).1 < 512 := (k 1).2
    have e0 : ((rB u).emb k 0).1 = 32 * u.1 + (k 0).1 := by simp
    have e1 : ((rB u).emb k 1).1 = (k 1).1 := by simp
    have f0 : ((rX (yUnit (qQ c) u) (oth (hY c))).emb k 0).1 = 32 * (yUnit (qQ c) u).1 + (k 0).1 := by simp
    have f1 : ((rX (yUnit (qQ c) u) (oth (hY c))).emb k 1).1 = 512 * (oth (hY c)).1 + (k 1).1 := by simp
    have hu : (⟨((rB u).emb k 0).1 / 32 % 24, Nat.mod_lt _ (by decide)⟩ : Fin 24) = u := Fin.ext (by show ((rB u).emb k 0).1 / 32 % 24 = u.1; omega)
    unfold sendC rnd
    rw [hu, argIdx_eq ((rX (yUnit (qQ c) u) (oth (hY c))).emb k) (by omega) (by omega)]

/-- A chunk cast into the result. -/
theorem kept (c : Dev nD) (i : Fin 16) (fd : (cc0_stg0_0 : Ref sig .tc).ty.Contents (Elt F)) :
    ∀ j ∈ (oM.access (rOL i (hY c))).set, (oM.access (rOL i (hY c))).write (Elt F) fd (cast128 (xM.view.readAt (Elt F) (rXL i (hY c)).toLoadRect (xin m c))) Finset.univ j
      = outC m c j :=
  on_slice cc0_stg0_0 (rOL i (hY c)) fun k => by
    refine (write_slice cc0_stg0_0 (rOL i (hY c)) fd _ k).trans ?_
    show FloatOps.truncf .bf16 bitsLt_bf16_f32 (xin m c ((rXL i (hY c)).emb k) : F .f32) = _
    have h0 : (k 0).1 < 128 := (k 0).2
    have h1 : (k 1).1 < 512 := (k 1).2
    have e0 : ((rOL i (hY c)).emb k 0).1 = 2048 * (hY c).1 + 128 * i.1 + (k 0).1 := by simp
    have e1 : ((rOL i (hY c)).emb k 1).1 = (k 1).1 := by simp
    have f0 : ((rXL i (hY c)).emb k 0).1 = 128 * i.1 + (k 0).1 := by simp
    have f1 : ((rXL i (hY c)).emb k 1).1 = 512 * (hY c).1 + (k 1).1 := by simp
    have hu : (⟨((rOL i (hY c)).emb k 0).1 / 32 % 128, Nat.mod_lt _ (by decide)⟩ : Fin 128) = outOf (hY c) ⟨(4 * i.1 + (k 0).1 / 32) % 64, Nat.mod_lt _ (by decide)⟩ :=
      Fin.ext (by show ((rOL i (hY c)).emb k 0).1 / 32 % 128 = 64 * (hY c).1 + (4 * i.1 + (k 0).1 / 32) % 64; omega)
    unfold outC rnd
    rw [hu, src_own, argIdx_eq ((rXL i (hY c)).emb k) (by omega) (by omega)]

/-- A unit landed along y. -/
theorem landed_y (c : Dev nD) (u : Fin 24) (fd : (cc0_stg0_0 : Ref sig .tc).ty.Contents (Elt F)) :
    ∀ j ∈ (oU (yrU (pY c) u)).view.set, (oU (yrU (pY c) u)).view.write (Elt F) fd ((bU u).view.read (Elt F) (sendC m c)) Finset.univ j = outC m (pY c) j :=
  on_slice cc0_stg0_0 (rO (yrU (pY c) u)) fun k => by
    refine (write_slice cc0_stg0_0 (rO (yrU (pY c) u)) fd _ k).trans ?_
    show sendC m c ((rB u).emb k) = outC m (pY c) ((rO (yrU (pY c) u)).emb k)
    have h0 : (k 0).1 < 32 := (k 0).2
    have h1 : (k 1).1 < 512 := (k 1).2
    have e0 : ((rB u).emb k 0).1 = 32 * u.1 + (k 0).1 := by simp
    have e1 : ((rB u).emb k 1).1 = (k 1).1 := by simp
    have f0 : ((rO (yrU (pY c) u)).emb k 0).1 = 32 * (yrU (pY c) u).1 + (k 0).1 := by simp
    have f1 : ((rO (yrU (pY c) u)).emb k 1).1 = (k 1).1 := by simp
    have hu : (⟨((rB u).emb k 0).1 / 32 % 24, Nat.mod_lt _ (by decide)⟩ : Fin 24) = u := Fin.ext (by show ((rB u).emb k 0).1 / 32 % 24 = u.1; omega)
    have ho : (⟨((rO (yrU (pY c) u)).emb k 0).1 / 32 % 128, Nat.mod_lt _ (by decide)⟩ : Fin 128) = yrU (pY c) u :=
      Fin.ext (by show ((rO (yrU (pY c) u)).emb k 0).1 / 32 % 128 = (yrU (pY c) u).1; omega)
    have hv : (yrU (pY c) u).1 = 64 * (hY c).1 + (yUnit (qQ c) u).1 := congrArg Fin.val (yrU_pY c u)
    have hh : (hY (pY c)).1 = (oth (hY c)).1 := congrArg Fin.val (hY_pY c)
    unfold sendC outC rnd
    rw [hu, ho, src_y]
    have hi : argIdx (32 * (yUnit (qQ c) u).1 + ((rB u).emb k 0).1 % 32) (512 * (oth (hY c)).1 + ((rB u).emb k 1).1)
        = argIdx (((rO (yrU (pY c) u)).emb k 0).1) (512 * (hY (pY c)).1 + ((rO (yrU (pY c) u)).emb k 1).1) := by
      refine argIdx_eq _ ?_ ?_
      · show ((rO (yrU (pY c) u)).emb k 0).1 % 2048 = _; omega
      · show (512 * (hY (pY c)).1 + ((rO (yrU (pY c) u)).emb k 1).1) % 1024 = _; omega
    rw [hi]

/-- A unit sent on to a device of the same half, whose rows come from the same device there. -/
theorem landed_on (c n : Dev nD) (o : Fin 128) (hh : hY n = hY c) (hs : src n o = src c o) (fd : (cc0_stg0_0 : Ref sig .tc).ty.Contents (Elt F)) :
    ∀ j ∈ (oU o).view.set, (oU o).view.write (Elt F) fd ((oU o).view.read (Elt F) (outC m c)) Finset.univ j = outC m n j :=
  on_slice cc0_stg0_0 (rO o) fun k => by
    refine (write_slice cc0_stg0_0 (rO o) fd _ k).trans ?_
    show outC m c ((rO o).emb k) = outC m n ((rO o).emb k)
    have h0 : (k 0).1 < 32 := (k 0).2
    have f0 : ((rO o).emb k 0).1 = 32 * o.1 + (k 0).1 := by simp
    have ho : (⟨((rO o).emb k 0).1 / 32 % 128, Nat.mod_lt _ (by decide)⟩ : Fin 128) = o :=
      Fin.ext (by show ((rO o).emb k 0).1 / 32 % 128 = o.1; omega)
    unfold outC
    rw [ho, hs, hh]

end Cert.Exchange

end
-- ==== Proof.Protocol.lean ====
/- The protocol: the semaphore cells, what each hands over, the levels, what a device owes.

   One round per cell. The barrier cell of a device is signalled once by each of its three partners; with its signal a
   partner hands over the units of ITS result that this device will write. A DMA cell's one duty is its copy: a fetch
   hands over the chunk and its copy, a send cell the share of the rows it read, a receive cell the rows landed. -/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- A device's own DMA cells: fetches; sends and receives along y, x and z. -/
abbrev DFam : Type := Fin 16 ⊕ Fin 24 ⊕ Fin 24 ⊕ Fin 20 ⊕ Fin 20 ⊕ Fin 20 ⊕ Fin 20
/-- With the barrier cell. -/
abbrev Fam : Type := Unit ⊕ DFam
set_option synthInstance.maxSize 4096 in
instance decEqDFam : DecidableEq DFam := inferInstance
instance decEqFam : DecidableEq Fam := inferInstance
abbrev gF (i : Fin 16) : DFam := .inl i
abbrev gYs (i : Fin 24) : DFam := .inr (.inl i)
abbrev gYr (i : Fin 24) : DFam := .inr (.inr (.inl i))
abbrev gXs (i : Fin 20) : DFam := .inr (.inr (.inr (.inl i)))
abbrev gXr (i : Fin 20) : DFam := .inr (.inr (.inr (.inr (.inl i))))
abbrev gZs (i : Fin 20) : DFam := .inr (.inr (.inr (.inr (.inr (.inl i)))))
abbrev gZr (i : Fin 20) : DFam := .inr (.inr (.inr (.inr (.inr (.inr i)))))

def dsem : DFam → DmaSem sig
  | .inl i => fS i
  | .inr (.inl i) => ysS i
  | .inr (.inr (.inl i)) => yrS i
  | .inr (.inr (.inr (.inl i))) => xsS i
  | .inr (.inr (.inr (.inr (.inl i)))) => xrS i
  | .inr (.inr (.inr (.inr (.inr (.inl i))))) => zsS i
  | .inr (.inr (.inr (.inr (.inr (.inr i))))) => zrS i

abbrev csem : Fam → SemLoc sig
  | .inl _ => .reg barS
  | .inr g => .dma (dsem g)

/-- The family a DMA semaphore belongs to. -/
def dfamOf (q : DmaSem sig) : Option DFam :=
  if q.1 = 0 then none
  else if h : q.1 - 1 < 16 then some (gF ⟨q.1 - 1, h⟩)
  else if h : q.1 - 17 < 24 then some (gYs ⟨q.1 - 17, h⟩)
  else if h : q.1 - 41 < 24 then some (gYr ⟨q.1 - 41, h⟩)
  else if h : q.1 - 65 < 20 then some (gXs ⟨q.1 - 65, h⟩)
  else if h : q.1 - 85 < 20 then some (gXr ⟨q.1 - 85, h⟩)
  else if h : q.1 - 105 < 20 then some (gZs ⟨q.1 - 105, h⟩)
  else if h : q.1 - 125 < 20 then some (gZr ⟨q.1 - 125, h⟩)
  else none

theorem dfamOf_dsem (g : DFam) : dfamOf (dsem g) = some g := by
  rcases g with i | i | i | i | i | i | i <;> (fin_cases i <;> rfl)

def famOf : SemLoc sig → Option Fam
  | .reg s => if s.1 = barS.1 then some (.inl ()) else none
  | .dma q => (dfamOf q).map .inr

theorem famOf_csem (f : Fam) : famOf (csem f) = some f := by
  rcases f with u | g
  · show (if barS.1 = barS.1 then some (Sum.inl ()) else none) = some (Sum.inl u)
    exact if_pos rfl
  · show (dfamOf (dsem g)).map Sum.inr = _; rw [dfamOf_dsem]; rfl

theorem csem_injective : Function.Injective csem := fun f f' h => by
  have := (famOf_csem f).symm.trans ((congrArg famOf h).trans (famOf_csem f'))
  exact Option.some.inj this

abbrev cell (c : Dev nD) (f : Fam) : GSem nD τ sig := ((c : Thread nD τ), csem f)

theorem cell_injective : Function.Injective (fun x : Dev nD × Fam => cell x.1 x.2) := by
  rintro ⟨c, f⟩ ⟨c', f'⟩ h
  have h1 : c = c' := congrArg (fun g : GSem nD τ sig => g.1.1) h
  have h2 : csem f = csem f' := congrArg Prod.snd h
  rw [h1, csem_injective h2]

/-- The amounts: a chunk's credit, a unit's. -/
abbrev NF : ℕ := (xC 0).view.dmaCredit
abbrev NU : ℕ := (oU 0).view.dmaCredit
theorem NF_pos : 0 < NF := View.dmaCredit_pos _ (by decide)
theorem NU_pos : 0 < NU := View.dmaCredit_pos _ (by decide)

def amt : Fam → ℕ
  | .inl _ => 1
  | .inr (.inl _) => NF
  | .inr (.inr _) => NU
theorem amt_pos (f : Fam) : 0 < amt f := by
  rcases f with _ | _ | _
  · exact Nat.one_pos
  · exact NF_pos
  · exact NU_pos

/-! ## Pieces of the buffers -/

variable (m : (ℓ : Loc nD τ sig) → Buf (Elt F) ℓ)

def hPt (c : Dev nD) (i : Fin 16) (f : (⟨S2048x1024, .f32⟩ : BufTy).Contents (Elt F)) : sProp 𝕄 :=
  (hC i).view.loc (c : Thread nD τ) ↦[(hC i).view.set]{fullShare} f
def xPt (c : Dev nD) (i : Fin 16) (f : (⟨S2048x1024, .f32⟩ : BufTy).Contents (Elt F)) : sProp 𝕄 :=
  (xC i).view.loc (c : Thread nD τ) ↦[(xC i).view.set]{fullShare} f
def bPt (c : Dev nD) (u : Fin 24) (f : (⟨S768x512, .bf16⟩ : BufTy).Contents (Elt F)) : sProp 𝕄 :=
  (bU u).view.loc (c : Thread nD τ) ↦[(bU u).view.set]{fullShare} f
def oPt (c : Dev nD) (o : Fin 128) (q : PosShare TreeShare) (f : (⟨S4096x512, .bf16⟩ : BufTy).Contents (Elt F)) : sProp 𝕄 :=
  (oU o).view.loc (c : Thread nD τ) ↦[(oU o).view.set]{q} f
/-- A kept chunk of the result. -/
def kPt (c : Dev nD) (i : Fin 16) (f : (⟨S4096x512, .bf16⟩ : BufTy).Contents (Elt F)) : sProp 𝕄 :=
  (oM.access (rOL i (hY c))).loc (c : Thread nD τ) ↦[(oM.access (rOL i (hY c))).set]{fullShare} f

instance hPt_storable (c : Dev nD) (i f) : BI.Storable (upEmb : UEmb _ 𝕄) (hPt c i f) := by unfold hPt; infer_instance
instance xPt_storable (c : Dev nD) (i f) : BI.Storable (upEmb : UEmb _ 𝕄) (xPt c i f) := by unfold xPt; infer_instance
instance bPt_storable (c : Dev nD) (i f) : BI.Storable (upEmb : UEmb _ 𝕄) (bPt c i f) := by unfold bPt; infer_instance
instance oPt_storable (c : Dev nD) (i q f) : BI.Storable (upEmb : UEmb _ 𝕄) (oPt c i q f) := by unfold oPt; infer_instance

/-- A unit of the result at any contents. -/
def oAny (c : Dev nD) (o : Fin 128) : sProp 𝕄 := iprop(∃ f, oPt c o fullShare f)
instance oAny_storable (c : Dev nD) (o) : BI.Storable (upEmb : UEmb _ 𝕄) (oAny (F := F) c o) := by unfold oAny; infer_instance

/-- The share of a unit a send along x (z) reads: half of a unit sent both ways, the whole of one sent one way. -/
def shX (i : Fin 20) : PosShare TreeShare := if i.1 < 16 then fullShare.left else fullShare
def shZ (i : Fin 20) : PosShare TreeShare := if i.1 < 16 then fullShare.right else fullShare

/-! ## The schedule -/

/-- What a barrier signal brings: from the partner along y, x, z the units of its result this device writes. -/
def barPay (c : Dev nD) (d : Fin 3) : sProp 𝕄 :=
  if d = 0 then bigSep Finset.univ fun u : Fin 24 => oAny (pY c) (yrU (pY c) u)
  else if d = 1 then bigSep Finset.univ fun i : Fin 20 => oAny (pX c) (xrU (pX c) i)
  else bigSep Finset.univ fun i : Fin 20 => oAny (pZ c) (zrU (pZ c) i)

def dPay (c : Dev nD) : DFam → sProp 𝕄
  | .inl i => iprop(xPt c i (xin m c) ∗ hPt c i (xin m c))
  | .inr (.inl u) => bPt c u (sendC m c)
  | .inr (.inr (.inl u)) => oPt c (yrU c u) fullShare (outC m c)
  | .inr (.inr (.inr (.inl i))) => oPt c (xsU c i) (shX i) (outC m c)
  | .inr (.inr (.inr (.inr (.inl i)))) => oPt c (xrU c i) fullShare (outC m c)
  | .inr (.inr (.inr (.inr (.inr (.inl i))))) => oPt c (zsU c i) (shZ i) (outC m c)
  | .inr (.inr (.inr (.inr (.inr (.inr i))))) => oPt c (zrU c i) fullShare (outC m c)

def pay (c : Dev nD) : Fam → Fin 3 → sProp 𝕄
  | .inl _, d => barPay c d
  | .inr g, _ => dPay m c g

instance barPay_storable (c : Dev nD) (d) : BI.Storable (upEmb : UEmb _ 𝕄) (barPay (F := F) c d) := by
  unfold barPay; (repeat' split) <;> infer_instance
instance pay_storable (c : Dev nD) (f d) : BI.Storable (upEmb : UEmb _ 𝕄) (pay m c f d) := by
  rcases f with _ | _ | _ | _ | _ | _ | _ | _ <;> (unfold pay; try unfold dPay) <;> infer_instance

/-- The duties of a cell: the barrier's three, a copy's one. -/
def dut : Fam → Finset (Fin 3)
  | .inl _ => Finset.univ
  | .inr _ => {0}

def Rd : Rounds.Schedule (GSem nD τ sig) (Fin 3) 𝕄 where
  duties g r := if r = 0 ∧ g.1.2 = .tc then (famOf g.2).elim ∅ dut else ∅
  unitless _ := False
  amount g _ _ := (famOf g.2).elim 1 amt
  payload g _ d := (famOf g.2).elim iprop(emp) fun f => pay m g.1.1 f d
  amount_pos g _ _ _ := by
    cases famOf g.2 with
    | none => exact Nat.one_pos
    | some f => exact amt_pos f

instance Rd_storable (g : GSem nD τ sig) (r : ℕ) (d : Fin 3) : BI.Storable (upEmb : UEmb _ 𝕄) ((Rd m).payload g r d) := by
  show BI.Storable upEmb ((famOf g.2).elim iprop(emp) fun f => pay m g.1.1 f d)
  cases famOf g.2 <;> (dsimp only [Option.elim]; infer_instance)

section Sched
variable (c : Dev nD) (f : Fam)

theorem duties_at : (Rd m).duties (cell c f) 0 = dut f := by
  show (if (0 : ℕ) = 0 ∧ (cell c f).1.2 = Proc.tc then (famOf (csem f)).elim ∅ dut else ∅) = _
  rw [if_pos ⟨rfl, rfl⟩, famOf_csem]; rfl
theorem duties_later (g : GSem nD τ sig) : ∀ r, 1 ≤ r → (Rd m).duties g r = ∅ := fun r hr => if_neg fun h => by omega
theorem amount_at (d : Fin 3) : (Rd m).amount (cell c f) 0 d = amt f := by
  show (famOf (csem f)).elim 1 amt = _; rw [famOf_csem]; rfl
theorem payload_at (d : Fin 3) : (Rd m).payload (cell c f) 0 d = pay m c f d := by
  show (famOf (csem f)).elim iprop(emp) (fun f => pay m c f d) = _; rw [famOf_csem]; rfl
theorem expect_bar : (Rd m).expect (cell c (.inl ())) 0 = 3 := by
  unfold Schedule.expect Schedule.amountOf
  rw [duties_at, Finset.sum_congr rfl fun d _ => amount_at m c _ d]; rfl
theorem expect_dma (g : DFam) : (Rd m).expect (cell c (.inr g)) 0 = amt (.inr g) := by
  unfold Schedule.expect Schedule.amountOf
  rw [duties_at]; exact (Finset.sum_singleton _ _).trans (amount_at m c _ 0)
theorem rest_bar : bigSep ((Rd m).duties (cell c (.inl ())) 0 \ ∅) (fun d => (Rd m).payload (cell c (.inl ())) 0 d)
    = iprop(barPay c 0 ∗ barPay c 1 ∗ barPay c 2) := by
  rw [Finset.sdiff_empty, duties_at, bigSep_congr fun d _ => payload_at m c (.inl ()) d]
  exact bigSep_univ_eq_bigSepL [0, 1, 2] (by decide) (by decide) _
theorem rest_dma (g : DFam) : bigSep ((Rd m).duties (cell c (.inr g)) 0 \ ∅) (fun d => (Rd m).payload (cell c (.inr g)) 0 d) = dPay m c g := by
  rw [Finset.sdiff_empty, duties_at, bigSep_congr fun d _ => payload_at m c (.inr g) d]
  exact bigSep_singleton

end Sched

/-! ## What a device owes -/

/-- The tally of one copy's (one signal's) amount at a cell. -/
abbrev tl (c : Dev nD) (f : Fam) : CellTallies nD τ sig Unit := tallyAt (cell c f) () (amt f)

/-- Of `n` tallies the ones not yet paid. -/
def rest {n : ℕ} (t : Fin n → CellTallies nD τ sig Unit) (b : ℕ) : CellTallies nD τ sig Unit := ∑ i, if b ≤ i.1 then t i else 0

theorem rest_succ {n : ℕ} (t : Fin n → CellTallies nD τ sig Unit) (i : Fin n) : rest t i.1 = rest t (i.1 + 1) + t i := by
  unfold rest
  have h (j : Fin n) : (if i.1 ≤ j.1 then t j else 0) = (if i.1 + 1 ≤ j.1 then t j else 0) + (if j = i then t j else 0) := by
    by_cases h1 : j = i
    · subst h1; rw [if_pos le_rfl, if_neg (by omega), if_pos rfl, zero_add]
    · have : j.1 ≠ i.1 := fun e => h1 (Fin.ext e)
      rw [if_neg h1, add_zero]; exact if_congr (by omega) rfl rfl
  rw [Finset.sum_congr rfl fun j _ => h j, Finset.sum_add_distrib, Finset.sum_ite_eq' Finset.univ i t, if_pos (Finset.mem_univ _)]
theorem rest_end {n : ℕ} (t : Fin n → CellTallies nD τ sig Unit) : rest t n = 0 :=
  Finset.sum_eq_zero fun i _ => if_neg (by have := i.2; omega)
theorem rest_pos {n : ℕ} {t : Fin n → CellTallies nD τ sig Unit} {b : ℕ} {g : GSem nD τ sig} {u : Unit} (h : 0 < rest t b g u) :
    ∃ i : Fin n, b ≤ i.1 ∧ 0 < t i g u := by
  by_contra hn
  refine absurd h (Nat.not_lt.mpr (Nat.le_of_eq ?_))
  unfold rest
  rw [Finset.sum_apply, Finsupp.finset_sum_apply]
  refine Finset.sum_eq_zero fun i _ => ?_
  split
  · exact Nat.le_zero.mp (Nat.not_lt.mp fun hp => hn ⟨i, ‹_›, hp⟩)
  · rfl

/-- What device `c` owes with the first `a`, `b`, `z` copies along y, x, z sent. -/
def Ow (c : Dev nD) (a b z : ℕ) : CellTallies nD τ sig Unit :=
  rest (fun u : Fin 24 => tl (pY c) (.inr (gYr u))) a + rest (fun i : Fin 20 => tl (pX c) (.inr (gXr i))) b
    + rest (fun i : Fin 20 => tl (pZ c) (.inr (gZr i))) z
theorem Ow_y (c : Dev nD) (i : Fin 24) (b z : ℕ) : Ow c i.1 b z = Ow c (i.1 + 1) b z + tl (pY c) (.inr (gYr i)) := by
  unfold Ow; rw [rest_succ _ i, add_right_comm _ (tl _ _) (rest _ b), add_right_comm _ (tl _ _) (rest _ z)]
theorem Ow_x (c : Dev nD) (a : ℕ) (i : Fin 20) (z : ℕ) : Ow c a i.1 z = Ow c a (i.1 + 1) z + tl (pX c) (.inr (gXr i)) := by
  unfold Ow; rw [rest_succ _ i, ← add_assoc, add_right_comm _ (tl _ _) (rest _ z)]
theorem Ow_z (c : Dev nD) (a b : ℕ) (i : Fin 20) : Ow c a b i.1 = Ow c a b (i.1 + 1) + tl (pZ c) (.inr (gZr i)) := by
  unfold Ow; rw [rest_succ _ i, ← add_assoc]
theorem Ow_end (c : Dev nD) : Ow c 24 20 20 = 0 := by
  unfold Ow; rw [rest_end, rest_end, rest_end, add_zero, add_zero]

/-- At launch: all copies and the three signals. -/
def O₀ (c : Dev nD) : CellTallies nD τ sig Unit := Ow c 0 0 0 + tl (pZ c) (.inl ()) + tl (pX c) (.inl ()) + tl (pY c) (.inl ())

/-! ## The levels -/

def L (g : GSem nD τ sig) : Finset Unit := if g.1.2 = .tc then {()} else ∅
/-- The fetches and sends below the barrier, then the receives along y, then those along x and z: the units of the
    own quarter of the partner first. -/
def lvF : Fam → ℕ
  | .inl _ => 1
  | .inr (.inr (.inr (.inl _))) => 2
  | .inr (.inr (.inr (.inr (.inr (.inl i))))) => if i.1 < 16 then 3 else 4
  | .inr (.inr (.inr (.inr (.inr (.inr (.inr i)))))) => if i.1 < 16 then 3 else 4
  | _ => 0
def lv (g : GSem nD τ sig) (_ : Unit) : ℕ := (famOf g.2).elim 0 lvF

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (f : Fam) (u : Unit) : lv (cell c f) u = lvF f := by
  show (famOf (csem f)).elim 0 lvF = _; rw [famOf_csem]; rfl

theorem tl_pos {c : Dev nD} {f : Fam} {g : GSem nD τ sig} {u : Unit} (h : 0 < tl c f g u) : g = cell c f := by
  rw [tallyAt_apply] at h
  by_contra hn
  rw [if_neg (fun h' => hn h'.1)] at h
  exact Nat.lt_irrefl 0 h

theorem Ow_pos {c : Dev nD} {a b z : ℕ} {g : GSem nD τ sig} {u : Unit} (h : 0 < Ow c a b z g u) :
    (∃ i : Fin 24, a ≤ i.1 ∧ g = cell (pY c) (.inr (gYr i))) ∨ (∃ i : Fin 20, b ≤ i.1 ∧ g = cell (pX c) (.inr (gXr i)))
      ∨ ∃ i : Fin 20, z ≤ i.1 ∧ g = cell (pZ c) (.inr (gZr i)) := by
  unfold Ow at h
  rw [Pi.add_apply, Finsupp.add_apply, Pi.add_apply, Finsupp.add_apply] at h
  by_cases h1 : 0 < rest (fun u : Fin 24 => tl (pY c) (.inr (gYr u))) a g u
  · obtain ⟨i, hi, ht⟩ := rest_pos h1; exact .inl ⟨i, hi, tl_pos ht⟩
  by_cases h2 : 0 < rest (fun i : Fin 20 => tl (pX c) (.inr (gXr i))) b g u
  · obtain ⟨i, hi, ht⟩ := rest_pos h2; exact .inr (.inl ⟨i, hi, tl_pos ht⟩)
  obtain ⟨i, hi, ht⟩ := rest_pos (show 0 < rest (fun i : Fin 20 => tl (pZ c) (.inr (gZr i))) z g u by omega)
  exact .inr (.inr ⟨i, hi, tl_pos ht⟩)

/-- A device may wait on a cell below everything it owes. -/
theorem mayWait (c : Dev nD) (sm : SemLoc sig) (O : CellTallies nD τ sig Unit)
    (h : ∀ (g : GSem nD τ sig) (u : Unit), 0 < O g u → ∃ d f, g = cell d f ∧ lv ((c : Thread nD τ), sm) () < lvF f) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by obtain ⟨d, f, rfl, -⟩ := h g u hg; rw [L_tc]; exact Finset.mem_singleton_self _)
    (fun p hp => by rw [Finset.mem_singleton.mp hp])
    (fun g u hg => by obtain ⟨d, f, rfl, hl⟩ := h g u hg; rw [lv_cell]; exact hl)

/-- The same for what is owed between the copies. -/
theorem mayWait_Ow (c : Dev nD) (f : Fam) (a b z : ℕ) (hy : ∀ i : Fin 24, a ≤ i.1 → lvF f < 2)
    (hx : ∀ i : Fin 20, b ≤ i.1 → lvF f < if i.1 < 16 then 3 else 4) (hz : ∀ i : Fin 20, z ≤ i.1 → lvF f < if i.1 < 16 then 3 else 4) :
    (levAts L lv : sProp 𝕄) ⊢ MayWait (c : Thread nD τ) (csem f) () (Ow c a b z) :=
  mayWait c (csem f) _ fun g u hg => by
    rw [show lv ((c : Thread nD τ), csem f) () = lvF f from lv_cell c f ()]
    rcases Ow_pos hg with ⟨i, hi, rfl⟩ | ⟨i, hi, rfl⟩ | ⟨i, hi, rfl⟩
    · exact ⟨_, _, rfl, hy i hi⟩
    · exact ⟨_, _, rfl, hx i hi⟩
    · exact ⟨_, _, rfl, hz i hi⟩

/-- A staging wait, before or after the body. -/
theorem mayWait_stage (c : Dev nD) (q : DmaSem sig) (hq : dfamOf q = none) (O : CellTallies nD τ sig Unit) (hO : O = O₀ c ∨ O = 0) :
    (levAts L lv : sProp 𝕄) ⊢ MayWait (c : Thread nD τ) (.dma q) () O := by
  rcases hO with rfl | rfl
  · refine mayWait c _ _ fun g u hg => ?_
    rw [show lv ((c : Thread nD τ), SemLoc.dma q) () = 0 by show ((dfamOf q).map Sum.inr).elim 0 lvF = 0; rw [hq]; rfl]
    unfold O₀ at hg
    rw [Pi.add_apply, Finsupp.add_apply, Pi.add_apply, Finsupp.add_apply, Pi.add_apply, Finsupp.add_apply] at hg
    by_cases h1 : 0 < tl (pY c) (.inl ()) g u
    · exact ⟨_, _, tl_pos h1, Nat.one_pos⟩
    by_cases h2 : 0 < tl (pX c) (.inl ()) g u
    · exact ⟨_, _, tl_pos h2, Nat.one_pos⟩
    by_cases h3 : 0 < tl (pZ c) (.inl ()) g u
    · exact ⟨_, _, tl_pos h3, Nat.one_pos⟩
    rcases Ow_pos (show 0 < Ow c 0 0 0 g u by omega) with ⟨i, hi, rfl⟩ | ⟨i, hi, rfl⟩ | ⟨i, hi, rfl⟩
    · exact ⟨_, _, rfl, Nat.two_pos⟩
    · refine ⟨_, _, rfl, ?_⟩; show 0 < if i.1 < 16 then 3 else 4; split <;> decide
    · refine ⟨_, _, rfl, ?_⟩; show 0 < if i.1 < 16 then 3 else 4; split <;> decide
  · rw [MayWait_zero]; iintro -; iempintro

end Cert.Exchange

end
-- ==== Proof.Steps.lean ====
/- The rule of each step: what it takes, what it leaves. -/
module

public import proofs.«01_k».proof.Proof.Protocol

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Fam → ℕ)

/-- What never changes: the cells' invariants, that each is at its first round, the levels. -/
def recs : sProp 𝕄 :=
  iprop((bigSep Finset.univ fun x : Dev nD × Fam => cellInv ER (Rd m) (K x) (cell x.1 x.2))
    ∗ bigSep Finset.univ fun x : Dev nD × Fam => reached ER (cell x.1 x.2) 0)
def ctx : sProp 𝕄 := iprop(recs m K ∗ levAts L lv)
instance recs_persistent : BI.Persistent (recs m K) := by unfold recs; infer_instance
instance ctx_persistent : BI.Persistent (ctx m K) := by unfold ctx; infer_instance

theorem every_inv (c : Dev nD) (f : Fam) : (bigSep Finset.univ fun x : Dev nD × Fam => (cellInv ER (Rd m) (K x) (cell x.1 x.2) : sProp 𝕄))
    ⊢ cellInv ER (Rd m) (K (c, f)) (cell c f) := bigSep_elim (Finset.mem_univ (c, f))
theorem every_reached (c : Dev nD) (f : Fam) : (bigSep Finset.univ fun x : Dev nD × Fam => (reached ER (cell x.1 x.2) 0 : sProp 𝕄))
    ⊢ reached ER (cell c f) 0 := bigSep_elim (Finset.mem_univ (c, f))
theorem inv_at (c : Dev nD) (f : Fam) : ctx m K ⊢ cellInv ER (Rd m) (K (c, f)) (cell c f) := by
  unfold ctx recs
  iintro ⟨⟨H, -⟩, -⟩
  iapply (every_inv m K c f); iexact H
theorem reached_at (c : Dev nD) (f : Fam) : ctx m K ⊢ reached ER (cell c f) 0 := by
  unfold ctx recs
  iintro ⟨⟨-, H⟩, -⟩
  iapply (every_reached (F := F) c f); iexact H
theorem lev_at : ctx m K ⊢ (levAts L lv : sProp 𝕄) := by
  unfold ctx
  iintro ⟨-, H⟩; iexact H

variable (F) in
abbrev tok (c : Dev nD) (f : Fam) (d : Fin 3) : sProp 𝕄 := dutyTok ER (cell c f) 0 d
variable (F) in
abbrev pos (c : Dev nD) (f : Fam) : sProp 𝕄 := atPos ER (cell c f) 0 ∅ 0
variable (F) in
abbrev crd (c : Dev nD) (f : Fam) : sProp 𝕄 := cred (tl c f)
variable (F) in
abbrev zero (c : Dev nD) (f : Fam) : sProp 𝕄 := semVal (cell c f) 0
variable (F) in
/-- What a device owes, whatever waits are recorded. -/
def ow (c : Dev nD) (O : CellTallies nD τ sig Unit) : sProp 𝕄 := iprop(∃ W, owes (c : Thread nD τ) O W)

variable (c : Dev nD)

abbrev WP (p : PR F) (Kt : PUnit → sProp 𝕄) : sProp 𝕄 := wp frame (wpE (defs₀ (F := F)) 𝒱₀ (c : Thread nD τ) none) Set.univ p Kt

/-- A step takes `P` and leaves `Q`. -/
def Step (P Q : sProp 𝕄) (f : PR F → PR F) : Prop :=
  ∀ (k : PR F) (Kt : PUnit → sProp 𝕄), iprop(ctx m K ∗ P) ⊢ iprop((Q -∗ WP c k Kt) -∗ WP c (f k) Kt)

variable {m K c}

theorem Step.skip (P : sProp 𝕄) : Step m K c P P (fun k => k) := fun k Kt => by
  iintro ⟨-, HP⟩ Hk; iapply Hk; iexact HP
theorem Step.seq {P Q R : sProp 𝕄} {f g : PR F → PR F} (hf : Step m K c P Q f) (hg : Step m K c Q R g) :
    Step m K c P R (fun k => f (g k)) := fun k Kt => by
  iintro ⟨#HC, HP⟩ Hk
  iapply (hf (g k) Kt) $$ [HP]
  · isplitr; · iexact HC
    iexact HP
  iintro HQ
  iapply (hg k Kt) $$ [HQ]
  · isplitr; · iexact HC
    iexact HQ
  iexact Hk
theorem Step.frame {P Q : sProp 𝕄} {f : PR F → PR F} (h : Step m K c P Q f) (R : sProp 𝕄) :
    Step m K c iprop(P ∗ R) iprop(Q ∗ R) f := fun k Kt => by
  iintro ⟨#HC, HP, HR⟩ Hk
  iapply (h k Kt) $$ [HP]
  · isplitr; · iexact HC
    iexact HP
  iintro HQ
  iapply Hk
  isplitl [HQ] <;> iassumption
theorem Step.mono {P P' Q Q' : sProp 𝕄} {f : PR F → PR F} (h : Step m K c P Q f) (hP : P' ⊢ P) (hQ : Q ⊢ Q') :
    Step m K c P' Q' f := fun k Kt => by
  iintro ⟨#HC, HP⟩ Hk
  iapply (h k Kt) $$ [HP]
  · isplitr; · iexact HC
    iapply hP; iexact HP
  iintro HQ
  iapply Hk; iapply hQ; iexact HQ

theorem Step.loopFrom {n : ℕ} {I : ℕ → sProp 𝕄} {P Q : Fin n → sProp 𝕄} {f : Fin n → PR F → PR F}
    (h : ∀ i, Step m K c iprop(I i.1 ∗ P i) iprop(I (i.1 + 1) ∗ Q i) (f i)) : ∀ (r : ℕ) (hr : r ≤ n),
    Step m K c iprop(I (n - r) ∗ bigSep (Finset.univ.filter fun i : Fin n => n - r ≤ i.1) P)
      iprop(I n ∗ bigSep (Finset.univ.filter fun i : Fin n => n - r ≤ i.1) Q) (Cert.Exchange.loopFrom f r hr)
  | 0, _ => by
    have : (Finset.univ.filter fun i : Fin n => n - 0 ≤ i.1) = ∅ := Finset.filter_eq_empty_iff.mpr fun i _ hi => by omega
    rw [this]; exact Step.skip _
  | r + 1, hr => by
    have hj : n - r = (n - (r + 1)) + 1 := by omega
    have he : (Finset.univ.filter fun i : Fin n => n - (r + 1) ≤ i.1) = insert ⟨n - (r + 1), by omega⟩ (Finset.univ.filter fun i : Fin n => n - r ≤ i.1) := by
      ext i; simp only [Finset.mem_filter, Finset.mem_univ, true_and, Finset.mem_insert, Fin.ext_iff]; omega
    have hn : (⟨n - (r + 1), by omega⟩ : Fin n) ∉ Finset.univ.filter fun i : Fin n => n - r ≤ i.1 := by
      simp only [Finset.mem_filter, Finset.mem_univ, true_and]; omega
    have ih := Step.loopFrom h r (by omega)
    have e (R : Fin n → sProp 𝕄) : bigSep (insert ⟨n - (r + 1), by omega⟩ (Finset.univ.filter fun i : Fin n => n - r ≤ i.1)) R
        = iprop(R ⟨n - (r + 1), by omega⟩ ∗ bigSep (Finset.univ.filter fun i : Fin n => n - r ≤ i.1) R) := bigSep_insert hn
    rw [he, e P, e Q]
    intro k Kt
    show _ ⊢ iprop(_ -∗ WP c (f ⟨n - (r + 1), by omega⟩ (Cert.Exchange.loopFrom f r _ k)) Kt)
    iintro ⟨#HC, HI, HP, HPs⟩ Hk
    iapply (h ⟨n - (r + 1), _⟩ _ Kt) $$ [HI HP]
    · isplitr; · iexact HC
      isplitl [HI] <;> iassumption
    iintro ⟨HI, HQ⟩
    iapply (ih k Kt) $$ [HI HPs]
    · isplitr; · iexact HC
      isplitl [HI]
      · rw [hj]; iexact HI
      iexact HPs
    iintro ⟨HI, HQs⟩
    iapply Hk
    isplitl [HI]; · iexact HI
    isplitl [HQ] <;> iassumption

/-- A loop whose step `i` takes `I i` and its own `P i` to `I (i + 1)` and `Q i`. -/
theorem Step.loop {n : ℕ} (I : ℕ → sProp 𝕄) {P Q : Fin n → sProp 𝕄} {f : Fin n → PR F → PR F}
    (h : ∀ i, Step m K c iprop(I i.1 ∗ P i) iprop(I (i.1 + 1) ∗ Q i) (f i)) :
    Step m K c iprop(I 0 ∗ bigSep Finset.univ P) iprop(I n ∗ bigSep Finset.univ Q) (loop n f) := by
  have := Step.loopFrom h n le_rfl
  have he : (Finset.univ.filter fun i : Fin n => n - n ≤ i.1) = Finset.univ := Finset.filter_true_of_mem fun i _ => by omega
  rw [he, Nat.sub_self] at this
  exact this

/-! ## Waits -/

/-- A wait on a DMA cell: its payload, the cell closed. -/
theorem step_wait {w : TpuEff nD τ sig (Elt F) Λ₀ .tc PUnit} (g : DFam)
    (hw : ∀ Kt : PUnit → sProp 𝕄, wpE (defs₀ (F := F)) 𝒱₀ (c : Thread nD τ) none Set.univ w Kt
      = waitSpec (c : Thread nD τ) Set.univ (csem (.inr g)) (amt (.inr g)) Kt)
    (O : CellTallies nD τ sig Unit) (hO : (levAts L lv : sProp 𝕄) ⊢ MayWait (c : Thread nD τ) (csem (.inr g)) () O) :
    Step m K c iprop(ow F c O ∗ crd F c (.inr g) ∗ pos F c (.inr g)) iprop(ow F c O ∗ dPay m c g ∗ zero F c (.inr g)) (fun k => .op w fun _ => k) := fun k Kt => by
  unfold ow
  iintro ⟨#HC, ⟨%W, HO⟩, Hc, Hat⟩ Hk
  iapply (Rounds.wp_wait_rest_token 𝒱₀ ER (Rd m) (c : Thread nD τ) none (κ := K (c, .inr g)) hw (Set.mem_univ _) () (O := O) (W := W) (R := 0) (m := 0) (T := ∅)
      ((Nat.zero_add _).trans (expect_dma m c g).symm)) $$ [Hc HO Hat]
  · isplitr; · iapply (inv_at m K c (.inr g)); iexact HC
    isplitl [Hc]; · iexact Hc
    isplitl [HO]; · iexact HO
    isplitr; · iapply hO; iapply (lev_at m K); iexact HC
    iexact Hat
  iintro ⟨HO, Hat, -, Hpay⟩
  imod (Rounds.cell_close ER (Rd m) (Set.mem_univ (K (c, .inr g))) (fun h => h) (R := 0 + 1) (duties_later m (cell c (.inr g)))) $$ [Hat] with Hz
  · isplitr; · iapply (inv_at m K c (.inr g)); iexact HC
    iexact Hat
  ihave Hpay := (Entails.of_eq (rest_dma m c g)) $$ Hpay
  iapply Hk
  isplitl [HO]; · iexists _; iexact HO
  isplitl [Hpay] <;> iassumption

theorem step_fetchWait (i : Fin 16) (O : CellTallies nD τ sig Unit) (hO : (levAts L lv : sProp 𝕄) ⊢ MayWait (c : Thread nD τ) (csem (.inr (gF i))) () O) :
    Step m K c iprop(ow F c O ∗ crd F c (.inr (gF i)) ∗ pos F c (.inr (gF i)))
      iprop(ow F c O ∗ (xPt c i (xin m c) ∗ hPt c i (xin m c)) ∗ zero F c (.inr (gF i))) (fetchWait i) :=
  step_wait (w := .waitDma2 (fS i) (hC i) (xC i) (View.wordExact_bits rfl) (View.wordExact_bits rfl)) (gF i)
    (wpE_waitDma2_eq 𝒱₀ (c : Thread nD τ) none Set.univ) O hO
theorem step_waitB (g : DFam) (hg : amt (.inr g) = NU) (u : Fin 24) (o : Fin 128) (O : CellTallies nD τ sig Unit)
    (hO : (levAts L lv : sProp 𝕄) ⊢ MayWait (c : Thread nD τ) (csem (.inr g)) () O) :
    Step m K c iprop(ow F c O ∗ crd F c (.inr g) ∗ pos F c (.inr g)) iprop(ow F c O ∗ dPay m c g ∗ zero F c (.inr g)) (waitB (dsem g) u o) :=
  step_wait (w := .waitDma2 (dsem g) (bU u) (oU o) (exactB u) (exactO o)) g
    (fun Kt => (wpE_waitDma2_eq 𝒱₀ (c : Thread nD τ) none Set.univ Kt).trans (by rw [hg])) O hO
theorem step_waitB' (g : DFam) (hg : amt (.inr g) = NU) (u : Fin 24) (o : Fin 128) (O : CellTallies nD τ sig Unit)
    (hO : (levAts L lv : sProp 𝕄) ⊢ MayWait (c : Thread nD τ) (csem (.inr g)) () O) :
    Step m K c iprop(ow F c O ∗ crd F c (.inr g) ∗ pos F c (.inr g)) iprop(ow F c O ∗ dPay m c g ∗ zero F c (.inr g)) (waitB' (dsem g) u o) :=
  step_wait (w := .waitDma2 (dsem g) (oU o) (bU u) (exactO o) (exactB u)) g
    (fun Kt => (wpE_waitDma2_eq 𝒱₀ (c : Thread nD τ) none Set.univ Kt).trans (by rw [hg])) O hO
theorem step_waitO (g : DFam) (hg : amt (.inr g) = NU) (o : Fin 128) (O : CellTallies nD τ sig Unit)
    (hO : (levAts L lv : sProp 𝕄) ⊢ MayWait (c : Thread nD τ) (csem (.inr g)) () O) :
    Step m K c iprop(ow F c O ∗ crd F c (.inr g) ∗ pos F c (.inr g)) iprop(ow F c O ∗ dPay m c g ∗ zero F c (.inr g)) (waitO (dsem g) o) :=
  step_wait (w := .waitDma2 (dsem g) (oU o) (oU o) (exactO o) (exactO o)) g
    (fun Kt => (wpE_waitDma2_eq 𝒱₀ (c : Thread nD τ) none Set.univ Kt).trans (by rw [hg])) O hO

/-- The barrier wait: the units of the partners' results. -/
theorem step_barrier (O : CellTallies nD τ sig Unit) (hO : (levAts L lv : sProp 𝕄) ⊢ MayWait (c : Thread nD τ) (csem (.inl ())) () O) :
    Step m K c iprop(ow F c O ∗ cred (tallyAt (cell c (.inl ())) () 3) ∗ pos F c (.inl ()))
      iprop(ow F c O ∗ (barPay c 0 ∗ barPay c 1 ∗ barPay c 2) ∗ zero F c (.inl ())) barrierWait := fun k Kt => by
  unfold ow barrierWait
  iintro ⟨#HC, ⟨%W, HO⟩, Hc, Hat⟩ Hk
  iapply (Rounds.wp_wait_rest_token 𝒱₀ ER (Rd m) (c : Thread nD τ) none (κ := K (c, .inl ())) (wpE_semWait_eq 𝒱₀ (c : Thread nD τ) none Set.univ)
      (Set.mem_univ _) () (O := O) (W := W) (R := 0) (m := 0) (T := ∅) ((Nat.zero_add _).trans (expect_bar m c).symm)) $$ [Hc HO Hat]
  · isplitr; · iapply (inv_at m K c (.inl ())); iexact HC
    isplitl [Hc]; · iexact Hc
    isplitl [HO]; · iexact HO
    isplitr; · iapply hO; iapply (lev_at m K); iexact HC
    iexact Hat
  iintro ⟨HO, Hat, -, Hpay⟩
  imod (Rounds.cell_close ER (Rd m) (Set.mem_univ (K (c, .inl ()))) (fun h => h) (R := 0 + 1) (duties_later m (cell c (.inl ())))) $$ [Hat] with Hz
  · isplitr; · iapply (inv_at m K c (.inl ())); iexact HC
    iexact Hat
  ihave Hpay := (Entails.of_eq (rest_bar m c)) $$ Hpay
  iapply Hk
  isplitl [HO]; · iexists _; iexact HO
  isplitl [Hpay] <;> iassumption

variable (m) in
theorem pay_bar (n : Dev nD) (d : Fin 3) : pay m n (.inl ()) d = barPay n d := rfl

/-- A signal to device `n`'s barrier. -/
theorem step_signal (n : Dev nD) (d : Fin 3) (O : CellTallies nD τ sig Unit) :
    Step m K c iprop(ow F c (O + tl n (.inl ())) ∗ tok F n (.inl ()) d ∗ barPay n d) (ow F c O) (signalTo n) := fun k Kt => by
  unfold ow signalTo
  iintro ⟨#HC, ⟨%W, HO⟩, Ht, Hp⟩ Hk
  iapply (Rounds.wp_signal 𝒱₀ ER (Rd m) (c : Thread nD τ) none (dst := (n : Thread nD τ)) (κ := K (n, .inl ()))
      (d := d) (by rw [duties_at m n (.inl ())]; exact Finset.mem_univ _) ((amount_at m n (.inl ()) d).trans rfl) () O rfl) $$ [HO Ht Hp]
  · isplitr; · iapply (inv_at m K n (.inl ())); iexact HC
    isplitl [HO]; · iexact HO
    isplitl [Ht]; · iexact Ht
    isplitl [Hp]; · rw [payload_at m n (.inl ()) d, pay_bar]; iexact Hp
    iapply (reached_at m K n (.inl ())); iexact HC
  iintro HO
  iapply Hk
  iexists _; iexact HO

/-! ## Copies -/

variable (m) in
theorem duty_dma (n : Dev nD) (g : DFam) : (0 : Fin 3) ∈ (Rd m).duties (cell n (.inr g)) 0 := by
  rw [duties_at]; exact Finset.mem_singleton_self _

/-- A fetch. -/
theorem step_fetch (i : Fin 16) :
    Step m K c iprop(hPt c i (xin m c) ∗ (∃ f, xPt c i f) ∗ tok F c (.inr (gF i)) 0) (crd F c (.inr (gF i))) (fetch i) := fun k Kt => by
  unfold fetch
  iintro ⟨#HC, Hh, ⟨%fd, Hx⟩, Ht⟩ Hk
  iapply (Rounds.wp_copy_pointsTo 𝒱₀ ER (Rd m) (c : Thread nD τ) none (κ := K (c, .inr (gF i))) (src := hC i) (dst := xC i) (q := fullShare) (fs := xin m c) (fd := fd)
      (r := 0) (d := 0) (duty_dma m c (gF i)) () NF rfl (amount_at m c (.inr (gF i)) 0)
      ((sep_mono_left (Entails.of_eq (pointsTo_congr (fetched m c i fd)))).trans (Entails.of_eq (payload_at m c (.inr (gF i)) 0).symm))) $$ [Hh Hx Ht]
  · isplitr; · iapply (inv_at m K c (.inr (gF i))); iexact HC
    isplitl [Hh]; · unfold hPt; iexact Hh
    isplitl [Hx]; · unfold xPt; iexact Hx
    isplitl [Ht]; · iexact Ht
    iapply (reached_at m K c (.inr (gF i))); iexact HC
  iexact Hk

/-- A unit of the send buffer to the partner along y. -/
theorem step_sendY (u : Fin 24) (b z : ℕ) :
    Step m K c iprop(ow F c (Ow c u.1 b z) ∗ bPt c u (sendC m c) ∗ oAny (pY c) (yrU (pY c) u) ∗ tok F c (.inr (gYs u)) 0 ∗ tok F (pY c) (.inr (gYr u)) 0)
      iprop(ow F c (Ow c (u.1 + 1) b z) ∗ crd F c (.inr (gYs u))) (sendY (pY c) u (outOf (hY c) (yUnit (qQ c) u))) := fun k Kt => by
  rw [← yrU_pY]
  unfold ow sendY oAny
  iintro ⟨#HC, ⟨%W, HO⟩, Hb, ⟨%fd, Ho⟩, Hts, Htr⟩ Hk
  iapply (Rounds.wp_send_pointsTo 𝒱₀ ER (Rd m) (c : Thread nD τ) none (κ₁ := K (c, .inr (gYs u))) (κ₂ := K (pY c, .inr (gYr u)))
      (c' := (pY c : Thread nD τ)) (src := bU u) (dst := oU (yrU (pY c) u)) (sS := .dma (ysS u)) (sem := .dma (yrS u)) (q := fullShare) (fs := sendC m c) (fd := fd)
      (r₁ := 0) (r₂ := 0) (d₁ := 0) (d₂ := 0) (duty_dma m c (gYs u)) (duty_dma m (pY c) (gYr u)) () () NU rfl
      (amount_at m c (.inr (gYs u)) 0) (amount_at m (pY c) (.inr (gYr u)) 0) (Ow c (u.1 + 1) b z) (Ow_y c u b z) (W := W)
      (Entails.of_eq (payload_at m c (.inr (gYs u)) 0).symm)
      ((Entails.of_eq (pointsTo_congr (landed_y m c u fd))).trans (Entails.of_eq (payload_at m (pY c) (.inr (gYr u)) 0).symm))) $$ [HO Hb Ho Hts Htr]
  · isplitr; · iapply (inv_at m K c (.inr (gYs u))); iexact HC
    isplitr; · iapply (inv_at m K (pY c) (.inr (gYr u))); iexact HC
    isplitl [Hb]; · unfold bPt; iexact Hb
    isplitl [Ho]; · unfold oPt; iexact Ho
    isplitl [HO]; · iexact HO
    isplitl [Hts]; · iexact Hts
    isplitr; · iapply (reached_at m K c (.inr (gYs u))); iexact HC
    isplitl [Htr]; · iexact Htr
    iapply (reached_at m K (pY c) (.inr (gYr u))); iexact HC
  iintro ⟨Hc, HO⟩
  iapply Hk
  isplitl [HO]; · iexists _; iexact HO
  iexact Hc

theorem tl_eq (n : Dev nD) (g : DFam) (h : amt (.inr g) = NU) : tl n (.inr g) = tallyAt (cell n (.inr g)) () NU := by
  show tallyAt _ () (amt (.inr g)) = _; rw [h]

/-- A unit of the result to a partner holding the same half. -/
theorem step_send (n : Dev nD) (o : Fin 128) (gs gr : DFam) (q : PosShare TreeShare)
    (hs : dPay m c gs = oPt c o q (outC m c)) (hr : dPay m n gr = oPt n o fullShare (outC m n))
    (has : amt (.inr gs) = NU) (har : amt (.inr gr) = NU) (hh : hY n = hY c) (hsrc : src n o = src c o)
    {O₀ O : CellTallies nD τ sig Unit} (hO : O₀ = O + tl n (.inr gr)) :
    Step m K c iprop(ow F c O₀ ∗ oPt c o q (outC m c) ∗ oAny n o ∗ tok F c (.inr gs) 0 ∗ tok F n (.inr gr) 0)
      iprop(ow F c O ∗ crd F c (.inr gs))
      (fun k => .op (.enqueueDma (oU o) (.remote (Dev.tc n) (oU o) (.dma (dsem gs))) (.dma (dsem gr)) (exactO o) (exactO o) ⟨⟨rfl, Or.inl rfl⟩, trivial⟩) fun _ => k) := fun k Kt => by
  unfold ow oAny
  iintro ⟨#HC, ⟨%W, HO⟩, Hb, ⟨%fd, Ho⟩, Hts, Htr⟩ Hk
  iapply (Rounds.wp_send_pointsTo 𝒱₀ ER (Rd m) (c : Thread nD τ) none (κ₁ := K (c, .inr gs)) (κ₂ := K (n, .inr gr))
      (c' := (n : Thread nD τ)) (src := oU o) (dst := oU o) (sS := .dma (dsem gs)) (sem := .dma (dsem gr)) (q := q) (fs := outC m c) (fd := fd)
      (r₁ := 0) (r₂ := 0) (d₁ := 0) (d₂ := 0) (duty_dma m c gs) (duty_dma m n gr) () () NU rfl
      ((amount_at m c (.inr gs) 0).trans has) ((amount_at m n (.inr gr) 0).trans har) (O₀ := O₀) O (by rw [hO, tl_eq _ _ har]) (W := W)
      (Entails.of_eq ((payload_at m c (.inr gs) 0).trans hs).symm)
      ((Entails.of_eq (pointsTo_congr (landed_on m c n o hh hsrc fd))).trans (Entails.of_eq ((payload_at m n (.inr gr) 0).trans hr).symm))) $$ [HO Hb Ho Hts Htr]
  · isplitr; · iapply (inv_at m K c (.inr gs)); iexact HC
    isplitr; · iapply (inv_at m K n (.inr gr)); iexact HC
    isplitl [Hb]; · unfold oPt; iexact Hb
    isplitl [Ho]; · unfold oPt; iexact Ho
    isplitl [HO]; · iexact HO
    isplitl [Hts]; · iexact Hts
    isplitr; · iapply (reached_at m K c (.inr gs)); iexact HC
    isplitl [Htr]; · iexact Htr
    iapply (reached_at m K n (.inr gr)); iexact HC
  iintro ⟨Hc, HO⟩
  iapply Hk
  isplitl [HO]; · iexists _; iexact HO
  ihave Hc := (Entails.of_eq (congrArg cred (tl_eq c gs has).symm)) $$ Hc
  iexact Hc

theorem step_sendX (i : Fin 20) (o : Fin 128) (ho : o = xsU c i) (a z : ℕ) :
    Step m K c iprop(ow F c (Ow c a i.1 z) ∗ oPt c (xsU c i) (shX i) (outC m c) ∗ oAny (pX c) (xrU (pX c) i) ∗ tok F c (.inr (gXs i)) 0 ∗ tok F (pX c) (.inr (gXr i)) 0)
      iprop(ow F c (Ow c a (i.1 + 1) z) ∗ crd F c (.inr (gXs i))) (sendX (pX c) i o) := by
  subst ho
  rw [xrU_pX]
  exact step_send (pX c) (xsU c i) (gXs i) (gXr i) (shX i) rfl (by show oPt (pX c) (xrU (pX c) i) _ _ = _; rw [xrU_pX]) rfl rfl (hY_pX c) (src_x c i) (Ow_x c a i z)
theorem step_sendZ (i : Fin 20) (o : Fin 128) (ho : o = zsU c i) (a b : ℕ) :
    Step m K c iprop(ow F c (Ow c a b i.1) ∗ oPt c (zsU c i) (shZ i) (outC m c) ∗ oAny (pZ c) (zrU (pZ c) i) ∗ tok F c (.inr (gZs i)) 0 ∗ tok F (pZ c) (.inr (gZr i)) 0)
      iprop(ow F c (Ow c a b (i.1 + 1)) ∗ crd F c (.inr (gZs i))) (sendZ (pZ c) i o) := by
  subst ho
  rw [zrU_pZ]
  exact step_send (pZ c) (zsU c i) (gZs i) (gZr i) (shZ i) rfl (by show oPt (pZ c) (zrU (pZ c) i) _ _ = _; rw [zrU_pZ]) rfl rfl (hY_pZ c) (src_z c i) (Ow_z c a b i)

/-! ## Casts -/

theorem whole_setOn (b : Ref sig .tc) (s : Finset b.ty.shape.Idx) : (Memref.whole b).view.setOn s = s := by
  ext i; simp [View.setOn]
theorem rX_sub (i : Fin 16) (r : Fin 64) (h : Fin 2) (hr : r.1 / 4 = i.1) : xM.view.setOn (rX r h).toLoadRect.set ⊆ (xC i).view.set := by
  rw [View.set_slice_whole, whole_setOn]
  intro j hj
  replace hj := Rect.mem_set_unit.mp hj
  rw [Rect.mem_set_unit]
  have h0 := hj 0
  have h1 : (j 1).1 < 1024 := (j 1).2
  intro a
  fin_cases a
  · simp at h0 ⊢; omega
  · simp at h1 ⊢; omega
theorem rXL_sub (i : Fin 16) (h : Fin 2) : xM.view.setOn (rXL i h).toLoadRect.set ⊆ (xC i).view.set := by
  rw [View.set_slice_whole, whole_setOn]
  intro j hj
  replace hj := Rect.mem_set_unit.mp hj
  rw [Rect.mem_set_unit]
  have h0 := hj 0
  have h1 : (j 1).1 < 1024 := (j 1).2
  intro a
  fin_cases a
  · simp at h0 ⊢; omega
  · simp at h1 ⊢; omega

theorem step_castSend (u : Fin 24) (i : Fin 16) (hi : (yUnit (qQ c) u).1 / 4 = i.1) :
    Step m K c iprop(xPt c i (xin m c) ∗ ∃ f, bPt c u f) iprop(xPt c i (xin m c) ∗ bPt c u (sendC m c)) (castSend (oth (hY c)) (yUnit (qQ c) u) u) := fun k Kt => by
  unfold castSend xPt bPt
  iintro ⟨-, Hx, ⟨%fd, Hb⟩⟩ Hk
  iapply (wp_load 𝒱₀ (c : Thread nD τ) none Set.univ (m := xM) (rX_sub i _ _ hi)) $$ Hx; iintro Hx
  iapply (wp_load 𝒱₀ (c : Thread nD τ) none Set.univ (m := bM) (by rw [View.set_slice_whole, whole_setOn])) $$ Hb; iintro Hb
  ihave Hb := (show iprop(bM.view.loc (c : Thread nD τ) ↦[(bU u).view.set]{fullShare} fd)
    ⊢ ((bM.access (rB u)).loc (c : Thread nD τ) ↦[(bM.access (rB u)).setOn Finset.univ]{fullShare} fd : sProp 𝕄) from BIBase.Entails.refl) $$ Hb
  iapply (wp_store 𝒱₀ (c : Thread nD τ) none Set.univ (m := bM) (r := rB u) (Mk := Finset.univ) (Finset.Subset.refl _)) $$ Hb; iintro Hb
  iapply Hk
  isplitl [Hx]; · iexact Hx
  ihave Hb := (Entails.of_eq (pointsTo_congr (casted m c u fd))) $$ Hb
  iexact Hb

theorem step_castKeep (i : Fin 16) :
    Step m K c iprop(xPt c i (xin m c) ∗ ∃ f, kPt c i f) iprop(xPt c i (xin m c) ∗ kPt c i (outC m c)) (castKeep (hY c) i) := fun k Kt => by
  unfold castKeep xPt kPt
  iintro ⟨-, Hx, ⟨%fd, Hb⟩⟩ Hk
  iapply (wp_load 𝒱₀ (c : Thread nD τ) none Set.univ (m := xM) (rXL_sub i _)) $$ Hx; iintro Hx
  iapply (wp_load 𝒱₀ (c : Thread nD τ) none Set.univ (m := oM) (by
    show _ ⊆ ((View.whole cc0_stg0_0).slice (rOL i (hY c))).set
    rw [View.set_slice_whole, whole_setOn])) $$ Hb; iintro Hb
  ihave Hb := (show iprop(oM.view.loc (c : Thread nD τ) ↦[(oM.access (rOL i (hY c))).set]{fullShare} fd)
    ⊢ ((oM.access (rOL i (hY c))).loc (c : Thread nD τ) ↦[(oM.access (rOL i (hY c))).setOn Finset.univ]{fullShare} fd : sProp 𝕄) from BIBase.Entails.refl) $$ Hb
  iapply (wp_store 𝒱₀ (c : Thread nD τ) none Set.univ (m := oM) (r := rOL i (hY c)) (Mk := Finset.univ) (Finset.Subset.refl _)) $$ Hb; iintro Hb
  iapply Hk
  isplitl [Hx]; · iexact Hx
  ihave Hb := (Entails.of_eq (pointsTo_congr (kept m c i fd))) $$ Hb
  iexact Hb

end Cert.Exchange

end
-- ==== Proof.Stages.lean ====
/- The stages of the body: each loop, what it takes, what it leaves. -/
module

public import proofs.«01_k».proof.Proof.Steps

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A family dealt over several loops -/

theorem deal {A B : Type} [Fintype A] [Fintype B] (f : A → B) (hf : Function.Bijective f) (Φ : B → sProp 𝕄) :
    bigSep Finset.univ Φ = bigSep Finset.univ fun a => Φ (f a) := bigSep_univ_equiv (Equiv.ofBijective f hf) Φ
theorem deal2 {A B C : Type} [Fintype A] [Fintype B] [Fintype C] (f : A → C) (g : B → C) (h : Function.Bijective (Sum.elim f g)) (Φ : C → sProp 𝕄) :
    bigSep Finset.univ Φ = iprop((bigSep Finset.univ fun a => Φ (f a)) ∗ bigSep Finset.univ fun b => Φ (g b)) :=
  (deal (Sum.elim f g) h Φ).trans (bigSep_univ_sum _)
theorem deal3 {A B C E : Type} [Fintype A] [Fintype B] [Fintype C] [Fintype E] (f : A → E) (g : B → E) (k : C → E)
    (h : Function.Bijective (Sum.elim f (Sum.elim g k))) (Φ : E → sProp 𝕄) :
    bigSep Finset.univ Φ = iprop((bigSep Finset.univ fun a => Φ (f a)) ∗ (bigSep Finset.univ fun b => Φ (g b)) ∗ bigSep Finset.univ fun b => Φ (k b)) :=
  (deal2 f (Sum.elim g k) h Φ).trans (congrArg (fun R => iprop(_ ∗ R)) (bigSep_univ_sum fun x => Φ (Sum.elim g k x)))
theorem deal4 {A B C D E : Type} [Fintype A] [Fintype B] [Fintype C] [Fintype D] [Fintype E] (f : A → E) (g : B → E) (k : C → E) (l : D → E)
    (h : Function.Bijective (Sum.elim f (Sum.elim g (Sum.elim k l)))) (Φ : E → sProp 𝕄) :
    bigSep Finset.univ Φ = iprop((bigSep Finset.univ fun a => Φ (f a)) ∗ (bigSep Finset.univ fun b => Φ (g b)) ∗ (bigSep Finset.univ fun b => Φ (k b))
      ∗ bigSep Finset.univ fun b => Φ (l b)) :=
  (deal3 f g (Sum.elim k l) h Φ).trans (congrArg (fun R => iprop(_ ∗ _ ∗ R)) (bigSep_univ_sum fun x => Φ (Sum.elim k l x)))

/-- Position `s + i`. -/
abbrev sh {a n : ℕ} (s : ℕ) (h : s + a ≤ n) (i : Fin a) : Fin n := ⟨s + i.1, by omega⟩
abbrev lo {a n : ℕ} (h : a ≤ n) (i : Fin a) : Fin n := i.castLE h
abbrev y16 : Fin 16 → Fin 24 := lo (by decide)
abbrev y8 : Fin 8 → Fin 24 := sh 16 (by decide)
abbrev x16 : Fin 16 → Fin 20 := lo (by decide)
abbrev x4 : Fin 4 → Fin 20 := sh 16 (by decide)
abbrev x8 : Fin 4 → Fin 20 := sh 8 (by decide)
abbrev x12 : Fin 4 → Fin 20 := sh 12 (by decide)
abbrev c6 : Fin 6 → Fin 16 := lo (by decide)
abbrev c10 : Fin 10 → Fin 16 := sh 6 (by decide)

theorem bij24 : Function.Bijective (Sum.elim (lo (by decide) : Fin 6 → Fin 24) (Sum.elim (sh 6 (by decide) : Fin 10 → Fin 24) (sh 16 (by decide) : Fin 8 → Fin 24))) := by decide +kernel
theorem bij24' : Function.Bijective (Sum.elim (lo (by decide) : Fin 16 → Fin 24) (sh 16 (by decide) : Fin 8 → Fin 24)) := by decide +kernel
theorem bij20 : Function.Bijective (Sum.elim (lo (by decide) : Fin 6 → Fin 20) (Sum.elim (sh 6 (by decide) : Fin 10 → Fin 20) (sh 16 (by decide) : Fin 4 → Fin 20))) := by decide +kernel
theorem bij20' : Function.Bijective (Sum.elim (lo (by decide) : Fin 16 → Fin 20) (sh 16 (by decide) : Fin 4 → Fin 20)) := by decide +kernel
/-- The receives along x: those of the own quarter waited for early last, those along z. -/
theorem bijX : Function.Bijective (Sum.elim (lo (by decide) : Fin 12 → Fin 20) (Sum.elim (sh 12 (by decide) : Fin 4 → Fin 20) (sh 16 (by decide) : Fin 4 → Fin 20))) := by decide +kernel
theorem bijZ : Function.Bijective (Sum.elim (lo (by decide) : Fin 8 → Fin 20) (Sum.elim (sh 8 (by decide) : Fin 4 → Fin 20)
    (Sum.elim (sh 12 (by decide) : Fin 4 → Fin 20) (sh 16 (by decide) : Fin 4 → Fin 20)))) := by decide +kernel
theorem bij_order (Q : Fin 4) : Function.Bijective (order Q) := by revert Q; decide +kernel
theorem bij_order6 (Q : Fin 4) : Function.Bijective (Sum.elim (fun i : Fin 6 => order Q (lo (by decide) i)) (fun i : Fin 10 => order Q (sh 6 (by decide) i))) := by
  revert Q; decide +kernel
theorem bij_needed (Q : Fin 4) : Function.Bijective (Sum.elim (needed Q) (fun i : Fin 10 => order Q (sh 6 (by decide) i))) := by revert Q; decide +kernel
theorem bij_f6 : Function.Bijective (fun x : Fin 6 × Fin 4 => f6 x.1 x.2) := by decide +kernel

/-- The chunks waited for first are the first six of the order. -/
theorem needed_order (Q : Fin 4) : (Finset.univ.image (needed Q)) = Finset.univ.image fun i : Fin 6 => order Q (lo (by decide) i) := by revert Q; decide +kernel
theorem needed_as_order (Q : Fin 4) (Φ : Fin 16 → sProp 𝕄) :
    (bigSep Finset.univ fun v => Φ (needed Q v)) = bigSep Finset.univ fun i : Fin 6 => Φ (order Q (lo (by decide) i)) := by
  have h1 : Function.Injective (needed Q) := by revert Q; decide +kernel
  have h2 : Function.Injective fun i : Fin 6 => order Q (lo (by decide) i) := by revert Q; decide +kernel
  have e := needed_order Q
  have e' : Finset.univ.map ⟨_, h1⟩ = Finset.univ.map ⟨_, h2⟩ := (Finset.map_eq_image ⟨_, h1⟩ _).trans (e.trans (Finset.map_eq_image ⟨_, h2⟩ _).symm)
  exact (bigSep_map ⟨_, h1⟩).symm.trans ((congrArg (fun s => bigSep s Φ) e').trans (bigSep_map ⟨_, h2⟩))

/-! ## The stages -/

variable {m : (ℓ : Loc nD τ sig) → Buf (Elt F) ℓ} {K : Dev nD × Fam → ℕ} {c : Dev nD}

theorem Step.left {P Q : sProp 𝕄} {f : PR F → PR F} (h : Step m K c P Q f) (R : sProp 𝕄) : Step m K c iprop(R ∗ P) iprop(R ∗ Q) f :=
  (h.frame R).mono sep_comm.1 sep_comm.1

variable (F) in
/-- What a wait on a DMA cell takes. -/
def due (c : Dev nD) (g : DFam) : sProp 𝕄 := iprop(crd F c (.inr g) ∗ pos F c (.inr g))
variable (m) in
/-- What it leaves. -/
def got (c : Dev nD) (g : DFam) : sProp 𝕄 := iprop(dPay m c g ∗ zero F c (.inr g))
variable (m) in
def toFetch (c : Dev nD) (i : Fin 16) : sProp 𝕄 := iprop(hPt c i (xin m c) ∗ (∃ f, xPt c i f) ∗ tok F c (.inr (gF i)) 0)
variable (F) in
def toY (c : Dev nD) (u : Fin 24) : sProp 𝕄 := iprop(oAny (pY c) (yrU (pY c) u) ∗ tok F c (.inr (gYs u)) 0 ∗ tok F (pY c) (.inr (gYr u)) 0)
variable (F) in
def toX (c : Dev nD) (i : Fin 20) : sProp 𝕄 := iprop(oAny (pX c) (xrU (pX c) i) ∗ tok F c (.inr (gXs i)) 0 ∗ tok F (pX c) (.inr (gXr i)) 0)
variable (F) in
def toZ (c : Dev nD) (i : Fin 20) : sProp 𝕄 := iprop(oAny (pZ c) (zrU (pZ c) i) ∗ tok F c (.inr (gZs i)) 0 ∗ tok F (pZ c) (.inr (gZr i)) 0)

theorem stage_fetch (O : CellTallies nD τ sig Unit) :
    Step m K c iprop(ow F c O ∗ bigSep Finset.univ (toFetch m c)) iprop(ow F c O ∗ bigSep Finset.univ fun j => crd F c (.inr (gF j)))
      (loop 16 fun i => fetch (order (qQ c) i)) := by
  rw [deal (order (qQ c)) (bij_order _) (toFetch m c), deal (order (qQ c)) (bij_order _) fun j => crd F c (.inr (gF j))]
  exact Step.loop (fun _ => ow F c O) fun i => (step_fetch (order (qQ c) i)).left _

theorem stage_waits {n : ℕ} (g : Fin n → DFam) (O : CellTallies nD τ sig Unit) {f : Fin n → PR F → PR F}
    (h : ∀ i, Step m K c iprop(ow F c O ∗ due F c (g i)) iprop(ow F c O ∗ got m c (g i)) (f i)) :
    Step m K c iprop(ow F c O ∗ bigSep Finset.univ fun i => due F c (g i)) iprop(ow F c O ∗ bigSep Finset.univ fun i => got m c (g i)) (loop n f) :=
  Step.loop (fun _ => ow F c O) h

theorem low_wait (f : Fam) (h : lvF f = 0) (a b z : ℕ) : (levAts L lv : sProp 𝕄) ⊢ MayWait (c : Thread nD τ) (csem f) () (Ow c a b z) :=
  mayWait_Ow c f a b z (fun _ _ => by rw [h]; decide) (fun _ _ => by rw [h]; split <;> decide) (fun _ _ => by rw [h]; split <;> decide)
theorem bar_wait : (levAts L lv : sProp 𝕄) ⊢ MayWait (c : Thread nD τ) (csem (.inl ())) () (Ow c 0 0 0) :=
  mayWait_Ow c (.inl ()) 0 0 0 (fun _ _ => by show 1 < 2; decide) (fun _ _ => by show 1 < ite _ _ _; split <;> decide) (fun _ _ => by show 1 < ite _ _ _; split <;> decide)
theorem yr_wait (u : Fin 24) (b z : ℕ) : (levAts L lv : sProp 𝕄) ⊢ MayWait (c : Thread nD τ) (csem (.inr (gYr u))) () (Ow c 24 b z) :=
  mayWait_Ow c _ 24 b z (fun i hi => absurd i.2 (by omega)) (fun _ _ => by show 2 < ite _ _ _; split <;> decide) (fun _ _ => by show 2 < ite _ _ _; split <;> decide)
theorem zr_wait (i : Fin 20) (h : i.1 < 16) (b z : ℕ) (hb : 16 ≤ b) (hz : 16 ≤ z) :
    (levAts L lv : sProp 𝕄) ⊢ MayWait (c : Thread nD τ) (csem (.inr (gZr i))) () (Ow c 24 b z) :=
  mayWait_Ow c _ 24 b z (fun i hi => absurd i.2 (by omega))
    (fun j hj => by show ite _ _ _ < ite _ _ _; rw [if_pos h, if_neg (by omega)]; decide)
    (fun j hj => by show ite _ _ _ < ite _ _ _; rw [if_pos h, if_neg (by omega)]; decide)
theorem xr_wait (i : Fin 20) (h : i.1 < 16) (b z : ℕ) (hb : 16 ≤ b) (hz : 16 ≤ z) :
    (levAts L lv : sProp 𝕄) ⊢ MayWait (c : Thread nD τ) (csem (.inr (gXr i))) () (Ow c 24 b z) :=
  mayWait_Ow c _ 24 b z (fun i hi => absurd i.2 (by omega))
    (fun j hj => by show ite _ _ _ < ite _ _ _; rw [if_pos h, if_neg (by omega)]; decide)
    (fun j hj => by show ite _ _ _ < ite _ _ _; rw [if_pos h, if_neg (by omega)]; decide)
theorem end_wait (f : Fam) : (levAts L lv : sProp 𝕄) ⊢ MayWait (c : Thread nD τ) (csem f) () (Ow c 24 20 20) :=
  mayWait_Ow c f 24 20 20 (fun i hi => absurd i.2 (by omega)) (fun i hi => absurd i.2 (by omega)) (fun i hi => absurd i.2 (by omega))

theorem fetched_pay (i : Fin 16) : iprop(xPt c i (xin m c) ∗ hPt c i (xin m c)) ⊢ dPay m c (gF i) := BIBase.Entails.refl

theorem chunk_needed (Q : Fin 4) (v : Fin 6) (w : Fin 4) : (yUnit Q (f6 v w)).1 / 4 = (needed Q v).1 := by revert Q v w; decide +kernel

/-- The chunks needed first, cast into the send buffer. -/
theorem stage_cast :
    Step m K c iprop(ow F c (Ow c 0 0 0) ∗ bigSep Finset.univ fun v : Fin 6 => iprop(due F c (gF (needed (qQ c) v)) ∗ bigSep Finset.univ fun w => iprop(∃ f, bPt c (f6 v w) f)))
      iprop(ow F c (Ow c 0 0 0) ∗ bigSep Finset.univ fun v : Fin 6 => iprop(got m c (gF (needed (qQ c) v)) ∗ bigSep Finset.univ fun w => bPt c (f6 v w) (sendC m c)))
      (loop 6 fun v k => fetchWait (needed (qQ c) v) (loop 4 (fun w => castSend (oth (hY c)) (yUnit (qQ c) (f6 v w)) (f6 v w)) k)) := by
  refine Step.loop (fun _ => ow F c (Ow c 0 0 0)) fun v k Kt => ?_
  unfold due got
  iintro ⟨#HC, HO, ⟨Hc, Hp⟩, Hb⟩ Hk
  iapply (step_fetchWait (needed (qQ c) v) (Ow c 0 0 0) (low_wait _ rfl 0 0 0) _ Kt) $$ [HO Hc Hp]
  · isplitr; · iexact HC
    isplitl [HO]; · iexact HO
    isplitl [Hc] <;> iassumption
  iintro ⟨HO, ⟨Hx, Hh⟩, Hz⟩
  iapply (Step.loop (fun _ => xPt c (needed (qQ c) v) (xin m c))
    (fun w => step_castSend (f6 v w) (needed (qQ c) v) (chunk_needed _ v w)) k Kt) $$ [Hx Hb]
  · isplitr; · iexact HC
    isplitl [Hx] <;> iassumption
  iintro ⟨Hx, Hb⟩
  iapply Hk
  isplitl [HO]; · iexact HO
  isplitl [Hx Hh Hz]
  · isplitl [Hx Hh]
    · iapply (fetched_pay (m := m)); isplitl [Hx] <;> iassumption
    iexact Hz
  iexact Hb

theorem stage_sendY :
    Step m K c iprop(ow F c (Ow c 0 0 0) ∗ bigSep Finset.univ fun u => iprop(bPt c u (sendC m c) ∗ toY F c u))
      iprop(ow F c (Ow c 24 0 0) ∗ bigSep Finset.univ fun u => crd F c (.inr (gYs u)))
      (loop 24 fun u => sendY (pY c) u (outOf (hY c) (yUnit (qQ c) u))) :=
  Step.loop (fun i => ow F c (Ow c i 0 0)) fun u => step_sendY u 0 0

theorem half_eqX (i : Fin 16) : yrU c (y16 i) = xsU c (x16 i) := by revert c i; decide +kernel
theorem half_eqZ (i : Fin 16) : yrU c (y16 i) = zsU c (x16 i) := by revert c i; decide +kernel
theorem half_out (i : Fin 16) : outOf (oth (hY c)) (unitOf (qQ c) i) = xsU c (x16 i) := by revert c i; decide +kernel

/-- A unit received along y, in two halves, one for each send. -/
theorem halves (i : Fin 16) (f : (⟨S4096x512, .bf16⟩ : BufTy).Contents (Elt F)) :
    oPt c (yrU c (y16 i)) fullShare f ⊣⊢ iprop(oPt c (xsU c (x16 i)) (shX (x16 i)) f ∗ oPt c (zsU c (x16 i)) (shZ (x16 i)) f) := by
  rw [← half_eqX, ← half_eqZ, show shX (x16 i) = fullShare.left from if_pos i.2, show shZ (x16 i) = fullShare.right from if_pos i.2]
  unfold oPt
  exact pointsTo_share (PosShare.mem_left_op_right fullShare)

/-- A unit of the own quarter: awaited, then sent both ways. -/
theorem step_relay (i : Fin 16) :
    Step m K c iprop(ow F c (Ow c 24 i.1 i.1) ∗ due F c (gYr (y16 i)) ∗ toX F c (x16 i) ∗ toZ F c (x16 i))
      iprop(ow F c (Ow c 24 (i.1 + 1) (i.1 + 1)) ∗ zero F c (.inr (gYr (y16 i))) ∗ crd F c (.inr (gXs (x16 i))) ∗ crd F c (.inr (gZs (x16 i))))
      (fun k => waitB (yrS (i.castLE (by decide))) (i.castLE (by decide)) (outOf (hY c) (unitOf (qQ c) i)) <|
        sendX (pX c) (i.castLE (by decide)) (outOf (oth (hY c)) (unitOf (qQ c) i)) <|
        sendZ (pZ c) (i.castLE (by decide)) (outOf (oth (hY c)) (unitOf (qQ c) i)) k) := fun k Kt => by
  unfold due toX toZ
  iintro ⟨#HC, HO, Hd, ⟨HX, HXs, HXr⟩, ⟨HZ, HZs, HZr⟩⟩ Hk
  iapply (step_waitB (gYr (y16 i)) rfl _ _ _ (yr_wait _ i.1 i.1) _ Kt) $$ [HO Hd]
  · isplitr; · iexact HC
    isplitl [HO] <;> iassumption
  iintro ⟨HO, Hp, Hz⟩
  ihave Hp := (show dPay m c (gYr (y16 i)) ⊢ _ from (halves i (outC m c)).1) $$ Hp
  icases Hp with ⟨Hp1, Hp2⟩
  iapply (step_sendX (x16 i) _ (half_out i) 24 i.1 _ Kt) $$ [HO Hp1 HX HXs HXr]
  · isplitr; · iexact HC
    isplitl [HO]; · iexact HO
    isplitl [Hp1]; · iexact Hp1
    isplitl [HX]; · iexact HX
    isplitl [HXs] <;> iassumption
  iintro ⟨HO, HcX⟩
  iapply (step_sendZ (x16 i) _ ((half_out i).trans ((half_eqX i).symm.trans (half_eqZ i))) 24 (i.1 + 1) _ Kt) $$ [HO Hp2 HZ HZs HZr]
  · isplitr; · iexact HC
    isplitl [HO]; · iexact HO
    isplitl [Hp2]; · iexact Hp2
    isplitl [HZ]; · iexact HZ
    isplitl [HZs] <;> iassumption
  iintro ⟨HO, HcZ⟩
  iapply Hk
  isplitl [HO]; · iexact HO
  isplitl [Hz]; · iexact Hz
  isplitl [HcX] <;> iassumption

variable (F) in
def relIn (c : Dev nD) (i : Fin 16) : sProp 𝕄 := iprop(due F c (gYr (y16 i)) ∗ toX F c (x16 i) ∗ toZ F c (x16 i))
variable (F) in
def relOut (c : Dev nD) (i : Fin 16) : sProp 𝕄 :=
  iprop(zero F c (.inr (gYr (y16 i))) ∗ crd F c (.inr (gXs (x16 i))) ∗ crd F c (.inr (gZs (x16 i))))

theorem stage_relay6 :
    Step m K c iprop(ow F c (Ow c 24 0 0) ∗ bigSep Finset.univ fun i : Fin 6 => iprop(relIn F c (c6 i)
          ∗ xPt c (order (qQ c) (c6 i)) (xin m c) ∗ ∃ f, kPt c (order (qQ c) (c6 i)) f))
      iprop(ow F c (Ow c 24 6 6) ∗ bigSep Finset.univ fun i : Fin 6 => iprop(relOut F c (c6 i)
          ∗ xPt c (order (qQ c) (c6 i)) (xin m c) ∗ kPt c (order (qQ c) (c6 i)) (outC m c)))
      (loop 6 (fun i k =>
        waitB (yrS (i.castLE (by decide))) (i.castLE (by decide)) (outOf (hY c) (unitOf (qQ c) (i.castLE (by decide)))) <|
        sendX (pX c) (i.castLE (by decide)) (outOf (oth (hY c)) (unitOf (qQ c) (i.castLE (by decide)))) <|
        sendZ (pZ c) (i.castLE (by decide)) (outOf (oth (hY c)) (unitOf (qQ c) (i.castLE (by decide)))) <|
        castKeep (hY c) (order (qQ c) (i.castLE (by decide))) k)) := by
  refine Step.loop (fun i => ow F c (Ow c 24 i i)) fun i k Kt => ?_
  unfold relIn relOut
  iintro ⟨#HC, HO, HR, HK⟩ Hk
  iapply (step_relay (c6 i) _ Kt) $$ [HO HR]
  · isplitr; · iexact HC
    isplitl [HO]; · iexact HO
    iexact HR
  iintro ⟨HO, HR⟩
  iapply (step_castKeep (order (qQ c) (c6 i)) k Kt) $$ [HK]
  · isplitr; · iexact HC
    iexact HK
  iintro HK
  iapply Hk
  isplitl [HO]; · iexact HO
  isplitl [HR] <;> iassumption

theorem stage_relay10 :
    Step m K c iprop(ow F c (Ow c 24 6 6) ∗ bigSep Finset.univ fun i : Fin 10 => iprop(relIn F c (c10 i)
          ∗ due F c (gF (order (qQ c) (c10 i))) ∗ ∃ f, kPt c (order (qQ c) (c10 i)) f))
      iprop(ow F c (Ow c 24 16 16) ∗ bigSep Finset.univ fun i : Fin 10 => iprop(relOut F c (c10 i)
          ∗ got m c (gF (order (qQ c) (c10 i))) ∗ kPt c (order (qQ c) (c10 i)) (outC m c)))
      (loop 10 (fun i k =>
        waitB (yrS ⟨6 + i.1, by omega⟩) ⟨6 + i.1, by omega⟩ (outOf (hY c) (unitOf (qQ c) ⟨6 + i.1, by omega⟩)) <|
        sendX (pX c) ⟨6 + i.1, by omega⟩ (outOf (oth (hY c)) (unitOf (qQ c) ⟨6 + i.1, by omega⟩)) <|
        sendZ (pZ c) ⟨6 + i.1, by omega⟩ (outOf (oth (hY c)) (unitOf (qQ c) ⟨6 + i.1, by omega⟩)) <|
        fetchWait (order (qQ c) ⟨6 + i.1, by omega⟩) <|
        castKeep (hY c) (order (qQ c) ⟨6 + i.1, by omega⟩) k)) := by
  refine Step.loop (fun i => ow F c (Ow c 24 (6 + i) (6 + i))) fun i k Kt => ?_
  unfold relIn relOut got
  iintro ⟨#HC, HO, HR, HF, HK⟩ Hk
  iapply (step_relay (c10 i) _ Kt) $$ [HO HR]
  · isplitr; · iexact HC
    isplitl [HO] <;> iassumption
  iintro ⟨HO, HR⟩
  unfold due
  icases HF with ⟨Hc, Hp⟩
  iapply (step_fetchWait (order (qQ c) (c10 i)) _ (low_wait _ rfl _ _ _) _ Kt) $$ [HO Hc Hp]
  · isplitr; · iexact HC
    isplitl [HO]; · iexact HO
    isplitl [Hc] <;> iassumption
  iintro ⟨HO, ⟨Hx, Hh⟩, Hz⟩
  iapply (step_castKeep (order (qQ c) (c10 i)) k Kt) $$ [Hx HK]
  · isplitr; · iexact HC
    isplitl [Hx] <;> iassumption
  iintro ⟨Hx, HK⟩
  iapply Hk
  isplitl [HO]; · iexact HO
  isplitl [HR]; · iexact HR
  isplitl [Hx Hh Hz]
  · isplitl [Hx Hh]
    · iapply (fetched_pay (m := m)); isplitl [Hx] <;> iassumption
    iexact Hz
  iexact HK

theorem passX (j : Fin 4) : zrU c (x8 j) = xsU c (x4 j) := by revert c j; decide +kernel
theorem passZ (j : Fin 4) : xrU c (x12 j) = zsU c (x4 j) := by revert c j; decide +kernel
theorem shX_hi (j : Fin 4) : shX (x4 j) = fullShare := if_neg (by show ¬(16 + j.1 < 16); omega)
theorem shZ_hi (j : Fin 4) : shZ (x4 j) = fullShare := if_neg (by show ¬(16 + j.1 < 16); omega)

/-- Four units received along z, passed on along x. -/
theorem stage_passX :
    Step m K c iprop(ow F c (Ow c 24 16 16) ∗ bigSep Finset.univ fun j : Fin 4 => iprop(due F c (gZr (x8 j)) ∗ toX F c (x4 j)))
      iprop(ow F c (Ow c 24 20 16) ∗ bigSep Finset.univ fun j : Fin 4 => iprop(zero F c (.inr (gZr (x8 j))) ∗ crd F c (.inr (gXs (x4 j)))))
      (loop 4 (fun j k =>
        waitO (zrS ⟨8 + j.1, by omega⟩) (outOf (oth (hY c)) (unitOf (qQ c) ⟨8 + j.1, by omega⟩)) <|
        sendX (pX c) ⟨16 + j.1, by omega⟩ (outOf (oth (hY c)) (xUnit (qQ c) ⟨16 + j.1, by omega⟩)) k)) := by
  refine Step.loop (fun i => ow F c (Ow c 24 (16 + i) 16)) fun j k Kt => ?_
  unfold due toX
  iintro ⟨#HC, HO, Hd, HX, HXs, HXr⟩ Hk
  iapply (step_waitO (gZr (x8 j)) rfl _ _ (zr_wait (x8 j) (by show 8 + j.1 < 16; omega) (16 + j.1) 16 (by omega) le_rfl) _ Kt) $$ [HO Hd]
  · isplitr; · iexact HC
    isplitl [HO] <;> iassumption
  iintro ⟨HO, Hp, Hz⟩
  ihave Hp := (show dPay m c (gZr (x8 j)) ⊢ oPt c (xsU c (x4 j)) (shX (x4 j)) (outC m c) from by
    rw [← passX, shX_hi]; exact BIBase.Entails.refl) $$ Hp
  iapply (step_sendX (x4 j) _ rfl 24 16 _ Kt) $$ [HO Hp HX HXs HXr]
  · isplitr; · iexact HC
    isplitl [HO]; · iexact HO
    isplitl [Hp]; · iexact Hp
    isplitl [HX]; · iexact HX
    isplitl [HXs] <;> iassumption
  iintro ⟨HO, HcX⟩
  iapply Hk
  isplitl [HO]; · iexact HO
  isplitl [Hz] <;> iassumption

/-- Four units received along x, passed on along z. -/
theorem stage_passZ :
    Step m K c iprop(ow F c (Ow c 24 20 16) ∗ bigSep Finset.univ fun j : Fin 4 => iprop(due F c (gXr (x12 j)) ∗ toZ F c (x4 j)))
      iprop(ow F c (Ow c 24 20 20) ∗ bigSep Finset.univ fun j : Fin 4 => iprop(zero F c (.inr (gXr (x12 j))) ∗ crd F c (.inr (gZs (x4 j)))))
      (loop 4 (fun j k =>
        waitO (xrS ⟨12 + j.1, by omega⟩) (outOf (oth (hY c)) (unitOf (qQ c) ⟨12 + j.1, by omega⟩)) <|
        sendZ (pZ c) ⟨16 + j.1, by omega⟩ (outOf (oth (hY c)) (zUnit (qQ c) ⟨16 + j.1, by omega⟩)) k)) := by
  refine Step.loop (fun i => ow F c (Ow c 24 20 (16 + i))) fun j k Kt => ?_
  unfold due toZ
  iintro ⟨#HC, HO, Hd, HX, HXs, HXr⟩ Hk
  iapply (step_waitO (gXr (x12 j)) rfl _ _ (xr_wait (x12 j) (by show 12 + j.1 < 16; omega) 20 (16 + j.1) (by omega) (by omega)) _ Kt) $$ [HO Hd]
  · isplitr; · iexact HC
    isplitl [HO] <;> iassumption
  iintro ⟨HO, Hp, Hz⟩
  ihave Hp := (show dPay m c (gXr (x12 j)) ⊢ oPt c (zsU c (x4 j)) (shZ (x4 j)) (outC m c) from by
    rw [← passZ, shZ_hi]; exact BIBase.Entails.refl) $$ Hp
  iapply (step_sendZ (x4 j) _ rfl 24 20 _ Kt) $$ [HO Hp HX HXs HXr]
  · isplitr; · iexact HC
    isplitl [HO]; · iexact HO
    isplitl [Hp]; · iexact Hp
    isplitl [HX]; · iexact HX
    isplitl [HXs] <;> iassumption
  iintro ⟨HO, HcX⟩
  iapply Hk
  isplitl [HO]; · iexact HO
  isplitl [Hz] <;> iassumption

/-! The closing waits. -/

theorem stage_endB {n : ℕ} (g : Fin n → DFam) (hg : ∀ i, amt (.inr (g i)) = NU) (u : Fin n → Fin 24) (o : Fin n → Fin 128) :
    Step m K c iprop(ow F c (Ow c 24 20 20) ∗ bigSep Finset.univ fun i => due F c (g i)) iprop(ow F c (Ow c 24 20 20) ∗ bigSep Finset.univ fun i => got m c (g i))
      (loop n fun i => waitB (dsem (g i)) (u i) (o i)) :=
  stage_waits g _ fun i => step_waitB (g i) (hg i) (u i) (o i) _ (end_wait _)
theorem stage_endB' {n : ℕ} (g : Fin n → DFam) (hg : ∀ i, amt (.inr (g i)) = NU) (u : Fin n → Fin 24) (o : Fin n → Fin 128) :
    Step m K c iprop(ow F c (Ow c 24 20 20) ∗ bigSep Finset.univ fun i => due F c (g i)) iprop(ow F c (Ow c 24 20 20) ∗ bigSep Finset.univ fun i => got m c (g i))
      (loop n fun i => waitB' (dsem (g i)) (u i) (o i)) :=
  stage_waits g _ fun i => step_waitB' (g i) (hg i) (u i) (o i) _ (end_wait _)
theorem stage_endO {n : ℕ} (g : Fin n → DFam) (hg : ∀ i, amt (.inr (g i)) = NU) (o : Fin n → Fin 128) :
    Step m K c iprop(ow F c (Ow c 24 20 20) ∗ bigSep Finset.univ fun i => due F c (g i)) iprop(ow F c (Ow c 24 20 20) ∗ bigSep Finset.univ fun i => got m c (g i))
      (loop n fun i => waitO (dsem (g i)) (o i)) :=
  stage_waits g _ fun i => step_waitO (g i) (hg i) (o i) _ (end_wait _)

end Cert.Exchange

end
-- ==== Proof.Body.lean ====
/- The body, from what a device starts with to what it ends with. -/
module

public import proofs.«01_k».proof.Proof.Stages

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fam → ℕ) (c : Dev nD)

/-! ## Dealing and gathering -/

theorem all_mono {I : Type} [Fintype I] {Φ Ψ : I → sProp 𝕄} (h : ∀ i, Φ i ⊢ Ψ i) : bigSep Finset.univ Φ ⊢ bigSep Finset.univ Ψ :=
  bigSep_mono fun i _ => h i

theorem due_split {I : Type} [Fintype I] (g : I → DFam) :
    (bigSep Finset.univ fun i => due F c (g i)) = iprop((bigSep Finset.univ fun i => crd F c (.inr (g i))) ∗ bigSep Finset.univ fun i => pos F c (.inr (g i))) :=
  bigSep_sep' _ _ _
theorem got_split {I : Type} [Fintype I] (g : I → DFam) :
    (bigSep Finset.univ fun i => got m c (g i)) = iprop((bigSep Finset.univ fun i => dPay m c (g i)) ∗ bigSep Finset.univ fun i => zero F c (.inr (g i))) :=
  bigSep_sep' _ _ _

theorem deal_order (Φ : Fin 16 → sProp 𝕄) :
    bigSep Finset.univ Φ = iprop((bigSep Finset.univ fun i => Φ (order (qQ c) (c6 i))) ∗ bigSep Finset.univ fun i => Φ (order (qQ c) (c10 i))) :=
  deal2 (fun i => order (qQ c) (c6 i)) (fun i => order (qQ c) (c10 i)) (bij_order6 _) Φ
theorem deal_needed (Φ : Fin 16 → sProp 𝕄) :
    bigSep Finset.univ Φ = iprop((bigSep Finset.univ fun v => Φ (needed (qQ c) v)) ∗ bigSep Finset.univ fun i => Φ (order (qQ c) (c10 i))) :=
  deal2 (needed (qQ c)) (fun i => order (qQ c) (c10 i)) (bij_needed _) Φ
theorem deal24 (Φ : Fin 24 → sProp 𝕄) :
    bigSep Finset.univ Φ = iprop((bigSep Finset.univ fun i => Φ (y16 (c6 i))) ∗ (bigSep Finset.univ fun i => Φ (y16 (c10 i))) ∗ bigSep Finset.univ fun i => Φ (y8 i)) :=
  deal3 (fun i => y16 (c6 i)) (fun i => y16 (c10 i)) y8 bij24 Φ
theorem deal20 (Φ : Fin 20 → sProp 𝕄) :
    bigSep Finset.univ Φ = iprop((bigSep Finset.univ fun i => Φ (x16 (c6 i))) ∗ (bigSep Finset.univ fun i => Φ (x16 (c10 i))) ∗ bigSep Finset.univ fun i => Φ (x4 i)) :=
  deal3 (fun i => x16 (c6 i)) (fun i => x16 (c10 i)) x4 bij20 Φ
theorem deal_pairs (Φ : Fin 24 → sProp 𝕄) :
    bigSep Finset.univ Φ = bigSep Finset.univ fun v : Fin 6 => bigSep Finset.univ fun w : Fin 4 => Φ (f6 v w) :=
  (deal (fun x : Fin 6 × Fin 4 => f6 x.1 x.2) bij_f6 Φ).trans (bigSep_univ_prod _)
abbrev xl : Fin 12 → Fin 20 := lo (by decide)
abbrev zl : Fin 8 → Fin 20 := lo (by decide)
theorem dealX (Φ : Fin 20 → sProp 𝕄) :
    bigSep Finset.univ Φ = iprop((bigSep Finset.univ fun i => Φ (xl i)) ∗ (bigSep Finset.univ fun i => Φ (x12 i)) ∗ bigSep Finset.univ fun i => Φ (x4 i)) :=
  deal3 xl x12 x4 bijX Φ
theorem dealZ (Φ : Fin 20 → sProp 𝕄) :
    bigSep Finset.univ Φ = iprop((bigSep Finset.univ fun i => Φ (zl i)) ∗ (bigSep Finset.univ fun i => Φ (x8 i)) ∗ (bigSep Finset.univ fun i => Φ (x12 i))
      ∗ bigSep Finset.univ fun i => Φ (x4 i)) :=
  deal4 zl x8 x12 x4 bijZ Φ

theorem fetch_dues :
    iprop((bigSep Finset.univ fun j => crd F c (.inr (gF j))) ∗ bigSep Finset.univ fun j => pos F c (.inr (gF j)))
      ⊢ iprop((bigSep Finset.univ fun v => due F c (gF (needed (qQ c) v))) ∗ bigSep Finset.univ fun i => due F c (gF (order (qQ c) (c10 i)))) :=
  Entails.of_eq ((due_split c gF).symm.trans (deal_needed c fun j => due F c (gF j)))
theorem cast_in :
    iprop((bigSep Finset.univ fun v => due F c (gF (needed (qQ c) v))) ∗ bigSep Finset.univ fun u => iprop(∃ f, bPt c u f))
      ⊢ bigSep Finset.univ fun v : Fin 6 => iprop(due F c (gF (needed (qQ c) v)) ∗ bigSep Finset.univ fun w => iprop(∃ f, bPt c (f6 v w) f)) := by
  rw [bigSep_sep', deal_pairs fun u => iprop(∃ f, bPt c u f)]
/-- The fetched chunks: the argument and its copy. -/
theorem fetched_split {I : Type} [Fintype I] (p : I → Fin 16) : (bigSep Finset.univ fun i => got m c (gF (p i)))
    = iprop(((bigSep Finset.univ fun i => xPt c (p i) (xin m c)) ∗ bigSep Finset.univ fun i => hPt c (p i) (xin m c)) ∗ bigSep Finset.univ fun i => zero F c (.inr (gF (p i)))) := by
  rw [got_split]
  exact congrArg (fun R => iprop(R ∗ _)) (bigSep_sep' _ (fun i => xPt c (p i) (xin m c)) fun i => hPt c (p i) (xin m c))
theorem cast_out :
    (bigSep Finset.univ fun v : Fin 6 => iprop(got m c (gF (needed (qQ c) v)) ∗ bigSep Finset.univ fun w => bPt c (f6 v w) (sendC m c)))
      ⊢ iprop((((bigSep Finset.univ fun i => xPt c (order (qQ c) (c6 i)) (xin m c)) ∗ bigSep Finset.univ fun i => hPt c (order (qQ c) (c6 i)) (xin m c))
          ∗ bigSep Finset.univ fun i => zero F c (.inr (gF (order (qQ c) (c6 i))))) ∗ bigSep Finset.univ fun u => bPt c u (sendC m c)) := by
  rw [bigSep_sep', deal_pairs fun u => bPt c u (sendC m c), needed_as_order (qQ c) fun j => got m c (gF j), ← fetched_split]
theorem sendY_in :
    iprop((bigSep Finset.univ fun u => bPt c u (sendC m c)) ∗ barPay c 0 ∗ bigSep Finset.univ fun u => iprop(tok F c (.inr (gYs u)) 0 ∗ tok F (pY c) (.inr (gYr u)) 0))
      ⊢ bigSep Finset.univ fun u => iprop(bPt c u (sendC m c) ∗ toY F c u) := by
  unfold toY
  simp only [bigSep_sep']
  exact BIBase.Entails.refl
theorem toX_in : iprop(barPay c 1 ∗ bigSep Finset.univ fun i => iprop(tok F c (.inr (gXs i)) 0 ∗ tok F (pX c) (.inr (gXr i)) 0))
    ⊢ iprop((bigSep Finset.univ fun i => toX F c (x16 (c6 i))) ∗ (bigSep Finset.univ fun i => toX F c (x16 (c10 i))) ∗ bigSep Finset.univ fun i => toX F c (x4 i)) := by
  rw [← deal20]
  unfold toX
  rw [bigSep_sep' _ (fun i => oAny (pX c) (xrU (pX c) i))]
  exact BIBase.Entails.refl
theorem toZ_in : iprop(barPay c 2 ∗ bigSep Finset.univ fun i => iprop(tok F c (.inr (gZs i)) 0 ∗ tok F (pZ c) (.inr (gZr i)) 0))
    ⊢ iprop((bigSep Finset.univ fun i => toZ F c (x16 (c6 i))) ∗ (bigSep Finset.univ fun i => toZ F c (x16 (c10 i))) ∗ bigSep Finset.univ fun i => toZ F c (x4 i)) := by
  rw [← deal20]
  unfold toZ
  rw [bigSep_sep' _ (fun i => oAny (pZ c) (zrU (pZ c) i))]
  exact BIBase.Entails.refl
theorem rel_in {n : ℕ} (p : Fin n → Fin 16) (R S : Fin n → sProp 𝕄) :
    iprop((bigSep Finset.univ fun i => due F c (gYr (y16 (p i)))) ∗ (bigSep Finset.univ fun i => toX F c (x16 (p i))) ∗ (bigSep Finset.univ fun i => toZ F c (x16 (p i)))
        ∗ bigSep Finset.univ R ∗ bigSep Finset.univ S)
      ⊢ bigSep Finset.univ fun i => iprop(relIn F c (p i) ∗ R i ∗ S i) := by
  unfold relIn
  simp only [bigSep_sep']
  iintro ⟨H1, H2, H3, H4, H5⟩
  isplitl [H1 H2 H3]
  · isplitl [H1]; · iexact H1
    isplitl [H2] <;> iassumption
  isplitl [H4] <;> iassumption
theorem rel_out {n : ℕ} (p : Fin n → Fin 16) (R S : Fin n → sProp 𝕄) :
    (bigSep Finset.univ fun i => iprop(relOut F c (p i) ∗ R i ∗ S i))
      ⊢ iprop(((bigSep Finset.univ fun i => zero F c (.inr (gYr (y16 (p i))))) ∗ (bigSep Finset.univ fun i => crd F c (.inr (gXs (x16 (p i)))))
        ∗ bigSep Finset.univ fun i => crd F c (.inr (gZs (x16 (p i))))) ∗ bigSep Finset.univ R ∗ bigSep Finset.univ S) := by
  unfold relOut
  simp only [bigSep_sep']
  exact BIBase.Entails.refl
theorem sends_dueX :
    iprop((bigSep Finset.univ fun i => crd F c (.inr (gXs (x16 (c6 i))))) ∗ (bigSep Finset.univ fun i => crd F c (.inr (gXs (x16 (c10 i)))))
        ∗ (bigSep Finset.univ fun i => crd F c (.inr (gXs (x4 i)))) ∗ bigSep Finset.univ fun i => pos F c (.inr (gXs i)))
      ⊢ bigSep Finset.univ fun i => due F c (gXs i) := by
  rw [due_split, deal20 fun i => crd F c (.inr (gXs i))]
  iintro ⟨H1, H2, H3, H4⟩
  isplitl [H1 H2 H3]
  · isplitl [H1]; · iexact H1
    isplitl [H2] <;> iassumption
  iexact H4
theorem sends_dueZ :
    iprop((bigSep Finset.univ fun i => crd F c (.inr (gZs (x16 (c6 i))))) ∗ (bigSep Finset.univ fun i => crd F c (.inr (gZs (x16 (c10 i)))))
        ∗ (bigSep Finset.univ fun i => crd F c (.inr (gZs (x4 i)))) ∗ bigSep Finset.univ fun i => pos F c (.inr (gZs i)))
      ⊢ bigSep Finset.univ fun i => due F c (gZs i) := by
  rw [due_split, deal20 fun i => crd F c (.inr (gZs i))]
  iintro ⟨H1, H2, H3, H4⟩
  isplitl [H1 H2 H3]
  · isplitl [H1]; · iexact H1
    isplitl [H2] <;> iassumption
  iexact H4

/-- The units received, gathered: the own quarter's from the two halves lent to the sends, the passed-on ones from their sends. -/
theorem gather_units (f : (⟨S4096x512, .bf16⟩ : BufTy).Contents (Elt F)) :
    iprop((bigSep Finset.univ fun i => oPt c (xsU c i) (shX i) f) ∗ (bigSep Finset.univ fun i => oPt c (zsU c i) (shZ i) f)
        ∗ (bigSep Finset.univ fun i => oPt c (yrU c (y8 i)) fullShare f)
        ∗ (bigSep Finset.univ fun i => oPt c (xrU c (xl i)) fullShare f) ∗ (bigSep Finset.univ fun i => oPt c (xrU c (x4 i)) fullShare f)
        ∗ (bigSep Finset.univ fun i => oPt c (zrU c (zl i)) fullShare f) ∗ (bigSep Finset.univ fun i => oPt c (zrU c (x12 i)) fullShare f)
        ∗ (bigSep Finset.univ fun i => oPt c (zrU c (x4 i)) fullShare f))
      ⊢ iprop((bigSep Finset.univ fun u => oPt c (yrU c u) fullShare f) ∗ (bigSep Finset.univ fun i => oPt c (xrU c i) fullShare f)
        ∗ bigSep Finset.univ fun i => oPt c (zrU c i) fullShare f) := by
  rw [deal2 x16 x4 bij20' fun i => oPt c (xsU c i) (shX i) f, deal2 x16 x4 bij20' fun i => oPt c (zsU c i) (shZ i) f,
    deal2 y16 y8 bij24' fun u => oPt c (yrU c u) fullShare f, dealX fun i => oPt c (xrU c i) fullShare f, dealZ fun i => oPt c (zrU c i) fullShare f]
  have hx : (fun j : Fin 4 => oPt c (xsU c (x4 j)) (shX (x4 j)) f) = fun j => (oPt c (zrU c (x8 j)) fullShare f : sProp 𝕄) :=
    funext fun j => by rw [passX, shX_hi]
  have hz : (fun j : Fin 4 => oPt c (zsU c (x4 j)) (shZ (x4 j)) f) = fun j => (oPt c (xrU c (x12 j)) fullShare f : sProp 𝕄) :=
    funext fun j => by rw [passZ, shZ_hi]
  rw [hx, hz]
  have hh : iprop((bigSep Finset.univ fun i => oPt c (xsU c (x16 i)) (shX (x16 i)) f) ∗ bigSep Finset.univ fun i => oPt c (zsU c (x16 i)) (shZ (x16 i)) f)
      ⊢ (bigSep Finset.univ fun i => oPt c (yrU c (y16 i)) fullShare f : sProp 𝕄) := by
    rw [← bigSep_sep']; exact all_mono fun i => (halves i f).2
  iintro ⟨⟨Hx, Hx4⟩, ⟨Hz, Hz4⟩, Hy8, Hxl, Hxr, Hzl, Hz12, Hzr⟩
  isplitl [Hx Hz Hy8]
  · isplitl [Hx Hz]
    · iapply hh; isplitl [Hx] <;> iassumption
    iexact Hy8
  isplitl [Hxl Hz4 Hxr]
  · isplitl [Hxl]; · iexact Hxl
    isplitl [Hz4] <;> iassumption
  isplitl [Hzl]; · iexact Hzl
  isplitl [Hx4]; · iexact Hx4
  isplitl [Hz12] <;> iassumption

theorem all_DFam (Φ : DFam → sProp 𝕄) : bigSep Finset.univ Φ
    = iprop((bigSep Finset.univ fun i => Φ (gF i)) ∗ (bigSep Finset.univ fun i => Φ (gYs i)) ∗ (bigSep Finset.univ fun i => Φ (gYr i))
      ∗ (bigSep Finset.univ fun i => Φ (gXs i)) ∗ (bigSep Finset.univ fun i => Φ (gXr i)) ∗ (bigSep Finset.univ fun i => Φ (gZs i)) ∗ bigSep Finset.univ fun i => Φ (gZr i)) := by
  rw [bigSep_univ_sum, bigSep_univ_sum, bigSep_univ_sum, bigSep_univ_sum, bigSep_univ_sum, bigSep_univ_sum]; rfl

/-! ## The body -/

/-- The buffers at the start: the units of the result the partners will write, the chunks to fetch, the send buffer, the half kept. -/
def bufsIn : sProp 𝕄 :=
  iprop((bigSep Finset.univ fun u => oAny c (yrU c u)) ∗ (bigSep Finset.univ fun i => oAny c (xrU c i)) ∗ (bigSep Finset.univ fun i => oAny c (zrU c i))
    ∗ (bigSep Finset.univ fun j => hPt c j (xin m c)) ∗ (bigSep Finset.univ fun j => iprop(∃ f, xPt c j f))
    ∗ (bigSep Finset.univ fun u => iprop(∃ f, bPt c u f)) ∗ bigSep Finset.univ fun j => iprop(∃ f, kPt c j f))
/-- The tokens of the duties the device pays. -/
def toks : sProp 𝕄 :=
  iprop(tok F (pY c) (.inl ()) 0 ∗ tok F (pX c) (.inl ()) 1 ∗ tok F (pZ c) (.inl ()) 2
    ∗ (bigSep Finset.univ fun j => tok F c (.inr (gF j)) 0)
    ∗ (bigSep Finset.univ fun u => iprop(tok F c (.inr (gYs u)) 0 ∗ tok F (pY c) (.inr (gYr u)) 0))
    ∗ (bigSep Finset.univ fun i => iprop(tok F c (.inr (gXs i)) 0 ∗ tok F (pX c) (.inr (gXr i)) 0))
    ∗ bigSep Finset.univ fun i => iprop(tok F c (.inr (gZs i)) 0 ∗ tok F (pZ c) (.inr (gZr i)) 0))
/-- The credits it waits with. -/
def creds : sProp 𝕄 :=
  iprop(cred (tallyAt (cell c (.inl ())) () 3) ∗ (bigSep Finset.univ fun u => crd F c (.inr (gYr u)))
    ∗ (bigSep Finset.univ fun i => crd F c (.inr (gXr i))) ∗ bigSep Finset.univ fun i => crd F c (.inr (gZr i)))
/-- Its positions at its cells. -/
def poss : sProp 𝕄 := iprop(pos F c (.inl ()) ∗ bigSep Finset.univ fun g : DFam => pos F c (.inr g))

/-- The buffers at the end. -/
def bufsOut : sProp 𝕄 :=
  iprop((bigSep Finset.univ fun u => oPt c (yrU c u) fullShare (outC m c)) ∗ (bigSep Finset.univ fun i => oPt c (xrU c i) fullShare (outC m c))
    ∗ (bigSep Finset.univ fun i => oPt c (zrU c i) fullShare (outC m c))
    ∗ (bigSep Finset.univ fun j => hPt c j (xin m c)) ∗ (bigSep Finset.univ fun j => xPt c j (xin m c))
    ∗ (bigSep Finset.univ fun u => bPt c u (sendC m c)) ∗ bigSep Finset.univ fun j => kPt c j (outC m c))
/-- All its cells closed. -/
def zeros : sProp 𝕄 := iprop(zero F c (.inl ()) ∗ bigSep Finset.univ fun g : DFam => zero F c (.inr g))

variable {m K c}

theorem step_signals :
    Step m K c iprop(ow F c (O₀ c) ∗ (tok F (pY c) (.inl ()) 0 ∗ tok F (pX c) (.inl ()) 1 ∗ tok F (pZ c) (.inl ()) 2)
        ∗ (bigSep Finset.univ fun u => oAny c (yrU c u)) ∗ (bigSep Finset.univ fun i => oAny c (xrU c i)) ∗ (bigSep Finset.univ fun i => oAny c (zrU c i)))
      (ow F c (Ow c 0 0 0)) (fun k => signalTo (pY c) <| signalTo (pX c) <| signalTo (pZ c) k) := fun k Kt => by
  unfold O₀
  have hY : (bigSep Finset.univ fun u => oAny c (yrU c u)) ⊢ (barPay (pY c) 0 : sProp 𝕄) := by
    show _ ⊢ bigSep Finset.univ fun u : Fin 24 => oAny (pY (pY c)) (yrU (pY (pY c)) u); rw [pY_pY]
  have hX : (bigSep Finset.univ fun u => oAny c (xrU c u)) ⊢ (barPay (pX c) 1 : sProp 𝕄) := by
    show _ ⊢ bigSep Finset.univ fun u : Fin 20 => oAny (pX (pX c)) (xrU (pX (pX c)) u); rw [pX_pX]
  have hZ : (bigSep Finset.univ fun u => oAny c (zrU c u)) ⊢ (barPay (pZ c) 2 : sProp 𝕄) := by
    show _ ⊢ bigSep Finset.univ fun u : Fin 20 => oAny (pZ (pZ c)) (zrU (pZ (pZ c)) u); rw [pZ_pZ]
  iintro ⟨#HC, HO, ⟨HtY, HtX, HtZ⟩, HY, HX, HZ⟩ Hk
  iapply (step_signal (pY c) 0 _ _ Kt) $$ [HO HtY HY]
  · isplitr; · iexact HC
    isplitl [HO]; · iexact HO
    isplitl [HtY]; · iexact HtY
    iapply hY; iexact HY
  iintro HO
  iapply (step_signal (pX c) 1 _ _ Kt) $$ [HO HtX HX]
  · isplitr; · iexact HC
    isplitl [HO]; · iexact HO
    isplitl [HtX]; · iexact HtX
    iapply hX; iexact HX
  iintro HO
  iapply (step_signal (pZ c) 2 _ _ Kt) $$ [HO HtZ HZ]
  · isplitr; · iexact HC
    isplitl [HO]; · iexact HO
    isplitl [HtZ]; · iexact HtZ
    iapply hZ; iexact HZ
  iexact Hk

set_option maxHeartbeats 1600000 in
theorem step_body :
    Step m K c iprop(ow F c (O₀ c) ∗ bufsIn m c ∗ toks c ∗ creds c ∗ poss c) iprop(ow F c (Ow c 24 20 20) ∗ bufsOut m c ∗ zeros c)
      (fun k => signalTo (pY c) <| signalTo (pX c) <| signalTo (pZ c) <| seq (qQ c) (hY c) (pY c) (pX c) (pZ c) k) := fun k Kt => by
  unfold bufsIn toks creds poss bufsOut zeros
  rw [all_DFam fun g => pos F c (.inr g), all_DFam fun g => zero F c (.inr g)]
  iintro ⟨#HC, HO, ⟨HoY, HoX, HoZ, Hh, Hx, Hb, Hk0⟩, ⟨HtY, HtX, HtZ, HtF, HtsY, HtsX, HtsZ⟩, ⟨HcB, HcY, HcX, HcZ⟩, ⟨HpB, HpF, HpYs, HpYr, HpXs, HpXr, HpZs, HpZr⟩⟩ Hk
  iapply (step_signals (m := m) (K := K) (c := c) _ Kt) $$ [HO HtY HtX HtZ HoY HoX HoZ]
  · isplitr; · iexact HC
    isplitl [HO]; · iexact HO
    isplitl [HtY HtX HtZ]
    · isplitl [HtY]; · iexact HtY
      isplitl [HtX] <;> iassumption
    isplitl [HoY]; · iexact HoY
    isplitl [HoX] <;> iassumption
  iintro HO
  unfold seq
  -- the fetches
  iapply (stage_fetch (m := m) (K := K) (c := c) (Ow c 0 0 0) _ Kt) $$ [HO Hh Hx HtF]
  · isplitr; · iexact HC
    isplitl [HO]; · iexact HO
    unfold toFetch
    simp only [bigSep_sep']
    isplitl [Hh]; · iexact Hh
    isplitl [Hx] <;> iassumption
  iintro ⟨HO, HcF⟩
  ihave HF := (fetch_dues c) $$ [HcF HpF]
  · isplitl [HcF] <;> iassumption
  icases HF with ⟨HF6, HF10⟩
  -- the chunks needed first
  ihave HF6 := (cast_in c) $$ [HF6 Hb]
  · isplitl [HF6] <;> iassumption
  iapply (stage_cast (m := m) (K := K) (c := c) _ Kt) $$ [HO HF6]
  · isplitr; · iexact HC
    isplitl [HO] <;> iassumption
  iintro ⟨HO, HF6⟩
  ihave HF6 := (cast_out m c) $$ HF6
  icases HF6 with ⟨⟨⟨Hx6, Hh6⟩, HzF6⟩, Hb⟩
  -- the barrier
  iapply (step_barrier (m := m) (K := K) (c := c) (Ow c 0 0 0) bar_wait _ Kt) $$ [HO HcB HpB]
  · isplitr; · iexact HC
    isplitl [HO]; · iexact HO
    isplitl [HcB] <;> iassumption
  iintro ⟨HO, ⟨HoY, HoX, HoZ⟩, HzB⟩
  -- the sends along y
  ihave Hb := (sendY_in m c) $$ [Hb HoY HtsY]
  · isplitl [Hb]; · iexact Hb
    isplitl [HoY] <;> iassumption
  iapply (stage_sendY (m := m) (K := K) (c := c) _ Kt) $$ [HO Hb]
  · isplitr; · iexact HC
    isplitl [HO] <;> iassumption
  iintro ⟨HO, HcYs⟩
  ihave HtX := (toX_in c) $$ [HoX HtsX]
  · isplitl [HoX] <;> iassumption
  icases HtX with ⟨HtX6, HtX10, HtX4⟩
  ihave HtZ := (toZ_in c) $$ [HoZ HtsZ]
  · isplitl [HoZ] <;> iassumption
  icases HtZ with ⟨HtZ6, HtZ10, HtZ4⟩
  ihave HY := (Entails.of_eq ((due_split c gYr).symm.trans (deal24 fun u => due F c (gYr u)))) $$ [HcY HpYr]
  · isplitl [HcY] <;> iassumption
  icases HY with ⟨HY6, HY10, HY8⟩
  ihave HXr := (Entails.of_eq ((due_split c gXr).symm.trans (dealX fun u => due F c (gXr u)))) $$ [HcX HpXr]
  · isplitl [HcX] <;> iassumption
  icases HXr with ⟨HXl, HX12, HX4⟩
  ihave HZr := (Entails.of_eq ((due_split c gZr).symm.trans (dealZ fun u => due F c (gZr u)))) $$ [HcZ HpZr]
  · isplitl [HcZ] <;> iassumption
  icases HZr with ⟨HZl, HZ8, HZ12, HZ4⟩
  ihave Hk0 := (Entails.of_eq (deal_order c fun j => iprop(∃ f, kPt c j f))) $$ Hk0
  icases Hk0 with ⟨Hk6, Hk10⟩
  -- the own quarter, both ways
  ihave HR := (rel_in c c6 (fun i => xPt c (order (qQ c) (c6 i)) (xin m c)) fun i => iprop(∃ f, kPt c (order (qQ c) (c6 i)) f)) $$ [HY6 HtX6 HtZ6 Hx6 Hk6]
  · isplitl [HY6]; · iexact HY6
    isplitl [HtX6]; · iexact HtX6
    isplitl [HtZ6]; · iexact HtZ6
    isplitl [Hx6] <;> iassumption
  iapply (stage_relay6 (m := m) (K := K) (c := c) _ Kt) $$ [HO HR]
  · isplitr; · iexact HC
    isplitl [HO] <;> iassumption
  iintro ⟨HO, HR⟩
  ihave HR := (rel_out c c6 (fun i => xPt c (order (qQ c) (c6 i)) (xin m c)) fun i => kPt c (order (qQ c) (c6 i)) (outC m c)) $$ HR
  icases HR with ⟨⟨HzY6, HcX6, HcZ6⟩, Hx6, Hk6⟩
  ihave HR := (rel_in c c10 (fun i => due F c (gF (order (qQ c) (c10 i)))) fun i => iprop(∃ f, kPt c (order (qQ c) (c10 i)) f)) $$ [HY10 HtX10 HtZ10 HF10 Hk10]
  · isplitl [HY10]; · iexact HY10
    isplitl [HtX10]; · iexact HtX10
    isplitl [HtZ10]; · iexact HtZ10
    isplitl [HF10] <;> iassumption
  iapply (stage_relay10 (m := m) (K := K) (c := c) _ Kt) $$ [HO HR]
  · isplitr; · iexact HC
    isplitl [HO] <;> iassumption
  iintro ⟨HO, HR⟩
  ihave HR := (rel_out c c10 (fun i => got m c (gF (order (qQ c) (c10 i)))) fun i => kPt c (order (qQ c) (c10 i)) (outC m c)) $$ HR
  icases HR with ⟨⟨HzY10, HcX10, HcZ10⟩, HF10, Hk10⟩
  ihave HF10 := (Entails.of_eq (fetched_split m c fun i => order (qQ c) (c10 i))) $$ HF10
  icases HF10 with ⟨⟨Hx10, Hh10⟩, HzF10⟩
  -- the units passed on
  ihave HP := (Entails.of_eq (bigSep_sep' Finset.univ (fun j => due F c (gZr (x8 j))) fun j => toX F c (x4 j)).symm) $$ [HZ8 HtX4]
  · isplitl [HZ8] <;> iassumption
  iapply (stage_passX (m := m) (K := K) (c := c) _ Kt) $$ [HO HP]
  · isplitr; · iexact HC
    isplitl [HO] <;> iassumption
  iintro ⟨HO, HP⟩
  ihave HP := (Entails.of_eq (bigSep_sep' Finset.univ (fun j => zero F c (.inr (gZr (x8 j)))) fun j => crd F c (.inr (gXs (x4 j))))) $$ HP
  icases HP with ⟨HzZ8, HcX4⟩
  ihave HP := (Entails.of_eq (bigSep_sep' Finset.univ (fun j => due F c (gXr (x12 j))) fun j => toZ F c (x4 j)).symm) $$ [HX12 HtZ4]
  · isplitl [HX12] <;> iassumption
  iapply (stage_passZ (m := m) (K := K) (c := c) _ Kt) $$ [HO HP]
  · isplitr; · iexact HC
    isplitl [HO] <;> iassumption
  iintro ⟨HO, HP⟩
  ihave HP := (Entails.of_eq (bigSep_sep' Finset.univ (fun j => zero F c (.inr (gXr (x12 j)))) fun j => crd F c (.inr (gZs (x4 j))))) $$ HP
  icases HP with ⟨HzX12, HcZ4⟩
  -- the closing waits
  ihave HD := (Entails.of_eq (due_split c gYs).symm) $$ [HcYs HpYs]
  · isplitl [HcYs] <;> iassumption
  iapply (stage_endB' (m := m) (K := K) (c := c) gYs (fun _ => rfl) (fun u => u) (fun u => outOf (hY c) (yUnit (qQ c) u)) _ Kt) $$ [HO HD]
  · isplitr; · iexact HC
    isplitl [HO] <;> iassumption
  iintro ⟨HO, HD⟩
  ihave HD := (Entails.of_eq (got_split m c gYs)) $$ HD
  icases HD with ⟨Hb, HzYs⟩
  ihave HD := (sends_dueX c) $$ [HcX6 HcX10 HcX4 HpXs]
  · isplitl [HcX6]; · iexact HcX6
    isplitl [HcX10]; · iexact HcX10
    isplitl [HcX4] <;> iassumption
  iapply (stage_endO (m := m) (K := K) (c := c) gXs (fun _ => rfl) (fun i => outOf (oth (hY c)) (xUnit (qQ c) i)) _ Kt) $$ [HO HD]
  · isplitr; · iexact HC
    isplitl [HO] <;> iassumption
  iintro ⟨HO, HD⟩
  ihave HD := (Entails.of_eq (got_split m c gXs)) $$ HD
  icases HD with ⟨HuXs, HzXs⟩
  ihave HD := (sends_dueZ c) $$ [HcZ6 HcZ10 HcZ4 HpZs]
  · isplitl [HcZ6]; · iexact HcZ6
    isplitl [HcZ10]; · iexact HcZ10
    isplitl [HcZ4] <;> iassumption
  iapply (stage_endO (m := m) (K := K) (c := c) gZs (fun _ => rfl) (fun i => outOf (oth (hY c)) (zUnit (qQ c) i)) _ Kt) $$ [HO HD]
  · isplitr; · iexact HC
    isplitl [HO] <;> iassumption
  iintro ⟨HO, HD⟩
  ihave HD := (Entails.of_eq (got_split m c gZs)) $$ HD
  icases HD with ⟨HuZs, HzZs⟩
  iapply (stage_endB (m := m) (K := K) (c := c) (fun j => gYr (y8 j)) (fun _ => rfl) (fun j => y8 j) (fun j => outOf (hY c) (yUnit (qQ c) (y8 j))) _ Kt) $$ [HO HY8]
  · isplitr; · iexact HC
    isplitl [HO] <;> iassumption
  iintro ⟨HO, HD⟩
  ihave HD := (Entails.of_eq (got_split m c fun j => gYr (y8 j))) $$ HD
  icases HD with ⟨HuY8, HzY8⟩
  iapply (stage_endO (m := m) (K := K) (c := c) (fun i => gXr (xl i)) (fun _ => rfl) (fun i => outOf (oth (hY c)) (xUnit (qQ c) (xl i))) _ Kt) $$ [HO HXl]
  · isplitr; · iexact HC
    isplitl [HO] <;> iassumption
  iintro ⟨HO, HD⟩
  ihave HD := (Entails.of_eq (got_split m c fun i => gXr (xl i))) $$ HD
  icases HD with ⟨HuXl, HzXl⟩
  iapply (stage_endO (m := m) (K := K) (c := c) (fun i => gXr (x4 i)) (fun _ => rfl) (fun i => outOf (oth (hY c)) (xUnit (qQ c) (x4 i))) _ Kt) $$ [HO HX4]
  · isplitr; · iexact HC
    isplitl [HO] <;> iassumption
  iintro ⟨HO, HD⟩
  ihave HD := (Entails.of_eq (got_split m c fun i => gXr (x4 i))) $$ HD
  icases HD with ⟨HuX4, HzX4⟩
  iapply (stage_endO (m := m) (K := K) (c := c) (fun i => gZr (zl i)) (fun _ => rfl) (fun i => outOf (oth (hY c)) (zUnit (qQ c) (zl i))) _ Kt) $$ [HO HZl]
  · isplitr; · iexact HC
    isplitl [HO] <;> iassumption
  iintro ⟨HO, HD⟩
  ihave HD := (Entails.of_eq (got_split m c fun i => gZr (zl i))) $$ HD
  icases HD with ⟨HuZl, HzZl⟩
  iapply (stage_endO (m := m) (K := K) (c := c) (fun i => gZr (x12 i)) (fun _ => rfl) (fun i => outOf (oth (hY c)) (zUnit (qQ c) (x12 i))) _ Kt) $$ [HO HZ12]
  · isplitr; · iexact HC
    isplitl [HO] <;> iassumption
  iintro ⟨HO, HD⟩
  ihave HD := (Entails.of_eq (got_split m c fun i => gZr (x12 i))) $$ HD
  icases HD with ⟨HuZ12, HzZ12⟩
  iapply (stage_endO (m := m) (K := K) (c := c) (fun i => gZr (x4 i)) (fun _ => rfl) (fun i => outOf (oth (hY c)) (zUnit (qQ c) (x4 i))) _ Kt) $$ [HO HZ4]
  · isplitr; · iexact HC
    isplitl [HO] <;> iassumption
  iintro ⟨HO, HD⟩
  ihave HD := (Entails.of_eq (got_split m c fun i => gZr (x4 i))) $$ HD
  icases HD with ⟨HuZ4, HzZ4⟩
  -- everything gathered
  ihave HU := (gather_units c (outC m c)) $$ [HuXs HuZs HuY8 HuXl HuX4 HuZl HuZ12 HuZ4]
  · isplitl [HuXs]; · iexact HuXs
    isplitl [HuZs]; · iexact HuZs
    isplitl [HuY8]; · iexact HuY8
    isplitl [HuXl]; · iexact HuXl
    isplitl [HuX4]; · iexact HuX4
    isplitl [HuZl]; · iexact HuZl
    isplitl [HuZ12]; · iexact HuZ12
    iexact HuZ4
  icases HU with ⟨HuY, HuX, HuZ⟩
  ihave Hh := (Entails.of_eq (deal_order c fun j => hPt c j (xin m c)).symm) $$ [Hh6 Hh10]
  · isplitl [Hh6] <;> iassumption
  ihave Hx := (Entails.of_eq (deal_order c fun j => xPt c j (xin m c)).symm) $$ [Hx6 Hx10]
  · isplitl [Hx6] <;> iassumption
  ihave Hkk := (Entails.of_eq (deal_order c fun j => kPt c j (outC m c)).symm) $$ [Hk6 Hk10]
  · isplitl [Hk6] <;> iassumption
  ihave HzF := (Entails.of_eq (deal_order c fun j => zero F c (.inr (gF j))).symm) $$ [HzF6 HzF10]
  · isplitl [HzF6] <;> iassumption
  ihave HzY := (Entails.of_eq (deal24 fun u => zero F c (.inr (gYr u))).symm) $$ [HzY6 HzY10 HzY8]
  · isplitl [HzY6]; · iexact HzY6
    isplitl [HzY10] <;> iassumption
  ihave HzX := (Entails.of_eq (dealX fun u => zero F c (.inr (gXr u))).symm) $$ [HzXl HzX12 HzX4]
  · isplitl [HzXl]; · iexact HzXl
    isplitl [HzX12] <;> iassumption
  ihave HzZ := (Entails.of_eq (dealZ fun u => zero F c (.inr (gZr u))).symm) $$ [HzZl HzZ8 HzZ12 HzZ4]
  · isplitl [HzZl]; · iexact HzZl
    isplitl [HzZ8]; · iexact HzZ8
    isplitl [HzZ12] <;> iassumption
  iapply Hk
  isplitl [HO]; · iexact HO
  isplitl [HuY HuX HuZ Hh Hx Hb Hkk]
  · isplitl [HuY]; · iexact HuY
    isplitl [HuX]; · iexact HuX
    isplitl [HuZ]; · iexact HuZ
    isplitl [Hh]; · iexact Hh
    isplitl [Hx]; · iexact Hx
    isplitl [Hb]; · iexact Hb
    iexact Hkk
  isplitl [HzB]; · iexact HzB
  isplitl [HzF]; · iexact HzF
  isplitl [HzYs]; · iexact HzYs
  isplitl [HzY]; · iexact HzY
  isplitl [HzXs]; · iexact HzXs
  isplitl [HzX]; · iexact HzX
  isplitl [HzZs]; · iexact HzZs
  iexact HzZ

end Cert.Exchange

end
-- ==== Proof.Pieces.lean ====
/- A device's buffers cut into the pieces the protocol hands over, and put together again. -/
module

public import proofs.«01_k».proof.Proof.Body

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A set of elements of a buffer, cut by a function `p` of the element. -/
theorem cut {ℓ : Loc nD τ sig} (S : Finset (Idx ℓ)) {I : Type} [Fintype I] [DecidableEq I] (T : I → Finset (Idx ℓ)) (p : Idx ℓ → I)
    (h : ∀ i x, x ∈ T i ↔ x ∈ S ∧ p x = i) (q : PosShare TreeShare) (f : Buf (Elt F) ℓ) :
    (ℓ ↦[S]{q} f : sProp 𝕄) = bigSep Finset.univ fun i => ℓ ↦[T i]{q} f := by
  classical
  rw [← pointsTo_biUnion Finset.univ T fun i _ j _ hij => Finset.disjoint_left.mpr fun x hx hy => hij (((h i x).mp hx).2.symm.trans ((h j x).mp hy).2)]
  congr 1
  ext x
  rw [Finset.mem_biUnion]
  exact ⟨fun hx => ⟨p x, Finset.mem_univ _, (h (p x) x).mpr ⟨hx, rfl⟩⟩, fun ⟨i, _, hi⟩ => ((h i x).mp hi).1⟩

/-! ## The rectangles' rows -/

theorem mem_rC (i : Fin 16) (x : S2048x1024.Idx) : x ∈ (rC i).set ↔ (x 0).1 / 128 = i.1 := by
  have h1 : (x 1).1 < 1024 := (x 1).2
  rw [Rect.mem_set_unit]
  constructor
  · intro h
    have : 128 * i.1 ≤ (x 0).1 ∧ (x 0).1 < 128 * i.1 + 128 := h 0
    omega
  · intro h (a : Fin 2)
    fin_cases a
    · show 128 * i.1 ≤ (x 0).1 ∧ (x 0).1 < 128 * i.1 + 128; omega
    · show 0 ≤ (x 1).1 ∧ (x 1).1 < 0 + 1024; omega
theorem mem_rB (i : Fin 24) (x : S768x512.Idx) : x ∈ (rB i).set ↔ (x 0).1 / 32 = i.1 := by
  have h1 : (x 1).1 < 512 := (x 1).2
  rw [Rect.mem_set_unit]
  constructor
  · intro h
    have : 32 * i.1 ≤ (x 0).1 ∧ (x 0).1 < 32 * i.1 + 32 := h 0
    omega
  · intro h (a : Fin 2)
    fin_cases a
    · show 32 * i.1 ≤ (x 0).1 ∧ (x 0).1 < 32 * i.1 + 32; omega
    · show 0 ≤ (x 1).1 ∧ (x 1).1 < 0 + 512; omega
theorem mem_rO (i : Fin 128) (x : S4096x512.Idx) : x ∈ (rO i).set ↔ (x 0).1 / 32 = i.1 := by
  have h1 : (x 1).1 < 512 := (x 1).2
  rw [Rect.mem_set_unit]
  constructor
  · intro h
    have : 32 * i.1 ≤ (x 0).1 ∧ (x 0).1 < 32 * i.1 + 32 := h 0
    omega
  · intro h (a : Fin 2)
    fin_cases a
    · show 32 * i.1 ≤ (x 0).1 ∧ (x 0).1 < 32 * i.1 + 32; omega
    · show 0 ≤ (x 1).1 ∧ (x 1).1 < 0 + 512; omega
theorem mem_rOL (i : Fin 16) (y : Fin 2) (x : S4096x512.Idx) : x ∈ (rOL i y).set ↔ (x 0).1 / 128 = 16 * y.1 + i.1 := by
  have h1 : (x 1).1 < 512 := (x 1).2
  rw [Rect.mem_set_unit]
  constructor
  · intro h
    have : 2048 * y.1 + 128 * i.1 ≤ (x 0).1 ∧ (x 0).1 < 2048 * y.1 + 128 * i.1 + 128 := h 0
    omega
  · intro h (a : Fin 2)
    fin_cases a
    · show 2048 * y.1 + 128 * i.1 ≤ (x 0).1 ∧ (x 0).1 < 2048 * y.1 + 128 * i.1 + 128; omega
    · show 0 ≤ (x 1).1 ∧ (x 1).1 < 0 + 512; omega

/-! ## The buffers -/

variable (c : Dev nD)

theorem cut_arg (f : (⟨S2048x1024, .f32⟩ : BufTy).Contents (Elt F)) :
    ((c : Thread nD τ).loc main_arg0 ↦{fullShare} f : sProp 𝕄) = bigSep Finset.univ fun i => hPt c i f :=
  cut (ℓ := (c : Thread nD τ).loc main_arg0) Finset.univ (fun i => (hC i).view.set)
    (fun x : S2048x1024.Idx => (⟨(x 0).1 / 128, by have : (x 0).1 < 2048 := (x 0).2; omega⟩ : Fin 16))
    (fun i x => by
      rw [show (hC i).view.set = (rC i).set from View.set_slice_whole main_arg0 (rC i)]
      exact (mem_rC i x).trans ⟨fun h => ⟨Finset.mem_univ _, Fin.ext h⟩, fun h => congrArg Fin.val h.2⟩) fullShare f
theorem cut_scratch (f : (⟨S2048x1024, .f32⟩ : BufTy).Contents (Elt F)) :
    ((c : Thread nD τ).loc cc0_scratch0 ↦{fullShare} f : sProp 𝕄) = bigSep Finset.univ fun i => xPt c i f :=
  cut (ℓ := (c : Thread nD τ).loc cc0_scratch0) Finset.univ (fun i => (xC i).view.set)
    (fun x : S2048x1024.Idx => (⟨(x 0).1 / 128, by have : (x 0).1 < 2048 := (x 0).2; omega⟩ : Fin 16))
    (fun i x => by
      rw [show (xC i).view.set = (rC i).set from View.set_slice_whole cc0_scratch0 (rC i)]
      exact (mem_rC i x).trans ⟨fun h => ⟨Finset.mem_univ _, Fin.ext h⟩, fun h => congrArg Fin.val h.2⟩) fullShare f
theorem cut_send (f : (⟨S768x512, .bf16⟩ : BufTy).Contents (Elt F)) :
    ((c : Thread nD τ).loc cc0_scratch1 ↦{fullShare} f : sProp 𝕄) = bigSep Finset.univ fun i => bPt c i f :=
  cut (ℓ := (c : Thread nD τ).loc cc0_scratch1) Finset.univ (fun i => (bU i).view.set)
    (fun x : S768x512.Idx => (⟨(x 0).1 / 32, by have : (x 0).1 < 768 := (x 0).2; omega⟩ : Fin 24))
    (fun i x => by
      rw [show (bU i).view.set = (rB i).set from View.set_slice_whole cc0_scratch1 (rB i)]
      exact (mem_rB i x).trans ⟨fun h => ⟨Finset.mem_univ _, Fin.ext h⟩, fun h => congrArg Fin.val h.2⟩) fullShare f
theorem cut_units (f : (⟨S4096x512, .bf16⟩ : BufTy).Contents (Elt F)) :
    ((c : Thread nD τ).loc cc0_stg0_0 ↦{fullShare} f : sProp 𝕄) = bigSep Finset.univ fun o => oPt c o fullShare f :=
  cut (ℓ := (c : Thread nD τ).loc cc0_stg0_0) Finset.univ (fun i => (oU i).view.set)
    (fun x : S4096x512.Idx => (⟨(x 0).1 / 32, by have : (x 0).1 < 4096 := (x 0).2; omega⟩ : Fin 128))
    (fun i x => by
      rw [show (oU i).view.set = (rO i).set from View.set_slice_whole cc0_stg0_0 (rO i)]
      exact (mem_rO i x).trans ⟨fun h => ⟨Finset.mem_univ _, Fin.ext h⟩, fun h => congrArg Fin.val h.2⟩) fullShare f
/-- Unit `w` of kept chunk `j`. -/
def keptU (c : Dev nD) (j : Fin 16) (w : Fin 4) : Fin 128 := outOf (hY c) ⟨4 * j.1 + w.1, by omega⟩
theorem cut_kept (j : Fin 16) (f : (⟨S4096x512, .bf16⟩ : BufTy).Contents (Elt F)) :
    (kPt c j f : sProp 𝕄) = bigSep Finset.univ fun w => oPt c (keptU c j w) fullShare f :=
  cut (ℓ := (c : Thread nD τ).loc cc0_stg0_0) (oM.access (rOL j (hY c))).set (fun w => (oU (keptU c j w)).view.set)
    (fun x : S4096x512.Idx => (⟨(x 0).1 / 32 % 4, Nat.mod_lt _ (by decide)⟩ : Fin 4))
    (fun i x => by
      rw [show (oU (keptU c j i)).view.set = (rO (keptU c j i)).set from View.set_slice_whole cc0_stg0_0 (rO (keptU c j i)),
        show (oM.access (rOL j (hY c))).set = (rOL j (hY c)).set from View.set_slice_whole cc0_stg0_0 (rOL j (hY c))]
      refine (mem_rO (keptU c j i) x).trans (Iff.trans ?_ (and_congr_left' (mem_rOL j (hY c) x)).symm)
      show (x 0).1 / 32 = 64 * (hY c).1 + (4 * j.1 + i.1) ↔ _
      rw [Fin.ext_iff]
      show _ ↔ _ ∧ (x 0).1 / 32 % 4 = i.1
      have := i.2
      omega) fullShare f

/-- The units received along y, x and z and those kept: every unit of the result once. -/
theorem units_inj : Function.Injective (Sum.elim (yrU c) (Sum.elim (xrU c) (Sum.elim (zrU c) fun x : Fin 16 × Fin 4 => keptU c x.1 x.2))) := by
  have h : ∀ (y : Fin 2) (Q : Fin 4), Function.Injective (Sum.elim (fun u => outOf (oth y) (yUnit Q u)) (Sum.elim (fun i => outOf (oth y) (xUnit (qx Q) i))
      (Sum.elim (fun i => outOf (oth y) (zUnit (qz Q) i)) fun x : Fin 16 × Fin 4 => outOf y ⟨4 * x.1.1 + x.2.1, by omega⟩))) := by
    decide +kernel
  exact h (hY c) (qQ c)
theorem units_bij : Function.Bijective (Sum.elim (yrU c) (Sum.elim (xrU c) (Sum.elim (zrU c) fun x : Fin 16 × Fin 4 => keptU c x.1 x.2))) :=
  (Fintype.bijective_iff_injective_and_card _).mpr ⟨units_inj c, by decide +kernel⟩

theorem cut_result (f : (⟨S4096x512, .bf16⟩ : BufTy).Contents (Elt F)) :
    ((c : Thread nD τ).loc cc0_stg0_0 ↦{fullShare} f : sProp 𝕄)
      = iprop((bigSep Finset.univ fun u => oPt c (yrU c u) fullShare f) ∗ (bigSep Finset.univ fun i => oPt c (xrU c i) fullShare f)
        ∗ (bigSep Finset.univ fun i => oPt c (zrU c i) fullShare f) ∗ bigSep Finset.univ fun j => kPt c j f) := by
  rw [cut_units, deal4 (yrU c) (xrU c) (zrU c) (fun x : Fin 16 × Fin 4 => keptU c x.1 x.2) (units_bij c) fun o => oPt c o fullShare f, bigSep_univ_prod]
  simp only [cut_kept]

/-- What the body starts with. -/
theorem bufs_in (m : (ℓ : Loc nD τ sig) → Buf (Elt F) ℓ) (c : Dev nD) :
    iprop((∃ f : (⟨S4096x512, .bf16⟩ : BufTy).Contents (Elt F), (c : Thread nD τ).loc cc0_stg0_0 ↦{fullShare} f)
        ∗ ((c : Thread nD τ).loc main_arg0 ↦{fullShare} xin m c)
        ∗ (∃ f : (⟨S2048x1024, .f32⟩ : BufTy).Contents (Elt F), (c : Thread nD τ).loc cc0_scratch0 ↦{fullShare} f)
        ∗ ∃ f : (⟨S768x512, .bf16⟩ : BufTy).Contents (Elt F), (c : Thread nD τ).loc cc0_scratch1 ↦{fullShare} f)
      ⊢ (bufsIn m c : sProp 𝕄) := by
  have ho (o : Fin 128) (f : (⟨S4096x512, .bf16⟩ : BufTy).Contents (Elt F)) : (oPt c o fullShare f : sProp 𝕄) ⊢ oAny c o := by
    unfold oAny; iintro H; iexists f; iexact H
  have hx (j : Fin 16) (f : (⟨S2048x1024, .f32⟩ : BufTy).Contents (Elt F)) : (xPt c j f : sProp 𝕄) ⊢ iprop(∃ f, xPt c j f) := by
    iintro H; iexists f; iexact H
  have hb (u : Fin 24) (f : (⟨S768x512, .bf16⟩ : BufTy).Contents (Elt F)) : (bPt c u f : sProp 𝕄) ⊢ iprop(∃ f, bPt c u f) := by
    iintro H; iexists f; iexact H
  have hk (j : Fin 16) (f : (⟨S4096x512, .bf16⟩ : BufTy).Contents (Elt F)) : (kPt c j f : sProp 𝕄) ⊢ iprop(∃ f, kPt c j f) := by
    iintro H; iexists f; iexact H
  unfold bufsIn
  iintro ⟨⟨%fo, Ho⟩, Hh, ⟨%fx, Hx⟩, ⟨%fb, Hb⟩⟩
  ihave Ho := (Entails.of_eq (cut_result c fo)) $$ Ho
  icases Ho with ⟨Hy, Hxr, Hz, Hk⟩
  ihave Hh := (Entails.of_eq (cut_arg c (xin m c))) $$ Hh
  ihave Hx := (Entails.of_eq (cut_scratch c fx)) $$ Hx
  ihave Hb := (Entails.of_eq (cut_send c fb)) $$ Hb
  isplitl [Hy]; · iapply (all_mono fun u => ho (yrU c u) fo); iexact Hy
  isplitl [Hxr]; · iapply (all_mono fun u => ho (xrU c u) fo); iexact Hxr
  isplitl [Hz]; · iapply (all_mono fun u => ho (zrU c u) fo); iexact Hz
  isplitl [Hh]; · iexact Hh
  isplitl [Hx]; · iapply (all_mono fun j => hx j fx); iexact Hx
  isplitl [Hb]; · iapply (all_mono fun j => hb j fb); iexact Hb
  iapply (all_mono fun j => hk j fo); iexact Hk

/-- What it ends with. -/
theorem bufs_out (m : (ℓ : Loc nD τ sig) → Buf (Elt F) ℓ) (c : Dev nD) :
    (bufsOut m c : sProp 𝕄)
      ⊢ iprop(((c : Thread nD τ).loc cc0_stg0_0 ↦{fullShare} outC m c) ∗ ((c : Thread nD τ).loc main_arg0 ↦{fullShare} xin m c)
        ∗ ((c : Thread nD τ).loc cc0_scratch0 ↦{fullShare} xin m c) ∗ ((c : Thread nD τ).loc cc0_scratch1 ↦{fullShare} sendC m c)) := by
  unfold bufsOut
  iintro ⟨Hy, Hxr, Hz, Hh, Hx, Hb, Hk⟩
  isplitl [Hy Hxr Hz Hk]
  · iapply (Entails.of_eq (cut_result c (outC m c)).symm)
    isplitl [Hy]; · iexact Hy
    isplitl [Hxr]; · iexact Hxr
    isplitl [Hz] <;> iassumption
  isplitl [Hh]; · iapply (Entails.of_eq (cut_arg c (xin m c)).symm); iexact Hh
  isplitl [Hx]; · iapply (Entails.of_eq (cut_scratch c (xin m c)).symm); iexact Hx
  iapply (Entails.of_eq (cut_send c (sendC m c)).symm); iexact Hb

end Cert.Exchange

end
-- ==== Proof.Launch.lean ====
/- The launch: the invariants of all cells allocated, tokens and credits dealt to the devices that use them, the body
   run on every device, and the final memory read. -/
module

public import proofs.«01_k».proof.Proof.Pieces
public import Idealize.ShloMosaic.Lib.Quiescent
public import Idealize.ShloMosaic.Lib.Pipeline.CollectiveSegs

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

/-- Under several tallies a device's launch credit is the credit under each. -/
theorem credit_sum {I : Type} [DecidableEq I] (S : Finset I) (O : I → Dev nD → CellTallies nD τ sig Unit) (c : Dev nD) :
    (Pipeline.launchCred (fun d => ∑ i ∈ S, O i d) c : sProp 𝕄) = bigSep S fun i => Pipeline.launchCred (O i) c := by
  induction S using Finset.induction_on with
  | empty => simp only [Finset.sum_empty, bigSep_empty]; exact Pipeline.launchCred_zero c
  | insert i S hi ih =>
    simp only [Finset.sum_insert hi, bigSep_insert hi]
    rw [← ih]
    exact Pipeline.launchCred_add (O i) (fun d => ∑ j ∈ S, O j d) c
theorem credit_rest {n : ℕ} (t : Fin n → Dev nD → CellTallies nD τ sig Unit) (c : Dev nD) :
    (Pipeline.launchCred (fun d => rest (fun i => t i d) 0) c : sProp 𝕄) = bigSep Finset.univ fun i => Pipeline.launchCred (t i) c := by
  rw [← credit_sum]
  exact congrArg (fun O => Pipeline.launchCred O c) (funext fun d => Finset.sum_congr rfl fun i _ => if_pos (Nat.zero_le _))

/-- What partner `π c` owes a cell of device `c`, device `c` may wait for. -/
theorem credit_one (π : Dev nD ≃ Dev nD) (hπ : ∀ d, π (π d) = d) (f : Fam) (n : ℕ) (c : Dev nD) :
    (Pipeline.launchCred (fun d => tallyAt (cell (π d) f) () n) c : sProp 𝕄) ⊢ cred (tallyAt (cell c f) () n) := by
  have h : tallyOn (cell c f) (launchCredit (Pipeline.owing fun d => tallyAt (cell (π d) f) () n) 0 (cell c f)) = (tallyAt (cell c f) () n : CellTallies nD τ sig Unit) := by
    have he (d : Dev nD) : (tallyAt (cell (π d) f) () n : CellTallies nD τ sig Unit) (cell c f) () = if d = π c then n else 0 := by
      rw [tallyAt_apply]
      refine if_congr ⟨fun h => ?_, fun h => ?_⟩ rfl rfl
      · have := congrArg Prod.fst (cell_injective (a₁ := (c, f)) (a₂ := (π d, f)) h.1)
        have h2 : c = π d := this
        rw [h2, hπ]
      · rw [h, hπ]; exact ⟨rfl, rfl⟩
    unfold tallyAt; refine congrArg _ (Finsupp.ext fun u => ?_); cases u
    rw [Pipeline.launchCredit_owing, Finsupp.single_eq_same]
    refine (Finset.sum_congr rfl fun d _ => he d).trans ?_
    rw [Finset.sum_ite_eq' Finset.univ (π c) fun _ => n, if_pos (Finset.mem_univ _)]
  exact (Pipeline.launchCred_elim _ c (csem f)).trans (Entails.of_eq (congrArg cred h))

theorem launch_creds (c : Dev nD) : (Pipeline.launchCred O₀ c : sProp 𝕄) ⊢ creds c := by
  have e : (O₀ : Dev nD → CellTallies nD τ sig Unit) = fun d =>
      (((rest (fun u : Fin 24 => tl (pY d) (.inr (gYr u))) 0 + rest (fun i : Fin 20 => tl (pX d) (.inr (gXr i))) 0) + rest (fun i : Fin 20 => tl (pZ d) (.inr (gZr i))) 0)
        + tl (pZ d) (.inl ()) + tl (pX d) (.inl ())) + tl (pY d) (.inl ()) := rfl
  have hY (f : Fam) : (Pipeline.launchCred (fun d => tl (pY d) f) c : sProp 𝕄) ⊢ crd F c f := credit_one eY pY_pY f _ c
  have hX (f : Fam) : (Pipeline.launchCred (fun d => tl (pX d) f) c : sProp 𝕄) ⊢ crd F c f := credit_one eX pX_pX f _ c
  have hZ (f : Fam) : (Pipeline.launchCred (fun d => tl (pZ d) f) c : sProp 𝕄) ⊢ crd F c f := credit_one eZ pZ_pZ f _ c
  have h3 : (tallyAt (cell c (.inl ())) () 3 : CellTallies nD τ sig Unit) = tl c (.inl ()) + (tl c (.inl ()) + tl c (.inl ())) := by
    show _ = tallyAt (cell c (.inl ())) () 1 + (tallyAt (cell c (.inl ())) () 1 + tallyAt (cell c (.inl ())) () 1)
    rw [tallyAt_add, tallyAt_add]
  rw [e, Pipeline.launchCred_add, Pipeline.launchCred_add, Pipeline.launchCred_add, Pipeline.launchCred_add, Pipeline.launchCred_add,
    credit_rest fun (u : Fin 24) d => tl (pY d) (.inr (gYr u)), credit_rest fun (i : Fin 20) d => tl (pX d) (.inr (gXr i)),
    credit_rest fun (i : Fin 20) d => tl (pZ d) (.inr (gZr i))]
  unfold creds
  rw [h3]
  iintro ⟨⟨⟨⟨⟨Hy, Hx⟩, Hz⟩, HZ⟩, HX⟩, HY⟩
  isplitl [HZ HX HY]
  · iapply (cred_add (tl c (.inl ())) (tl c (.inl ()) + tl c (.inl ()))).2
    isplitl [HZ]; · iapply (hZ (.inl ())); iexact HZ
    iapply (cred_add (tl c (.inl ())) (tl c (.inl ()))).2
    isplitl [HX]; · iapply (hX (.inl ())); iexact HX
    iapply (hY (.inl ())); iexact HY
  isplitl [Hy]; · iapply (all_mono fun u => hY (.inr (gYr u))); iexact Hy
  isplitl [Hx]; · iapply (all_mono fun u => hX (.inr (gXr u))); iexact Hx
  iapply (all_mono fun u => hZ (.inr (gZr u))); iexact Hz

/-! ## Cells and tokens -/

abbrev osem (g : DFam) : SemLoc sig := .dma (dsem g)
theorem dsem_ne_stage (g : DFam) (q : DmaSem sig) (h : dfamOf q = none) : (SemLoc.dma (dsem g) : SemLoc sig) ≠ .dma q := fun e => by
  have e' : dsem g = q := by injection e
  rw [← e', dfamOf_dsem] at h; cases h
theorem ownSemFacts : Pipeline.OwnSemFacts cfg0.spec osem :=
  ⟨by intro g; rcases g with i | i | i | i | i | i | i <;> (revert i; decide),
    fun g g' h => by have := csem_injective (a₁ := .inr g) (a₂ := .inr g') h; injection this,
    fun g w s => dsem_ne_stage g _ (by revert s; fin_cases w; decide)⟩

def allCells : Finset (GSem nD τ sig) := Finset.univ.map ⟨fun x : Dev nD × Fam => cell x.1 x.2, cell_injective⟩
/-- The duties of a device's cells: the barrier's three, one of each copy. -/
abbrev tokOf (x : Dev nD × (Fin 3 ⊕ DFam)) : GSem nD τ sig × ℕ × Fin 3 := match x.2 with
  | .inl d => (cell x.1 (.inl ()), 0, d)
  | .inr g => (cell x.1 (.inr g), 0, 0)
theorem tokOf_injective : Function.Injective tokOf := by
  rintro ⟨c, j⟩ ⟨c', j'⟩ h
  have hc (f f' : Fam) (h : cell c f = cell c' f') : c = c' ∧ f = f' := by
    have := cell_injective (a₁ := (c, f)) (a₂ := (c', f')) h; injection this with a b; exact ⟨a, b⟩
  rcases j with d | g <;> rcases j' with d' | g'
  · have h1 := hc _ _ (congrArg Prod.fst h)
    have h2 : d = d' := congrArg (fun x : GSem nD τ sig × ℕ × Fin 3 => x.2.2) h
    rw [h1.1, h2]
  · have h1 := hc _ _ (congrArg Prod.fst h); cases h1.2
  · have h1 := hc _ _ (congrArg Prod.fst h); cases h1.2
  · have h1 := hc _ _ (congrArg Prod.fst h)
    have h2 : g = g' := by injection h1.2
    rw [h1.1, h2]
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The duty tokens of device `c`'s own cells. -/
def ownToks (c : Dev nD) : sProp 𝕄 := iprop((bigSep Finset.univ fun d => tok F c (.inl ()) d) ∗ bigSep Finset.univ fun g => tok F c (.inr g) 0)

/-- What the launch deals device `c`, and what is made of it. -/
def G (c : Dev nD) : sProp 𝕄 :=
  iprop((bigSep Finset.univ fun f : Fam => roundState ER (Rd m) (cell c f) 0)
    ∗ (bigSep Finset.univ fun f : Fam => pos F c f) ∗ (bigSep Finset.univ fun f : Fam => reached ER (cell c f) 0) ∗ ownToks c)
def G' (c : Dev nD) : sProp 𝕄 := iprop(∃ K, recs m K ∗ toks c ∗ poss c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun f : Fam => Φ (cell c f) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by unfold ownToks; rw [bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

theorem bigSep_unit (Φ : Unit → sProp 𝕄) : bigSep Finset.univ Φ = Φ () := bigSep_univ_eq_bigSepL [()] (by decide) (by decide) Φ
theorem unscopedSems0_eq (c : Dev nD) : (unscopedSems0 c : sProp 𝕄) = zero F c (.inl ()) := by
  unfold unscopedSems0; rw [bigSep_eq_bigSepL_of_eq [SemLoc.reg barS] (by decide) (by decide)]; rfl
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun f : Fam => zero F c f : sProp 𝕄) := by
  have e : (bigSep Finset.univ fun f : Fam => zero F c f) = iprop(zero F c (.inl ()) ∗ bigSep Finset.univ fun g : DFam => zero F c (.inr g)) := by
    rw [bigSep_univ_sum, bigSep_unit]; rfl
  unfold Pipeline.ownSems0
  rw [unscopedSems0_eq, e]
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun f : Fam => iprop(∃ κ : ℕ, cellInv ER (Rd m) κ (cell c f)))
          ∗ (bigSep Finset.univ fun f : Fam => pos F c f) ∗ (bigSep Finset.univ fun f : Fam => reached ER (cell c f) 0) ∗ ownToks c) := by
  unfold G
  iintro ⟨Hos, Hus, Hst, Hat, Hr, Htok⟩
  ihave Hv := (sems0_eq (F := F) c) $$ [Hos Hus]
  · isplitl [Hos] <;> iassumption
  imod (show iprop((bigSep Finset.univ fun f : Fam => zero F c f) ∗ bigSep Finset.univ fun f : Fam => roundState ER (Rd m) (cell c f) 0)
      ⊢ (|={Set.univ}=> bigSep Finset.univ fun f => iprop(∃ κ : ℕ, cellInv ER (Rd m) κ (cell c f)) : sProp 𝕄) from by
        rw [← bigSep_sep']
        exact (bigSep_mono fun f _ => (Rounds.body_intro ER (Rd m) (cell c f)).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

theorem around (e : Dev nD ≃ Dev nD) (Φ : Dev nD → sProp 𝕄) : bigSep Finset.univ Φ ⊢ bigSep Finset.univ fun c => Φ (e c) :=
  Entails.of_eq (bigSep_univ_equiv e Φ)

/-- The tokens dealt to the devices that pay the duties. -/
theorem toks_around : (bigSep Finset.univ fun c : Dev nD => (ownToks c : sProp 𝕄)) ⊢ bigSep Finset.univ fun c : Dev nD => toks c := by
  have e (c : Dev nD) : (bigSep Finset.univ fun d => tok F c (.inl ()) d) = iprop(tok F c (.inl ()) 0 ∗ tok F c (.inl ()) 1 ∗ tok F c (.inl ()) 2) :=
    bigSep_univ_eq_bigSepL [0, 1, 2] (by decide) (by decide) _
  unfold ownToks toks
  simp only [e, all_DFam, bigSep_sep']
  iintro ⟨⟨H0, H1, H2⟩, HF, HYs, HYr, HXs, HXr, HZs, HZr⟩
  isplitl [H0]; · iapply (around eY fun c => tok F c (.inl ()) 0); iexact H0
  isplitl [H1]; · iapply (around eX fun c => tok F c (.inl ()) 1); iexact H1
  isplitl [H2]; · iapply (around eZ fun c => tok F c (.inl ()) 2); iexact H2
  isplitl [HF]; · iexact HF
  isplitl [HYs HYr]
  · isplitl [HYs]; · iexact HYs
    iapply (around eY fun c => bigSep Finset.univ fun u => tok F c (.inr (gYr u)) 0); iexact HYr
  isplitl [HXs HXr]
  · isplitl [HXs]; · iexact HXs
    iapply (around eX fun c => bigSep Finset.univ fun u => tok F c (.inr (gXr u)) 0); iexact HXr
  isplitl [HZs]; · iexact HZs
  iapply (around eZ fun c => bigSep Finset.univ fun u => tok F c (.inr (gZr u)) 0); iexact HZr

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × Fam → ℕ) (c : Dev nD) : iprop(recs m K ∗ toks c ∗ poss c) ⊢ G' m c := by
  unfold G'
  iintro H; iexists K; iexact H

theorem regroup :
    (bigSep Finset.univ fun c : Dev nD => iprop((bigSep Finset.univ fun f : Fam => iprop(∃ κ : ℕ, cellInv ER (Rd m) κ (cell c f)))
          ∗ (bigSep Finset.univ fun f : Fam => pos F c f) ∗ (bigSep Finset.univ fun f : Fam => reached ER (cell c f) 0) ∗ ownToks c) : sProp 𝕄)
      ⊢ bigSep Finset.univ (G' m) := by
  have hp : (bigSep Finset.univ fun c : Dev nD => bigSep Finset.univ fun f : Fam => pos F c f) ⊢ (bigSep Finset.univ fun c : Dev nD => poss c : sProp 𝕄) :=
    all_mono fun c => Entails.of_eq (by unfold poss; rw [bigSep_univ_sum, bigSep_unit]; rfl)
  rw [bigSep_sep', bigSep_sep', bigSep_sep', ← bigSep_univ_prod (fun x : Dev nD × Fam => iprop(∃ κ : ℕ, cellInv ER (Rd m) κ (cell x.1 x.2))),
    ← bigSep_univ_prod (fun x : Dev nD × Fam => (reached ER (cell x.1 x.2) 0 : sProp 𝕄))]
  iintro ⟨HI, Hat, #HR, Htok⟩
  ihave HK := (BI.bigSep_exists_pi Finset.univ (fun (x : Dev nD × Fam) (κ : ℕ) => (cellInv ER (Rd m) κ (cell x.1 x.2) : sProp 𝕄))) $$ HI
  icases HK with ⟨%K, #HI⟩
  ihave Htk := (toks_around (F := F)) $$ Htok
  ihave Hat := hp $$ Hat
  iapply (bigSep_with_persistent (R := recs m K) fun c _ => G'_intro m K c)
  isplitr
  · unfold recs; isplitl; · iexact HI
    iexact HR
  · iapply (Entails.of_eq (bigSep_sep' Finset.univ (fun c : Dev nD => (toks c : sProp 𝕄)) fun c => poss c).symm)
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The body between its first and its last state -/

def argPt (c : Dev nD) : sProp 𝕄 := (c : Thread nD τ).loc main_arg0 ↦{fullShare} xin m c
def start (c : Dev nD) : sProp 𝕄 := iprop(G' m c ∗ creds c ∗ levAts L lv ∗ argPt m c)
def Φ₀ (c : Dev nD) : sProp 𝕄 := iprop(start m c ∗ (∃ f : (⟨S2048x1024, .f32⟩ : BufTy).Contents (Elt F), (c : Thread nD τ).loc cc0_scratch0 ↦{fullShare} f)
    ∗ ∃ f : (⟨S768x512, .bf16⟩ : BufTy).Contents (Elt F), (c : Thread nD τ).loc cc0_scratch1 ↦{fullShare} f)
def Φ₁ (c : Dev nD) : sProp 𝕄 := iprop(zeros c ∗ argPt m c ∗ ((c : Thread nD τ).loc cc0_scratch0 ↦{fullShare} xin m c) ∗ ((c : Thread nD τ).loc cc0_scratch1 ↦{fullShare} sendC m c))

def dats (_ : Fin 1) (c : Dev nD) : Dat τ (Elt F) Unit ℕ UU ℕ cfg0 c where
  A w := m ((cfg0.win w).arr.view.loc (c : Thread nD τ))
  after w _ := match w with
    | ⟨0, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
def bodyPre (c : Dev nD) : sProp 𝕄 :=
  iprop(Φ₀ m c ∗ (dats m 0 c).owesAt () t0_0.castSucc ∗ (∃ d, stg c cc0_stg0_0 ((dats m 0 c).before (0 : Fin 1) t0_0 d)))
def bodyPost (c : Dev nD) : sProp 𝕄 :=
  iprop(Φ₁ m c ∗ (dats m 0 c).owesAt () t0_0.succ ∗ stg c cc0_stg0_0 (outC m c))

theorem ret_intro (c : Dev nD) (Kt : PUnit → sProp 𝕄) : Kt ⟨⟩ ⊢ WP c (.ret ⟨⟩) Kt :=
  (fupd_intro : Kt ⟨⟩ ⊢ |={Set.univ}=> Kt ⟨⟩)

theorem sound_body (c : Dev nD) : bodyPre m c ⊢ WP c
    (cc0_body hM (Memref.isWhole_whole _) oM (Memref.isWhole_whole _) xM (Memref.isWhole_whole _) bM (Memref.isWhole_whole _)
      cc0_scratch2 cc0_scratch3 cc0_scratch4 cc0_scratch5 cc0_scratch6 cc0_scratch7 cc0_scratch8) (fun _ => bodyPost m c) := by
  rw [body_eq]
  simp only [wp_deviceId]
  unfold bodyPre Φ₀ start G' argPt
  iintro ⟨⟨⟨⟨%K, HR, Ht, Hp⟩, Hc, #HL, Ha⟩, Hx, Hb⟩, Ho, ⟨%d0, %g0, %hg0, Hout⟩⟩
  unfold Dat.owesAt Pipeline.owesWithin
  icases Ho with ⟨%W, %hW, HO⟩
  ihave HB := (bufs_in m c) $$ [Ha Hx Hb Hout]
  · isplitl [Hout]; · iexists g0; iexact Hout
    isplitl [Ha]; · iexact Ha
    isplitl [Hx] <;> iassumption
  iapply (step_body (m := m) (K := K) (c := c) _ _) $$ [HR Ht Hp Hc HO HB]
  · isplitl [HR]
    · unfold ctx
      isplitl [HR]; · iexact HR
      iexact HL
    isplitl [HO]; · unfold ow; iexists W; iexact HO
    isplitl [HB]; · iexact HB
    isplitl [Ht]; · iexact Ht
    isplitl [Hc] <;> iassumption
  iintro ⟨HO, HB, Hz⟩
  ihave HB := (bufs_out m c) $$ HB
  icases HB with ⟨Hout, Ha, Hx, Hb⟩
  iapply (ret_intro (F := F) c)
  unfold ow
  icases HO with ⟨%W', HO⟩
  unfold bodyPost Φ₁ argPt Dat.owesAt Pipeline.owesWithin
  rw [show (dats m 0 c).owed t0_0.succ = 0 from rfl, Ow_end]
  isplitl [Hz Ha Hx Hb]
  · isplitl [Hz]; · iexact Hz
    isplitl [Ha]; · iexact Ha
    isplitl [Hx] <;> iassumption
  isplitl [HO]
  · iexists W'
    isplitr; · ipureintro; exact fun _ _ => Or.inl trivial
    iexact HO
  iexists _; isplitr; · (ipureintro; rfl)
  iexact Hout

theorem body_obligation (c : Dev nD) : BodyObligation (dats (F := F) m 0 c) (defs₀ (F := F)) 𝒱₀ () Set.univ := fun t => by
  rw [fin_N0 t, bigSep_W0, bigSep_W0]
  simp only [owns_whole_eq]
  exact sound_body m c

/-! ## The launch theorem's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Ha, Hlev, Hcr, -, HG⟩
  ihave Hc := (launch_creds (F := F) c) $$ Hcr
  imodintro
  unfold start argPt
  isplitl
  · isplitl [HG]; · iexact HG
    isplitl [Hc]; · iexact Hc
    isplitl [Hlev]; · iexact Hlev
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hx, Hb⟩
  isplitl [Hs]; · iexact Hs
  isplitl [Hx] <;> iassumption

theorem phi1_exit (c : Dev nD) :
    (dats m 0 c).Φ (Fin.last cfg0.N) ⊢ iprop((unscopedSems0 c ∗ argPt m c) ∗ Pipeline.ownSems0 osem c ∗ Pipeline.scopedRest cfg0.spec c) := by
  rw [show (dats m 0 c).Φ (Fin.last cfg0.N) = Φ₁ m c from rfl, scopedRest0_eq, unscopedSems0_eq]
  unfold Φ₁ zeros Pipeline.ownSems0
  iintro ⟨⟨HzB, Hz⟩, Ha, Hx, Hb⟩
  isplitl [HzB Ha]
  · isplitl [HzB] <;> iassumption
  isplitl [Hz]; · iexact Hz
  isplitl [Hx]
  · iexists (xin m c); iexact Hx
  · iexists (sendC m c); iexact Hb

theorem waits (c : Dev nD) : (levAts L lv : sProp 𝕄) ⊢ Pipeline.cellsWaits cfgs (dats m) () 0 c :=
  Pipeline.cellsWaits_intro cfgs (dats m) () 0 c fun w s t =>
    mayWait_stage c _ (by fin_cases w; revert s; decide) _ (by
      rcases t with ⟨_ | _, ht⟩
      · exact Or.inl rfl
      · exact Or.inr rfl)

/-- What is read of a device's final memory besides the result. -/
def QY (c : Dev nD) (s : MemSt nD τ sig (Elt F)) : Prop :=
  (∀ sm : SemLoc sig, sm.isScoped .tc = false → s.sem ((c.tc : Thread nD τ), sm) = 0) ∧ s.mem ((c : Thread nD τ).loc main_arg0) = xin m c
theorem read_end (c : Dev nD) (s' : Phys nD τ sig (Elt F)) :
    iprop((unscopedSems0 c ∗ argPt m c) ∗ emp ∗ SI s') ⊢ |={Set.univ}=> (iprop(⌜QY m c s'.mem⌝ ∗ SI s') : sProp 𝕄) := by
  unfold argPt
  iintro ⟨⟨Hu, Ha⟩, -, HSI⟩
  icombine HSI Ha gives %ha
  imod (Pipeline.unscopedSems0_read (X := unscopedSems0 c) (c := c) fupd_intro s') $$ [Hu HSI] with ⟨%hs, HSI⟩
  · isplitl [Hu] <;> iassumption
  imodintro
  isplitr
  · ipureintro; exact ⟨hs, funext fun i => ha i (Finset.mem_univ i)⟩
  iexact HSI

/-! ## The run -/

/-- The end: the result computed, the argument unchanged. -/
def QC : PUnit × MemSt nD τ sig (Elt F) → Prop := fun r => ∀ c : Dev nD,
  (∀ w : Fin cfg0.W, r.2.mem ((cfg0.win w).arr.view.loc (c : Thread nD τ)) = (dats m 0 c).arrAt w cfg0.N) ∧ r.2.mem ((c : Thread nD τ).loc main_arg0) = xin m c

/-- From any memory with zero counters, for any float values: @main terminates on the mesh, with each device's result
    computed, its argument unchanged and all counters zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c)) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ argPt m c)) (Z := fun _ => iprop(emp))
    (hX := start_intro m ρ) (hin := phi0_intro m) (hout := phi1_exit m)
    (QY := QY m) (hY := read_end m)
    (hQ := fun _ h hs => ⟨fun c => ⟨(h c).1, (h c).2.2.2⟩, sem_eq_zero hs fun c => (h c).2.2.1⟩)

end Cert.Exchange

end
-- ==== Proof.Value.lean ====
/- The value: what the run leaves in the result array, and that it is the device's columns of the whole argument rounded
   to bf16. -/
module

public import proofs.«01_k».proof.Proof.Launch
public import Idealize.ShloMosaic.Lib.Layout
public import Idealize.ShloMosaic.Lib.Pipeline.ValueKit.Geometry

@[expose] public section

set_option maxRecDepth 16384

noncomputable section

namespace Cert.Exchange

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The result array ends holding what the body leaves in its staging buffer. -/
theorem result_eq (c : Dev nD) : (dats m 0 c).arrAt (0 : Fin 1) cfg0.N = outC m c := by
  funext i
  exact (dats m 0 c).arrAt_emb_eq_after_last (0 : Fin 1) t0_0 (by decide +kernel) i

/-- From any memory with zero counters the program terminates with each device's result computed, its argument
    unchanged and every counter at zero. -/
theorem run_value : θ_run defs (onTc (τ := τ) (main (F := F))) ⟨m, fun _ => 0, ρ⟩ (fun r =>
    (∀ c : Dev nD, r.2.mem ((c : Thread nD τ).loc main_v1) = outC m c
      ∧ r.2.mem ((c : Thread nD τ).loc main_arg0) = m ((c : Thread nD τ).loc main_arg0)) ∧ r.2.sem = fun _ => 0) :=
  (θ_run defs _ _).mono (fun _ h => ⟨fun c => ⟨((h.1 c).1 0).trans (result_eq m c), (h.1 c).2⟩, h.2⟩) (run_main m ρ)

/-- The device's place along the mesh axis that the arrays are cut along. -/
theorem mesh_rows (c : Dev nD) : ((Layout.meshBlock [2, 2, 4] ![[1], []] c) (0 : Fin 2)).val = (hY c).1
    ∧ ((Layout.meshBlock [2, 2, 4] ![[1], []] c) (1 : Fin 2)).val = 0 := by revert c; decide +kernel
theorem mesh_cols (c : Dev nD) : ((Layout.meshBlock [2, 2, 4] ![[], [1]] c) (0 : Fin 2)).val = 0
    ∧ ((Layout.meshBlock [2, 2, 4] ![[], [1]] c) (1 : Fin 2)).val = (hY c).1 := by revert c; decide +kernel

/-- Where every device holds its rows of a whole array, the result is its columns of that array rounded. -/
theorem out_block (X : (⟨2, ![4096, 1024]⟩ : Shape).Idx → F .f32)
    (hX : ∀ c : Dev nD, xin m c = Layout.blockN ⟨2, ![2048, 1024]⟩ ⟨2, ![4096, 1024]⟩ (Layout.meshBlock [2, 2, 4] ![[1], []] c) X) (c : Dev nD) :
    outC m c = Layout.blockN ⟨2, ![4096, 512]⟩ ⟨2, ![4096, 1024]⟩ (Layout.meshBlock [2, 2, 4] ![[], [1]] c)
      (fun i => (FloatOps.truncf .bf16 bitsLt_bf16_f32 (X i) : F .bf16)) := by
  funext i
  have h0 : (i 0 : ℕ) < 4096 := (i 0).isLt
  have h1 : (i 1 : ℕ) < 512 := (i 1).isLt
  have hh : (hY c).1 < 2 := (hY c).2
  unfold outC rnd
  rw [hX, Layout.blockN_apply, Layout.blockN_apply]
  refine congrArg (fun j => FloatOps.truncf .bf16 bitsLt_bf16_f32 (X j)) (funext fun a => Fin.ext ?_)
  have hs := hY_src c ⟨(i 0).1 / 32 % 128, Nat.mod_lt _ (by decide)⟩
  rw [Layout.TilesN.idx_val, Layout.TilesN.idx_val]
  match a with
  | ⟨0, _⟩ =>
    show ((Layout.meshBlock [2, 2, 4] ![[1], []] _) (0 : Fin 2)).val * 2048 + ((i 0).1 % 2048)
      = ((Layout.meshBlock [2, 2, 4] ![[], [1]] c) (0 : Fin 2)).val * 4096 + (i 0).1
    rw [(mesh_rows _).1, (mesh_cols c).1, hs]
    show (i 0).1 / 32 % 128 / 64 * 2048 + (i 0).1 % 2048 = _
    omega
  | ⟨1, _⟩ =>
    show ((Layout.meshBlock [2, 2, 4] ![[1], []] _) (1 : Fin 2)).val * 1024 + ((512 * (hY c).1 + (i 1).1) % 1024)
      = ((Layout.meshBlock [2, 2, 4] ![[], [1]] c) (1 : Fin 2)).val * 512 + (i 1).1
    rw [(mesh_rows _).2, (mesh_cols c).2]
    omega

end Cert.Exchange

end
-- ==== Proof.lean ====
/- The five claims, each from the run of the exchange (Proof/Launch.lean, Proof/Value.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

set_option maxRecDepth 16384

noncomputable section

namespace Cert.Proof

open Idealize.ShloMosaic Idealize.SL.Sem Cert.Exchange

/-- `Kernel` is the program that the run is proved of: the bodies under its label are one text. -/
theorem body_same (t : Fin Cert.KernelIdeal.cfg0.N) (s : (w : Fin 1) → Fin (Cert.KernelIdeal.win0 w).nbuf) :
    Cert.Kernel.defs₀ (F := Bits) .tc 0 (t, s) = Cert.KernelIdeal.defs₀ (F := Bits) .tc 0 (t, s) := rfl
theorem bodies_same : Cert.Kernel.defs₀ (F := Bits) = Cert.KernelIdeal.defs₀ (F := Bits) := by
  funext p ℓ a
  match p with
  | .tc => match ℓ, a with
    | 0, (t, s) => exact body_same t s
    | ⟨n + 1, h⟩, _ => exact absurd h (Nat.not_lt.2 (Nat.le_add_left _ _))
  | .scScalar _ => rfl
  | .scVector _ _ => rfl
theorem defs_same : Cert.Kernel.defs (F := Bits) = Cert.KernelIdeal.defs (F := Bits) :=
  congrArg (Pipeline.defs Cert.KernelIdeal.pcfgs) bodies_same

theorem frame_kernel : Cert.quiescent_Kernel := fun m ρ _ => by
  rw [defs_same]
  exact (θ_run Cert.KernelIdeal.defs _ _).mono (fun _ h => ⟨fun c => (h.1 c).2, h.2⟩) (run_value (F := Bits) m ρ)

theorem frame_ideal : Cert.quiescent_KernelIdeal := fun m ρ _ =>
  (θ_run Cert.KernelIdeal.defs _ _).mono (fun _ h => ⟨fun c => (h.1 c).2, h.2⟩) (run_value (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference rounds its whole argument; each device ends with its columns of that. -/
theorem value : Cert.algebraic_KernelIdeal_ReferenceIdeal := fun m ρ m' ρ' _ hargs =>
  ⟨_, (θ_run Cert.KernelIdeal.defs _ _).mono (fun _ h c => ⟨(h.1 c).1.trans (out_block m _ hargs c), (h.1 c).2⟩) (run_value (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, value⟩

end Cert.Proof

end
